-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_v79) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v48_0)) (v1 : (c : Dev Cert.Kernel3Ideal.nD) → Buf (Elt Ideal) ((c.tc : Thread Cert.Kernel3Ideal.nD Cert.Kernel3Ideal.τ).loc Cert.Kernel3Ideal.main_v48_1)) (v2 : (c : Dev Cert.Kernel3Ideal.nD) → Buf (Elt Ideal) ((c.tc : Thread Cert.Kernel3Ideal.nD Cert.Kernel3Ideal.τ).loc Cert.Kernel3Ideal.main_v48_2)) (v3 : (c : Dev Cert.Kernel3Ideal.nD) → Buf (Elt Ideal) ((c.tc : Thread Cert.Kernel3Ideal.nD Cert.Kernel3Ideal.τ).loc Cert.Kernel3Ideal.main_v48_3)) (v4 : (c : Dev Cert.Kernel3Ideal.nD) → Buf (Elt Ideal) ((c.tc : Thread Cert.Kernel3Ideal.nD Cert.Kernel3Ideal.τ).loc Cert.Kernel3Ideal.main_v81)) (v5 : (c : Dev Cert.Kernel3Ideal.nD) → Buf (Elt Ideal) ((c.tc : Thread Cert.Kernel3Ideal.nD Cert.Kernel3Ideal.τ).loc Cert.Kernel3Ideal.main_v82)) (v6 : (c : Dev Cert.Kernel3Ideal.nD) → Buf (Elt Ideal) ((c.tc : Thread Cert.Kernel3Ideal.nD Cert.Kernel3Ideal.τ).loc Cert.Kernel3Ideal.main_v83)) (v7 : (c : Dev Cert.Kernel3Ideal.nD) → Buf (Elt Ideal) ((c.tc : Thread Cert.Kernel3Ideal.nD Cert.Kernel3Ideal.τ).loc Cert.Kernel3Ideal.main_v84)) (v8 : (c : Dev Cert.Kernel3Ideal.nD) → Buf (Elt Ideal) ((c.tc : Thread Cert.Kernel3Ideal.nD Cert.Kernel3Ideal.τ).loc Cert.Kernel3Ideal.main_v85)) (v9 : (c : Dev Cert.Kernel3Ideal.nD) → Buf (Elt Ideal) ((c.tc : Thread Cert.Kernel3Ideal.nD Cert.Kernel3Ideal.τ).loc Cert.Kernel3Ideal.main_v86)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v48_0) = v0 c
          ∧ r.2.mem ((c.tc : Thread Cert.Kernel3Ideal.nD Cert.Kernel3Ideal.τ).loc Cert.Kernel3Ideal.main_v48_1) = v1 c
          ∧ r.2.mem ((c.tc : Thread Cert.Kernel3Ideal.nD Cert.Kernel3Ideal.τ).loc Cert.Kernel3Ideal.main_v48_2) = v2 c
          ∧ r.2.mem ((c.tc : Thread Cert.Kernel3Ideal.nD Cert.Kernel3Ideal.τ).loc Cert.Kernel3Ideal.main_v48_3) = v3 c
          ∧ r.2.mem ((c.tc : Thread Cert.Kernel3Ideal.nD Cert.Kernel3Ideal.τ).loc Cert.Kernel3Ideal.main_v81) = v4 c
          ∧ r.2.mem ((c.tc : Thread Cert.Kernel3Ideal.nD Cert.Kernel3Ideal.τ).loc Cert.Kernel3Ideal.main_v82) = v5 c
          ∧ r.2.mem ((c.tc : Thread Cert.Kernel3Ideal.nD Cert.Kernel3Ideal.τ).loc Cert.Kernel3Ideal.main_v83) = v6 c
          ∧ r.2.mem ((c.tc : Thread Cert.Kernel3Ideal.nD Cert.Kernel3Ideal.τ).loc Cert.Kernel3Ideal.main_v84) = v7 c
          ∧ r.2.mem ((c.tc : Thread Cert.Kernel3Ideal.nD Cert.Kernel3Ideal.τ).loc Cert.Kernel3Ideal.main_v85) = v8 c
          ∧ r.2.mem ((c.tc : Thread Cert.Kernel3Ideal.nD Cert.Kernel3Ideal.τ).loc Cert.Kernel3Ideal.main_v86) = v9 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v217) = v0 c
          ∧ r.2.mem ((c.tc : Thread Cert.Reference3Ideal.nD Cert.Reference3Ideal.τ).loc Cert.Reference3Ideal.main_v223) = v1 c
          ∧ r.2.mem ((c.tc : Thread Cert.Reference3Ideal.nD Cert.Reference3Ideal.τ).loc Cert.Reference3Ideal.main_v226) = v2 c
          ∧ r.2.mem ((c.tc : Thread Cert.Reference3Ideal.nD Cert.Reference3Ideal.τ).loc Cert.Reference3Ideal.main_v229) = v3 c
          ∧ r.2.mem ((c.tc : Thread Cert.Reference3Ideal.nD Cert.Reference3Ideal.τ).loc Cert.Reference3Ideal.main_v231) = v4 c
          ∧ r.2.mem ((c.tc : Thread Cert.Reference3Ideal.nD Cert.Reference3Ideal.τ).loc Cert.Reference3Ideal.main_v233) = v5 c
          ∧ r.2.mem ((c.tc : Thread Cert.Reference3Ideal.nD Cert.Reference3Ideal.τ).loc Cert.Reference3Ideal.main_v235) = v6 c
          ∧ r.2.mem ((c.tc : Thread Cert.Reference3Ideal.nD Cert.Reference3Ideal.τ).loc Cert.Reference3Ideal.main_v236) = v7 c
          ∧ r.2.mem ((c.tc : Thread Cert.Reference3Ideal.nD Cert.Reference3Ideal.τ).loc Cert.Reference3Ideal.main_v237) = v8 c
          ∧ r.2.mem ((c.tc : Thread Cert.Reference3Ideal.nD Cert.Reference3Ideal.τ).loc Cert.Reference3Ideal.main_v238) = v9 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v15_0)) (v1 : (c : Dev Cert.Kernel4Ideal.nD) → Buf (Elt Ideal) ((c.tc : Thread Cert.Kernel4Ideal.nD Cert.Kernel4Ideal.τ).loc Cert.Kernel4Ideal.main_v15_1)) (v2 : (c : Dev Cert.Kernel4Ideal.nD) → Buf (Elt Ideal) ((c.tc : Thread Cert.Kernel4Ideal.nD Cert.Kernel4Ideal.τ).loc Cert.Kernel4Ideal.main_v15_2)) (v3 : (c : Dev Cert.Kernel4Ideal.nD) → Buf (Elt Ideal) ((c.tc : Thread Cert.Kernel4Ideal.nD Cert.Kernel4Ideal.τ).loc Cert.Kernel4Ideal.main_v15_3)) (v4 : (c : Dev Cert.Kernel4Ideal.nD) → Buf (Elt Ideal) ((c.tc : Thread Cert.Kernel4Ideal.nD Cert.Kernel4Ideal.τ).loc Cert.Kernel4Ideal.main_v15_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15_0) = v0 c
          ∧ r.2.mem ((c.tc : Thread Cert.Kernel4Ideal.nD Cert.Kernel4Ideal.τ).loc Cert.Kernel4Ideal.main_v15_1) = v1 c
          ∧ r.2.mem ((c.tc : Thread Cert.Kernel4Ideal.nD Cert.Kernel4Ideal.τ).loc Cert.Kernel4Ideal.main_v15_2) = v2 c
          ∧ r.2.mem ((c.tc : Thread Cert.Kernel4Ideal.nD Cert.Kernel4Ideal.τ).loc Cert.Kernel4Ideal.main_v15_3) = v3 c
          ∧ r.2.mem ((c.tc : Thread Cert.Kernel4Ideal.nD Cert.Kernel4Ideal.τ).loc Cert.Kernel4Ideal.main_v15_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_v41) = v1 c
          ∧ r.2.mem ((c.tc : Thread Cert.Reference4Ideal.nD Cert.Reference4Ideal.τ).loc Cert.Reference4Ideal.main_v43) = v2 c
          ∧ r.2.mem ((c.tc : Thread Cert.Reference4Ideal.nD Cert.Reference4Ideal.τ).loc Cert.Reference4Ideal.main_v45) = v3 c
          ∧ r.2.mem ((c.tc : Thread Cert.Reference4Ideal.nD Cert.Reference4Ideal.τ).loc Cert.Reference4Ideal.main_v47) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)) (v2 : (c : Dev Cert.Kernel5Ideal.nD) → Buf (Elt Ideal) ((c.tc : Thread Cert.Kernel5Ideal.nD Cert.Kernel5Ideal.τ).loc Cert.Kernel5Ideal.main_v8_2)) (v3 : (c : Dev Cert.Kernel5Ideal.nD) → Buf (Elt Ideal) ((c.tc : Thread Cert.Kernel5Ideal.nD Cert.Kernel5Ideal.τ).loc Cert.Kernel5Ideal.main_v8_3)) (v4 : (c : Dev Cert.Kernel5Ideal.nD) → Buf (Elt Ideal) ((c.tc : Thread Cert.Kernel5Ideal.nD Cert.Kernel5Ideal.τ).loc Cert.Kernel5Ideal.main_v8_4)) (v5 : (c : Dev Cert.Kernel5Ideal.nD) → Buf (Elt Ideal) ((c.tc : Thread Cert.Kernel5Ideal.nD Cert.Kernel5Ideal.τ).loc Cert.Kernel5Ideal.main_v8_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_v8_2) = v2 c
          ∧ r.2.mem ((c.tc : Thread Cert.Kernel5Ideal.nD Cert.Kernel5Ideal.τ).loc Cert.Kernel5Ideal.main_v8_3) = v3 c
          ∧ r.2.mem ((c.tc : Thread Cert.Kernel5Ideal.nD Cert.Kernel5Ideal.τ).loc Cert.Kernel5Ideal.main_v8_4) = v4 c
          ∧ r.2.mem ((c.tc : Thread Cert.Kernel5Ideal.nD Cert.Kernel5Ideal.τ).loc Cert.Kernel5Ideal.main_v8_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_v24) = v1 c
          ∧ r.2.mem ((c.tc : Thread Cert.Reference5Ideal.nD Cert.Reference5Ideal.τ).loc Cert.Reference5Ideal.main_v26) = v2 c
          ∧ r.2.mem ((c.tc : Thread Cert.Reference5Ideal.nD Cert.Reference5Ideal.τ).loc Cert.Reference5Ideal.main_v28) = v3 c
          ∧ r.2.mem ((c.tc : Thread Cert.Reference5Ideal.nD Cert.Reference5Ideal.τ).loc Cert.Reference5Ideal.main_v30) = v4 c
          ∧ r.2.mem ((c.tc : Thread Cert.Reference5Ideal.nD Cert.Reference5Ideal.τ).loc Cert.Reference5Ideal.main_v32) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v2_2)) (v3 : (c : Dev Cert.Kernel6Ideal.nD) → Buf (Elt Ideal) ((c.tc : Thread Cert.Kernel6Ideal.nD Cert.Kernel6Ideal.τ).loc Cert.Kernel6Ideal.main_v2_3)) (v4 : (c : Dev Cert.Kernel6Ideal.nD) → Buf (Elt Ideal) ((c.tc : Thread Cert.Kernel6Ideal.nD Cert.Kernel6Ideal.τ).loc Cert.Kernel6Ideal.main_v2_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_v2_3) = v3 c
          ∧ r.2.mem ((c.tc : Thread Cert.Kernel6Ideal.nD Cert.Kernel6Ideal.τ).loc Cert.Kernel6Ideal.main_v2_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_v42) = v1 c
          ∧ r.2.mem ((c.tc : Thread Cert.Reference6Ideal.nD Cert.Reference6Ideal.τ).loc Cert.Reference6Ideal.main_v44) = v2 c
          ∧ r.2.mem ((c.tc : Thread Cert.Reference6Ideal.nD Cert.Reference6Ideal.τ).loc Cert.Reference6Ideal.main_v46) = v3 c
          ∧ r.2.mem ((c.tc : Thread Cert.Reference6Ideal.nD Cert.Reference6Ideal.τ).loc Cert.Reference6Ideal.main_v49) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S8192x2048 : Shape := ⟨2, ![8192, 2048]⟩
abbrev S512x2048 : Shape := ⟨2, ![512, 2048]⟩
abbrev S1x2048 : Shape := ⟨2, ![1, 2048]⟩
abbrev S1x2048x11008 : Shape := ⟨3, ![1, 2048, 11008]⟩
abbrev S1x5504x2048 : Shape := ⟨3, ![1, 5504, 2048]⟩
abbrev S2048x11008 : Shape := ⟨2, ![2048, 11008]⟩
abbrev S5504x2048 : Shape := ⟨2, ![5504, 2048]⟩
abbrev S8704x2048 : Shape := ⟨2, ![8704, 2048]⟩
abbrev S2048x1024 : Shape := ⟨2, ![2048, 1024]⟩
abbrev S1024x2048 : Shape := ⟨2, ![1024, 2048]⟩
abbrev S2048x384 : Shape := ⟨2, ![2048, 384]⟩
abbrev S384x2048 : Shape := ⟨2, ![384, 2048]⟩
abbrev S512 : Shape := ⟨1, ![512]⟩
abbrev S512x1 : Shape := ⟨2, ![512, 1]⟩
abbrev S512x1024 : Shape := ⟨2, ![512, 1024]⟩
abbrev S512x384 : Shape := ⟨2, ![512, 384]⟩

abbrev nBuf : Space → Nat
  | .hbm => 10
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S1x2048, .f32⟩
  | .hbm, ⟨3, _⟩ => ⟨S1x2048x11008, .f32⟩
  | .hbm, ⟨4, _⟩ => ⟨S1x5504x2048, .f32⟩
  | .hbm, ⟨5, _⟩ => ⟨S2048x11008, .f32⟩
  | .hbm, ⟨6, _⟩ => ⟨S2048x11008, .bf16⟩
  | .hbm, ⟨7, _⟩ => ⟨S5504x2048, .f32⟩
  | .hbm, ⟨8, _⟩ => ⟨S5504x2048, .bf16⟩
  | .hbm, ⟨9, _⟩ => ⟨S8704x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S1x2048, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x2048, .bf16⟩
  | .local _ .vmem, ⟨9, _⟩ => ⟨S1024x2048, .bf16⟩
  | .local _ .vmem, ⟨10, _⟩ => ⟨S2048x384, .bf16⟩
  | .local _ .vmem, ⟨11, _⟩ => ⟨S2048x384, .bf16⟩
  | .local _ .vmem, ⟨12, _⟩ => ⟨S384x2048, .bf16⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![17, 5], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_mult2 (i : grid0.Coords) : BitVec 32 :=
  let c0_i32 : BitVec 32 := 0#32
  let arg1 : BitVec 32 := BitVec.ofNat 32 (i 1).val
  let c1024_i32 : BitVec 32 := 1024#32
  let v0 : BitVec 32 := Scalar.muli arg1 c1024_i32
  let v1 : BitVec 32 := v0
  let v2 : BitVec 32 := Scalar.addi c0_i32 v1
  v2
def k0_mult3 (i : grid0.Coords) : BitVec 32 :=
  let arg1 : BitVec 32 := BitVec.ofNat 32 (i 1).val
  let c1024_i32 : BitVec 32 := 1024#32
  let v0 : BitVec 32 := Scalar.muli arg1 c1024_i32
  v0
def k0_mult4 (i : grid0.Coords) : BitVec 32 :=
  let c5504_i32 : BitVec 32 := 5504#32
  let arg1 : BitVec 32 := BitVec.ofNat 32 (i 1).val
  let c1024_i32 : BitVec 32 := 1024#32
  let v0 : BitVec 32 := Scalar.muli arg1 c1024_i32
  let v1 : BitVec 32 := v0
  let v2 : BitVec 32 := Scalar.addi c5504_i32 v1
  v2
def k0_mult5 (i : grid0.Coords) : BitVec 32 :=
  let arg1 : BitVec 32 := BitVec.ofNat 32 (i 1).val
  let c1024_i32 : BitVec 32 := 1024#32
  let v0 : BitVec 32 := Scalar.muli arg1 c1024_i32
  v0
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c4_i32_2 : BitVec 32 := 4#32
  let v6 : BitVec 1 := Scalar.cmpi .eq arg1 c4_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let v1 : BitVec 32 := v0
  let c0_i32 : BitVec 32 := 0#32
  let v2 : BitVec 32 := Scalar.addi c0_i32 v1
  let v3 : BitVec 32 := v2
  let c0_i32_0 : BitVec 32 := 0#32
  let c0_i32_1 : BitVec 32 := 0#32
  ![c0_i32_0.toNat, v3.toNat]

def cc0_transform_4 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let v1 : BitVec 32 := v0
  let c5504_i32 : BitVec 32 := 5504#32
  let v2 : BitVec 32 := Scalar.addi c5504_i32 v1
  let v3 : BitVec 32 := v2
  let c0_i32 : BitVec 32 := 0#32
  let c0_i32_0 : BitVec 32 := 0#32
  ![c0_i32.toNat, v3.toNat]

def cc0_transform_5 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let v1 : BitVec 32 := v0
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c5120_i32 : BitVec 32 := 5120#32
  let c0_i32_0 : BitVec 32 := 0#32
  ![c0_i32.toNat, c5120_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c10624_i32 : BitVec 32 := 10624#32
  let c0_i32_0 : BitVec 32 := 0#32
  ![c0_i32.toNat, c10624_i32.toNat]

def cc0_transform_8 (i : grid0.Coords) : Fin 2 → Nat :=
  let arg0 : BitVec 32 := BitVec.ofNat 32 (i 0).val
  let arg1 : BitVec 32 := BitVec.ofNat 32 (i 1).val
  let c5120_i32 : BitVec 32 := 5120#32
  let c0_i32 : BitVec 32 := 0#32
  let c0_i32_0 : BitVec 32 := 0#32
  ![c5120_i32.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S2048x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S384x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S8192x2048 : Shape := ⟨2, ![8192, 2048]⟩
abbrev S512x2048 : Shape := ⟨2, ![512, 2048]⟩
abbrev S1x2048 : Shape := ⟨2, ![1, 2048]⟩
abbrev S1x2048x11008 : Shape := ⟨3, ![1, 2048, 11008]⟩
abbrev S1x5504x2048 : Shape := ⟨3, ![1, 5504, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x11008 : Shape := ⟨2, ![2048, 11008]⟩
abbrev S5504x2048 : Shape := ⟨2, ![5504, 2048]⟩
abbrev S8192x11008 : Shape := ⟨2, ![8192, 11008]⟩
abbrev S8192x5504 : Shape := ⟨2, ![8192, 5504]⟩
abbrev S512 : Shape := ⟨1, ![512]⟩
abbrev S512x1 : Shape := ⟨2, ![512, 1]⟩
abbrev S512x11008 : Shape := ⟨2, ![512, 11008]⟩
abbrev S512x5504 : Shape := ⟨2, ![512, 5504]⟩
abbrev S8704x2048 : Shape := ⟨2, ![8704, 2048]⟩

abbrev nBuf : Space → Nat
  | .hbm => 80
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S1x2048, .f32⟩
  | .hbm, ⟨3, _⟩ => ⟨S1x2048x11008, .f32⟩
  | .hbm, ⟨4, _⟩ => ⟨S1x5504x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S2048x11008, .f32⟩
  | .hbm, ⟨23, _⟩ => ⟨S5504x2048, .f32⟩
  | .hbm, ⟨24, _⟩ => ⟨S8192x11008, .f32⟩
  | .hbm, ⟨25, _⟩ => ⟨S8192x5504, .f32⟩
  | .hbm, ⟨26, _⟩ => ⟨S8192x5504, .f32⟩
  | .hbm, ⟨27, _⟩ => ⟨S8192x5504, .f32⟩
  | .hbm, ⟨28, _⟩ => ⟨S8192x5504, .f32⟩
  | .hbm, ⟨29, _⟩ => ⟨S_, .f32⟩
  | .hbm, ⟨30, _⟩ => ⟨S8192x5504, .f32⟩
  | .hbm, ⟨31, _⟩ => ⟨S8192x5504, .f32⟩
  | .hbm, ⟨32, _⟩ => ⟨S_, .f32⟩
  | .hbm, ⟨33, _⟩ => ⟨S8192x5504, .f32⟩
  | .hbm, ⟨34, _⟩ => ⟨S8192x5504, .f32⟩
  | .hbm, ⟨35, _⟩ => ⟨S8192x5504, .f32⟩
  | .hbm, ⟨36, _⟩ => ⟨S8192x5504, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S2048, .f32⟩
  | .hbm, ⟨43, _⟩ => ⟨S512x2048, .f32⟩
  | .hbm, ⟨44, _⟩ => ⟨S_, .f32⟩
  | .hbm, ⟨45, _⟩ => ⟨S512, .f32⟩
  | .hbm, ⟨46, _⟩ => ⟨S512x1, .f32⟩
  | .hbm, ⟨47, _⟩ => ⟨S_, .f32⟩
  | .hbm, ⟨48, _⟩ => ⟨S512x1, .f32⟩
  | .hbm, ⟨49, _⟩ => ⟨S512x1, .f32⟩
  | .hbm, ⟨50, _⟩ => ⟨S_, .f32⟩
  | .hbm, ⟨51, _⟩ => ⟨S512x1, .f32⟩
  | .hbm, ⟨52, _⟩ => ⟨S512x1, .f32⟩
  | .hbm, ⟨53, _⟩ => ⟨S512x1, .f32⟩
  | .hbm, ⟨54, _⟩ => ⟨S512x2048, .f32⟩
  | .hbm, ⟨55, _⟩ => ⟨S512x2048, .f32⟩
  | .hbm, ⟨56, _⟩ => ⟨S1x2048, .f32⟩
  | .hbm, ⟨57, _⟩ => ⟨S512x2048, .f32⟩
  | .hbm, ⟨58, _⟩ => ⟨S512x2048, .f32⟩
  | .hbm, ⟨59, _⟩ => ⟨S2048x11008, .f32⟩
  | .hbm, ⟨60, _⟩ => ⟨S5504x2048, .f32⟩
  | .hbm, ⟨61, _⟩ => ⟨S512x11008, .f32⟩
  | .hbm, ⟨62, _⟩ => ⟨S512x5504, .f32⟩
  | .hbm, ⟨63, _⟩ => ⟨S512x5504, .f32⟩
  | .hbm, ⟨64, _⟩ => ⟨S512x5504, .f32⟩
  | .hbm, ⟨65, _⟩ => ⟨S512x5504, .f32⟩
  | .hbm, ⟨66, _⟩ => ⟨S_, .f32⟩
  | .hbm, ⟨67, _⟩ => ⟨S512x5504, .f32⟩
  | .hbm, ⟨68, _⟩ => ⟨S512x5504, .f32⟩
  | .hbm, ⟨69, _⟩ => ⟨S_, .f32⟩
  | .hbm, ⟨70, _⟩ => ⟨S512x5504, .f32⟩
  | .hbm, ⟨71, _⟩ => ⟨S512x5504, .f32⟩
  | .hbm, ⟨72, _⟩ => ⟨S512x5504, .f32⟩
  | .hbm, ⟨73, _⟩ => ⟨S512x5504, .f32⟩
  | .hbm, ⟨74, _⟩ => ⟨S512x2048, .f32⟩
  | .hbm, ⟨75, _⟩ => ⟨S_, .f32⟩
  | .hbm, ⟨76, _⟩ => ⟨S512x2048, .f32⟩
  | .hbm, ⟨77, _⟩ => ⟨S512x2048, .f32⟩
  | .hbm, ⟨78, _⟩ => ⟨S512x2048, .f32⟩
  | .hbm, ⟨79, _⟩ => ⟨S8704x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_6 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩

abbrev nD : Nat := 1
abbrev τ : Topo := Topo.v7x

variable {F : FTy → Type} [FloatOps F]
-- ==== Kernel2.lean ====
abbrev S8704x2048 : Shape := ⟨2, ![8704, 2048]⟩
abbrev S8192x256 : Shape := ⟨2, ![8192, 256]⟩
abbrev S512x256 : Shape := ⟨2, ![512, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048 : Shape := ⟨1, ![2048]⟩
abbrev S2048x2048 : Shape := ⟨2, ![2048, 2048]⟩
abbrev S256x2048 : Shape := ⟨2, ![256, 2048]⟩
abbrev S8192x2048 : Shape := ⟨2, ![8192, 2048]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 14
  | .smem => 0
  | _ => 0

abbrev bufTy : (tb : Table) → Fin (tcTables nBuf tb) → BufTy
  | .hbm, ⟨0, _⟩ => ⟨S8704x2048, .f32⟩
  | .hbm, ⟨1, _⟩ => ⟨S8192x256, .f32⟩
  | .hbm, ⟨2, _⟩ => ⟨S512x256, .f32⟩
  | .hbm, ⟨3, _⟩ => ⟨S1x2048, .f32⟩
  | .hbm, ⟨4, _⟩ => ⟨S1x2048x2048, .f32⟩
  | .hbm, ⟨5, _⟩ => ⟨S1x256x2048, .f32⟩
  | .hbm, ⟨6, _⟩ => ⟨S2048, .f32⟩
  | .hbm, ⟨7, _⟩ => ⟨S2048x2048, .f32⟩
  | .hbm, ⟨8, _⟩ => ⟨S2048x2048, .bf16⟩
  | .hbm, ⟨9, _⟩ => ⟨S256x2048, .f32⟩
  | .hbm, ⟨10, _⟩ => ⟨S256x2048, .bf16⟩
  | .hbm, ⟨11, _⟩ => ⟨S1x2048, .f32⟩
  | .hbm, ⟨12, _⟩ => ⟨S8192x2048, .f32⟩
  | .hbm, ⟨13, _⟩ => ⟨S512x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x2048, .f32⟩
  | .local _ .vmem, ⟨7, _⟩ => ⟨S2048x2048, .bf16⟩
  | .local _ .vmem, ⟨8, _⟩ => ⟨S256x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32_20 : BitVec 32 := 16#32
  let v43 : BitVec 1 := Scalar.cmpi .slt arg0 c16_i32_20
  let v44 : BitVec 32 := Scalar.extui v43
  let c0_i32 : BitVec 32 := 0#32
  let v45 : BitVec 1 := Scalar.cmpi .ne v44 c0_i32
  v45

def k0_cond2 (i : grid0.Coords) : BitVec 1 :=
  let arg0 : BitVec 32 := BitVec.ofNat 32 (i 0).val
  let c16_i32_21 : BitVec 32 := 16#32
  let v46 : BitVec 1 := Scalar.cmpi .sge arg0 c16_i32_21
  let v47 : BitVec 32 := Scalar.extui v46
  let c0_i32_22 : BitVec 32 := 0#32
  let v48 : BitVec 1 := Scalar.cmpi .ne v47 c0_i32_22
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S8704x2048 : Shape := ⟨2, ![8704, 2048]⟩
abbrev S8192x256 : Shape := ⟨2, ![8192, 256]⟩
abbrev S512x256 : Shape := ⟨2, ![512, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048 : Shape := ⟨1, ![2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S2048x2048 : Shape := ⟨2, ![2048, 2048]⟩
abbrev S256x2048 : Shape := ⟨2, ![256, 2048]⟩
abbrev S512x2048 : Shape := ⟨2, ![512, 2048]⟩
abbrev S512 : Shape := ⟨1, ![512]⟩
abbrev S512x1 : Shape := ⟨2, ![512, 1]⟩

abbrev nBuf : Space → Nat
  | .hbm => 103
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S8192x256, .f32⟩
  | .hbm, ⟨2, _⟩ => ⟨S512x256, .f32⟩
  | .hbm, ⟨3, _⟩ => ⟨S1x2048, .f32⟩
  | .hbm, ⟨4, _⟩ => ⟨S1x2048x2048, .f32⟩
  | .hbm, ⟨5, _⟩ => ⟨S1x256x2048, .f32⟩
  | .hbm, ⟨6, _⟩ => ⟨S2048, .f32⟩
  | .hbm, ⟨7, _⟩ => ⟨S8192x2048, .f32⟩
  | .hbm, ⟨8, _⟩ => ⟨S2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S2048x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S256x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x2048, .f32⟩
  | .hbm, ⟨51, _⟩ => ⟨S8192x2048, .f32⟩
  | .hbm, ⟨52, _⟩ => ⟨S1x2048, .f32⟩
  | .hbm, ⟨53, _⟩ => ⟨S8192x2048, .f32⟩
  | .hbm, ⟨54, _⟩ => ⟨S8192x2048, .f32⟩
  | .hbm, ⟨55, _⟩ => ⟨S512x2048, .f32⟩
  | .hbm, ⟨56, _⟩ => ⟨S2048, .f32⟩
  | .hbm, ⟨57, _⟩ => ⟨S512x2048, .f32⟩
  | .hbm, ⟨58, _⟩ => ⟨S_, .f32⟩
  | .hbm, ⟨59, _⟩ => ⟨S512, .f32⟩
  | .hbm, ⟨60, _⟩ => ⟨S512x1, .f32⟩
  | .hbm, ⟨61, _⟩ => ⟨S_, .f32⟩
  | .hbm, ⟨62, _⟩ => ⟨S512x1, .f32⟩
  | .hbm, ⟨63, _⟩ => ⟨S512x1, .f32⟩
  | .hbm, ⟨64, _⟩ => ⟨S_, .f32⟩
  | .hbm, ⟨65, _⟩ => ⟨S512x1, .f32⟩
  | .hbm, ⟨66, _⟩ => ⟨S512x1, .f32⟩
  | .hbm, ⟨67, _⟩ => ⟨S512x1, .f32⟩
  | .hbm, ⟨68, _⟩ => ⟨S512x2048, .f32⟩
  | .hbm, ⟨69, _⟩ => ⟨S512x2048, .f32⟩
  | .hbm, ⟨70, _⟩ => ⟨S1x2048, .f32⟩
  | .hbm, ⟨71, _⟩ => ⟨S512x2048, .f32⟩
  | .hbm, ⟨72, _⟩ => ⟨S512x2048, .f32⟩
  | .hbm, ⟨73, _⟩ => ⟨S2048x2048, .f32⟩
  | .hbm, ⟨74, _⟩ => ⟨S512x2048, .f32⟩
  | .hbm, ⟨75, _⟩ => ⟨S512x2048, .f32⟩
  | .hbm, ⟨76, _⟩ => ⟨S512x2048, .f32⟩
  | .hbm, ⟨77, _⟩ => ⟨S_, .f32⟩
  | .hbm, ⟨78, _⟩ => ⟨S512x2048, .f32⟩
  | .hbm, ⟨79, _⟩ => ⟨S512x2048, .f32⟩
  | .hbm, ⟨80, _⟩ => ⟨S_, .f32⟩
  | .hbm, ⟨81, _⟩ => ⟨S512x2048, .f32⟩
  | .hbm, ⟨82, _⟩ => ⟨S512x2048, .f32⟩
  | .hbm, ⟨83, _⟩ => ⟨S256x2048, .f32⟩
  | .hbm, ⟨84, _⟩ => ⟨S512x2048, .f32⟩
  | .hbm, ⟨85, _⟩ => ⟨S512x2048, .f32⟩
  | .hbm, ⟨86, _⟩ => ⟨S512x2048, .f32⟩
  | .hbm, ⟨87, _⟩ => ⟨S512x2048, .f32⟩
  | .hbm, ⟨88, _⟩ => ⟨S_, .f32⟩
  | .hbm, ⟨89, _⟩ => ⟨S512, .f32⟩
  | .hbm, ⟨90, _⟩ => ⟨S512x1, .f32⟩
  | .hbm, ⟨91, _⟩ => ⟨S_, .f32⟩
  | .hbm, ⟨92, _⟩ => ⟨S512x1, .f32⟩
  | .hbm, ⟨93, _⟩ => ⟨S512x1, .f32⟩
  | .hbm, ⟨94, _⟩ => ⟨S_, .f32⟩
  | .hbm, ⟨95, _⟩ => ⟨S512x1, .f32⟩
  | .hbm, ⟨96, _⟩ => ⟨S512x1, .f32⟩
  | .hbm, ⟨97, _⟩ => ⟨S512x1, .f32⟩
  | .hbm, ⟨98, _⟩ => ⟨S512x2048, .f32⟩
  | .hbm, ⟨99, _⟩ => ⟨S512x2048, .f32⟩
  | .hbm, ⟨100, _⟩ => ⟨S1x2048, .f32⟩
  | .hbm, ⟨101, _⟩ => ⟨S512x2048, .f32⟩
  | .hbm, ⟨102, _⟩ => ⟨S512x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_v59 : Ref sig .tc := ⟨.hbm, 78, rfl⟩
abbrev main_v60 : Ref sig .tc := ⟨.hbm, 79, rfl⟩
abbrev main_cst_11 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_12 : Ref sig .tc := ⟨.hbm, 88, rfl⟩
abbrev main_v68 : Ref sig .tc := ⟨.hbm, 89, rfl⟩
abbrev main_v69 : Ref sig .tc := ⟨.hbm, 90, rfl⟩
abbrev main_cst_13 : Ref sig .tc := ⟨.hbm, 91, rfl⟩
abbrev main_v70 : Ref sig .tc := ⟨.hbm, 92, rfl⟩
abbrev main_v71 : Ref sig .tc := ⟨.hbm, 93, rfl⟩
abbrev main_cst_14 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩

abbrev nD : Nat := 1
abbrev τ : Topo := Topo.v7x

variable {F : FTy → Type} [FloatOps F]
-- ==== Kernel3.lean ====
abbrev S8704x2048 : Shape := ⟨2, ![8704, 2048]⟩
abbrev S1x2048x7680 : Shape := ⟨3, ![1, 2048, 7680]⟩
abbrev S1x8x30x1024 : Shape := ⟨4, ![1, 8, 30, 1024]⟩
abbrev S1x8x128x4x64 : Shape := ⟨5, ![1, 8, 128, 4, 64]⟩
abbrev S8 : Shape := ⟨1, ![8]⟩
abbrev S_ : Shape := ⟨0, ![]⟩
abbrev S4096 : Shape := ⟨1, ![4096]⟩
abbrev S1x4096 : Shape := ⟨2, ![1, 4096]⟩
abbrev S2x4096 : Shape := ⟨2, ![2, 4096]⟩
abbrev S8192 : Shape := ⟨1, ![8192]⟩
abbrev S64 : Shape := ⟨1, ![64]⟩
abbrev S1x64 : Shape := ⟨2, ![1, 64]⟩
abbrev S8x64 : Shape := ⟨2, ![8, 64]⟩
abbrev S512 : Shape := ⟨1, ![512]⟩
abbrev S8704 : Shape := ⟨1, ![8704]⟩
abbrev S8704x1 : Shape := ⟨2, ![8704, 1]⟩
abbrev S1x8 : Shape := ⟨2, ![1, 8]⟩
abbrev S8704x8 : Shape := ⟨2, ![8704, 8]⟩
abbrev S8704x48 : Shape := ⟨2, ![8704, 48]⟩
abbrev S8704x64 : Shape := ⟨2, ![8704, 64]⟩
abbrev S1x8704x1x64 : Shape := ⟨4, ![1, 8704, 1, 64]⟩
abbrev S1x8704x2x64 : Shape := ⟨4, ![1, 8704, 2, 64]⟩
abbrev S8704x128 : Shape := ⟨2, ![8704, 128]⟩
abbrev S2048x7680 : Shape := ⟨2, ![2048, 7680]⟩
abbrev S8704x1024 : Shape := ⟨2, ![8704, 1024]⟩
abbrev S8704x256 : Shape := ⟨2, ![8704, 256]⟩
abbrev S544x2048 : Shape := ⟨2, ![544, 2048]⟩
abbrev S2048x3584 : Shape := ⟨2, ![2048, 3584]⟩
abbrev S544x128 : Shape := ⟨2, ![544, 128]⟩
abbrev S544x1024 : Shape := ⟨2, ![544, 1024]⟩
abbrev S544x256 : Shape := ⟨2, ![544, 256]⟩
abbrev S2048x1024 : Shape := ⟨2, ![2048, 1024]⟩
abbrev S2048x256 : Shape := ⟨2, ![2048, 256]⟩
abbrev S128x256 : Shape := ⟨2, ![128, 256]⟩
abbrev S1x128x256 : Shape := ⟨3, ![1, 128, 256]⟩
abbrev S2x128x256 : Shape := ⟨3, ![2, 128, 256]⟩
abbrev S2x128x4x64 : Shape := ⟨4, ![2, 128, 4, 64]⟩
abbrev S30x1024 : Shape := ⟨2, ![30, 1024]⟩
abbrev S1x30x1024 : Shape := ⟨3, ![1, 30, 1024]⟩
abbrev S2x30x1024 : Shape := ⟨3, ![2, 30, 1024]⟩
abbrev S8x128x4x64 : Shape := ⟨4, ![8, 128, 4, 64]⟩
abbrev S512x256 : Shape := ⟨2, ![512, 256]⟩
abbrev S8x64x4x64 : Shape := ⟨4, ![8, 64, 4, 64]⟩
abbrev S8x192x4x64 : Shape := ⟨4, ![8, 192, 4, 64]⟩
abbrev S8x30x1024 : Shape := ⟨3, ![8, 30, 1024]⟩
abbrev S512x1024 : Shape := ⟨2, ![512, 1024]⟩
abbrev S8x64x1024 : Shape := ⟨3, ![8, 64, 1024]⟩
abbrev S8x94x1024 : Shape := ⟨3, ![8, 94, 1024]⟩
abbrev S1x2x128x4x64 : Shape := ⟨5, ![1, 2, 128, 4, 64]⟩
abbrev S1x2x30x1024 : Shape := ⟨4, ![1, 2, 30, 1024]⟩

abbrev nBuf : Space → Nat
  | .hbm => 103
  | .vmem => 17
  | .smem => 0
  | _ => 0

abbrev bufTy : (tb : Table) → Fin (tcTables nBuf tb) → BufTy
  | .hbm, ⟨0, _⟩ => ⟨S8704x2048, .f32⟩
  | .hbm, ⟨1, _⟩ => ⟨S1x2048x7680, .f32⟩
  | .hbm, ⟨2, _⟩ => ⟨S1x8x30x1024, .f32⟩
  | .hbm, ⟨3, _⟩ => ⟨S1x8x128x4x64, .f32⟩
  | .hbm, ⟨4, _⟩ => ⟨S1x8x128x4x64, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S4096, .i32⟩
  | .hbm, ⟨20, _⟩ => ⟨S1x4096, .i32⟩
  | .hbm, ⟨21, _⟩ => ⟨S2x4096, .i32⟩
  | .hbm, ⟨22, _⟩ => ⟨S8192, .i32⟩
  | .hbm, ⟨23, _⟩ => ⟨S64, .i32⟩
  | .hbm, ⟨24, _⟩ => ⟨S_, .i32⟩
  | .hbm, ⟨25, _⟩ => ⟨S64, .i32⟩
  | .hbm, ⟨26, _⟩ => ⟨S64, .i32⟩
  | .hbm, ⟨27, _⟩ => ⟨S1x64, .i32⟩
  | .hbm, ⟨28, _⟩ => ⟨S8x64, .i32⟩
  | .hbm, ⟨29, _⟩ => ⟨S512, .i32⟩
  | .hbm, ⟨30, _⟩ => ⟨S8704, .i32⟩
  | .hbm, ⟨31, _⟩ => ⟨S8704, .f32⟩
  | .hbm, ⟨32, _⟩ => ⟨S8704x1, .f32⟩
  | .hbm, ⟨33, _⟩ => ⟨S1x8, .f32⟩
  | .hbm, ⟨34, _⟩ => ⟨S8704x8, .f32⟩
  | .hbm, ⟨35, _⟩ => ⟨S8704x8, .f32⟩
  | .hbm, ⟨36, _⟩ => ⟨S8704x8, .f32⟩
  | .hbm, ⟨37, _⟩ => ⟨S8704x8, .f32⟩
  | .hbm, ⟨38, _⟩ => ⟨S8704x8, .f32⟩
  | .hbm, ⟨39, _⟩ => ⟨S_, .f32⟩
  | .hbm, ⟨40, _⟩ => ⟨S8704x48, .f32⟩
  | .hbm, ⟨41, _⟩ => ⟨S_, .f32⟩
  | .hbm, ⟨42, _⟩ => ⟨S8704x48, .f32⟩
  | .hbm, ⟨43, _⟩ => ⟨S_, .f32⟩
  | .hbm, ⟨44, _⟩ => ⟨S8704x8, .f32⟩
  | .hbm, ⟨45, _⟩ => ⟨S8704x64, .f32⟩
  | .hbm, ⟨46, _⟩ => ⟨S8704x8, .f32⟩
  | .hbm, ⟨47, _⟩ => ⟨S8704x64, .f32⟩
  | .hbm, ⟨48, _⟩ => ⟨S8704x64, .f32⟩
  | .hbm, ⟨49, _⟩ => ⟨S1x8704x1x64, .f32⟩
  | .hbm, ⟨50, _⟩ => ⟨S1x8704x2x64, .f32⟩
  | .hbm, ⟨51, _⟩ => ⟨S8704x128, .f32⟩
  | .hbm, ⟨52, _⟩ => ⟨S1x8704x1x64, .f32⟩
  | .hbm, ⟨53, _⟩ => ⟨S1x8704x2x64, .f32⟩
  | .hbm, ⟨54, _⟩ => ⟨S8704x128, .f32⟩
  | .hbm, ⟨55, _⟩ => ⟨S1x8704x1x64, .f32⟩
  | .hbm, ⟨56, _⟩ => ⟨S1x8704x2x64, .f32⟩
  | .hbm, ⟨57, _⟩ => ⟨S8704x128, .f32⟩
  | .hbm, ⟨58, _⟩ => ⟨S8704x2048, .bf16⟩
  | .hbm, ⟨59, _⟩ => ⟨S2048x7680, .f32⟩
  | .hbm, ⟨60, _⟩ => ⟨S2048x7680, .bf16⟩
  | .hbm, ⟨61, _⟩ => ⟨S8704x1024, .f32⟩
  | .hbm, ⟨62, _⟩ => ⟨S8704x1024, .bf16⟩
  | .hbm, ⟨63, _⟩ => ⟨S8704x256, .f32⟩
  | .hbm, ⟨64, _⟩ => ⟨S8704x256, .f32⟩
  | .hbm, ⟨65, _⟩ => ⟨S128x256, .f32⟩
  | .hbm, ⟨66, _⟩ => ⟨S128x256, .f32⟩
  | .hbm, ⟨67, _⟩ => ⟨S1x128x256, .f32⟩
  | .hbm, ⟨68, _⟩ => ⟨S1x128x256, .f32⟩
  | .hbm, ⟨69, _⟩ => ⟨S2x128x256, .f32⟩
  | .hbm, ⟨70, _⟩ => ⟨S2x128x4x64, .f32⟩
  | .hbm, ⟨71, _⟩ => ⟨S128x256, .f32⟩
  | .hbm, ⟨72, _⟩ => ⟨S128x256, .f32⟩
  | .hbm, ⟨73, _⟩ => ⟨S1x128x256, .f32⟩
  | .hbm, ⟨74, _⟩ => ⟨S1x128x256, .f32⟩
  | .hbm, ⟨75, _⟩ => ⟨S2x128x256, .f32⟩
  | .hbm, ⟨76, _⟩ => ⟨S2x128x4x64, .f32⟩
  | .hbm, ⟨77, _⟩ => ⟨S30x1024, .f32⟩
  | .hbm, ⟨78, _⟩ => ⟨S30x1024, .f32⟩
  | .hbm, ⟨79, _⟩ => ⟨S1x30x1024, .f32⟩
  | .hbm, ⟨80, _⟩ => ⟨S1x30x1024, .f32⟩
  | .hbm, ⟨81, _⟩ => ⟨S2x30x1024, .f32⟩
  | .hbm, ⟨82, _⟩ => ⟨S8x128x4x64, .f32⟩
  | .hbm, ⟨83, _⟩ => ⟨S512x256, .f32⟩
  | .hbm, ⟨84, _⟩ => ⟨S8x64x4x64, .f32⟩
  | .hbm, ⟨85, _⟩ => ⟨S8x192x4x64, .f32⟩
  | .hbm, ⟨86, _⟩ => ⟨S8x128x4x64, .f32⟩
  | .hbm, ⟨87, _⟩ => ⟨S8x128x4x64, .f32⟩
  | .hbm, ⟨88, _⟩ => ⟨S512x256, .f32⟩
  | .hbm, ⟨89, _⟩ => ⟨S8x64x4x64, .f32⟩
  | .hbm, ⟨90, _⟩ => ⟨S8x192x4x64, .f32⟩
  | .hbm, ⟨91, _⟩ => ⟨S8x128x4x64, .f32⟩
  | .hbm, ⟨92, _⟩ => ⟨S8x30x1024, .f32⟩
  | .hbm, ⟨93, _⟩ => ⟨S512x1024, .f32⟩
  | .hbm, ⟨94, _⟩ => ⟨S8x64x1024, .f32⟩
  | .hbm, ⟨95, _⟩ => ⟨S8x94x1024, .f32⟩
  | .hbm, ⟨96, _⟩ => ⟨S8x30x1024, .f32⟩
  | .hbm, ⟨97, _⟩ => ⟨S1x2x128x4x64, .f32⟩
  | .hbm, ⟨98, _⟩ => ⟨S1x2x128x4x64, .f32⟩
  | .hbm, ⟨99, _⟩ => ⟨S1x2x30x1024, .f32⟩
  | .hbm, ⟨100, _⟩ => ⟨S1x8x128x4x64, .f32⟩
  | .hbm, ⟨101, _⟩ => ⟨S1x8x128x4x64, .f32⟩
  | .hbm, ⟨102, _⟩ => ⟨S1x8x30x1024, .f32⟩
  | .local _ .vmem, ⟨0, _⟩ => ⟨S544x2048, .bf16⟩
  | .local _ .vmem, ⟨1, _⟩ => ⟨S544x2048, .bf16⟩
  | .local _ .vmem, ⟨2, _⟩ => ⟨S2048x3584, .bf16⟩
  | .local _ .vmem, ⟨3, _⟩ => ⟨S544x128, .f32⟩
  | .local _ .vmem, ⟨4, _⟩ => ⟨S544x128, .f32⟩
  | .local _ .vmem, ⟨5, _⟩ => ⟨S544x128, .f32⟩
  | .local _ .vmem, ⟨6, _⟩ => ⟨S544x128, .f32⟩
  | .local _ .vmem, ⟨7, _⟩ => ⟨S544x128, .f32⟩
  | .local _ .vmem, ⟨8, _⟩ => ⟨S544x128, .f32⟩
  | .local _ .vmem, ⟨9, _⟩ => ⟨S544x1024, .f32⟩
  | .local _ .vmem, ⟨10, _⟩ => ⟨S544x1024, .f32⟩
  | .local _ .vmem, ⟨11, _⟩ => ⟨S544x1024, .bf16⟩
  | .local _ .vmem, ⟨12, _⟩ => ⟨S544x1024, .bf16⟩
  | .local _ .vmem, ⟨13, _⟩ => ⟨S544x256, .f32⟩
  | .local _ .vmem, ⟨14, _⟩ => ⟨S544x256, .f32⟩
  | .local _ .vmem, ⟨15, _⟩ => ⟨S544x256, .f32⟩
  | .local _ .vmem, ⟨16, _⟩ => ⟨S544x256, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48_0 : Ref sig .tc := ⟨.hbm, 61, rfl⟩
abbrev main_v48_1 : Ref sig .tc := ⟨.hbm, 62, rfl⟩
abbrev main_v48_2 : Ref sig .tc := ⟨.hbm, 63, rfl⟩
abbrev main_v48_3 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S544x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S544x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S8704x2048 : Shape := ⟨2, ![8704, 2048]⟩
abbrev S1x2048x7680 : Shape := ⟨3, ![1, 2048, 7680]⟩
abbrev S1x8x30x1024 : Shape := ⟨4, ![1, 8, 30, 1024]⟩
abbrev S1x8x128x4x64 : Shape := ⟨5, ![1, 8, 128, 4, 64]⟩
abbrev S8192x2048 : Shape := ⟨2, ![8192, 2048]⟩
abbrev S2x4096x2048 : Shape := ⟨3, ![2, 4096, 2048]⟩
abbrev S4096 : Shape := ⟨1, ![4096]⟩
abbrev S2048x7680 : Shape := ⟨2, ![2048, 7680]⟩
abbrev S2x4096x7680 : Shape := ⟨3, ![2, 4096, 7680]⟩
abbrev S2x4096x1024 : Shape := ⟨3, ![2, 4096, 1024]⟩
abbrev S2x4096x256 : Shape := ⟨3, ![2, 4096, 256]⟩
abbrev S_ : Shape := ⟨0, ![]⟩
abbrev S2x4096x16x64 : Shape := ⟨4, ![2, 4096, 16, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S2x4096x16x16 : Shape := ⟨4, ![2, 4096, 16, 16]⟩
abbrev S2x4096x16x8 : Shape := ⟨4, ![2, 4096, 16, 8]⟩
abbrev S1x4096x1x8 : Shape := ⟨4, ![1, 4096, 1, 8]⟩
abbrev S2x4096x16x48 : Shape := ⟨4, ![2, 4096, 16, 48]⟩
abbrev S2x4096x4x64 : Shape := ⟨4, ![2, 4096, 4, 64]⟩
abbrev S2x4096x4x16 : Shape := ⟨4, ![2, 4096, 4, 16]⟩
abbrev S2x4096x4x8 : Shape := ⟨4, ![2, 4096, 4, 8]⟩
abbrev S2x4096x4x48 : Shape := ⟨4, ![2, 4096, 4, 48]⟩
abbrev S512x2048 : Shape := ⟨2, ![512, 2048]⟩
abbrev S8x64x2048 : Shape := ⟨3, ![8, 64, 2048]⟩
abbrev S64 : Shape := ⟨1, ![64]⟩
abbrev S8x64x7680 : Shape := ⟨3, ![8, 64, 7680]⟩
abbrev S8x64x1024 : Shape := ⟨3, ![8, 64, 1024]⟩
abbrev S8x64x256 : Shape := ⟨3, ![8, 64, 256]⟩
abbrev S8x64x16x64 : Shape := ⟨4, ![8, 64, 16, 64]⟩
abbrev S64x1 : Shape := ⟨2, ![64, 1]⟩
abbrev S64x8 : Shape := ⟨2, ![64, 8]⟩
abbrev S64x1x8 : Shape := ⟨3, ![64, 1, 8]⟩
abbrev S8x64x16x16 : Shape := ⟨4, ![8, 64, 16, 16]⟩
abbrev S8x64x16x8 : Shape := ⟨4, ![8, 64, 16, 8]⟩
abbrev S1x64x1x8 : Shape := ⟨4, ![1, 64, 1, 8]⟩
abbrev S8x64x16x48 : Shape := ⟨4, ![8, 64, 16, 48]⟩
abbrev S8x64x4x64 : Shape := ⟨4, ![8, 64, 4, 64]⟩
abbrev S8x64x4x16 : Shape := ⟨4, ![8, 64, 4, 16]⟩
abbrev S8x64x4x8 : Shape := ⟨4, ![8, 64, 4, 8]⟩
abbrev S8x64x4x48 : Shape := ⟨4, ![8, 64, 4, 48]⟩
abbrev S8x128x4x64 : Shape := ⟨4, ![8, 128, 4, 64]⟩
abbrev S8x192x4x64 : Shape := ⟨4, ![8, 192, 4, 64]⟩
abbrev S8x30x1024 : Shape := ⟨3, ![8, 30, 1024]⟩
abbrev S8x94x1024 : Shape := ⟨3, ![8, 94, 1024]⟩
abbrev S8192x1024 : Shape := ⟨2, ![8192, 1024]⟩
abbrev S512x1024 : Shape := ⟨2, ![512, 1024]⟩
abbrev S8704x1024 : Shape := ⟨2, ![8704, 1024]⟩
abbrev S8192x256 : Shape := ⟨2, ![8192, 256]⟩
abbrev S512x256 : Shape := ⟨2, ![512, 256]⟩
abbrev S8704x256 : Shape := ⟨2, ![8704, 256]⟩
abbrev S2x128x4x64 : Shape := ⟨4, ![2, 128, 4, 64]⟩
abbrev S1x2x128x4x64 : Shape := ⟨5, ![1, 2, 128, 4, 64]⟩
abbrev S2x30x1024 : Shape := ⟨3, ![2, 30, 1024]⟩
abbrev S1x2x30x1024 : Shape := ⟨4, ![1, 2, 30, 1024]⟩

abbrev nBuf : Space → Nat
  | .hbm => 266
  | .vmem => 0
  | .smem => 0
  | _ => 0

abbrev hbmTy0_0 (i : Nat) : BufTy := match i % 128 with
  | 0 => ⟨S8704x2048, .f32⟩
  | 1 => ⟨S1x2048x7680, .f32⟩
  | 2 => ⟨S1x8x30x1024, .f32⟩
  | 3 => ⟨S1x8x128x4x64, .f32⟩
  | 4 => ⟨S1x8x128x4x64, .f32⟩
  | 5 => ⟨S8192x2048, .f32⟩
  | 6 => ⟨S2x4096x2048, .f32⟩
  | 7 => ⟨S4096, .i32⟩
  | 8 => ⟨S2048x7680, .f32⟩
  | 9 => ⟨S2x4096x7680, .f32⟩
  | 10 => ⟨S2x4096x1024, .f32⟩
  | 11 => ⟨S2x4096x1024, .f32⟩
  | 12 => ⟨S2x4096x1024, .f32⟩
  | 13 => ⟨S2x4096x256, .f32⟩
  | 14 => ⟨S2x4096x256, .f32⟩
  | 15 => ⟨S2x4096x2048, .f32⟩
  | 16 => ⟨S2x4096x2048, .f32⟩
  | 17 => ⟨S2x4096x1024, .f32⟩
  | 18 => ⟨S2x4096x1024, .f32⟩
  | 19 => ⟨S_, .f32⟩
  | 20 => ⟨S2x4096x1024, .f32⟩
  | 21 => ⟨S2x4096x1024, .f32⟩
  | 22 => ⟨S_, .f32⟩
  | 23 => ⟨S2x4096x1024, .f32⟩
  | 24 => ⟨S2x4096x1024, .f32⟩
  | 25 => ⟨S2x4096x1024, .f32⟩
  | 26 => ⟨S2x4096x16x64, .f32⟩
  | 27 => ⟨S8, .f32⟩
  | 28 => ⟨S_, .f32⟩
  | 29 => ⟨S8, .f32⟩
  | 30 => ⟨S8, .f32⟩
  | 31 => ⟨S_, .f32⟩
  | 32 => ⟨S8, .f32⟩
  | 33 => ⟨S8, .f32⟩
  | 34 => ⟨S8, .f32⟩
  | 35 => ⟨S_, .f32⟩
  | 36 => ⟨S8, .f32⟩
  | 37 => ⟨S8, .f32⟩
  | 38 => ⟨S_, .f32⟩
  | 39 => ⟨S8, .f32⟩
  | 40 => ⟨S8, .f32⟩
  | 41 => ⟨S4096, .f32⟩
  | 42 => ⟨S4096x1, .f32⟩
  | 43 => ⟨S1x8, .f32⟩
  | 44 => ⟨S4096x8, .f32⟩
  | 45 => ⟨S4096x8, .f32⟩
  | 46 => ⟨S4096x8, .f32⟩
  | 47 => ⟨S4096x8, .f32⟩
  | 48 => ⟨S4096x1x8, .f32⟩
  | 49 => ⟨S4096x8, .f32⟩
  | 50 => ⟨S4096x1x8, .f32⟩
  | 51 => ⟨S2x4096x16x16, .f32⟩
  | 52 => ⟨S2x4096x16x8, .f32⟩
  | 53 => ⟨S2x4096x16x8, .f32⟩
  | 54 => ⟨S1x4096x1x8, .f32⟩
  | 55 => ⟨S2x4096x16x8, .f32⟩
  | 56 => ⟨S2x4096x16x8, .f32⟩
  | 57 => ⟨S1x4096x1x8, .f32⟩
  | 58 => ⟨S2x4096x16x8, .f32⟩
  | 59 => ⟨S2x4096x16x8, .f32⟩
  | 60 => ⟨S2x4096x16x8, .f32⟩
  | 61 => ⟨S1x4096x1x8, .f32⟩
  | 62 => ⟨S2x4096x16x8, .f32⟩
  | 63 => ⟨S2x4096x16x8, .f32⟩
  | 64 => ⟨S1x4096x1x8, .f32⟩
  | 65 => ⟨S2x4096x16x8, .f32⟩
  | 66 => ⟨S2x4096x16x8, .f32⟩
  | 67 => ⟨S2x4096x16x8, .f32⟩
  | 68 => ⟨S2x4096x16x16, .f32⟩
  | 69 => ⟨S2x4096x16x48, .f32⟩
  | 70 => ⟨S2x4096x16x64, .f32⟩
  | 71 => ⟨S2x4096x4x64, .f32⟩
  | 72 => ⟨S8, .f32⟩
  | 73 => ⟨S_, .f32⟩
  | 74 => ⟨S8, .f32⟩
  | 75 => ⟨S8, .f32⟩
  | 76 => ⟨S_, .f32⟩
  | 77 => ⟨S8, .f32⟩
  | 78 => ⟨S8, .f32⟩
  | 79 => ⟨S8, .f32⟩
  | 80 => ⟨S_, .f32⟩
  | 81 => ⟨S8, .f32⟩
  | 82 => ⟨S8, .f32⟩
  | 83 => ⟨S_, .f32⟩
  | 84 => ⟨S8, .f32⟩
  | 85 => ⟨S8, .f32⟩
  | 86 => ⟨S4096, .f32⟩
  | 87 => ⟨S4096x1, .f32⟩
  | 88 => ⟨S1x8, .f32⟩
  | 89 => ⟨S4096x8, .f32⟩
  | 90 => ⟨S4096x8, .f32⟩
  | 91 => ⟨S4096x8, .f32⟩
  | 92 => ⟨S4096x8, .f32⟩
  | 93 => ⟨S4096x1x8, .f32⟩
  | 94 => ⟨S4096x8, .f32⟩
  | 95 => ⟨S4096x1x8, .f32⟩
  | 96 => ⟨S2x4096x4x16, .f32⟩
  | 97 => ⟨S2x4096x4x8, .f32⟩
  | 98 => ⟨S2x4096x4x8, .f32⟩
  | 99 => ⟨S1x4096x1x8, .f32⟩
  | 100 => ⟨S2x4096x4x8, .f32⟩
  | 101 => ⟨S2x4096x4x8, .f32⟩
  | 102 => ⟨S1x4096x1x8, .f32⟩
  | 103 => ⟨S2x4096x4x8, .f32⟩
  | 104 => ⟨S2x4096x4x8, .f32⟩
  | 105 => ⟨S2x4096x4x8, .f32⟩
  | 106 => ⟨S1x4096x1x8, .f32⟩
  | 107 => ⟨S2x4096x4x8, .f32⟩
  | 108 => ⟨S2x4096x4x8, .f32⟩
  | 109 => ⟨S1x4096x1x8, .f32⟩
  | 110 => ⟨S2x4096x4x8, .f32⟩
  | 111 => ⟨S2x4096x4x8, .f32⟩
  | 112 => ⟨S2x4096x4x8, .f32⟩
  | 113 => ⟨S2x4096x4x16, .f32⟩
  | 114 => ⟨S2x4096x4x48, .f32⟩
  | 115 => ⟨S2x4096x4x64, .f32⟩
  | 116 => ⟨S2x4096x4x64, .f32⟩
  | 117 => ⟨S512x2048, .f32⟩
  | 118 => ⟨S8x64x2048, .f32⟩
  | 119 => ⟨S64, .i32⟩
  | 120 => ⟨S_, .i32⟩
  | 121 => ⟨S64, .i32⟩
  | 122 => ⟨S64, .i32⟩
  | 123 => ⟨S2048x7680, .f32⟩
  | 124 => ⟨S8x64x7680, .f32⟩
  | 125 => ⟨S8x64x1024, .f32⟩
  | 126 => ⟨S8x64x1024, .f32⟩
  | 127 => ⟨S8x64x1024, .f32⟩
  | _ => ⟨S8704x2048, .f32⟩

abbrev hbmTy0_1 (i : Nat) : BufTy := match i % 128 with
  | 0 => ⟨S8x64x256, .f32⟩
  | 1 => ⟨S8x64x256, .f32⟩
  | 2 => ⟨S8x64x2048, .f32⟩
  | 3 => ⟨S8x64x2048, .f32⟩
  | 4 => ⟨S8x64x1024, .f32⟩
  | 5 => ⟨S8x64x1024, .f32⟩
  | 6 => ⟨S_, .f32⟩
  | 7 => ⟨S8x64x1024, .f32⟩
  | 8 => ⟨S8x64x1024, .f32⟩
  | 9 => ⟨S_, .f32⟩
  | 10 => ⟨S8x64x1024, .f32⟩
  | 11 => ⟨S8x64x1024, .f32⟩
  | 12 => ⟨S8x64x1024, .f32⟩
  | 13 => ⟨S8x64x16x64, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S8, .f32⟩
  | 22 => ⟨S_, .f32⟩
  | 23 => ⟨S8, .f32⟩
  | 24 => ⟨S8, .f32⟩
  | 25 => ⟨S_, .f32⟩
  | 26 => ⟨S8, .f32⟩
  | 27 => ⟨S8, .f32⟩
  | 28 => ⟨S64, .f32⟩
  | 29 => ⟨S64x1, .f32⟩
  | 30 => ⟨S1x8, .f32⟩
  | 31 => ⟨S64x8, .f32⟩
  | 32 => ⟨S64x8, .f32⟩
  | 33 => ⟨S64x8, .f32⟩
  | 34 => ⟨S64x8, .f32⟩
  | 35 => ⟨S64x1x8, .f32⟩
  | 36 => ⟨S64x8, .f32⟩
  | 37 => ⟨S64x1x8, .f32⟩
  | 38 => ⟨S8x64x16x16, .f32⟩
  | 39 => ⟨S8x64x16x8, .f32⟩
  | 40 => ⟨S8x64x16x8, .f32⟩
  | 41 => ⟨S1x64x1x8, .f32⟩
  | 42 => ⟨S8x64x16x8, .f32⟩
  | 43 => ⟨S8x64x16x8, .f32⟩
  | 44 => ⟨S1x64x1x8, .f32⟩
  | 45 => ⟨S8x64x16x8, .f32⟩
  | 46 => ⟨S8x64x16x8, .f32⟩
  | 47 => ⟨S8x64x16x8, .f32⟩
  | 48 => ⟨S1x64x1x8, .f32⟩
  | 49 => ⟨S8x64x16x8, .f32⟩
  | 50 => ⟨S8x64x16x8, .f32⟩
  | 51 => ⟨S1x64x1x8, .f32⟩
  | 52 => ⟨S8x64x16x8, .f32⟩
  | 53 => ⟨S8x64x16x8, .f32⟩
  | 54 => ⟨S8x64x16x8, .f32⟩
  | 55 => ⟨S8x64x16x16, .f32⟩
  | 56 => ⟨S8x64x16x48, .f32⟩
  | 57 => ⟨S8x64x16x64, .f32⟩
  | 58 => ⟨S8x64x4x64, .f32⟩
  | 59 => ⟨S8, .f32⟩
  | 60 => ⟨S_, .f32⟩
  | 61 => ⟨S8, .f32⟩
  | 62 => ⟨S8, .f32⟩
  | 63 => ⟨S_, .f32⟩
  | 64 => ⟨S8, .f32⟩
  | 65 => ⟨S8, .f32⟩
  | 66 => ⟨S8, .f32⟩
  | 67 => ⟨S_, .f32⟩
  | 68 => ⟨S8, .f32⟩
  | 69 => ⟨S8, .f32⟩
  | 70 => ⟨S_, .f32⟩
  | 71 => ⟨S8, .f32⟩
  | 72 => ⟨S8, .f32⟩
  | 73 => ⟨S64, .f32⟩
  | 74 => ⟨S64x1, .f32⟩
  | 75 => ⟨S1x8, .f32⟩
  | 76 => ⟨S64x8, .f32⟩
  | 77 => ⟨S64x8, .f32⟩
  | 78 => ⟨S64x8, .f32⟩
  | 79 => ⟨S64x8, .f32⟩
  | 80 => ⟨S64x1x8, .f32⟩
  | 81 => ⟨S64x8, .f32⟩
  | 82 => ⟨S64x1x8, .f32⟩
  | 83 => ⟨S8x64x4x16, .f32⟩
  | 84 => ⟨S8x64x4x8, .f32⟩
  | 85 => ⟨S8x64x4x8, .f32⟩
  | 86 => ⟨S1x64x1x8, .f32⟩
  | 87 => ⟨S8x64x4x8, .f32⟩
  | 88 => ⟨S8x64x4x8, .f32⟩
  | 89 => ⟨S1x64x1x8, .f32⟩
  | 90 => ⟨S8x64x4x8, .f32⟩
  | 91 => ⟨S8x64x4x8, .f32⟩
  | 92 => ⟨S8x64x4x8, .f32⟩
  | 93 => ⟨S1x64x1x8, .f32⟩
  | 94 => ⟨S8x64x4x8, .f32⟩
  | 95 => ⟨S8x64x4x8, .f32⟩
  | 96 => ⟨S1x64x1x8, .f32⟩
  | 97 => ⟨S8x64x4x8, .f32⟩
  | 98 => ⟨S8x64x4x8, .f32⟩
  | 99 => ⟨S8x64x4x8, .f32⟩
  | 100 => ⟨S8x64x4x16, .f32⟩
  | 101 => ⟨S8x64x4x48, .f32⟩
  | 102 => ⟨S8x64x4x64, .f32⟩
  | 103 => ⟨S8x64x4x64, .f32⟩
  | 104 => ⟨S8x128x4x64, .f32⟩
  | 105 => ⟨S8x192x4x64, .f32⟩
  | 106 => ⟨S8x128x4x64, .f32⟩
  | 107 => ⟨S8x128x4x64, .f32⟩
  | 108 => ⟨S8x192x4x64, .f32⟩
  | 109 => ⟨S8x128x4x64, .f32⟩
  | 110 => ⟨S8x30x1024, .f32⟩
  | 111 => ⟨S8x94x1024, .f32⟩
  | 112 => ⟨S8x30x1024, .f32⟩
  | 113 => ⟨S8192x1024, .f32⟩
  | 114 => ⟨S512x1024, .f32⟩
  | 115 => ⟨S8704x1024, .f32⟩
  | 116 => ⟨S8192x1024, .f32⟩
  | 117 => ⟨S512x1024, .f32⟩
  | 118 => ⟨S8704x1024, .f32⟩
  | 119 => ⟨S_, .f32⟩
  | 120 => ⟨S8704x1024, .f32⟩
  | 121 => ⟨S8704x1024, .f32⟩
  | 122 => ⟨S8704x1024, .bf16⟩
  | 123 => ⟨S8192x256, .f32⟩
  | 124 => ⟨S512x256, .f32⟩
  | 125 => ⟨S8704x256, .f32⟩
  | 126 => ⟨S8192x256, .f32⟩
  | 127 => ⟨S512x256, .f32⟩
  | _ => ⟨S8704x2048, .f32⟩

abbrev hbmTy0_2 (i : Nat) : BufTy := match i % 128 with
  | 0 => ⟨S8704x256, .f32⟩
  | 1 => ⟨S2x128x4x64, .f32⟩
  | 2 => ⟨S1x2x128x4x64, .f32⟩
  | 3 => ⟨S2x128x4x64, .f32⟩
  | 4 => ⟨S1x2x128x4x64, .f32⟩
  | 5 => ⟨S2x30x1024, .f32⟩
  | 6 => ⟨S1x2x30x1024, .f32⟩
  | 7 => ⟨S1x8x128x4x64, .f32⟩
  | 8 => ⟨S1x8x128x4x64, .f32⟩
  | 9 => ⟨S1x8x30x1024, .f32⟩
  | _ => ⟨S8704x2048, .f32⟩

abbrev hbmTy (i : Nat) : BufTy := match i / 128 with
  | 0 => hbmTy0_0 i
  | 1 => hbmTy0_1 i
  | 2 => hbmTy0_2 i
  | _ => ⟨S8704x2048, .f32⟩

abbrev bufTy : (tb : Table) → Fin (tcTables nBuf tb) → BufTy
  | .hbm, ⟨i, _⟩ => hbmTy i
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_5 : Ref sig .tc := ⟨.hbm, 73, rfl⟩
abbrev main_v62 : Ref sig .tc := ⟨.hbm, 74, rfl⟩
abbrev main_v63 : Ref sig .tc := ⟨.hbm, 75, rfl⟩
abbrev main_cst_6 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_cst_7 : Ref sig .tc := ⟨.hbm, 80, rfl⟩
abbrev main_v67 : Ref sig .tc := ⟨.hbm, 81, rfl⟩
abbrev main_v68 : Ref sig .tc := ⟨.hbm, 82, rfl⟩
abbrev main_cst_8 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_c : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_cst_9 : Ref sig .tc := ⟨.hbm, 134, rfl⟩
abbrev main_v118 : Ref sig .tc := ⟨.hbm, 135, rfl⟩
abbrev main_v119 : Ref sig .tc := ⟨.hbm, 136, rfl⟩
abbrev main_cst_10 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_cst_11 : Ref sig .tc := ⟨.hbm, 143, rfl⟩
abbrev main_v125 : Ref sig .tc := ⟨.hbm, 144, rfl⟩
abbrev main_v126 : Ref sig .tc := ⟨.hbm, 145, rfl⟩
abbrev main_cst_12 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_cst_13 : Ref sig .tc := ⟨.hbm, 150, rfl⟩
abbrev main_v130 : Ref sig .tc := ⟨.hbm, 151, rfl⟩
abbrev main_v131 : Ref sig .tc := ⟨.hbm, 152, rfl⟩
abbrev main_cst_14 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_cst_15 : Ref sig .tc := ⟨.hbm, 188, rfl⟩
abbrev main_v166 : Ref sig .tc := ⟨.hbm, 189, rfl⟩
abbrev main_v167 : Ref sig .tc := ⟨.hbm, 190, rfl⟩
abbrev main_cst_16 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_cst_17 : Ref sig .tc := ⟨.hbm, 195, rfl⟩
abbrev main_v171 : Ref sig .tc := ⟨.hbm, 196, rfl⟩
abbrev main_v172 : Ref sig .tc := ⟨.hbm, 197, rfl⟩
abbrev main_cst_18 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_v183 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_v188 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_v195 : Ref sig .tc := ⟨.hbm, 221, rfl⟩
abbrev main_v196 : Ref sig .tc := ⟨.hbm, 222, rfl⟩
abbrev main_v197 : Ref sig .tc := ⟨.hbm, 223, rfl⟩
abbrev main_v198 : Ref sig .tc := ⟨.hbm, 224, rfl⟩
abbrev main_v199 : Ref sig .tc := ⟨.hbm, 225, rfl⟩
abbrev main_v200 : Ref sig .tc := ⟨.hbm, 226, rfl⟩
abbrev main_v201 : Ref sig .tc := ⟨.hbm, 227, rfl⟩
abbrev main_v202 : Ref sig .tc := ⟨.hbm, 228, rfl⟩
abbrev main_v203 : Ref sig .tc := ⟨.hbm, 229, rfl⟩
abbrev main_v204 : Ref sig .tc := ⟨.hbm, 230, rfl⟩
abbrev main_v205 : Ref sig .tc := ⟨.hbm, 231, rfl⟩
abbrev main_v206 : Ref sig .tc := ⟨.hbm, 232, rfl⟩
abbrev main_v207 : Ref sig .tc := ⟨.hbm, 233, rfl⟩
abbrev main_v208 : Ref sig .tc := ⟨.hbm, 234, rfl⟩
abbrev main_v209 : Ref sig .tc := ⟨.hbm, 235, rfl⟩
abbrev main_v210 : Ref sig .tc := ⟨.hbm, 236, rfl⟩
abbrev main_v211 : Ref sig .tc := ⟨.hbm, 237, rfl⟩
abbrev main_v212 : Ref sig .tc := ⟨.hbm, 238, rfl⟩
abbrev main_v213 : Ref sig .tc := ⟨.hbm, 239, rfl⟩
abbrev main_v214 : Ref sig .tc := ⟨.hbm, 240, rfl⟩
abbrev main_v215 : Ref sig .tc := ⟨.hbm, 241, rfl⟩
abbrev main_v216 : Ref sig .tc := ⟨.hbm, 242, rfl⟩
abbrev main_v217 : Ref sig .tc := ⟨.hbm, 243, rfl⟩
abbrev main_v218 : Ref sig .tc := ⟨.hbm, 244, rfl⟩
abbrev main_v219 : Ref sig .tc := ⟨.hbm, 245, rfl⟩
abbrev main_v220 : Ref sig .tc := ⟨.hbm, 246, rfl⟩
abbrev main_cst_19 : Ref sig .tc := ⟨.hbm, 247, rfl⟩
abbrev main_v221 : Ref sig .tc := ⟨.hbm, 248, rfl⟩
abbrev main_v222 : Ref sig .tc := ⟨.hbm, 249, rfl⟩
abbrev main_v223 : Ref sig .tc := ⟨.hbm, 250, rfl⟩
abbrev main_v224 : Ref sig .tc := ⟨.hbm, 251, rfl⟩
abbrev main_v225 : Ref sig .tc := ⟨.hbm, 252, rfl⟩
abbrev main_v226 : Ref sig .tc := ⟨.hbm, 253, rfl⟩
abbrev main_v227 : Ref sig .tc := ⟨.hbm, 254, rfl⟩
abbrev main_v228 : Ref sig .tc := ⟨.hbm, 255, rfl⟩
abbrev main_v229 : Ref sig .tc := ⟨.hbm, 256, rfl⟩
abbrev main_v230 : Ref sig .tc := ⟨.hbm, 257, rfl⟩
abbrev main_v231 : Ref sig .tc := ⟨.hbm, 258, rfl⟩
abbrev main_v232 : Ref sig .tc := ⟨.hbm, 259, rfl⟩
abbrev main_v233 : Ref sig .tc := ⟨.hbm, 260, rfl⟩
abbrev main_v234 : Ref sig .tc := ⟨.hbm, 261, rfl⟩
abbrev main_v235 : Ref sig .tc := ⟨.hbm, 262, rfl⟩
abbrev main_v236 : Ref sig .tc := ⟨.hbm, 263, rfl⟩
abbrev main_v237 : Ref sig .tc := ⟨.hbm, 264, rfl⟩
abbrev main_v238 : Ref sig .tc := ⟨.hbm, 265, rfl⟩

abbrev nD : Nat := 1
abbrev τ : Topo := Topo.v7x

variable {F : FTy → Type} [FloatOps F]
-- ==== Kernel4.lean ====
abbrev S8192x2048 : Shape := ⟨2, ![8192, 2048]⟩
abbrev S512x2048 : Shape := ⟨2, ![512, 2048]⟩
abbrev S1x2048 : Shape := ⟨2, ![1, 2048]⟩
abbrev S1x2048x11008 : Shape := ⟨3, ![1, 2048, 11008]⟩
abbrev S1x5504x2048 : Shape := ⟨3, ![1, 5504, 2048]⟩
abbrev S1x2048x7680 : Shape := ⟨3, ![1, 2048, 7680]⟩
abbrev S2048x11008 : Shape := ⟨2, ![2048, 11008]⟩
abbrev S2048x5504 : Shape := ⟨2, ![2048, 5504]⟩
abbrev S_ : Shape := ⟨0, ![]⟩
abbrev S2048x5632 : Shape := ⟨2, ![2048, 5632]⟩
abbrev S5504x2048 : Shape := ⟨2, ![5504, 2048]⟩
abbrev S5632x2048 : Shape := ⟨2, ![5632, 2048]⟩
abbrev S2048x7680 : Shape := ⟨2, ![2048, 7680]⟩
abbrev S8704x2048 : Shape := ⟨2, ![8704, 2048]⟩
abbrev S2048x512 : Shape := ⟨2, ![2048, 512]⟩
abbrev S2048x384 : Shape := ⟨2, ![2048, 384]⟩
abbrev S384x2048 : Shape := ⟨2, ![384, 2048]⟩
abbrev S16x11008 : Shape := ⟨2, ![16, 11008]⟩
abbrev S64x2048 : Shape := ⟨2, ![64, 2048]⟩
abbrev S16x7680 : Shape := ⟨2, ![16, 7680]⟩
abbrev S512 : Shape := ⟨1, ![512]⟩
abbrev S512x1 : Shape := ⟨2, ![512, 1]⟩
abbrev S512x512 : Shape := ⟨2, ![512, 512]⟩
abbrev S512x384 : Shape := ⟨2, ![512, 384]⟩

abbrev nBuf : Space → Nat
  | .hbm => 36
  | .vmem => 32
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S512x2048, .f32⟩
  | .hbm, ⟨3, _⟩ => ⟨S1x2048, .f32⟩
  | .hbm, ⟨4, _⟩ => ⟨S1x2048x11008, .f32⟩
  | .hbm, ⟨5, _⟩ => ⟨S1x5504x2048, .f32⟩
  | .hbm, ⟨6, _⟩ => ⟨S1x2048, .f32⟩
  | .hbm, ⟨7, _⟩ => ⟨S1x2048x11008, .f32⟩
  | .hbm, ⟨8, _⟩ => ⟨S1x5504x2048, .f32⟩
  | .hbm, ⟨9, _⟩ => ⟨S1x2048x7680, .f32⟩
  | .hbm, ⟨10, _⟩ => ⟨S2048x11008, .f32⟩
  | .hbm, ⟨11, _⟩ => ⟨S2048x5504, .f32⟩
  | .hbm, ⟨12, _⟩ => ⟨S2048x5504, .bf16⟩
  | .hbm, ⟨13, _⟩ => ⟨S_, .i32⟩
  | .hbm, ⟨14, _⟩ => ⟨S_, .bf16⟩
  | .hbm, ⟨15, _⟩ => ⟨S2048x5632, .bf16⟩
  | .hbm, ⟨16, _⟩ => ⟨S2048x11008, .f32⟩
  | .hbm, ⟨17, _⟩ => ⟨S2048x5504, .f32⟩
  | .hbm, ⟨18, _⟩ => ⟨S2048x5504, .bf16⟩
  | .hbm, ⟨19, _⟩ => ⟨S_, .i32⟩
  | .hbm, ⟨20, _⟩ => ⟨S_, .bf16⟩
  | .hbm, ⟨21, _⟩ => ⟨S2048x5632, .bf16⟩
  | .hbm, ⟨22, _⟩ => ⟨S5504x2048, .f32⟩
  | .hbm, ⟨23, _⟩ => ⟨S5504x2048, .bf16⟩
  | .hbm, ⟨24, _⟩ => ⟨S_, .i32⟩
  | .hbm, ⟨25, _⟩ => ⟨S_, .bf16⟩
  | .hbm, ⟨26, _⟩ => ⟨S5632x2048, .bf16⟩
  | .hbm, ⟨27, _⟩ => ⟨S512x2048, .bf16⟩
  | .hbm, ⟨28, _⟩ => ⟨S2048x11008, .f32⟩
  | .hbm, ⟨29, _⟩ => ⟨S5504x2048, .f32⟩
  | .hbm, ⟨30, _⟩ => ⟨S2048x7680, .f32⟩
  | .hbm, ⟨31, _⟩ => ⟨S8704x2048, .f32⟩
  | .hbm, ⟨32, _⟩ => ⟨S8704x2048, .bf16⟩
  | .hbm, ⟨33, _⟩ => ⟨S2048x11008, .bf16⟩
  | .hbm, ⟨34, _⟩ => ⟨S5504x2048, .bf16⟩
  | .hbm, ⟨35, _⟩ => ⟨S2048x7680, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .bf16⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .vmem, ⟨10, _⟩ => ⟨S512x2048, .bf16⟩
  | .local _ .vmem, ⟨11, _⟩ => ⟨S2048x384, .bf16⟩
  | .local _ .vmem, ⟨12, _⟩ => ⟨S2048x384, .bf16⟩
  | .local _ .vmem, ⟨13, _⟩ => ⟨S384x2048, .bf16⟩
  | .local _ .vmem, ⟨14, _⟩ => ⟨S1x2048, .f32⟩
  | .local _ .vmem, ⟨15, _⟩ => ⟨S16x11008, .f32⟩
  | .local _ .vmem, ⟨16, _⟩ => ⟨S16x11008, .f32⟩
  | .local _ .vmem, ⟨17, _⟩ => ⟨S64x2048, .f32⟩
  | .local _ .vmem, ⟨18, _⟩ => ⟨S64x2048, .f32⟩
  | .local _ .vmem, ⟨19, _⟩ => ⟨S16x7680, .f32⟩
  | .local _ .vmem, ⟨20, _⟩ => ⟨S16x7680, .f32⟩
  | .local _ .vmem, ⟨21, _⟩ => ⟨S512x2048, .f32⟩
  | .local _ .vmem, ⟨22, _⟩ => ⟨S512x2048, .f32⟩
  | .local _ .vmem, ⟨23, _⟩ => ⟨S512x2048, .bf16⟩
  | .local _ .vmem, ⟨24, _⟩ => ⟨S512x2048, .bf16⟩
  | .local _ .vmem, ⟨25, _⟩ => ⟨S16x11008, .bf16⟩
  | .local _ .vmem, ⟨26, _⟩ => ⟨S16x11008, .bf16⟩
  | .local _ .vmem, ⟨27, _⟩ => ⟨S64x2048, .bf16⟩
  | .local _ .vmem, ⟨28, _⟩ => ⟨S64x2048, .bf16⟩
  | .local _ .vmem, ⟨29, _⟩ => ⟨S16x7680, .bf16⟩
  | .local _ .vmem, ⟨30, _⟩ => ⟨S16x7680, .bf16⟩
  | .local _ .vmem, ⟨31, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_call1_v0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_call2_v0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15_0 : Ref sig .tc := ⟨.hbm, 31, rfl⟩
abbrev main_v15_1 : Ref sig .tc := ⟨.hbm, 32, rfl⟩
abbrev main_v15_2 : Ref sig .tc := ⟨.hbm, 33, rfl⟩
abbrev main_v15_3 : Ref sig .tc := ⟨.hbm, 34, rfl⟩
abbrev main_v15_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨2, ![17, 10], ![false, false]⟩

def k0_mult1 (i : grid0.Coords) : BitVec 32 :=
  let arg0 : BitVec 32 := BitVec.ofNat 32 (i 0).val
  let c16_i32 : BitVec 32 := 16#32
  let v0 : BitVec 1 := Scalar.cmpi .slt arg0 c16_i32
  let arg1 : BitVec 32 := BitVec.ofNat 32 (i 1).val
  let c9_i32 : BitVec 32 := 9#32
  let v1 : BitVec 32 := Scalar.select v0 arg1 c9_i32
  let c512_i32 : BitVec 32 := 512#32
  let v2 : BitVec 32 := Scalar.muli v1 c512_i32
  v2
def k0_mult2 (i : grid0.Coords) : BitVec 32 :=
  let c0_i32 : BitVec 32 := 0#32
  let arg0 : BitVec 32 := BitVec.ofNat 32 (i 0).val
  let c16_i32 : BitVec 32 := 16#32
  let v0 : BitVec 1 := Scalar.cmpi .slt arg0 c16_i32
  let arg1 : BitVec 32 := BitVec.ofNat 32 (i 1).val
  let c9_i32 : BitVec 32 := 9#32
  let v1 : BitVec 32 := Scalar.select v0 arg1 c9_i32
  let c512_i32 : BitVec 32 := 512#32
  let v2 : BitVec 32 := Scalar.muli v1 c512_i32
  let v3 : BitVec 32 := v2
  let v4 : BitVec 32 := Scalar.addi c0_i32 v3
  v4
def k0_mult3 (i : grid0.Coords) : BitVec 32 :=
  let arg0 : BitVec 32 := BitVec.ofNat 32 (i 0).val
  let c16_i32 : BitVec 32 := 16#32
  let v0 : BitVec 1 := Scalar.cmpi .slt arg0 c16_i32
  let arg1 : BitVec 32 := BitVec.ofNat 32 (i 1).val
  let c9_i32 : BitVec 32 := 9#32
  let v1 : BitVec 32 := Scalar.select v0 arg1 c9_i32
  let c512_i32 : BitVec 32 := 512#32
  let v2 : BitVec 32 := Scalar.muli v1 c512_i32
  v2
def k0_mult4 (i : grid0.Coords) : BitVec 32 :=
  let c0_i32 : BitVec 32 := 0#32
  let arg0 : BitVec 32 := BitVec.ofNat 32 (i 0).val
  let c16_i32 : BitVec 32 := 16#32
  let v0 : BitVec 1 := Scalar.cmpi .slt arg0 c16_i32
  let arg1 : BitVec 32 := BitVec.ofNat 32 (i 1).val
  let c9_i32 : BitVec 32 := 9#32
  let v1 : BitVec 32 := Scalar.select v0 arg1 c9_i32
  let c512_i32 : BitVec 32 := 512#32
  let v2 : BitVec 32 := Scalar.muli v1 c512_i32
  let v3 : BitVec 32 := v2
  let v4 : BitVec 32 := Scalar.addi c0_i32 v3
  v4
def k0_mult5 (i : grid0.Coords) : BitVec 32 :=
  let arg0 : BitVec 32 := BitVec.ofNat 32 (i 0).val
  let c16_i32 : BitVec 32 := 16#32
  let v0 : BitVec 1 := Scalar.cmpi .slt arg0 c16_i32
  let arg1 : BitVec 32 := BitVec.ofNat 32 (i 1).val
  let c9_i32 : BitVec 32 := 9#32
  let v1 : BitVec 32 := Scalar.select v0 arg1 c9_i32
  let c512_i32 : BitVec 32 := 512#32
  let v2 : BitVec 32 := Scalar.muli v1 c512_i32
  v2
def k0_cond1 (i : grid0.Coords) : BitVec 1 :=
  let arg1 : BitVec 32 := BitVec.ofNat 32 (i 1).val
  let c0_i32 : BitVec 32 := 0#32
  let v12 : BitVec 1 := Scalar.cmpi .eq arg1 c0_i32
  let arg0 : BitVec 32 := BitVec.ofNat 32 (i 0).val
  let c16_i32 : BitVec 32 := 16#32
  let v13 : BitVec 1 := Scalar.cmpi .slt arg0 c16_i32
  let v14 : BitVec 1 := Scalar.andi v12 v13
  let v15 : BitVec 32 := Scalar.extui v14
  let c0_i32_11 : BitVec 32 := 0#32
  let v16 : BitVec 1 := Scalar.cmpi .ne v15 c0_i32_11
  v16

def k0_cond2 (i : grid0.Coords) : BitVec 1 :=
  let arg1 : BitVec 32 := BitVec.ofNat 32 (i 1).val
  let c0_i32_12 : BitVec 32 := 0#32
  let v17 : BitVec 1 := Scalar.cmpi .eq arg1 c0_i32_12
  let arg0 : BitVec 32 := BitVec.ofNat 32 (i 0).val
  let c16_i32_13 : BitVec 32 := 16#32
  let v18 : BitVec 1 := Scalar.cmpi .sge arg0 c16_i32_13
  let v19 : BitVec 1 := Scalar.andi v17 v18
  let v20 : BitVec 32 := Scalar.extui v19
  let c0_i32_14 : BitVec 32 := 0#32
  let v21 : BitVec 1 := Scalar.cmpi .ne v20 c0_i32_14
  v21

def k0_cond3 (i : grid0.Coords) : BitVec 1 :=
  let arg1 : BitVec 32 := BitVec.ofNat 32 (i 1).val
  let c9_i32 : BitVec 32 := 9#32
  let v22 : BitVec 1 := Scalar.cmpi .slt arg1 c9_i32
  let arg0 : BitVec 32 := BitVec.ofNat 32 (i 0).val
  let c16_i32_15 : BitVec 32 := 16#32
  let v23 : BitVec 1 := Scalar.cmpi .slt arg0 c16_i32_15
  let v24 : BitVec 1 := Scalar.andi v22 v23
  let v25 : BitVec 32 := Scalar.extui v24
  let c0_i32_16 : BitVec 32 := 0#32
  let v26 : BitVec 1 := Scalar.cmpi .ne v25 c0_i32_16
  v26

def k0_cond4 (i : grid0.Coords) : BitVec 1 :=
  let arg1 : BitVec 32 := BitVec.ofNat 32 (i 1).val
  let c9_i32_17 : BitVec 32 := 9#32
  let v27 : BitVec 1 := Scalar.cmpi .eq arg1 c9_i32_17
  let arg0 : BitVec 32 := BitVec.ofNat 32 (i 0).val
  let c16_i32_18 : BitVec 32 := 16#32
  let v28 : BitVec 1 := Scalar.cmpi .slt arg0 c16_i32_18
  let v29 : BitVec 1 := Scalar.andi v27 v28
  let v30 : BitVec 32 := Scalar.extui v29
  let c0_i32_19 : BitVec 32 := 0#32
  let v31 : BitVec 1 := Scalar.cmpi .ne v30 c0_i32_19
  v31

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c9_i32 : BitVec 32 := 9#32
  let v1 : BitVec 32 := Scalar.select v0 arg1 c9_i32
  let c512_i32 : BitVec 32 := 512#32
  let v2 : BitVec 32 := Scalar.muli v1 c512_i32
  let v3 : BitVec 32 := v2
  let c0_i32 : BitVec 32 := 0#32
  let v4 : BitVec 32 := Scalar.addi c0_i32 v3
  let v5 : BitVec 32 := v4
  let c0_i32_0 : BitVec 32 := 0#32
  let c0_i32_1 : BitVec 32 := 0#32
  ![c0_i32_0.toNat, v5.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c9_i32 : BitVec 32 := 9#32
  let v1 : BitVec 32 := Scalar.select v0 arg1 c9_i32
  let c512_i32 : BitVec 32 := 512#32
  let v2 : BitVec 32 := Scalar.muli v1 c512_i32
  let v3 : BitVec 32 := v2
  let c0_i32 : BitVec 32 := 0#32
  let v4 : BitVec 32 := Scalar.addi c0_i32 v3
  let v5 : BitVec 32 := v4
  let c0_i32_0 : BitVec 32 := 0#32
  let c0_i32_1 : BitVec 32 := 0#32
  ![c0_i32_0.toNat, v5.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c9_i32 : BitVec 32 := 9#32
  let v1 : BitVec 32 := Scalar.select v0 arg1 c9_i32
  let c512_i32 : BitVec 32 := 512#32
  let v2 : BitVec 32 := Scalar.muli v1 c512_i32
  let v3 : BitVec 32 := v2
  let c0_i32 : BitVec 32 := 0#32
  let c0_i32_0 : BitVec 32 := 0#32
  ![v3.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c5120_i32 : BitVec 32 := 5120#32
  let c0_i32_0 : BitVec 32 := 0#32
  ![c0_i32.toNat, c5120_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c5120_i32 : BitVec 32 := 5120#32
  let c0_i32_0 : BitVec 32 := 0#32
  ![c0_i32.toNat, c5120_i32.toNat]

def cc0_transform_9 (i : grid0.Coords) : Fin 2 → Nat :=
  let arg0 : BitVec 32 := BitVec.ofNat 32 (i 0).val
  let arg1 : BitVec 32 := BitVec.ofNat 32 (i 1).val
  let c5120_i32 : BitVec 32 := 5120#32
  let c0_i32 : BitVec 32 := 0#32
  let c0_i32_0 : BitVec 32 := 0#32
  ![c5120_i32.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c85_i32 : BitVec 32 := 85#32
  let v2 : BitVec 32 := Scalar.minsi v1 c85_i32
  let c0_i32 : BitVec 32 := 0#32
  let c0_i32_0 : BitVec 32 := 0#32
  ![v2.toNat, c0_i32.toNat]

def cc0_transform_13 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_17 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c85_i32 : BitVec 32 := 85#32
  let v2 : BitVec 32 := Scalar.minsi v1 c85_i32
  let c0_i32 : BitVec 32 := 0#32
  let c0_i32_0 : BitVec 32 := 0#32
  ![v2.toNat, c0_i32.toNat]

def cc0_transform_18 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S2048x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S384x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S16x11008 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S16x7680 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S16x11008 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S64x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S16x7680 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference4Ideal.lean ====
abbrev S8192x2048 : Shape := ⟨2, ![8192, 2048]⟩
abbrev S512x2048 : Shape := ⟨2, ![512, 2048]⟩
abbrev S1x2048 : Shape := ⟨2, ![1, 2048]⟩
abbrev S1x2048x11008 : Shape := ⟨3, ![1, 2048, 11008]⟩
abbrev S1x5504x2048 : Shape := ⟨3, ![1, 5504, 2048]⟩
abbrev S1x2048x7680 : Shape := ⟨3, ![1, 2048, 7680]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x11008 : Shape := ⟨2, ![2048, 11008]⟩
abbrev S5504x2048 : Shape := ⟨2, ![5504, 2048]⟩
abbrev S8192x11008 : Shape := ⟨2, ![8192, 11008]⟩
abbrev S8192x5504 : Shape := ⟨2, ![8192, 5504]⟩
abbrev S8704x2048 : Shape := ⟨2, ![8704, 2048]⟩
abbrev S2048x7680 : Shape := ⟨2, ![2048, 7680]⟩

abbrev nBuf : Space → Nat
  | .hbm => 73
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S512x2048, .f32⟩
  | .hbm, ⟨3, _⟩ => ⟨S1x2048, .f32⟩
  | .hbm, ⟨4, _⟩ => ⟨S1x2048x11008, .f32⟩
  | .hbm, ⟨5, _⟩ => ⟨S1x5504x2048, .f32⟩
  | .hbm, ⟨6, _⟩ => ⟨S1x2048, .f32⟩
  | .hbm, ⟨7, _⟩ => ⟨S1x2048x11008, .f32⟩
  | .hbm, ⟨8, _⟩ => ⟨S1x5504x2048, .f32⟩
  | .hbm, ⟨9, _⟩ => ⟨S1x2048x7680, .f32⟩
  | .hbm, ⟨10, _⟩ => ⟨S2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S2048x11008, .f32⟩
  | .hbm, ⟨28, _⟩ => ⟨S5504x2048, .f32⟩
  | .hbm, ⟨29, _⟩ => ⟨S8192x11008, .f32⟩
  | .hbm, ⟨30, _⟩ => ⟨S8192x5504, .f32⟩
  | .hbm, ⟨31, _⟩ => ⟨S8192x5504, .f32⟩
  | .hbm, ⟨32, _⟩ => ⟨S8192x5504, .f32⟩
  | .hbm, ⟨33, _⟩ => ⟨S8192x5504, .f32⟩
  | .hbm, ⟨34, _⟩ => ⟨S_, .f32⟩
  | .hbm, ⟨35, _⟩ => ⟨S8192x5504, .f32⟩
  | .hbm, ⟨36, _⟩ => ⟨S8192x5504, .f32⟩
  | .hbm, ⟨37, _⟩ => ⟨S_, .f32⟩
  | .hbm, ⟨38, _⟩ => ⟨S8192x5504, .f32⟩
  | .hbm, ⟨39, _⟩ => ⟨S8192x5504, .f32⟩
  | .hbm, ⟨40, _⟩ => ⟨S8192x5504, .f32⟩
  | .hbm, ⟨41, _⟩ => ⟨S8192x5504, .f32⟩
  | .hbm, ⟨42, _⟩ => ⟨S8192x2048, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S2048, .f32⟩
  | .hbm, ⟨48, _⟩ => ⟨S8192x2048, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1, .f32⟩
  | .hbm, ⟨59, _⟩ => ⟨S8192x2048, .f32⟩
  | .hbm, ⟨60, _⟩ => ⟨S8192x2048, .f32⟩
  | .hbm, ⟨61, _⟩ => ⟨S1x2048, .f32⟩
  | .hbm, ⟨62, _⟩ => ⟨S8192x2048, .f32⟩
  | .hbm, ⟨63, _⟩ => ⟨S8192x2048, .f32⟩
  | .hbm, ⟨64, _⟩ => ⟨S8704x2048, .f32⟩
  | .hbm, ⟨65, _⟩ => ⟨S8704x2048, .f32⟩
  | .hbm, ⟨66, _⟩ => ⟨S8704x2048, .bf16⟩
  | .hbm, ⟨67, _⟩ => ⟨S2048x11008, .f32⟩
  | .hbm, ⟨68, _⟩ => ⟨S2048x11008, .bf16⟩
  | .hbm, ⟨69, _⟩ => ⟨S5504x2048, .f32⟩
  | .hbm, ⟨70, _⟩ => ⟨S5504x2048, .bf16⟩
  | .hbm, ⟨71, _⟩ => ⟨S2048x7680, .f32⟩
  | .hbm, ⟨72, _⟩ => ⟨S2048x7680, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_2 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_cst_4 : Ref sig .tc := ⟨.hbm, 52, rfl⟩
abbrev main_v29 : Ref sig .tc := ⟨.hbm, 53, rfl⟩
abbrev main_v30 : Ref sig .tc := ⟨.hbm, 54, rfl⟩
abbrev main_cst_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩

abbrev nD : Nat := 1
abbrev τ : Topo := Topo.v7x

variable {F : FTy → Type} [FloatOps F]
-- ==== Kernel5.lean ====
abbrev S8704x2048 : Shape := ⟨2, ![8704, 2048]⟩
abbrev S1x2048x7680 : Shape := ⟨3, ![1, 2048, 7680]⟩
abbrev S1x1024x2048 : Shape := ⟨3, ![1, 1024, 2048]⟩
abbrev S1x2048x2048 : Shape := ⟨3, ![1, 2048, 2048]⟩
abbrev S1x256x2048 : Shape := ⟨3, ![1, 256, 2048]⟩
abbrev S2048x7680 : Shape := ⟨2, ![2048, 7680]⟩
abbrev S1024x2048 : Shape := ⟨2, ![1024, 2048]⟩
abbrev S2048x2048 : Shape := ⟨2, ![2048, 2048]⟩
abbrev S256x2048 : Shape := ⟨2, ![256, 2048]⟩
abbrev S8704x4096 : Shape := ⟨2, ![8704, 4096]⟩
abbrev S1088x2048 : Shape := ⟨2, ![1088, 2048]⟩
abbrev S2048x1024 : Shape := ⟨2, ![2048, 1024]⟩
abbrev S32x2048 : Shape := ⟨2, ![32, 2048]⟩
abbrev S64x2048 : Shape := ⟨2, ![64, 2048]⟩
abbrev S16x2048 : Shape := ⟨2, ![16, 2048]⟩
abbrev S1088x1024 : Shape := ⟨2, ![1088, 1024]⟩

abbrev nBuf : Space → Nat
  | .hbm => 21
  | .vmem => 26
  | .smem => 0
  | _ => 0

abbrev bufTy : (tb : Table) → Fin (tcTables nBuf tb) → BufTy
  | .hbm, ⟨0, _⟩ => ⟨S8704x2048, .f32⟩
  | .hbm, ⟨1, _⟩ => ⟨S1x2048x7680, .f32⟩
  | .hbm, ⟨2, _⟩ => ⟨S1x1024x2048, .f32⟩
  | .hbm, ⟨3, _⟩ => ⟨S1x1024x2048, .f32⟩
  | .hbm, ⟨4, _⟩ => ⟨S1x2048x2048, .f32⟩
  | .hbm, ⟨5, _⟩ => ⟨S1x2048x2048, .f32⟩
  | .hbm, ⟨6, _⟩ => ⟨S1x256x2048, .f32⟩
  | .hbm, ⟨7, _⟩ => ⟨S8704x2048, .bf16⟩
  | .hbm, ⟨8, _⟩ => ⟨S2048x7680, .f32⟩
  | .hbm, ⟨9, _⟩ => ⟨S2048x7680, .bf16⟩
  | .hbm, ⟨10, _⟩ => ⟨S1024x2048, .f32⟩
  | .hbm, ⟨11, _⟩ => ⟨S1024x2048, .f32⟩
  | .hbm, ⟨12, _⟩ => ⟨S2048x2048, .f32⟩
  | .hbm, ⟨13, _⟩ => ⟨S2048x2048, .f32⟩
  | .hbm, ⟨14, _⟩ => ⟨S256x2048, .f32⟩
  | .hbm, ⟨15, _⟩ => ⟨S8704x4096, .bf16⟩
  | .hbm, ⟨16, _⟩ => ⟨S1024x2048, .bf16⟩
  | .hbm, ⟨17, _⟩ => ⟨S1024x2048, .bf16⟩
  | .hbm, ⟨18, _⟩ => ⟨S2048x2048, .bf16⟩
  | .hbm, ⟨19, _⟩ => ⟨S2048x2048, .bf16⟩
  | .hbm, ⟨20, _⟩ => ⟨S256x2048, .bf16⟩
  | .local _ .vmem, ⟨0, _⟩ => ⟨S1088x2048, .bf16⟩
  | .local _ .vmem, ⟨1, _⟩ => ⟨S1088x2048, .bf16⟩
  | .local _ .vmem, ⟨2, _⟩ => ⟨S2048x1024, .bf16⟩
  | .local _ .vmem, ⟨3, _⟩ => ⟨S2048x1024, .bf16⟩
  | .local _ .vmem, ⟨4, _⟩ => ⟨S32x2048, .f32⟩
  | .local _ .vmem, ⟨5, _⟩ => ⟨S32x2048, .f32⟩
  | .local _ .vmem, ⟨6, _⟩ => ⟨S32x2048, .f32⟩
  | .local _ .vmem, ⟨7, _⟩ => ⟨S32x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S16x2048, .f32⟩
  | .local _ .vmem, ⟨13, _⟩ => ⟨S16x2048, .f32⟩
  | .local _ .vmem, ⟨14, _⟩ => ⟨S1088x1024, .bf16⟩
  | .local _ .vmem, ⟨15, _⟩ => ⟨S1088x1024, .bf16⟩
  | .local _ .vmem, ⟨16, _⟩ => ⟨S32x2048, .bf16⟩
  | .local _ .vmem, ⟨17, _⟩ => ⟨S32x2048, .bf16⟩
  | .local _ .vmem, ⟨18, _⟩ => ⟨S32x2048, .bf16⟩
  | .local _ .vmem, ⟨19, _⟩ => ⟨S32x2048, .bf16⟩
  | .local _ .vmem, ⟨20, _⟩ => ⟨S64x2048, .bf16⟩
  | .local _ .vmem, ⟨21, _⟩ => ⟨S64x2048, .bf16⟩
  | .local _ .vmem, ⟨22, _⟩ => ⟨S64x2048, .bf16⟩
  | .local _ .vmem, ⟨23, _⟩ => ⟨S64x2048, .bf16⟩
  | .local _ .vmem, ⟨24, _⟩ => ⟨S16x2048, .bf16⟩
  | .local _ .vmem, ⟨25, _⟩ => ⟨S16x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v8_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let c3584_i32 : BitVec 32 := 3584#32
  let arg1 : BitVec 32 := BitVec.ofNat 32 (i 1).val
  let c1024_i32 : BitVec 32 := 1024#32
  let v0 : BitVec 32 := Scalar.muli arg1 c1024_i32
  let v1 : BitVec 32 := Scalar.addi c3584_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c3584_i32 : BitVec 32 := 3584#32
  let v1 : BitVec 32 := Scalar.addi c3584_i32 v0
  let v2 : BitVec 32 := v1
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1088x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference5Ideal.lean ====
abbrev S8704x2048 : Shape := ⟨2, ![8704, 2048]⟩
abbrev S1x2048x7680 : Shape := ⟨3, ![1, 2048, 7680]⟩
abbrev S1x1024x2048 : Shape := ⟨3, ![1, 1024, 2048]⟩
abbrev S1x2048x2048 : Shape := ⟨3, ![1, 2048, 2048]⟩
abbrev S1x256x2048 : Shape := ⟨3, ![1, 256, 2048]⟩
abbrev S2048x7680 : Shape := ⟨2, ![2048, 7680]⟩
abbrev S8704x7680 : Shape := ⟨2, ![8704, 7680]⟩
abbrev S8704x1024 : Shape := ⟨2, ![8704, 1024]⟩
abbrev S8704x256 : Shape := ⟨2, ![8704, 256]⟩
abbrev S_ : Shape := ⟨0, ![]⟩
abbrev S8704x4096 : Shape := ⟨2, ![8704, 4096]⟩
abbrev S1024x2048 : Shape := ⟨2, ![1024, 2048]⟩
abbrev S2048x2048 : Shape := ⟨2, ![2048, 2048]⟩
abbrev S256x2048 : Shape := ⟨2, ![256, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S1x2048x7680, .f32⟩
  | .hbm, ⟨2, _⟩ => ⟨S1x1024x2048, .f32⟩
  | .hbm, ⟨3, _⟩ => ⟨S1x1024x2048, .f32⟩
  | .hbm, ⟨4, _⟩ => ⟨S1x2048x2048, .f32⟩
  | .hbm, ⟨5, _⟩ => ⟨S1x2048x2048, .f32⟩
  | .hbm, ⟨6, _⟩ => ⟨S1x256x2048, .f32⟩
  | .hbm, ⟨7, _⟩ => ⟨S2048x7680, .f32⟩
  | .hbm, ⟨8, _⟩ => ⟨S8704x7680, .f32⟩
  | .hbm, ⟨9, _⟩ => ⟨S8704x1024, .f32⟩
  | .hbm, ⟨10, _⟩ => ⟨S8704x1024, .f32⟩
  | .hbm, ⟨11, _⟩ => ⟨S8704x1024, .f32⟩
  | .hbm, ⟨12, _⟩ => ⟨S8704x256, .f32⟩
  | .hbm, ⟨13, _⟩ => ⟨S8704x256, .f32⟩
  | .hbm, ⟨14, _⟩ => ⟨S8704x2048, .f32⟩
  | .hbm, ⟨15, _⟩ => ⟨S8704x2048, .f32⟩
  | .hbm, ⟨16, _⟩ => ⟨S8704x2048, .f32⟩
  | .hbm, ⟨17, _⟩ => ⟨S8704x2048, .f32⟩
  | .hbm, ⟨18, _⟩ => ⟨S_, .f32⟩
  | .hbm, ⟨19, _⟩ => ⟨S8704x2048, .f32⟩
  | .hbm, ⟨20, _⟩ => ⟨S8704x2048, .f32⟩
  | .hbm, ⟨21, _⟩ => ⟨S_, .f32⟩
  | .hbm, ⟨22, _⟩ => ⟨S8704x2048, .f32⟩
  | .hbm, ⟨23, _⟩ => ⟨S8704x2048, .f32⟩
  | .hbm, ⟨24, _⟩ => ⟨S8704x2048, .f32⟩
  | .hbm, ⟨25, _⟩ => ⟨S8704x2048, .f32⟩
  | .hbm, ⟨26, _⟩ => ⟨S_, .f32⟩
  | .hbm, ⟨27, _⟩ => ⟨S8704x2048, .f32⟩
  | .hbm, ⟨28, _⟩ => ⟨S8704x2048, .f32⟩
  | .hbm, ⟨29, _⟩ => ⟨S_, .f32⟩
  | .hbm, ⟨30, _⟩ => ⟨S8704x2048, .f32⟩
  | .hbm, ⟨31, _⟩ => ⟨S8704x2048, .f32⟩
  | .hbm, ⟨32, _⟩ => ⟨S8704x4096, .f32⟩
  | .hbm, ⟨33, _⟩ => ⟨S8704x4096, .bf16⟩
  | .hbm, ⟨34, _⟩ => ⟨S1024x2048, .f32⟩
  | .hbm, ⟨35, _⟩ => ⟨S1024x2048, .bf16⟩
  | .hbm, ⟨36, _⟩ => ⟨S1024x2048, .f32⟩
  | .hbm, ⟨37, _⟩ => ⟨S1024x2048, .bf16⟩
  | .hbm, ⟨38, _⟩ => ⟨S2048x2048, .f32⟩
  | .hbm, ⟨39, _⟩ => ⟨S2048x2048, .bf16⟩
  | .hbm, ⟨40, _⟩ => ⟨S2048x2048, .f32⟩
  | .hbm, ⟨41, _⟩ => ⟨S2048x2048, .bf16⟩
  | .hbm, ⟨42, _⟩ => ⟨S256x2048, .f32⟩
  | .hbm, ⟨43, _⟩ => ⟨S256x2048, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel6.lean ====
abbrev S512x2048 : Shape := ⟨2, ![512, 2048]⟩
abbrev S1x2048 : Shape := ⟨2, ![1, 2048]⟩
abbrev S1x2048x11008 : Shape := ⟨3, ![1, 2048, 11008]⟩
abbrev S1x5504x2048 : Shape := ⟨3, ![1, 5504, 2048]⟩
abbrev S2048x11008 : Shape := ⟨2, ![2048, 11008]⟩
abbrev S5504x2048 : Shape := ⟨2, ![5504, 2048]⟩
abbrev S2048x5632 : Shape := ⟨2, ![2048, 5632]⟩
abbrev S5632x2048 : Shape := ⟨2, ![5632, 2048]⟩
abbrev S2048x256 : Shape := ⟨2, ![2048, 256]⟩
abbrev S256x2048 : Shape := ⟨2, ![256, 2048]⟩
abbrev S512 : Shape := ⟨1, ![512]⟩
abbrev S512x1 : Shape := ⟨2, ![512, 1]⟩
abbrev S512x256 : Shape := ⟨2, ![512, 256]⟩
abbrev S2048x128 : Shape := ⟨2, ![2048, 128]⟩
abbrev S128x2048 : Shape := ⟨2, ![128, 2048]⟩
abbrev S512x128 : Shape := ⟨2, ![512, 128]⟩

abbrev nBuf : Space → Nat
  | .hbm => 12
  | .vmem => 18
  | .smem => 0
  | _ => 0

abbrev bufTy : (tb : Table) → Fin (tcTables nBuf tb) → BufTy
  | .hbm, ⟨0, _⟩ => ⟨S512x2048, .f32⟩
  | .hbm, ⟨1, _⟩ => ⟨S1x2048, .f32⟩
  | .hbm, ⟨2, _⟩ => ⟨S1x2048x11008, .f32⟩
  | .hbm, ⟨3, _⟩ => ⟨S1x5504x2048, .f32⟩
  | .hbm, ⟨4, _⟩ => ⟨S1x2048, .f32⟩
  | .hbm, ⟨5, _⟩ => ⟨S2048x11008, .f32⟩
  | .hbm, ⟨6, _⟩ => ⟨S5504x2048, .f32⟩
  | .hbm, ⟨7, _⟩ => ⟨S512x2048, .f32⟩
  | .hbm, ⟨8, _⟩ => ⟨S512x2048, .bf16⟩
  | .hbm, ⟨9, _⟩ => ⟨S2048x5632, .bf16⟩
  | .hbm, ⟨10, _⟩ => ⟨S2048x5632, .bf16⟩
  | .hbm, ⟨11, _⟩ => ⟨S5632x2048, .bf16⟩
  | .local _ .vmem, ⟨0, _⟩ => ⟨S512x2048, .f32⟩
  | .local _ .vmem, ⟨1, _⟩ => ⟨S1x2048, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S256x2048, .bf16⟩
  | .local _ .vmem, ⟨16, _⟩ => ⟨S256x2048, .bf16⟩
  | .local _ .vmem, ⟨17, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![22], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  let c5248_i32 : BitVec 32 := 5248#32
  let v1 : BitVec 32 := Scalar.minsi v0 c5248_i32
  v1
def k0_mult2 (i : grid0.Coords) : BitVec 32 :=
  let arg0 : BitVec 32 := BitVec.ofNat 32 (i 0).val
  let c256_i32 : BitVec 32 := 256#32
  let v0 : BitVec 32 := Scalar.muli arg0 c256_i32
  let c5248_i32 : BitVec 32 := 5248#32
  let v1 : BitVec 32 := Scalar.minsi v0 c5248_i32
  v1
def k0_mult3 (i : grid0.Coords) : BitVec 32 :=
  let c5504_i32 : BitVec 32 := 5504#32
  let arg0 : BitVec 32 := BitVec.ofNat 32 (i 0).val
  let c256_i32 : BitVec 32 := 256#32
  let v0 : BitVec 32 := Scalar.muli arg0 c256_i32
  let c5248_i32 : BitVec 32 := 5248#32
  let v1 : BitVec 32 := Scalar.minsi v0 c5248_i32
  let v2 : BitVec 32 := v1
  let v3 : BitVec 32 := Scalar.addi c5504_i32 v2
  v3
def k0_mult4 (i : grid0.Coords) : BitVec 32 :=
  let arg0 : BitVec 32 := BitVec.ofNat 32 (i 0).val
  let c256_i32 : BitVec 32 := 256#32
  let v0 : BitVec 32 := Scalar.muli arg0 c256_i32
  let c5248_i32 : BitVec 32 := 5248#32
  let v1 : BitVec 32 := Scalar.minsi v0 c5248_i32
  v1
def k0_cond1 (i : grid0.Coords) : BitVec 1 :=
  let arg0 : BitVec 32 := BitVec.ofNat 32 (i 0).val
  let c0_i32 : BitVec 32 := 0#32
  let v9 : BitVec 1 := Scalar.cmpi .eq arg0 c0_i32
  let v10 : BitVec 32 := Scalar.extui v9
  let c0_i32_5 : BitVec 32 := 0#32
  let v11 : BitVec 1 := Scalar.cmpi .ne v10 c0_i32_5
  v11

def k0_cond2 (i : grid0.Coords) : BitVec 1 :=
  let arg0 : BitVec 32 := BitVec.ofNat 32 (i 0).val
  let c21_i32 : BitVec 32 := 21#32
  let v12 : BitVec 1 := Scalar.cmpi .slt arg0 c21_i32
  let v13 : BitVec 32 := Scalar.extui v12
  let c0_i32_6 : BitVec 32 := 0#32
  let v14 : BitVec 1 := Scalar.cmpi .ne v13 c0_i32_6
  v14

def k0_cond3 (i : grid0.Coords) : BitVec 1 :=
  let arg0 : BitVec 32 := BitVec.ofNat 32 (i 0).val
  let c21_i32_7 : BitVec 32 := 21#32
  let v15 : BitVec 1 := Scalar.cmpi .eq arg0 c21_i32_7
  let v16 : BitVec 32 := Scalar.extui v15
  let c0_i32_8 : BitVec 32 := 0#32
  let v17 : BitVec 1 := Scalar.cmpi .ne v16 c0_i32_8
  v17

def k0_cond4 (i : grid0.Coords) : BitVec 1 :=
  let arg0 : BitVec 32 := BitVec.ofNat 32 (i 0).val
  let c21_i32_9 : BitVec 32 := 21#32
  let v18 : BitVec 1 := Scalar.cmpi .eq arg0 c21_i32_9
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c256_i32 : BitVec 32 := 256#32
  let v0 : BitVec 32 := Scalar.muli arg0 c256_i32
  let c5248_i32 : BitVec 32 := 5248#32
  let v1 : BitVec 32 := Scalar.minsi v0 c5248_i32
  let v2 : BitVec 32 := v1
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let c256_i32 : BitVec 32 := 256#32
  let v0 : BitVec 32 := Scalar.muli arg0 c256_i32
  let c5248_i32 : BitVec 32 := 5248#32
  let v1 : BitVec 32 := Scalar.minsi v0 c5248_i32
  let v2 : BitVec 32 := v1
  let c5504_i32 : BitVec 32 := 5504#32
  let v3 : BitVec 32 := Scalar.addi c5504_i32 v2
  let v4 : BitVec 32 := v3
  let c0_i32 : BitVec 32 := 0#32
  let c0_i32_0 : BitVec 32 := 0#32
  ![c0_i32.toNat, v4.toNat]

def cc0_transform_4 (i : grid0.Coords) : Fin 2 → Nat :=
  let arg0 : BitVec 32 := BitVec.ofNat 32 (i 0).val
  let c256_i32 : BitVec 32 := 256#32
  let v0 : BitVec 32 := Scalar.muli arg0 c256_i32
  let c5248_i32 : BitVec 32 := 5248#32
  let v1 : BitVec 32 := Scalar.minsi v0 c5248_i32
  let v2 : BitVec 32 := v1
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S512x2048 : Shape := ⟨2, ![512, 2048]⟩
abbrev S1x2048 : Shape := ⟨2, ![1, 2048]⟩
abbrev S1x2048x11008 : Shape := ⟨3, ![1, 2048, 11008]⟩
abbrev S1x5504x2048 : Shape := ⟨3, ![1, 5504, 2048]⟩
abbrev S2048 : Shape := ⟨1, ![2048]⟩
abbrev S_ : Shape := ⟨0, ![]⟩
abbrev S512 : Shape := ⟨1, ![512]⟩
abbrev S512x1 : Shape := ⟨2, ![512, 1]⟩
abbrev S2048x11008 : Shape := ⟨2, ![2048, 11008]⟩
abbrev S5504x2048 : Shape := ⟨2, ![5504, 2048]⟩
abbrev S512x11008 : Shape := ⟨2, ![512, 11008]⟩
abbrev S512x5504 : Shape := ⟨2, ![512, 5504]⟩
abbrev S2048x5504 : Shape := ⟨2, ![2048, 5504]⟩
abbrev S2048x5632 : Shape := ⟨2, ![2048, 5632]⟩
abbrev S5632x2048 : Shape := ⟨2, ![5632, 2048]⟩

abbrev nBuf : Space → Nat
  | .hbm => 76
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S1x2048, .f32⟩
  | .hbm, ⟨2, _⟩ => ⟨S1x2048x11008, .f32⟩
  | .hbm, ⟨3, _⟩ => ⟨S1x5504x2048, .f32⟩
  | .hbm, ⟨4, _⟩ => ⟨S1x2048, .f32⟩
  | .hbm, ⟨5, _⟩ => ⟨S2048, .f32⟩
  | .hbm, ⟨6, _⟩ => ⟨S512x2048, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512x2048, .f32⟩
  | .hbm, ⟨18, _⟩ => ⟨S512x2048, .f32⟩
  | .hbm, ⟨19, _⟩ => ⟨S1x2048, .f32⟩
  | .hbm, ⟨20, _⟩ => ⟨S512x2048, .f32⟩
  | .hbm, ⟨21, _⟩ => ⟨S512x2048, .f32⟩
  | .hbm, ⟨22, _⟩ => ⟨S2048x11008, .f32⟩
  | .hbm, ⟨23, _⟩ => ⟨S5504x2048, .f32⟩
  | .hbm, ⟨24, _⟩ => ⟨S512x11008, .f32⟩
  | .hbm, ⟨25, _⟩ => ⟨S512x5504, .f32⟩
  | .hbm, ⟨26, _⟩ => ⟨S512x5504, .f32⟩
  | .hbm, ⟨27, _⟩ => ⟨S512x5504, .f32⟩
  | .hbm, ⟨28, _⟩ => ⟨S512x5504, .f32⟩
  | .hbm, ⟨29, _⟩ => ⟨S_, .f32⟩
  | .hbm, ⟨30, _⟩ => ⟨S512x5504, .f32⟩
  | .hbm, ⟨31, _⟩ => ⟨S512x5504, .f32⟩
  | .hbm, ⟨32, _⟩ => ⟨S_, .f32⟩
  | .hbm, ⟨33, _⟩ => ⟨S512x5504, .f32⟩
  | .hbm, ⟨34, _⟩ => ⟨S512x5504, .f32⟩
  | .hbm, ⟨35, _⟩ => ⟨S512x5504, .f32⟩
  | .hbm, ⟨36, _⟩ => ⟨S512x5504, .f32⟩
  | .hbm, ⟨37, _⟩ => ⟨S512x2048, .f32⟩
  | .hbm, ⟨38, _⟩ => ⟨S_, .f32⟩
  | .hbm, ⟨39, _⟩ => ⟨S512x2048, .f32⟩
  | .hbm, ⟨40, _⟩ => ⟨S512x2048, .f32⟩
  | .hbm, ⟨41, _⟩ => ⟨S512x2048, .f32⟩
  | .hbm, ⟨42, _⟩ => ⟨S2048x11008, .f32⟩
  | .hbm, ⟨43, _⟩ => ⟨S2048x5504, .f32⟩
  | .hbm, ⟨44, _⟩ => ⟨S2048x5504, .f32⟩
  | .hbm, ⟨45, _⟩ => ⟨S2048, .f32⟩
  | .hbm, ⟨46, _⟩ => ⟨S512x2048, .f32⟩
  | .hbm, ⟨47, _⟩ => ⟨S_, .f32⟩
  | .hbm, ⟨48, _⟩ => ⟨S512, .f32⟩
  | .hbm, ⟨49, _⟩ => ⟨S512x1, .f32⟩
  | .hbm, ⟨50, _⟩ => ⟨S_, .f32⟩
  | .hbm, ⟨51, _⟩ => ⟨S512x1, .f32⟩
  | .hbm, ⟨52, _⟩ => ⟨S512x1, .f32⟩
  | .hbm, ⟨53, _⟩ => ⟨S_, .f32⟩
  | .hbm, ⟨54, _⟩ => ⟨S512x1, .f32⟩
  | .hbm, ⟨55, _⟩ => ⟨S512x1, .f32⟩
  | .hbm, ⟨56, _⟩ => ⟨S512x1, .f32⟩
  | .hbm, ⟨57, _⟩ => ⟨S512x2048, .f32⟩
  | .hbm, ⟨58, _⟩ => ⟨S512x2048, .f32⟩
  | .hbm, ⟨59, _⟩ => ⟨S1x2048, .f32⟩
  | .hbm, ⟨60, _⟩ => ⟨S512x2048, .f32⟩
  | .hbm, ⟨61, _⟩ => ⟨S512x2048, .f32⟩
  | .hbm, ⟨62, _⟩ => ⟨S512x2048, .bf16⟩
  | .hbm, ⟨63, _⟩ => ⟨S_, .i32⟩
  | .hbm, ⟨64, _⟩ => ⟨S_, .f32⟩
  | .hbm, ⟨65, _⟩ => ⟨S2048x5632, .f32⟩
  | .hbm, ⟨66, _⟩ => ⟨S2048x5632, .bf16⟩
  | .hbm, ⟨67, _⟩ => ⟨S_, .i32⟩
  | .hbm, ⟨68, _⟩ => ⟨S_, .f32⟩
  | .hbm, ⟨69, _⟩ => ⟨S2048x5632, .f32⟩
  | .hbm, ⟨70, _⟩ => ⟨S2048x5632, .bf16⟩
  | .hbm, ⟨71, _⟩ => ⟨S5504x2048, .f32⟩
  | .hbm, ⟨72, _⟩ => ⟨S_, .i32⟩
  | .hbm, ⟨73, _⟩ => ⟨S_, .f32⟩
  | .hbm, ⟨74, _⟩ => ⟨S5632x2048, .f32⟩
  | .hbm, ⟨75, _⟩ => ⟨S5632x2048, .bf16⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c : Ref sig .tc := ⟨.hbm, 63, rfl⟩
abbrev main_call1_v0 : Ref sig .tc := ⟨.hbm, 64, rfl⟩
abbrev main_v43 : Ref sig .tc := ⟨.hbm, 65, rfl⟩
abbrev main_v44 : Ref sig .tc := ⟨.hbm, 66, rfl⟩
abbrev main_c_6 : Ref sig .tc := ⟨.hbm, 67, rfl⟩
abbrev main_call2_v0 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_7 : Ref sig .tc := ⟨.hbm, 72, rfl⟩
abbrev main_call3_v0 : Ref sig .tc := ⟨.hbm, 73, rfl⟩
abbrev main_v48 : Ref sig .tc := ⟨.hbm, 74, rfl⟩
abbrev main_v49 : Ref sig .tc := ⟨.hbm, 75, rfl⟩

abbrev nD : Nat := 1
abbrev τ : Topo := Topo.v7x

variable {F : FTy → Type} [FloatOps F]
-- ==== Proof.Layer.lean ====
/-
  The layer's row mathematics over the extended reals, free of any program: the RMS norm of one row, one term of the
  gated feed-forward sum, and the two rewritings of that sum which the kernel's tiling makes — the factor one half
  carried inside the sum, and the sum over the hidden columns cut in consecutive runs.
-/
module

public import Idealize.ShloMosaic.Lib.ValueIdx
public import Idealize.ShloMosaic.Lib.Pointwise
public import Idealize.ShloMosaic.Lib.Pipeline.Value
public import Idealize.ShloMosaic.PureOps.Ideal.Laws

@[expose] public section

noncomputable section

namespace Cert.Layer

open Idealize.ShloMosaic

/-- The words of the constants 2048, 1e-6, 1/2 and 1 read as extended reals. -/
abbrev width : EReal := Ideal.ofBits .f32 0x45000000#32
abbrev eps : EReal := Ideal.ofBits .f32 0x358637BD#32
abbrev half : EReal := Ideal.ofBits .f32 0x3F000000#32
abbrev one : EReal := Ideal.ofBits .f32 0x3F800000#32

/-- The word of 1/2 is the real number one half … -/
theorem half_eq : half = ((1 / 2 : ℝ) : EReal) := by
  simp [half, Ideal.ofBits, Ideal.ieee, -EReal.coe_mul]; norm_num
/-- … so not negative … -/
theorem half_nonneg : (0 : EReal) ≤ half := by
  rw [half_eq]; exact_mod_cast (by norm_num : (0 : ℝ) ≤ 1 / 2)
/-- … and not infinite. -/
theorem half_ne_top : half ≠ ⊤ := by rw [half_eq]; exact EReal.coe_ne_top _
/-- The word of 1 is one. -/
theorem one_eq : one = 1 := by
  simp [one, Ideal.ofBits, Ideal.ieee, -EReal.coe_mul]; norm_num

/-- A finite factor that is not negative goes inside a finite sum. -/
theorem mul_sum_of_nonneg {ι : Type} (s : Finset ι) {a : EReal} (h0 : 0 ≤ a) (ht : a ≠ ⊤) (f : ι → EReal) :
    a * ∑ k ∈ s, f k = ∑ k ∈ s, a * f k := by
  classical
  induction s using Finset.induction_on with
  | empty => simp
  | insert k s hk ih => rw [Finset.sum_insert hk, Finset.sum_insert hk, EReal.left_distrib_of_nonneg_of_ne_top h0 ht, ih]

/-- One row through the RMS norm with gain `g`. -/
def rms (x g : Fin 2048 → EReal) (k : Fin 2048) : EReal :=
  x k * Ideal.rsqrt (Ideal.div (∑ j, x j * x j) width + eps) * g k

/-- A row against a column. -/
def dot {n : ℕ} (x w : Fin n → EReal) : EReal := ∑ j, x j * w j

/-- One hidden column's part of the gated feed-forward sum with the half inside: gate column `wg`, up column `wu`, the
    down-projection's entry `d`. -/
def part (xn wg wu : Fin 2048 → EReal) (d : EReal) : EReal :=
  dot xn wg * Ideal.logistic (dot xn wg) * (dot xn wu * half) * d

/-- Hidden column `k`'s part, zero past the last: `W` the joined gate and up weights, `D` one column of the down weights. -/
def term (xn : Fin 2048 → EReal) (W : Fin 2048 → Fin 11008 → EReal) (D : Fin 5504 → EReal) (k : ℕ) : EReal :=
  if h : k < 5504 then part xn (fun j => W j ⟨k, by omega⟩) (fun j => W j ⟨5504 + k, by omega⟩) (D ⟨k, h⟩) else 0

theorem term_of_lt (xn : Fin 2048 → EReal) (W : Fin 2048 → Fin 11008 → EReal) (D : Fin 5504 → EReal) {k : ℕ} (h : k < 5504) :
    term xn W D k = part xn (fun j => W j ⟨k, by omega⟩) (fun j => W j ⟨5504 + k, by omega⟩) (D ⟨k, h⟩) := dif_pos h

/-- One row through half a feed-forward: `x + ½ · ffn (rms x)` at output column with down weights `D`. -/
def halfStep (x g : Fin 2048 → EReal) (W : Fin 2048 → Fin 11008 → EReal) (D : Fin 5504 → EReal) (xc : EReal) : EReal :=
  xc + ∑ k ∈ Finset.range 5504, term (rms x g) W D k

/-- The sum's first `a` terms and the next `b` are its first `a + b`. -/
theorem range_add_fin (f : ℕ → EReal) (a b : ℕ) (g : Fin b → EReal) (h : ∀ k : Fin b, f (a + k.val) = g k) :
    ∑ k ∈ Finset.range a, f k + ∑ k : Fin b, g k = ∑ k ∈ Finset.range (a + b), f k := by
  rw [Finset.sum_range_add, Finset.sum_range fun i => f (a + i)]
  exact congrArg _ (Finset.sum_congr rfl fun k _ => (h k).symm)

/-- The mathematics' form of the gated sum — the half outside, the logistic spelt out — is the sum of the parts. -/
theorem half_mul_sum (xn : Fin 2048 → EReal) (W : Fin 2048 → Fin 11008 → EReal) (D : Fin 5504 → EReal) (G : Fin 5504 → EReal)
    (h : ∀ k : Fin 5504, G k = dot xn (fun j => W j ⟨k.val, by omega⟩) * Ideal.logistic (dot xn (fun j => W j ⟨k.val, by omega⟩))
      * dot xn (fun j => W j ⟨5504 + k.val, by omega⟩) * D k) :
    half * ∑ k, G k = ∑ k ∈ Finset.range 5504, term xn W D k := by
  rw [mul_sum_of_nonneg _ half_nonneg half_ne_top, Finset.sum_range fun k => term xn W D k]
  refine Finset.sum_congr rfl fun k _ => ?_
  rw [term_of_lt _ _ _ k.isLt, h k, part]
  generalize dot xn (fun j => W j ⟨k.val, _⟩) = u
  generalize dot xn (fun j => W j ⟨5504 + k.val, _⟩) = v
  rw [mul_comm half, mul_right_comm (u * _ * v), mul_assoc _ v half]

/-- An array with a leading axis of length one, read without that axis. -/
theorem shapeCast_lead {α : Type} {a b : ℕ} (x : (⟨3, ![1, a, b]⟩ : Shape).Idx → α)
    (h : (⟨3, ![1, a, b]⟩ : Shape).ShapeCasts ⟨2, ![a, b]⟩) (i : Fin a) (j : Fin b) :
    shapeCast ⟨2, ![a, b]⟩ x h (ix2 i j) = x (ix3 0 i j) :=
  shapeCast_apply x h (ix2 i j) (ix3 0 i j) (by
    rw [Shape.rowMajor_val_three, Shape.rowMajor_val_two]
    show (0 * a + i.val) * b + j.val = i.val * b + j.val
    rw [zero_mul, zero_add])

end Cert.Layer

end
-- ==== Proof.FfnCases.lean ====
/-
  What one point of the feed-forward kernel leaves behind, as functions of the blocks it reads: the first point of a row
  block normalises the rows into the carried scratch and adds the first 1024 hidden columns' part to them; the next three
  add 1024 columns each; the last adds the 1024 and the 384 that remain.
-/
module

public import proofs.«01_k».proof.Proof.Layer
public import proofs.«01_k».proof.Proof.Gen.KernelIdeal.Frame
public import Idealize.ShloMosaic.Lib.Tactic

@[expose] public section

set_option maxRecDepth 16384

noncomputable section

namespace Cert.KernelIdeal.FfnValue

open Cert.KernelIdeal Cert.KernelIdeal.Gen Idealize.ShloMosaic Idealize.ShloMosaic.TcCoe

/-- The offsets of a load or store that starts at the block's corner. -/
theorem hz : (![0, 0] : Fin 2 → Nat) = fun _ => 0 := funext fun a => by fin_cases a <;> rfl

/-- The scratch after a row block's first point: the normalised rows. -/
theorem scratch_first (c : Dev nD) (i : grid0.Coords)
    (a2 : Memref sig .tc .vmem S512x2048 .f32) (h2 : a2.IsWhole)
    (a3 : Memref sig .tc .vmem S512x2048 .f32) (h3 : a3.IsWhole)
    (a4 : Memref sig .tc .vmem S1x2048 .f32) (h4 : a4.IsWhole)
    (a5 : Memref sig .tc .vmem S2048x1024 .bf16) (h5 : a5.IsWhole)
    (a6 : Memref sig .tc .vmem S2048x1024 .bf16) (h6 : a6.IsWhole)
    (a7 : Memref sig .tc .vmem S1024x2048 .bf16) (h7 : a7.IsWhole)
    (a8 : Memref sig .tc .vmem S2048x384 .bf16) (h8 : a8.IsWhole)
    (a9 : Memref sig .tc .vmem S2048x384 .bf16) (h9 : a9.IsWhole)
    (a10 : Memref sig .tc .vmem S384x2048 .bf16) (h10 : a10.IsWhole)
    (a11 : Memref sig .tc .vmem S1x2048 .f32) (h11 : a11.IsWhole)
    (a12 : Memref sig .tc .vmem S512x2048 .f32) (h12 : a12.IsWhole)
    (a13 : Memref sig .tc .vmem S512x2048 .bf16) (h13 : a13.IsWhole)
    (hc0 : cond0_0 i) (hc1 : cond0_1 i) (hc2 : ¬cond0_2 i)
    (x0 : Vec Ideal S512x2048 .f32)
    (x1 : Vec Ideal S512x2048 .f32)
    (x2 : Vec Ideal S1x2048 .f32)
    (x3 : Vec Ideal S2048x1024 .bf16)
    (x4 : Vec Ideal S2048x1024 .bf16)
    (x5 : Vec Ideal S1024x2048 .bf16)
    (x6 : Vec Ideal S2048x384 .bf16)
    (x7 : Vec Ideal S2048x384 .bf16)
    (x8 : Vec Ideal S384x2048 .bf16)
    (x9 : Vec Ideal S1x2048 .f32) :
    sout0_A_0 c i a2 h2 a3 h3 a4 h4 a5 h5 a6 h6 a7 h7 a8 h8 a9 h9 a10 h10 a11 h11 a12 h12 a13 h13 hc0 hc1 hc2 x0 x1 x2 x3 x4 x5 x6 x7 x8 x9 = k0_pay2 i x0 x1 x2 := by
  unfold sout0_A_0
  rw [View.read_writes_eq_canon _ _ _ (scover0_A_0 c i a2 h2 a3 h3 a4 h4 a5 h5 a6 h6 a7 h7 a8 h8 a9 h9 a10 h10 a11 h11 a12 h12 a13 h13 hc0 hc1 hc2 x0 x1 x2 x3 x4 x5 x6 x7 x8 x9)]
  unfold kernelRun0_A
  dsimp only
  sl_unfold_words
  rw [View.canon_unit_zero (S := S512x2048) hz]
  simp only [View.readAt_eq_ld, h2.read_unread, h3.read_unread, h4.read_unread, h5.read_unread, h6.read_unread, h7.read_unread, h8.read_unread, h9.read_unread, h10.read_unread, h11.read_unread, h12.read_unread, h13.read_unread,
    View.ld_unit_zero (S := S512x2048) hz, View.ld_unit_zero (S := S1x2048) hz, View.ld_unit_zero (S := S2048x1024) hz, View.ld_unit_zero (S := S1024x2048) hz, View.ld_unit_zero (S := S2048x384) hz, View.ld_unit_zero (S := S384x2048) hz]

/-- The output block after a row block's first point: the rows plus the first columns' part. -/
theorem out_first (c : Dev nD) (i : grid0.Coords)
    (a2 : Memref sig .tc .vmem S512x2048 .f32) (h2 : a2.IsWhole)
    (a3 : Memref sig .tc .vmem S512x2048 .f32) (h3 : a3.IsWhole)
    (a4 : Memref sig .tc .vmem S1x2048 .f32) (h4 : a4.IsWhole)
    (a5 : Memref sig .tc .vmem S2048x1024 .bf16) (h5 : a5.IsWhole)
    (a6 : Memref sig .tc .vmem S2048x1024 .bf16) (h6 : a6.IsWhole)
    (a7 : Memref sig .tc .vmem S1024x2048 .bf16) (h7 : a7.IsWhole)
    (a8 : Memref sig .tc .vmem S2048x384 .bf16) (h8 : a8.IsWhole)
    (a9 : Memref sig .tc .vmem S2048x384 .bf16) (h9 : a9.IsWhole)
    (a10 : Memref sig .tc .vmem S384x2048 .bf16) (h10 : a10.IsWhole)
    (a11 : Memref sig .tc .vmem S1x2048 .f32) (h11 : a11.IsWhole)
    (a12 : Memref sig .tc .vmem S512x2048 .f32) (h12 : a12.IsWhole)
    (a13 : Memref sig .tc .vmem S512x2048 .bf16) (h13 : a13.IsWhole)
    (hc0 : cond0_0 i) (hc1 : cond0_1 i) (hc2 : ¬cond0_2 i)
    (x0 : Vec Ideal S512x2048 .f32)
    (x1 : Vec Ideal S512x2048 .f32)
    (x2 : Vec Ideal S1x2048 .f32)
    (x3 : Vec Ideal S2048x1024 .bf16)
    (x4 : Vec Ideal S2048x1024 .bf16)
    (x5 : Vec Ideal S1024x2048 .bf16)
    (x6 : Vec Ideal S2048x384 .bf16)
    (x7 : Vec Ideal S2048x384 .bf16)
    (x8 : Vec Ideal S384x2048 .bf16)
    (x9 : Vec Ideal S1x2048 .f32) :
    out0_A_10 c i a2 h2 a3 h3 a4 h4 a5 h5 a6 h6 a7 h7 a8 h8 a9 h9 a10 h10 a11 h11 a12 h12 a13 h13 hc0 hc1 hc2 x0 x1 x2 x3 x4 x5 x6 x7 x8 x9 = k0_pay3 x3 x4 x5 (k0_pay2 i x0 x1 x2) (k0_pay1 i x0 x1) := by
  unfold out0_A_10
  rw [View.read_writes_eq_canon _ _ _ (cover0_A_10 c i a2 h2 a3 h3 a4 h4 a5 h5 a6 h6 a7 h7 a8 h8 a9 h9 a10 h10 a11 h11 a12 h12 a13 h13 hc0 hc1 hc2 x0 x1 x2 x3 x4 x5 x6 x7 x8 x9)]
  unfold kernelRun0_A
  dsimp only
  sl_unfold_words
  rw [View.canon_cons_unit_zero (S := S512x2048) hz]
  simp only [View.readCov_unit_zero (S := S512x2048) _ hz]
  simp only [View.readAt_eq_ld, h2.read_unread, h3.read_unread, h4.read_unread, h5.read_unread, h6.read_unread, h7.read_unread, h8.read_unread, h9.read_unread, h10.read_unread, h11.read_unread, h12.read_unread, h13.read_unread,
    View.ld_unit_zero (S := S512x2048) hz, View.ld_unit_zero (S := S1x2048) hz, View.ld_unit_zero (S := S2048x1024) hz, View.ld_unit_zero (S := S1024x2048) hz, View.ld_unit_zero (S := S2048x384) hz, View.ld_unit_zero (S := S384x2048) hz]

/-- The output block after a middle point: what it held plus the point's columns' part. -/
theorem out_mid (c : Dev nD) (i : grid0.Coords)
    (a2 : Memref sig .tc .vmem S512x2048 .f32) (h2 : a2.IsWhole)
    (a3 : Memref sig .tc .vmem S512x2048 .f32) (h3 : a3.IsWhole)
    (a4 : Memref sig .tc .vmem S1x2048 .f32) (h4 : a4.IsWhole)
    (a5 : Memref sig .tc .vmem S2048x1024 .bf16) (h5 : a5.IsWhole)
    (a6 : Memref sig .tc .vmem S2048x1024 .bf16) (h6 : a6.IsWhole)
    (a7 : Memref sig .tc .vmem S1024x2048 .bf16) (h7 : a7.IsWhole)
    (a8 : Memref sig .tc .vmem S2048x384 .bf16) (h8 : a8.IsWhole)
    (a9 : Memref sig .tc .vmem S2048x384 .bf16) (h9 : a9.IsWhole)
    (a10 : Memref sig .tc .vmem S384x2048 .bf16) (h10 : a10.IsWhole)
    (a11 : Memref sig .tc .vmem S1x2048 .f32) (h11 : a11.IsWhole)
    (a12 : Memref sig .tc .vmem S512x2048 .f32) (h12 : a12.IsWhole)
    (a13 : Memref sig .tc .vmem S512x2048 .bf16) (h13 : a13.IsWhole)
    (hc0 : ¬cond0_0 i) (hc1 : cond0_1 i) (hc2 : ¬cond0_2 i)
    (x0 : Vec Ideal S512x2048 .f32)
    (x1 : Vec Ideal S512x2048 .f32)
    (x2 : Vec Ideal S1x2048 .f32)
    (x3 : Vec Ideal S2048x1024 .bf16)
    (x4 : Vec Ideal S2048x1024 .bf16)
    (x5 : Vec Ideal S1024x2048 .bf16)
    (x6 : Vec Ideal S2048x384 .bf16)
    (x7 : Vec Ideal S2048x384 .bf16)
    (x8 : Vec Ideal S384x2048 .bf16)
    (x9 : Vec Ideal S1x2048 .f32)
    (xo : Vec Ideal S512x2048 .f32) (xs : Vec Ideal S512x2048 .bf16) :
    out0_B_10 c i a2 h2 a3 h3 a4 h4 a5 h5 a6 h6 a7 h7 a8 h8 a9 h9 a10 h10 a11 h11 a12 h12 a13 h13 hc0 hc1 hc2 x0 x1 x2 x3 x4 x5 x6 x7 x8 x9 xo xs = k0_pay3 x3 x4 x5 xs xo := by
  unfold out0_B_10
  rw [View.read_writes_eq_canon _ _ _ (cover0_B_10 c i a2 h2 a3 h3 a4 h4 a5 h5 a6 h6 a7 h7 a8 h8 a9 h9 a10 h10 a11 h11 a12 h12 a13 h13 hc0 hc1 hc2 x0 x1 x2 x3 x4 x5 x6 x7 x8 x9 xo xs)]
  unfold kernelRun0_B
  dsimp only
  sl_unfold_words
  rw [View.canon_unit_zero (S := S512x2048) hz]
  simp only [View.readAt_eq_ld, h2.read_unread, h3.read_unread, h4.read_unread, h5.read_unread, h6.read_unread, h7.read_unread, h8.read_unread, h9.read_unread, h10.read_unread, h11.read_unread, h12.read_unread, h13.read_unread,
    View.ld_unit_zero (S := S512x2048) hz, View.ld_unit_zero (S := S1x2048) hz, View.ld_unit_zero (S := S2048x1024) hz, View.ld_unit_zero (S := S1024x2048) hz, View.ld_unit_zero (S := S2048x384) hz, View.ld_unit_zero (S := S384x2048) hz]

/-- The output block after a last point: what it held plus the part of the point's columns and of the remaining ones. -/
theorem out_last (c : Dev nD) (i : grid0.Coords)
    (a2 : Memref sig .tc .vmem S512x2048 .f32) (h2 : a2.IsWhole)
    (a3 : Memref sig .tc .vmem S512x2048 .f32) (h3 : a3.IsWhole)
    (a4 : Memref sig .tc .vmem S1x2048 .f32) (h4 : a4.IsWhole)
    (a5 : Memref sig .tc .vmem S2048x1024 .bf16) (h5 : a5.IsWhole)
    (a6 : Memref sig .tc .vmem S2048x1024 .bf16) (h6 : a6.IsWhole)
    (a7 : Memref sig .tc .vmem S1024x2048 .bf16) (h7 : a7.IsWhole)
    (a8 : Memref sig .tc .vmem S2048x384 .bf16) (h8 : a8.IsWhole)
    (a9 : Memref sig .tc .vmem S2048x384 .bf16) (h9 : a9.IsWhole)
    (a10 : Memref sig .tc .vmem S384x2048 .bf16) (h10 : a10.IsWhole)
    (a11 : Memref sig .tc .vmem S1x2048 .f32) (h11 : a11.IsWhole)
    (a12 : Memref sig .tc .vmem S512x2048 .f32) (h12 : a12.IsWhole)
    (a13 : Memref sig .tc .vmem S512x2048 .bf16) (h13 : a13.IsWhole)
    (hc0 : ¬cond0_0 i) (hc1 : ¬cond0_1 i) (hc2 : cond0_2 i)
    (x0 : Vec Ideal S512x2048 .f32)
    (x1 : Vec Ideal S512x2048 .f32)
    (x2 : Vec Ideal S1x2048 .f32)
    (x3 : Vec Ideal S2048x1024 .bf16)
    (x4 : Vec Ideal S2048x1024 .bf16)
    (x5 : Vec Ideal S1024x2048 .bf16)
    (x6 : Vec Ideal S2048x384 .bf16)
    (x7 : Vec Ideal S2048x384 .bf16)
    (x8 : Vec Ideal S384x2048 .bf16)
    (x9 : Vec Ideal S1x2048 .f32)
    (xo : Vec Ideal S512x2048 .f32) (xs : Vec Ideal S512x2048 .bf16) :
    out0_C_10 c i a2 h2 a3 h3 a4 h4 a5 h5 a6 h6 a7 h7 a8 h8 a9 h9 a10 h10 a11 h11 a12 h12 a13 h13 hc0 hc1 hc2 x0 x1 x2 x3 x4 x5 x6 x7 x8 x9 xo xs = k0_pay4 (k0_pay6 x8) (k0_pay7 x7 xs) (k0_pay8 x6 xs) k0_pay9 (k0_pay5 x3 x4 x5 xs xo) := by
  unfold out0_C_10
  rw [View.read_writes_eq_canon _ _ _ (cover0_C_10 c i a2 h2 a3 h3 a4 h4 a5 h5 a6 h6 a7 h7 a8 h8 a9 h9 a10 h10 a11 h11 a12 h12 a13 h13 hc0 hc1 hc2 x0 x1 x2 x3 x4 x5 x6 x7 x8 x9 xo xs)]
  unfold kernelRun0_C
  dsimp only
  sl_unfold_words
  rw [View.canon_cons_unit_zero (S := S512x2048) hz]
  simp only [View.readCov_unit_zero (S := S512x2048) _ hz]
  simp only [View.readAt_eq_ld, h2.read_unread, h3.read_unread, h4.read_unread, h5.read_unread, h6.read_unread, h7.read_unread, h8.read_unread, h9.read_unread, h10.read_unread, h11.read_unread, h12.read_unread, h13.read_unread,
    View.ld_unit_zero (S := S512x2048) hz, View.ld_unit_zero (S := S1x2048) hz, View.ld_unit_zero (S := S2048x1024) hz, View.ld_unit_zero (S := S1024x2048) hz, View.ld_unit_zero (S := S2048x384) hz, View.ld_unit_zero (S := S384x2048) hz]

end Cert.KernelIdeal.FfnValue

end
-- ==== Proof.FfnPay.lean ====
/-
  The feed-forward kernel's stored values read at an entry: the normalised row, and a run of hidden columns' part added
  to what the block held.
-/
module

public import proofs.«01_k».proof.Proof.Layer
public import proofs.«01_k».proof.Proof.Gen.KernelIdeal.Skeleton
public import Idealize.ShloMosaic.Lib.MatmulPlain

@[expose] public section

set_option maxRecDepth 16384

noncomputable section

namespace Cert.KernelIdeal.FfnValue

open Cert.KernelIdeal Cert.KernelIdeal.Gen Idealize.ShloMosaic Cert.Layer

/-- Before the last row block the rows come from the first array. -/
theorem pay1_lt (i : grid0.Coords) (h : (i 0).val < 16) (a b : Vec Ideal S512x2048 .f32) : k0_pay1 i a b = a := by
  unfold k0_pay1
  have h2 : (Scalar.cmpi .slt (BitVec.ofNat 32 (i 0).val) 16#32 : BitVec 1) = 1#1 := by
    revert h; generalize (i 0).val = n; intro h
    interval_cases n <;> decide
  simp [Scalar.select, h2]

/-- At the last row block they come from the second. -/
theorem pay1_eq (i : grid0.Coords) (h : (i 0).val = 16) (a b : Vec Ideal S512x2048 .f32) : k0_pay1 i a b = b := by
  unfold k0_pay1
  have h2 : (Scalar.cmpi .slt (BitVec.ofNat 32 (i 0).val) 16#32 : BitVec 1) = 0#1 := by
    rw [h]; decide
  simp [Scalar.select, h2]

/-- The normalised row at an entry. -/
theorem pay2_apply (i : grid0.Coords) (a b : Vec Ideal S512x2048 .f32) (g : Vec Ideal S1x2048 .f32) (r : Fin 512) (k : Fin 2048) :
    k0_pay2 i a b g (ix2 r k) = rms (fun j => k0_pay1 i a b (ix2 r j)) (fun j => g (ix2 0 j)) k := by
  unfold rms
  pointwise [k0_pay2]

/-- A point's stored block at an entry: what the block held plus 1024 hidden columns' part. -/
theorem pay3_apply (wg wu : Vec Ideal S2048x1024 .bf16) (wd : Vec Ideal S1024x2048 .bf16) (xn : Vec Ideal S512x2048 .bf16)
    (acc : Vec Ideal S512x2048 .f32) (r : Fin 512) (c : Fin 2048) :
    k0_pay3 wg wu wd xn acc (ix2 r c) = acc (ix2 r c) + ∑ k : Fin 1024,
      part (fun j => xn (ix2 r j)) (fun j => wg (ix2 j k)) (fun j => wu (ix2 j k)) (wd (ix2 k c)) := by
  unfold part dot
  pointwise [k0_pay3]

/-- A last point's stored block at an entry: what the block held plus the 384 remaining columns' part. -/
theorem pay4_apply (wg wu : Vec Ideal S2048x384 .bf16) (wd : Vec Ideal S384x2048 .bf16) (xn : Vec Ideal S512x2048 .bf16)
    (acc : Vec Ideal S512x2048 .f32) (r : Fin 512) (c : Fin 2048) :
    k0_pay4 (k0_pay6 wd) (k0_pay7 wu xn) (k0_pay8 wg xn) k0_pay9 acc (ix2 r c) = acc (ix2 r c) + ∑ k : Fin 384,
      part (fun j => xn (ix2 r j)) (fun j => wg (ix2 j k)) (fun j => wu (ix2 j k)) (wd (ix2 k c)) := by
  unfold part dot
  pointwise [k0_pay4, k0_pay6, k0_pay7, k0_pay8, k0_pay9]

end Cert.KernelIdeal.FfnValue

end
-- ==== Proof.FfnBlocks.lean ====
/-
  The blocks the feed-forward kernel's points read, at an entry, as entries of the argument arrays: the rows a point
  holds, the runs of gate, up and down columns its element-indexed windows bring, and the remaining columns.
-/
module

public import proofs.«01_k».proof.Proof.Layer
public import proofs.«01_k».proof.Proof.Gen.KernelIdeal.Frame
public import Idealize.ShloMosaic.Lib.Tactic
public import Idealize.ShloMosaic.Lib.Pipeline.Value

@[expose] public section

set_option maxRecDepth 16384

noncomputable section

namespace Cert.KernelIdeal.FfnValue

open Cert.KernelIdeal Cert.KernelIdeal.Gen Idealize.ShloMosaic Idealize.ShloMosaic.TcCoe Cert.Layer

variable (m : (ℓ : Loc nD τ sig) → Buf (Elt Ideal) ℓ)

/-- Row `R` of the joined rows: the first 8192 from the first array, the last 512 from the second. -/
def row (c : Dev nD) (R : ℕ) (k : Fin 2048) : EReal :=
  if h : R < 8192 then m ((c : Thread nD τ).loc main_arg0) (ix2 ⟨R, h⟩ k)
  else m ((c : Thread nD τ).loc main_arg1) (ix2 ⟨(R - 8192) % 512, Nat.mod_lt _ (by norm_num)⟩ k)

/-- The gain. -/
def gain (c : Dev nD) (k : Fin 2048) : EReal := m ((c : Thread nD τ).loc main_arg2) (ix2 0 k)
/-- The joined gate and up weights. -/
def wgu (c : Dev nD) (j : Fin 2048) (k : Fin 11008) : EReal := m ((c : Thread nD τ).loc main_arg3) (ix3 0 j k)
/-- The down weights. -/
def wd (c : Dev nD) (k : Fin 5504) (n : Fin 2048) : EReal := m ((c : Thread nD τ).loc main_arg4) (ix3 0 k n)

/-- The joined weights the kernel reads are the argument's. -/
theorem V_gu (c : Dev nD) (j : Fin 2048) (k : Fin 11008) : V m c main_v1 (ix2 j k) = wgu m c j k := by
  have h : V m c main_v1 = truncf (F := Ideal) .bf16 (shapeCast S2048x11008 (m ((c : Thread nD τ).loc main_arg3))
      shapeCasts_S1x2048x11008_S2048x11008) bitsLt_bf16_f32 := by
    show StableHlo.after hostOps0 _ (Proc.devRef .tc main_v1) = _
    after_results
    rfl
  rw [h]
  exact shapeCast_lead _ _ j k
/-- The down weights it reads are the argument's. -/
theorem V_d (c : Dev nD) (k : Fin 5504) (n : Fin 2048) : V m c main_v3 (ix2 k n) = wd m c k n := by
  have h : V m c main_v3 = truncf (F := Ideal) .bf16 (shapeCast S5504x2048 (m ((c : Thread nD τ).loc main_arg4))
      shapeCasts_S1x5504x2048_S5504x2048) bitsLt_bf16_f32 := by
    show StableHlo.after hostOps0 _ (Proc.devRef .tc main_v3) = _
    after_results
    rfl
  rw [h]
  exact shapeCast_lead _ _ k n

/-- A point's row block and its place in the block. -/
theorem coord0 : ∀ t : Fin cfg0.N, (grid0.coords t 0).val = t.val / 5 := (by decide +kernel : ∀ t : Fin grid0.N, (grid0.coords t 0).val = t.val / 5)

/-- Where each window's block starts: the row windows count blocks, the element-indexed ones entries. -/
theorem index0_0 : ∀ t : Fin grid0.N, win0_0.index t 0 = min (t.val / 5) 15 ∧ win0_0.index t 1 = 0 := by decide +kernel
/-- Window 3 brings the gate columns of the point's run. -/
theorem index0_3 : ∀ t : Fin grid0.N, win0_3.index t 0 = 0 ∧ win0_3.index t 1 = t.val % 5 * 1024 := by decide +kernel
/-- Window 4 brings the run's up columns. -/
theorem index0_4 : ∀ t : Fin grid0.N, win0_4.index t 0 = 0 ∧ win0_4.index t 1 = 5504 + t.val % 5 * 1024 := by decide +kernel
/-- Window 5 brings the run's down rows. -/
theorem index0_5 : ∀ t : Fin grid0.N, win0_5.index t 0 = t.val % 5 * 1024 ∧ win0_5.index t 1 = 0 := by decide +kernel
/-- The output's block is the point's row block. -/
theorem index0_10 : ∀ t : Fin grid0.N, win0_10.index t 0 = t.val / 5 ∧ win0_10.index t 1 = 0 := by decide +kernel

/-- A point's rows, before the last row block: window 0's block. -/
theorem iblk_0 (c : Dev nD) (t : Fin cfg0.N) (h : t.val / 5 < 16) (r : Fin 512) (k : Fin 2048) :
    iblk m c 0 t (ix2 r k) = row m c (512 * (t.val / 5) + r.val) k := by
  have hN : cfg0.N = 85 := N_0
  unfold row
  rw [dif_pos (by have := r.isLt; omega)]
  unfold iblk
  rw [View.read_apply]
  show V m c main_arg0 _ = m ((c : Thread nD τ).loc main_arg0) _
  rw [V_main_arg0]
  congr 1
  funext a
  apply Fin.ext
  match a with
  | ⟨0, _⟩ => show win0_0.index t 0 * 512 + 1 * r.val = 512 * (t.val / 5) + r.val
              rw [(index0_0 t).1]; omega
  | ⟨1, _⟩ => show win0_0.index t 1 * 2048 + 1 * k.val = k.val
              rw [(index0_0 t).2]; omega

/-- A point's rows in the last row block: window 1's block, the second array. -/
theorem iblk_1 (c : Dev nD) (t : Fin cfg0.N) (h : t.val / 5 = 16) (r : Fin 512) (k : Fin 2048) :
    iblk m c 1 t (ix2 r k) = row m c (512 * (t.val / 5) + r.val) k := by
  have hr := r.isLt
  unfold row
  rw [dif_neg (by omega)]
  unfold iblk
  rw [View.read_apply]
  show V m c main_arg1 _ = m ((c : Thread nD τ).loc main_arg1) _
  rw [V_main_arg1]
  congr 1
  funext a
  apply Fin.ext
  match a with
  | ⟨0, _⟩ => show 0 * 512 + 1 * r.val = (512 * (t.val / 5) + r.val - 8192) % 512
              omega
  | ⟨1, _⟩ => show 0 * 2048 + 1 * k.val = k.val
              omega

/-- The gain's block. -/
theorem iblk_2 (c : Dev nD) (t : Fin cfg0.N) (k : Fin 2048) : iblk m c 2 t (ix2 0 k) = gain m c k := by
  unfold iblk gain
  rw [View.read_apply]
  show V m c main_arg2 _ = m ((c : Thread nD τ).loc main_arg2) _
  rw [V_main_arg2]
  congr 1
  funext a
  apply Fin.ext
  match a with
  | ⟨0, _⟩ => show 0 * 1 + 1 * 0 = 0; rfl
  | ⟨1, _⟩ => show 0 * 2048 + 1 * k.val = k.val; omega

/-- The gate columns of a point's run. -/
theorem iblk_3 (c : Dev nD) (t : Fin cfg0.N) (a : Fin 2048) (b : Fin 1024) :
    iblk m c 3 t (ix2 a b) = wgu m c a ⟨t.val % 5 * 1024 + b.val, by have := a.isLt; have := b.isLt; omega⟩ := by
  have ha := a.isLt
  have hb := b.isLt
  unfold iblk
  rw [View.read_apply, ← V_gu]
  show V m c main_v1 _ = V m c main_v1 _
  congr 1
  funext x
  apply Fin.ext
  match x with
  | ⟨0, _⟩ => show win0_3.index t 0 + 1 * a.val = a.val
              rw [(index0_3 t).1]; omega
  | ⟨1, _⟩ => show win0_3.index t 1 + 1 * b.val = t.val % 5 * 1024 + b.val
              rw [(index0_3 t).2]; omega

/-- The up columns of a point's run. -/
theorem iblk_4 (c : Dev nD) (t : Fin cfg0.N) (a : Fin 2048) (b : Fin 1024) :
    iblk m c 4 t (ix2 a b) = wgu m c a ⟨5504 + (t.val % 5 * 1024 + b.val), by have := a.isLt; have := b.isLt; omega⟩ := by
  have ha := a.isLt
  have hb := b.isLt
  unfold iblk
  rw [View.read_apply, ← V_gu]
  show V m c main_v1 _ = V m c main_v1 _
  congr 1
  funext x
  apply Fin.ext
  match x with
  | ⟨0, _⟩ => show win0_4.index t 0 + 1 * a.val = a.val
              rw [(index0_4 t).1]; omega
  | ⟨1, _⟩ => show win0_4.index t 1 + 1 * b.val = 5504 + (t.val % 5 * 1024 + b.val)
              rw [(index0_4 t).2]; omega

/-- The down rows of a point's run. -/
theorem iblk_5 (c : Dev nD) (t : Fin cfg0.N) (a : Fin 1024) (b : Fin 2048) :
    iblk m c 5 t (ix2 a b) = wd m c ⟨t.val % 5 * 1024 + a.val, by have := a.isLt; have := b.isLt; omega⟩ b := by
  have ha := a.isLt
  have hb := b.isLt
  unfold iblk
  rw [View.read_apply, ← V_d]
  show V m c main_v3 _ = V m c main_v3 _
  congr 1
  funext x
  apply Fin.ext
  match x with
  | ⟨0, _⟩ => show win0_5.index t 0 + 1 * a.val = t.val % 5 * 1024 + a.val
              rw [(index0_5 t).1]; omega
  | ⟨1, _⟩ => show win0_5.index t 1 + 1 * b.val = b.val
              rw [(index0_5 t).2]; omega

/-- The remaining gate columns. -/
theorem iblk_6 (c : Dev nD) (t : Fin cfg0.N) (a : Fin 2048) (b : Fin 384) :
    iblk m c 6 t (ix2 a b) = wgu m c a ⟨5120 + b.val, by have := a.isLt; have := b.isLt; omega⟩ := by
  have ha := a.isLt
  have hb := b.isLt
  unfold iblk
  rw [View.read_apply, ← V_gu]
  show V m c main_v1 _ = V m c main_v1 _
  congr 1
  funext x
  apply Fin.ext
  match x with
  | ⟨0, _⟩ => show 0 + 1 * a.val = a.val
              omega
  | ⟨1, _⟩ => show 5120 + 1 * b.val = 5120 + b.val
              omega

/-- The remaining up columns. -/
theorem iblk_7 (c : Dev nD) (t : Fin cfg0.N) (a : Fin 2048) (b : Fin 384) :
    iblk m c 7 t (ix2 a b) = wgu m c a ⟨5504 + (5120 + b.val), by have := a.isLt; have := b.isLt; omega⟩ := by
  have ha := a.isLt
  have hb := b.isLt
  unfold iblk
  rw [View.read_apply, ← V_gu]
  show V m c main_v1 _ = V m c main_v1 _
  congr 1
  funext x
  apply Fin.ext
  match x with
  | ⟨0, _⟩ => show 0 + 1 * a.val = a.val
              omega
  | ⟨1, _⟩ => show 10624 + 1 * b.val = 5504 + (5120 + b.val)
              omega

/-- The remaining down rows. -/
theorem iblk_8 (c : Dev nD) (t : Fin cfg0.N) (a : Fin 384) (b : Fin 2048) :
    iblk m c 8 t (ix2 a b) = wd m c ⟨5120 + a.val, by have := a.isLt; have := b.isLt; omega⟩ b := by
  have ha := a.isLt
  have hb := b.isLt
  unfold iblk
  rw [View.read_apply, ← V_d]
  show V m c main_v3 _ = V m c main_v3 _
  congr 1
  funext x
  apply Fin.ext
  match x with
  | ⟨0, _⟩ => show 5120 + 1 * a.val = 5120 + a.val
              omega
  | ⟨1, _⟩ => show 0 + 1 * b.val = b.val
              omega

end Cert.KernelIdeal.FfnValue

end
-- ==== Proof.FfnValue.lean ====
/-
  The feed-forward kernel's result array, entry by entry: by induction on the grid's point the output block holds the
  rows plus the part of the hidden columns met so far, so after a row block's last point half a feed-forward step.
-/
module

public import proofs.«01_k».proof.Proof.FfnCases
public import proofs.«01_k».proof.Proof.FfnPay
public import proofs.«01_k».proof.Proof.FfnBlocks

@[expose] public section

set_option maxRecDepth 16384

noncomputable section

namespace Cert.KernelIdeal.FfnValue

open Cert.KernelIdeal Cert.KernelIdeal.Gen Idealize.ShloMosaic Idealize.ShloMosaic.TcCoe Idealize.SL.Sem Cert.Layer

variable (m : (ℓ : Loc nD τ sig) → Buf (Elt Ideal) ℓ) (ρ : Dev nD → PrngReg)

/-- The normalised row `R`. -/
abbrev xn (c : Dev nD) (R : ℕ) : Fin 2048 → EReal := rms (row m c R) (gain m c)

/-- How many hidden columns a row block has met after point `n`. -/
def met (n : ℕ) : ℕ := if n % 5 = 4 then 5504 else (n % 5 + 1) * 1024

/-- What the output block holds at an entry of row `R`, column `q`, once `K` hidden columns are met. -/
def partial_ (c : Dev nD) (R : ℕ) (q : Fin 2048) (K : ℕ) : EReal :=
  row m c R q + ∑ k ∈ Finset.range K, term (xn m c R) (wgu m c) (fun k => wd m c k q) k

/-- The rows a point reads. -/
theorem rows_eq (c : Dev nD) (t : Fin cfg0.N) (r : Fin 512) (k : Fin 2048) :
    k0_pay1 (grid0.coords t) (iblk m c 0 t) (iblk m c 1 t) (ix2 r k) = row m c (512 * (t.val / 5) + r.val) k := by
  have hN : cfg0.N = 85 := N_0
  have hlt := t.isLt
  have h0 := coord0 t
  by_cases h : t.val / 5 < 16
  · rw [pay1_lt _ (by omega), iblk_0 m c t h]
  · rw [pay1_eq _ (by omega), iblk_1 m c t (by omega)]

/-- The scratch a row block's first point leaves. -/
theorem scratch_eq (c : Dev nD) (t : Fin cfg0.N) (r : Fin 512) (k : Fin 2048) :
    k0_pay2 (grid0.coords t) (iblk m c 0 t) (iblk m c 1 t) (iblk m c 2 t) (ix2 r k) = xn m c (512 * (t.val / 5) + r.val) k := by
  rw [pay2_apply]
  unfold xn
  congr 1
  · funext j; exact rows_eq m c t r j
  · funext j; exact iblk_2 m c t j

/-- A point's run of 1024 hidden columns, added to the columns before it. -/
theorem run_eq (c : Dev nD) (t : Fin cfg0.N) (xs : Vec Ideal S512x2048 .bf16) (acc : Vec Ideal S512x2048 .f32) (r : Fin 512) (q : Fin 2048)
    (R : ℕ) (hs : ∀ k, xs (ix2 r k) = xn m c R k) (ha : acc (ix2 r q) = partial_ m c R q (t.val % 5 * 1024)) :
    k0_pay3 (iblk m c 3 t) (iblk m c 4 t) (iblk m c 5 t) xs acc (ix2 r q) = partial_ m c R q ((t.val % 5 + 1) * 1024) := by
  rw [pay3_apply, ha]
  unfold partial_
  rw [add_assoc, add_mul, one_mul]
  congr 1
  refine range_add_fin _ _ _ _ fun k => ?_
  have hk := k.isLt
  rw [term_of_lt _ _ _ (by omega)]
  simp only [hs, iblk_3, iblk_4, iblk_5]

/-- The 384 remaining columns, added to the 5120 before them. -/
theorem rest_eq (c : Dev nD) (t : Fin cfg0.N) (xs : Vec Ideal S512x2048 .bf16) (acc : Vec Ideal S512x2048 .f32) (r : Fin 512) (q : Fin 2048)
    (R : ℕ) (hs : ∀ k, xs (ix2 r k) = xn m c R k) (ha : acc (ix2 r q) = partial_ m c R q 5120) :
    k0_pay4 (k0_pay6 (iblk m c 8 t)) (k0_pay7 (iblk m c 7 t) xs) (k0_pay8 (iblk m c 6 t) xs) k0_pay9 acc (ix2 r q)
      = partial_ m c R q 5504 := by
  rw [pay4_apply, ha]
  unfold partial_
  rw [add_assoc]
  congr 1
  refine range_add_fin _ 5120 384 _ fun k => ?_
  have hk := k.isLt
  rw [term_of_lt _ _ _ (by omega)]
  simp only [hs, iblk_6, iblk_7, iblk_8]

/-- After point `n` the scratch holds the normalised rows of the point's row block, and the output block the rows plus
    the part of the hidden columns met. -/
theorem state_eq (c : Dev nD) : ∀ (n : ℕ) (h : n < cfg0.N) (r : Fin 512),
    (∀ k, (outsAt0 m c n h).2 (ix2 r k) = xn m c (512 * (n / 5) + r.val) k) ∧
    ∀ q, (outsAt0 m c n h).1 (ix2 r q) = partial_ m c (512 * (n / 5) + r.val) q (met n) := by
  intro n
  induction n with
  | zero =>
    intro h r
    rw [outsAt0_A m c ⟨0, h⟩ (Nat.zero_mod 5) (Nat.zero_le 3) (by show ¬0 % 5 = 4; decide)]
    dsimp only
    rw [scratch_first, out_first]
    refine ⟨fun k => scratch_eq m c ⟨0, h⟩ r k, fun q => ?_⟩
    refine run_eq m c ⟨0, h⟩ _ _ r q _ (fun k => scratch_eq m c ⟨0, h⟩ r k) ?_
    rw [rows_eq m c ⟨0, h⟩]
    simp [partial_]
  | succ n ih =>
    intro h r
    have ih := ih (Nat.lt_of_succ_lt h) r
    by_cases h0 : (n + 1) % 5 = 0
    · rw [outsAt0_A m c ⟨n + 1, h⟩ h0 (by show (n + 1) % 5 ≤ 3; omega) (by show ¬(n + 1) % 5 = 4; omega)]
      dsimp only
      rw [scratch_first, out_first]
      refine ⟨fun k => scratch_eq m c ⟨n + 1, h⟩ r k, fun q => ?_⟩
      rw [show met (n + 1) = ((n + 1) % 5 + 1) * 1024 from if_neg (by omega)]
      refine run_eq m c ⟨n + 1, h⟩ _ _ r q _ (fun k => scratch_eq m c ⟨n + 1, h⟩ r k) ?_
      rw [rows_eq m c ⟨n + 1, h⟩]
      simp [partial_, h0]
    · have hd : (n + 1) / 5 = n / 5 := by omega
      have hm : met n = (n + 1) % 5 * 1024 := by unfold met; rw [if_neg (by omega)]; omega
      rw [hm, ← hd] at ih
      by_cases h1 : (n + 1) % 5 ≤ 3
      · rw [outsAt0_B m c ⟨n + 1, h⟩ h0 h1 (by show ¬(n + 1) % 5 = 4; omega)]
        dsimp only
        rw [out_mid]
        refine ⟨ih.1, fun q => ?_⟩
        rw [show met (n + 1) = ((n + 1) % 5 + 1) * 1024 from if_neg (by omega)]
        exact run_eq m c ⟨n + 1, h⟩ _ _ r q _ ih.1 (ih.2 q)
      · have h4 : (n + 1) % 5 = 4 := by omega
        rw [outsAt0_C m c ⟨n + 1, h⟩ h0 h1 h4]
        dsimp only
        rw [out_last]
        refine ⟨ih.1, fun q => ?_⟩
        rw [show met (n + 1) = 5504 from if_pos h4]
        refine rest_eq m c ⟨n + 1, h⟩ _ _ r q _ ih.1 ?_
        refine (run_eq m c ⟨n + 1, h⟩ _ _ r q _ ih.1 (ih.2 q)).trans ?_
        show partial_ m c _ q (((n + 1) % 5 + 1) * 1024) = _
        rw [h4]

/-- The result array: row `R`'s half feed-forward step. -/
def result (c : Dev nD) : Buf (Elt Ideal) ((c : Thread nD τ).loc main_v4) := fun i =>
  halfStep (row m c (i 0).val) (gain m c) (wgu m c) (fun k => wd m c k (i 1)) (row m c (i 0).val (i 1))

/-- A row block's last point writes its rows' steps back. -/
theorem flushed_eq (c : Dev nD) (t : Fin cfg0.N) (hf : (cfg0.win 10).flush t = true) :
    (dats m 0 c).flushed 10 t = ((cfg0.win 10).blk t).view.read (Elt Ideal) (result m c) := by
  have h4 : t.val % 5 = 4 := (flush0_10 t).mp hf
  show (cfg0.win 10).cut (grid0.coords t) ((dats m 0 c).after 10 t) = _
  rw [after0_10]
  funext (y : S512x2048.Idx)
  rw [View.read_apply, eq_ix2 y]
  refine ((state_eq m c t.val t.isLt (y 0)).2 (y 1)).trans ?_
  have e0 : (((cfg0.win 10).blk t).view.emb (ix2 (y 0) (y 1)) 0).val = 512 * (t.val / 5) + (y 0).val := by
    show win0_10.index t 0 * 512 + 1 * (y 0).val = _
    rw [(index0_10 t).1]; omega
  have e1 : ((cfg0.win 10).blk t).view.emb (ix2 (y 0) (y 1)) 1 = y 1 := by
    apply Fin.ext
    show win0_10.index t 1 * 2048 + 1 * (y 1).val = _
    rw [(index0_10 t).2]; omega
  unfold result
  rw [e0, e1, show met t.val = 5504 from if_pos h4]
  rfl

/-- So the result array ends holding every row's step. -/
theorem final_eq (c : Dev nD) : (dats m 0 c).arrAt 10 cfg0.N = result m c :=
  (dats m 0 c).arrAt_eq_of_cover 10 (result m c) (flushed_eq m c) fun i => by
    have hN : cfg0.N = 85 := N_0
    have h0 : (i 0 : Nat) < 8704 := (i 0).isLt
    have h1 : (i 1 : Nat) < 2048 := (i 1).isLt
    obtain ⟨t, ht⟩ : ∃ t : Fin cfg0.N, t.val = (i 0 : Nat) / 512 * 5 + 4 := ⟨⟨(i 0 : Nat) / 512 * 5 + 4, by omega⟩, rfl⟩
    refine ⟨t, (flush0_10 t).mpr (by omega), ?_⟩
    have e := index0_10 t
    show i ∈ ((View.whole main_v4).slice (win0_10.rect t)).set
    rw [View.set_slice_whole, Rect.mem_set_unit]
    intro a
    match a with
    | ⟨0, _⟩ => show win0_10.index t 0 * 512 ≤ (i 0 : Nat) ∧ (i 0 : Nat) < win0_10.index t 0 * 512 + 512
                rw [e.1]; omega
    | ⟨1, _⟩ => show win0_10.index t 1 * 2048 ≤ (i 1 : Nat) ∧ (i 1 : Nat) < win0_10.index t 1 * 2048 + 2048
                rw [e.2]; omega

/-- The program's run: the result array ends at every row's step, the arguments as they were. -/
theorem run : θ_run defs (onTc (τ := τ) (main (F := Ideal))) (s₀ m ρ) (fun r => ∀ c : Dev nD,
    r.2.mem ((c : Thread nD τ).loc main_v4) = result m c ∧
    r.2.mem ((c : Thread nD τ).loc main_arg0) = m ((c : Thread nD τ).loc main_arg0) ∧
    r.2.mem ((c : Thread nD τ).loc main_arg1) = m ((c : Thread nD τ).loc main_arg1) ∧
    r.2.mem ((c : Thread nD τ).loc main_arg2) = m ((c : Thread nD τ).loc main_arg2) ∧
    r.2.mem ((c : Thread nD τ).loc main_arg3) = m ((c : Thread nD τ).loc main_arg3) ∧
    r.2.mem ((c : Thread nD τ).loc main_arg4) = m ((c : Thread nD τ).loc main_arg4)) :=
  (θ_run defs _ _).mono (fun r h c => ⟨((h c).1 10).trans (final_eq m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩)
    (run_main m ρ)

end Cert.KernelIdeal.FfnValue

end
-- ==== Proof.FfnRef.lean ====
/-
  The mathematics' result array, entry by entry: a row's half feed-forward step, the prompt's rows and the sample's.
-/
module

public import proofs.«01_k».proof.Proof.Layer
public import proofs.«01_k».proof.Proof.Gen.ReferenceIdeal.Read

@[expose] public section

set_option maxRecDepth 16384

noncomputable section

namespace Cert.ReferenceIdeal.FfnRef

open Cert.ReferenceIdeal Cert.ReferenceIdeal.Read Idealize.ShloMosaic Cert.Layer

/-- The prompt: a normalised row. -/
theorem xn_p (x0 : (⟨S8192x2048, .f32⟩ : BufTy).Contents (Elt Ideal)) (x2 : (⟨S1x2048, .f32⟩ : BufTy).Contents (Elt Ideal)) (R : Fin 8192) (k : Fin 2048) :
    val_main_v13 (F := Ideal) x0 x2 (ix2 R k) = rms (fun j => x0 (ix2 R j)) (fun j => x2 (ix2 0 j)) k := by
  simp only [val_main_v13_apply, val_main_v10_apply, val_main_v9_apply, val_main_v8_apply, val_main_v7_apply, val_main_v5_apply, val_main_v3_apply, val_main_v4_apply, val_main_v6_apply, val_main_v2_apply, val_main_v1_apply, val_main_v12_apply, val_main_v11_apply, val_main_v0_apply, val_main_cst_apply, val_main_cst_0_apply, val_main_cst_1_apply]
  have e1 : ∀ j, idx_main_v2 (idx_main_v3 (idx_main_v9 (ix2 R k))) j = ix2 R j := fun j => by
    funext a; match a with | ⟨0, _⟩ => rfl | ⟨1, _⟩ => rfl
  have e2 : idx_main_v0 (idx_main_v11 (idx_main_v12 (ix2 R k))) = ix2 0 k := by
    funext a; match a with | ⟨0, _⟩ => rfl | ⟨1, _⟩ => exact Fin.ext (Nat.mod_eq_of_lt k.isLt)
  simp only [e1, e2]
  unfold rms
  show x0 (ix2 R k) * Ideal.rsqrt (Ideal.div (Ideal.ofBits .f32 0x00000000#32 + ∑ j, x0 (ix2 R j) * x0 (ix2 R j)) width + eps) * x2 (ix2 0 k) = _
  rw [Ideal.ofBits_zero_f32, zero_add]

/-- The prompt: a column of the joined gate and up product. -/
theorem gu_p (x0 : (⟨S8192x2048, .f32⟩ : BufTy).Contents (Elt Ideal)) (x2 : (⟨S1x2048, .f32⟩ : BufTy).Contents (Elt Ideal)) (x3 : (⟨S1x2048x11008, .f32⟩ : BufTy).Contents (Elt Ideal)) (R : Fin 8192) (k : Fin 11008) :
    val_main_v16 (F := Ideal) x0 x2 x3 (ix2 R k) = dot (rms (fun j => x0 (ix2 R j)) (fun j => x2 (ix2 0 j))) (fun j => x3 (ix3 0 j k)) := by
  rw [val_main_v16_apply]
  unfold dot
  refine Finset.sum_congr rfl fun j _ => ?_
  have e1 : lidx_main_v16 (ix2 R k) j = ix2 R j := by
    funext a; match a with | ⟨0, _⟩ => rfl | ⟨1, _⟩ => rfl
  have e2 : ridx_main_v16 (ix2 R k) j = ix2 j k := by
    funext a; match a with | ⟨0, _⟩ => rfl | ⟨1, _⟩ => rfl
  rw [e1, e2, xn_p]
  unfold val_main_v14
  rw [shapeCast_lead]

/-- The prompt: a row's gated hidden column. -/
theorem hid_p (x0 : (⟨S8192x2048, .f32⟩ : BufTy).Contents (Elt Ideal)) (x2 : (⟨S1x2048, .f32⟩ : BufTy).Contents (Elt Ideal)) (x3 : (⟨S1x2048x11008, .f32⟩ : BufTy).Contents (Elt Ideal)) (R : Fin 8192) (k : Fin 5504) :
    val_main_v20 (F := Ideal) x0 x2 x3 (ix2 R k) = dot (rms (fun j => x0 (ix2 R j)) (fun j => x2 (ix2 0 j))) (fun j => x3 (ix3 0 j ⟨k.val, by omega⟩))
      * Ideal.logistic (dot (rms (fun j => x0 (ix2 R j)) (fun j => x2 (ix2 0 j))) (fun j => x3 (ix3 0 j ⟨k.val, by omega⟩)))
      * dot (rms (fun j => x0 (ix2 R j)) (fun j => x2 (ix2 0 j))) (fun j => x3 (ix3 0 j ⟨5504 + k.val, by omega⟩)) := by
  simp only [val_main_v20_apply, val_main_v19_apply, val_main_v18_apply, val_main_v17_apply, val_main_call0_v5_apply, val_main_call0_v4_apply, val_main_call0_v3_apply, val_main_call0_v2_apply, val_main_call0_v1_apply, val_main_call0_v0_apply, val_main_call0_cst_apply, val_main_call0_cst_0_apply]
  have e1 : idx_main_v17 (ix2 R k) = ix2 R ⟨k.val, by omega⟩ := by
    funext a; match a with | ⟨0, _⟩ => rfl | ⟨1, _⟩ => rfl
  have e2 : idx_main_v18 (ix2 R k) = ix2 R ⟨5504 + k.val, by omega⟩ := by
    funext a; match a with | ⟨0, _⟩ => rfl | ⟨1, _⟩ => rfl
  rw [e1, e2, gu_p, gu_p]
  show _ * Ideal.div one (one + Ideal.exp (-_)) * _ = _ * Ideal.div 1 (1 + Ideal.exp (-_)) * _
  rw [one_eq]

/-- The prompt: a row's half feed-forward step. -/
theorem out_p (x0 : (⟨S8192x2048, .f32⟩ : BufTy).Contents (Elt Ideal)) (x2 : (⟨S1x2048, .f32⟩ : BufTy).Contents (Elt Ideal)) (x3 : (⟨S1x2048x11008, .f32⟩ : BufTy).Contents (Elt Ideal)) (x4 : (⟨S1x5504x2048, .f32⟩ : BufTy).Contents (Elt Ideal)) (R : Fin 8192) (q : Fin 2048) :
    val_main_v24 (F := Ideal) x0 x2 x3 x4 (ix2 R q) = halfStep (fun j => x0 (ix2 R j)) (fun j => x2 (ix2 0 j)) (fun j k => x3 (ix3 0 j k))
      (fun k => x4 (ix3 0 k q)) (x0 (ix2 R q)) := by
  simp only [val_main_v24_apply, val_main_v23_apply, val_main_v22_apply, val_main_cst_2_apply]
  rw [val_main_v21_apply]
  unfold halfStep
  rw [← half_mul_sum _ _ _ (fun k => val_main_v20 (F := Ideal) x0 x2 x3 (lidx_main_v21 (ix2 R q) k) * val_main_v15 (F := Ideal) x4 (ridx_main_v21 (ix2 R q) k))]
  · rfl
  · intro k
    have e1 : lidx_main_v21 (ix2 R q) k = ix2 R k := by
      funext a; match a with | ⟨0, _⟩ => rfl | ⟨1, _⟩ => rfl
    have e2 : ridx_main_v21 (ix2 R q) k = ix2 k q := by
      funext a; match a with | ⟨0, _⟩ => rfl | ⟨1, _⟩ => rfl
    rw [e1, e2, hid_p]
    unfold val_main_v15
    rw [shapeCast_lead]

/-- The sample: a normalised row. -/
theorem xn_s (x1 : (⟨S512x2048, .f32⟩ : BufTy).Contents (Elt Ideal)) (x2 : (⟨S1x2048, .f32⟩ : BufTy).Contents (Elt Ideal)) (R : Fin 512) (k : Fin 2048) :
    val_main_v38 (F := Ideal) x1 x2 (ix2 R k) = rms (fun j => x1 (ix2 R j)) (fun j => x2 (ix2 0 j)) k := by
  simp only [val_main_v38_apply, val_main_v35_apply, val_main_v34_apply, val_main_v33_apply, val_main_v32_apply, val_main_v30_apply, val_main_v28_apply, val_main_v29_apply, val_main_v31_apply, val_main_v27_apply, val_main_v26_apply, val_main_v37_apply, val_main_v36_apply, val_main_v25_apply, val_main_cst_3_apply, val_main_cst_4_apply, val_main_cst_5_apply]
  have e1 : ∀ j, idx_main_v27 (idx_main_v28 (idx_main_v34 (ix2 R k))) j = ix2 R j := fun j => by
    funext a; match a with | ⟨0, _⟩ => rfl | ⟨1, _⟩ => rfl
  have e2 : idx_main_v25 (idx_main_v36 (idx_main_v37 (ix2 R k))) = ix2 0 k := by
    funext a; match a with | ⟨0, _⟩ => rfl | ⟨1, _⟩ => exact Fin.ext (Nat.mod_eq_of_lt k.isLt)
  simp only [e1, e2]
  unfold rms
  show x1 (ix2 R k) * Ideal.rsqrt (Ideal.div (Ideal.ofBits .f32 0x00000000#32 + ∑ j, x1 (ix2 R j) * x1 (ix2 R j)) width + eps) * x2 (ix2 0 k) = _
  rw [Ideal.ofBits_zero_f32, zero_add]

/-- The sample: a column of the joined gate and up product. -/
theorem gu_s (x1 : (⟨S512x2048, .f32⟩ : BufTy).Contents (Elt Ideal)) (x2 : (⟨S1x2048, .f32⟩ : BufTy).Contents (Elt Ideal)) (x3 : (⟨S1x2048x11008, .f32⟩ : BufTy).Contents (Elt Ideal)) (R : Fin 512) (k : Fin 11008) :
    val_main_v41 (F := Ideal) x1 x2 x3 (ix2 R k) = dot (rms (fun j => x1 (ix2 R j)) (fun j => x2 (ix2 0 j))) (fun j => x3 (ix3 0 j k)) := by
  rw [val_main_v41_apply]
  unfold dot
  refine Finset.sum_congr rfl fun j _ => ?_
  have e1 : lidx_main_v41 (ix2 R k) j = ix2 R j := by
    funext a; match a with | ⟨0, _⟩ => rfl | ⟨1, _⟩ => rfl
  have e2 : ridx_main_v41 (ix2 R k) j = ix2 j k := by
    funext a; match a with | ⟨0, _⟩ => rfl | ⟨1, _⟩ => rfl
  rw [e1, e2, xn_s]
  unfold val_main_v39
  rw [shapeCast_lead]

/-- The sample: a row's gated hidden column. -/
theorem hid_s (x1 : (⟨S512x2048, .f32⟩ : BufTy).Contents (Elt Ideal)) (x2 : (⟨S1x2048, .f32⟩ : BufTy).Contents (Elt Ideal)) (x3 : (⟨S1x2048x11008, .f32⟩ : BufTy).Contents (Elt Ideal)) (R : Fin 512) (k : Fin 5504) :
    val_main_v45 (F := Ideal) x1 x2 x3 (ix2 R k) = dot (rms (fun j => x1 (ix2 R j)) (fun j => x2 (ix2 0 j))) (fun j => x3 (ix3 0 j ⟨k.val, by omega⟩))
      * Ideal.logistic (dot (rms (fun j => x1 (ix2 R j)) (fun j => x2 (ix2 0 j))) (fun j => x3 (ix3 0 j ⟨k.val, by omega⟩)))
      * dot (rms (fun j => x1 (ix2 R j)) (fun j => x2 (ix2 0 j))) (fun j => x3 (ix3 0 j ⟨5504 + k.val, by omega⟩)) := by
  simp only [val_main_v45_apply, val_main_v44_apply, val_main_v43_apply, val_main_v42_apply, val_main_call1_v5_apply, val_main_call1_v4_apply, val_main_call1_v3_apply, val_main_call1_v2_apply, val_main_call1_v1_apply, val_main_call1_v0_apply, val_main_call1_cst_apply, val_main_call1_cst_0_apply]
  have e1 : idx_main_v42 (ix2 R k) = ix2 R ⟨k.val, by omega⟩ := by
    funext a; match a with | ⟨0, _⟩ => rfl | ⟨1, _⟩ => rfl
  have e2 : idx_main_v43 (ix2 R k) = ix2 R ⟨5504 + k.val, by omega⟩ := by
    funext a; match a with | ⟨0, _⟩ => rfl | ⟨1, _⟩ => rfl
  rw [e1, e2, gu_s, gu_s]
  show _ * Ideal.div one (one + Ideal.exp (-_)) * _ = _ * Ideal.div 1 (1 + Ideal.exp (-_)) * _
  rw [one_eq]

/-- The sample: a row's half feed-forward step. -/
theorem out_s (x1 : (⟨S512x2048, .f32⟩ : BufTy).Contents (Elt Ideal)) (x2 : (⟨S1x2048, .f32⟩ : BufTy).Contents (Elt Ideal)) (x3 : (⟨S1x2048x11008, .f32⟩ : BufTy).Contents (Elt Ideal)) (x4 : (⟨S1x5504x2048, .f32⟩ : BufTy).Contents (Elt Ideal)) (R : Fin 512) (q : Fin 2048) :
    val_main_v49 (F := Ideal) x1 x2 x3 x4 (ix2 R q) = halfStep (fun j => x1 (ix2 R j)) (fun j => x2 (ix2 0 j)) (fun j k => x3 (ix3 0 j k))
      (fun k => x4 (ix3 0 k q)) (x1 (ix2 R q)) := by
  simp only [val_main_v49_apply, val_main_v48_apply, val_main_v47_apply, val_main_cst_6_apply]
  rw [val_main_v46_apply]
  unfold halfStep
  rw [← half_mul_sum _ _ _ (fun k => val_main_v45 (F := Ideal) x1 x2 x3 (lidx_main_v46 (ix2 R q) k) * val_main_v40 (F := Ideal) x4 (ridx_main_v46 (ix2 R q) k))]
  · rfl
  · intro k
    have e1 : lidx_main_v46 (ix2 R q) k = ix2 R k := by
      funext a; match a with | ⟨0, _⟩ => rfl | ⟨1, _⟩ => rfl
    have e2 : ridx_main_v46 (ix2 R q) k = ix2 k q := by
      funext a; match a with | ⟨0, _⟩ => rfl | ⟨1, _⟩ => rfl
    rw [e1, e2, hid_s]
    unfold val_main_v40
    rw [shapeCast_lead]

/-- An entry of the joined array: the prompt's row, or past the prompt's 8192 rows the sample's. -/
theorem joined (x0 : (⟨S8192x2048, .f32⟩ : BufTy).Contents (Elt Ideal)) (x1 : (⟨S512x2048, .f32⟩ : BufTy).Contents (Elt Ideal))
    (x2 : (⟨S1x2048, .f32⟩ : BufTy).Contents (Elt Ideal)) (x3 : (⟨S1x2048x11008, .f32⟩ : BufTy).Contents (Elt Ideal))
    (x4 : (⟨S1x5504x2048, .f32⟩ : BufTy).Contents (Elt Ideal)) (R : Fin 8704) (q : Fin 2048) :
    val_main_v50 (F := Ideal) x0 x1 x2 x3 x4 (ix2 R q) =
      if h : R.val < 8192 then halfStep (fun j => x0 (ix2 ⟨R.val, h⟩ j)) (fun j => x2 (ix2 0 j)) (fun j k => x3 (ix3 0 j k))
        (fun k => x4 (ix3 0 k q)) (x0 (ix2 ⟨R.val, h⟩ q))
      else halfStep (fun j => x1 (ix2 ⟨R.val - 8192, by omega⟩ j)) (fun j => x2 (ix2 0 j)) (fun j k => x3 (ix3 0 j k))
        (fun k => x4 (ix3 0 k q)) (x1 (ix2 ⟨R.val - 8192, by omega⟩ q)) := by
  unfold val_main_v50
  rw [concatenate_pair_apply]
  by_cases h : R.val < 8192
  · rw [dif_pos h, ← out_p]
    refine (dif_pos h).trans ?_
    congr 1
    funext a; match a with | ⟨0, _⟩ => rfl | ⟨1, _⟩ => rfl
  · rw [dif_neg h, ← out_s]
    refine (dif_neg h).trans ?_
    congr 1
    funext a; match a with | ⟨0, _⟩ => rfl | ⟨1, _⟩ => rfl

end Cert.ReferenceIdeal.FfnRef

end
-- ==== Proof.PleLayer.lean ====
/-
  The per-layer embedding of one row: the row plus its gate times its embedding's projection, and the final norm.
-/
module

public import proofs.«01_k».proof.Proof.Layer

@[expose] public section

set_option maxRecDepth 16384

noncomputable section

namespace Cert.Layer

open Idealize.ShloMosaic

/-- The row `x` with its gated embedding `p` added: gate weights `W` of the row normed with gain `g`, projection `P`. -/
def added (x g : Fin 2048 → EReal) (W : Fin 2048 → Fin 2048 → EReal) (p : Fin 256 → EReal) (P : Fin 256 → Fin 2048 → EReal) (k : Fin 2048) : EReal :=
  x k + Ideal.logistic (dot (rms x g) fun i => W i k) * dot p fun i => P i k

/-- The sum through the final norm of gain `n`. -/
def tail (x g : Fin 2048 → EReal) (W : Fin 2048 → Fin 2048 → EReal) (p : Fin 256 → EReal) (P : Fin 256 → Fin 2048 → EReal) (n : Fin 2048 → EReal) (k : Fin 2048) : EReal :=
  rms (added x g W p P) n k

end Cert.Layer

end
-- ==== Proof.PleFrame.lean ====
/-
  The frame of the per-layer embedding's call: what its body leaves in its two results' staging memrefs at each point, and
  so the run of the whole program. The prompt's result is stored at every point but the last, where its block is written back
  as the point before left it; the sample's is stored at the last point only.
-/
module

public import proofs.«01_k».proof.Proof.Gen.Kernel2Ideal.Frame
public import proofs.«01_k».proof.Proof.Gen.Kernel2Ideal.Skeleton
public import Idealize.ShloMosaic.Lib.Claim

@[expose] public section

set_option maxRecDepth 16384

noncomputable section

namespace Cert.Kernel2Ideal.PleFrame

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The whole block of rows. -/
abbrev rRow : Rect S512x2048 := Rect.unit (s := S512x2048) ![0, 0] S512x2048.size inb_S512x2048_S512x2048_0_0
/-- The whole block of embeddings. -/
abbrev rPe : Rect S512x256 := Rect.unit (s := S512x256) ![0, 0] S512x256.size inb_S512x256_S512x256_0_0
/-- The whole vector. -/
abbrev rVec : Rect S1x2048 := Rect.unit (s := S1x2048) ![0, 0] S1x2048.size inb_S1x2048_S1x2048_0_0
/-- The whole gate matrix. -/
abbrev rGate : Rect S2048x2048 := Rect.unit (s := S2048x2048) ![0, 0] S2048x2048.size inb_S2048x2048_S2048x2048_0_0
/-- The whole embedding matrix. -/
abbrev rProj : Rect S256x2048 := Rect.unit (s := S256x2048) ![0, 0] S256x2048.size inb_S256x2048_S256x2048_0_0

/-- The rows the body computes from its inputs, before they are stored. -/
def kept (i : grid0.Coords) (x0 : Vec F S512x2048 .f32) (x1 : Vec F S512x256 .f32) (x2 : Vec F S512x256 .f32) (x3 : Vec F S1x2048 .f32) (x4 : Vec F S2048x2048 .bf16) (x5 : Vec F S256x2048 .bf16) (x6 : Vec F S1x2048 .f32) : Vec F S512x2048 .f32 :=
  k0_pay1 (k0_pay2 i (View.ld x0 rRow) (View.ld x3 rVec) (View.ld x4 rGate) (View.ld x1 rPe) (View.ld x2 rPe) (View.ld x5 rProj))
    (k0_pay3 (View.ld x6 rVec))
    (k0_pay4 i (View.ld x0 rRow) (View.ld x3 rVec) (View.ld x4 rGate) (View.ld x1 rPe) (View.ld x2 rPe) (View.ld x5 rProj))
    (Scalar.ofBits .f32 0x358637BD#32)

/-- What a result's staging memref holds once they are. -/
def rows (i : grid0.Coords) (x0 : Vec F S512x2048 .f32) (x1 : Vec F S512x256 .f32) (x2 : Vec F S512x256 .f32) (x3 : Vec F S1x2048 .f32) (x4 : Vec F S2048x2048 .bf16) (x5 : Vec F S256x2048 .bf16) (x6 : Vec F S1x2048 .f32) : Vec F S512x2048 .f32 :=
  View.canon [⟨rRow, kept i x0 x1 x2 x3 x4 x5 x6⟩]

/-- The store covers the memref. -/
theorem cover_rows (p : Vec F S512x2048 .f32) (y : S512x2048.Idx) :
    ∃ q ∈ ([⟨rRow, p⟩] : List (View.Piece (Elt F) S512x2048 .f32)), y ∈ q.1.set :=
  View.cover_of_tiled [⟨rRow, p⟩] S512x2048.size (by rfl) y

set_option maxHeartbeats 1000000 in
/-- The body, before the last point: it leaves its inputs as they were, stores the rows into the prompt's result and leaves the sample's alone. -/
theorem run_A (c : Dev nD) (E : Set ℕ) (i : grid0.Coords) (arg1 : Memref sig .tc .vmem S512x2048 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S1x2048 .f32) (harg4 : arg4.IsWhole) (arg5 : Memref sig .tc .vmem S2048x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole)
    (h0 : k0_cond1 i = 1#1) (h1 : ¬k0_cond2 i = 1#1)
    (x0 : Vec F S512x2048 .f32) (x1 : Vec F S512x256 .f32) (x2 : Vec F S512x256 .f32) (x3 : Vec F S1x2048 .f32) (x4 : Vec F S2048x2048 .bf16) (x5 : Vec F S256x2048 .bf16) (x6 : Vec F S1x2048 .f32) (y : Vec F S512x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare y
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (rows i x0 x1 x2 x3 x4 x5 x6) ∗ owns (c : Thread nD τ) arg9 fullShare y) -∗ K ⟨⟩))
      ⊢ wp frame (wpE (defs₀ (F := F)) Variants.none c none) E (cc0_ple_final i arg1 harg1 arg2 harg2 arg3 harg3 arg4 harg4 arg5 harg5 arg6 harg6 arg7 harg7 arg8 harg8 arg9 harg9) K := by
  simp only [cc0_ple_final_eq_skeleton]; unfold cc0_ple_final_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf0 hf1 hf2 hf3 hf4 hf5 hf6 hf8
  sl_exec (disch := first | sl_exact h0 | sl_exact h1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_rows _)
  iexists f8; isplitr; · ipureintro; rfl
  iexact H8

set_option maxHeartbeats 1000000 in
/-- The body, at the last point: it leaves its inputs as they were, stores the rows into the sample's result and leaves the prompt's alone. -/
theorem run_B (c : Dev nD) (E : Set ℕ) (i : grid0.Coords) (arg1 : Memref sig .tc .vmem S512x2048 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S1x2048 .f32) (harg4 : arg4.IsWhole) (arg5 : Memref sig .tc .vmem S2048x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole)
    (h0 : ¬k0_cond1 i = 1#1) (h1 : k0_cond2 i = 1#1)
    (x0 : Vec F S512x2048 .f32) (x1 : Vec F S512x256 .f32) (x2 : Vec F S512x256 .f32) (x3 : Vec F S1x2048 .f32) (x4 : Vec F S2048x2048 .bf16) (x5 : Vec F S256x2048 .bf16) (x6 : Vec F S1x2048 .f32) (y : Vec F S512x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y ∗ owns (c : Thread nD τ) arg9 fullShare (rows i x0 x1 x2 x3 x4 x5 x6)) -∗ K ⟨⟩))
      ⊢ wp frame (wpE (defs₀ (F := F)) Variants.none c none) E (cc0_ple_final i arg1 harg1 arg2 harg2 arg3 harg3 arg4 harg4 arg5 harg5 arg6 harg6 arg7 harg7 arg8 harg8 arg9 harg9) K := by
  simp only [cc0_ple_final_eq_skeleton]; unfold cc0_ple_final_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec (disch := first | sl_exact h0 | sl_exact h1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover_rows _)

/-- Before the last point the first branch is taken. -/
theorem cond1_iff : ∀ t : Fin cfg0.N, k0_cond1 (grid0.coords t) = 1#1 ↔ t.val < 16 :=
  (by decide +kernel : ∀ t : Fin grid0.N, k0_cond1 (grid0.coords t) = 1#1 ↔ t.val < 16)
/-- At the last point the second is. -/
theorem cond2_iff : ∀ t : Fin cfg0.N, k0_cond2 (grid0.coords t) = 1#1 ↔ ¬t.val < 16 :=
  (by decide +kernel : ∀ t : Fin grid0.N, k0_cond2 (grid0.coords t) = 1#1 ↔ ¬t.val < 16)
/-- The prompt's result is stored before the last point, -/
theorem live_7 : ∀ t : Fin cfg0.N, t.val < 16 → cfg0.idle 7 (grid0.coords t) = false :=
  (by decide +kernel : ∀ t : Fin cfg0.N, t.val < 16 → cfg0.idle 7 (grid0.coords t) = false)
/-- not at the last, -/
theorem idle_7 : ∀ t : Fin cfg0.N, ¬t.val < 16 → cfg0.idle 7 (grid0.coords t) = true :=
  (by decide +kernel : ∀ t : Fin cfg0.N, ¬t.val < 16 → cfg0.idle 7 (grid0.coords t) = true)
/-- where it is written back, -/
theorem flush_7 : ∀ t : Fin cfg0.N, ¬t.val < 16 → (cfg0.win 7).flush t = true :=
  (by decide +kernel : ∀ t : Fin grid0.N, ¬t.val < 16 → win0_7.flush t = true)
/-- the point before not having written it back. -/
theorem noFlush_7 : ∀ t : Fin cfg0.N, t.val = 15 → (cfg0.win 7).flush t = false :=
  (by decide +kernel : ∀ t : Fin grid0.N, t.val = 15 → win0_7.flush t = false)
/-- The sample's result is stored at the last point, -/
theorem live_8 : ∀ t : Fin cfg0.N, ¬t.val < 16 → cfg0.idle 8 (grid0.coords t) = false :=
  (by decide +kernel : ∀ t : Fin cfg0.N, ¬t.val < 16 → cfg0.idle 8 (grid0.coords t) = false)
/-- not before, -/
theorem idle_8 : ∀ t : Fin cfg0.N, t.val < 16 → cfg0.idle 8 (grid0.coords t) = true :=
  (by decide +kernel : ∀ t : Fin cfg0.N, t.val < 16 → cfg0.idle 8 (grid0.coords t) = true)
/-- where it is not written back. -/
theorem noFlush_8 : ∀ t : Fin cfg0.N, t.val < 16 → (cfg0.win 8).flush t = false :=
  (by decide +kernel : ∀ t : Fin grid0.N, t.val < 16 → win0_8.flush t = false)

/-- The last point that stores into the prompt's result, from `t` back. -/
def back (t : Fin cfg0.N) : Fin cfg0.N := ⟨min t.val 15, lt_of_le_of_lt (min_le_left _ _) t.isLt⟩

/-- What the staging memrefs hold after the body at each point: each input's block, in the prompt's result the rows of the
    last point that stores there, in the sample's the point's rows (said of the last point only). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => rows (grid0.coords (back t)) (iblk m c 0 (back t)) (iblk m c 1 (back t)) (iblk m c 2 (back t)) (iblk m c 3 (back t)) (iblk m c 4 (back t)) (iblk m c 5 (back t)) (iblk m c 6 (back t))
    | ⟨8, _⟩ => rows (grid0.coords t) (iblk m c 0 t) (iblk m c 1 t) (iblk m c 2 t) (iblk m c 3 t) (iblk m c 4 t) (iblk m c 5 t) (iblk m c 6 t)
  Φ _ := Pipeline.ΦA spec0 c
  q _ := fullShare
  owed _ := 0

/-- The arrays are the region's. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = rows (grid0.coords (back t)) (iblk m c 0 (back t)) (iblk m c 1 (back t)) (iblk m c 2 (back t)) (iblk m c 3 (back t)) (iblk m c 4 (back t)) (iblk m c 5 (back t)) (iblk m c 6 (back t)) := by dsimp only [dats]
theorem after_8 (c : Dev nD) (t : Fin cfg0.N) : (dats m 0 c).after 8 t = rows (grid0.coords t) (iblk m c 0 t) (iblk m c 1 t) (iblk m c 2 t) (iblk m c 3 t) (iblk m c 4 t) (iblk m c 5 t) (iblk m c 6 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- At the last point the prompt's result still holds what the point before stored. -/
theorem before_7 (c : Dev nD) (t : Fin cfg0.N) (h : ¬t.val < 16) (d) : (dats m 0 c).before 7 t d = (dats m 0 c).after 7 t := by
  have hN : cfg0.N = 17 := N_0
  have ht := t.isLt
  have e : t.val = 16 := by omega
  rw [Dat.before_of_pos (dats m 0 c) 7 t (by omega) ((cfg0.win 7).fetch_out rfl t) d,
    if_neg (by rw [noFlush_7 _ (show t.val - 1 = 15 by omega)]; exact Bool.false_ne_true)]
  unfold Dat.left
  rw [live_7 _ (show t.val - 1 < 16 by omega)]
  show (dats m 0 c).after 7 _ = _
  rw [after_7, after_7]
  have eb : back ⟨t.val - 1, Nat.lt_of_le_of_lt (Nat.sub_le _ _) t.isLt⟩ = back t := by
    apply Fin.ext; show min (t.val - 1) 15 = min t.val 15; omega
  rw [eb]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (st0_0 t) fullShare ((dats m 0 c).after 0 t) from rfl, after_0]
  rw [show (dats m 0 c).leavesExact 1 t = owns (c : Thread nD τ) (st0_1 t) fullShare ((dats m 0 c).after 1 t) from rfl, after_1]
  rw [show (dats m 0 c).leavesExact 2 t = owns (c : Thread nD τ) (st0_2 t) fullShare ((dats m 0 c).after 2 t) from rfl, after_2]
  rw [show (dats m 0 c).leavesExact 3 t = owns (c : Thread nD τ) (st0_3 t) fullShare ((dats m 0 c).after 3 t) from rfl, after_3]
  rw [show (dats m 0 c).leavesExact 4 t = owns (c : Thread nD τ) (st0_4 t) fullShare ((dats m 0 c).after 4 t) from rfl, after_4]
  rw [show (dats m 0 c).leavesExact 5 t = owns (c : Thread nD τ) (st0_5 t) fullShare ((dats m 0 c).after 5 t) from rfl, after_5]
  rw [show (dats m 0 c).leavesExact 6 t = owns (c : Thread nD τ) (st0_6 t) fullShare ((dats m 0 c).after 6 t) from rfl, after_6]
  by_cases h : t.val < 16
  · have eb : back t = t := Fin.ext (min_eq_left (by omega))
    rw [show (dats m 0 c).leavesExact 7 t = owns (c : Thread nD τ) (st0_7 t) fullShare ((dats m 0 c).after 7 t) from by
      unfold Dat.leavesExact; rw [live_7 t h], after_7, eb, Dat.leavesExact_idle (dats m 0 c) 8 t (idle_8 t h) (noFlush_8 t h)]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_A c Set.univ (grid0.coords t) _ _ _ _ _ _ _ _ _ _ _ _ _ _ _ _ _ _  ((cond1_iff t).mpr h) (fun h' => (cond2_iff t).mp h' h) (iblk m c 0 t) (iblk m c 1 t) (iblk m c 2 t) (iblk m c 3 t) (iblk m c 4 t) (iblk m c 5 t) (iblk m c 6 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · rw [show (dats m 0 c).leavesExact 7 t = owns (c : Thread nD τ) (st0_7 t) fullShare ((dats m 0 c).after 7 t) from by
      unfold Dat.leavesExact; rw [idle_7 t h, flush_7 t h],
      show (dats m 0 c).leavesExact 8 t = owns (c : Thread nD τ) (st0_8 t) fullShare ((dats m 0 c).after 8 t) from by
      unfold Dat.leavesExact; rw [live_8 t h], after_8]
    simp only [before_7 m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_B c Set.univ (grid0.coords t) _ _ _ _ _ _ _ _ _ _ _ _ _ _ _ _ _ _  (fun h' => h ((cond1_iff t).mp h')) ((cond2_iff t).mpr h) (iblk m c 0 t) (iblk m c 1 t) (iblk m c 2 t) (iblk m c 3 t) (iblk m c 4 t) (iblk m c 5 t) (iblk m c 6 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at a point's slots. -/
theorem row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
set_option maxHeartbeats 800000 in
/-- The launch: every array of the pipeline ends as its proof data says, and every semaphore at zero. -/
theorem launch : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (launch m ρ)

/-- The program terminates, leaves its arguments as they were and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (launch m ρ))

end Cert.Kernel2Ideal.PleFrame

end
-- ==== Proof.PleValue.lean ====
/-
  The per-layer embedding's call: what a point reads, as entries of the argument arrays, what it stores, what the two arrays
  it writes end at, and the program's run.
-/
module

public import proofs.«01_k».proof.Proof.PleLayer
public import proofs.«01_k».proof.Proof.PleFrame
public import Idealize.ShloMosaic.Lib.Pipeline.ValueKit.Tiles

@[expose] public section

set_option maxRecDepth 16384

noncomputable section

namespace Cert.Kernel2Ideal.PleValue

open Cert.Kernel2Ideal Cert.Kernel2Ideal.Gen Cert.Kernel2Ideal.PleFrame Idealize.ShloMosaic Idealize.ShloMosaic.TcCoe Cert.Layer

variable (m : (ℓ : Loc nD τ sig) → Buf (Elt Ideal) ℓ) (ρ : Dev nD → PrngReg)

/-- The embeddings a point takes: the prompt's before the last point, -/
theorem pick_lt (i : grid0.Coords) (h : (i 0).val < 16) (a b : Vec Ideal S512x256 .f32) :
    Scalar.select (Scalar.cmpi .slt (BitVec.ofNat 32 (i 0).val) 16#32) a b = a := by
  have h2 : (Scalar.cmpi .slt (BitVec.ofNat 32 (i 0).val) 16#32 : BitVec 1) = 1#1 := by
    revert h; generalize (i 0).val = n; intro h
    interval_cases n <;> decide
  simp [Scalar.select, h2]
/-- the sample's at the last. -/
theorem pick_eq (i : grid0.Coords) (h : (i 0).val = 16) (a b : Vec Ideal S512x256 .f32) :
    Scalar.select (Scalar.cmpi .slt (BitVec.ofNat 32 (i 0).val) 16#32) a b = b := by
  have h2 : (Scalar.cmpi .slt (BitVec.ofNat 32 (i 0).val) 16#32 : BitVec 1) = 0#1 := by
    rw [h]; decide
  simp [Scalar.select, h2]

/-- The rows with their gated embeddings added, at an entry. -/
theorem pay2_lt (i : grid0.Coords) (h : (i 0).val < 16) (x : Vec Ideal S512x2048 .f32) (g : Vec Ideal S1x2048 .f32) (W : Vec Ideal S2048x2048 .bf16)
    (pp ps : Vec Ideal S512x256 .f32) (P : Vec Ideal S256x2048 .bf16) (r : Fin 512) (k : Fin 2048) :
    k0_pay2 (F := Ideal) i x g W pp ps P (ix2 r k) = added (fun j => x (ix2 r j)) (fun j => g (ix2 0 j)) (fun a b => W (ix2 a b))
      (fun j => pp (ix2 r j)) (fun a b => P (ix2 a b)) k := by
  unfold k0_pay2
  simp only [pick_lt i h]
  unfold added dot rms
  pointwise []

/-- The rows with their gated embeddings added, at an entry. -/
theorem pay2_eq (i : grid0.Coords) (h : (i 0).val = 16) (x : Vec Ideal S512x2048 .f32) (g : Vec Ideal S1x2048 .f32) (W : Vec Ideal S2048x2048 .bf16)
    (pp ps : Vec Ideal S512x256 .f32) (P : Vec Ideal S256x2048 .bf16) (r : Fin 512) (k : Fin 2048) :
    k0_pay2 (F := Ideal) i x g W pp ps P (ix2 r k) = added (fun j => x (ix2 r j)) (fun j => g (ix2 0 j)) (fun a b => W (ix2 a b))
      (fun j => ps (ix2 r j)) (fun a b => P (ix2 a b)) k := by
  unfold k0_pay2
  simp only [pick_eq i h]
  unfold added dot rms
  pointwise []

/-- The final norm of rows, at an entry. -/
theorem pay1_apply (i : grid0.Coords) (x : Vec Ideal S512x2048 .f32) (g : Vec Ideal S1x2048 .f32) (W : Vec Ideal S2048x2048 .bf16)
    (pp ps : Vec Ideal S512x256 .f32) (P : Vec Ideal S256x2048 .bf16) (n : Vec Ideal S1x2048 .f32) (r : Fin 512) (k : Fin 2048) :
    k0_pay1 (F := Ideal) (k0_pay2 i x g W pp ps P) (k0_pay3 n) (k0_pay4 i x g W pp ps P) (Scalar.ofBits .f32 0x358637BD#32) (ix2 r k) =
      rms (fun j => k0_pay2 (F := Ideal) i x g W pp ps P (ix2 r j)) (fun j => n (ix2 0 j)) k := by
  unfold rms k0_pay4
  generalize k0_pay2 (F := Ideal) i x g W pp ps P = A
  pointwise [k0_pay1, k0_pay3]

/-- A row of the argument. -/
def xr (c : Dev nD) (R : ℕ) : Fin 2048 → EReal := fun j => (show (⟨2, ![8704, 2048]⟩ : Shape).Idx → EReal from m ((c : Thread nD τ).loc main_arg0)) (ix2 ⟨R % 8704, Nat.mod_lt _ (by norm_num)⟩ j)
/-- A row of the prompt's embeddings. -/
def ppr (c : Dev nD) (R : ℕ) : Fin 256 → EReal := fun j => (show (⟨2, ![8192, 256]⟩ : Shape).Idx → EReal from m ((c : Thread nD τ).loc main_arg1)) (ix2 ⟨R % 8192, Nat.mod_lt _ (by norm_num)⟩ j)
/-- A row of the sample's. -/
def psr (c : Dev nD) (R : ℕ) : Fin 256 → EReal := fun j => (show (⟨2, ![512, 256]⟩ : Shape).Idx → EReal from m ((c : Thread nD τ).loc main_arg2)) (ix2 ⟨R % 512, Nat.mod_lt _ (by norm_num)⟩ j)
/-- The gate's norm's gain. -/
def gn (c : Dev nD) : Fin 2048 → EReal := fun j => (show (⟨2, ![1, 2048]⟩ : Shape).Idx → EReal from m ((c : Thread nD τ).loc main_arg3)) (ix2 0 j)
/-- The gate's weights. -/
def wg (c : Dev nD) : Fin 2048 → Fin 2048 → EReal := fun i j => (show (⟨3, ![1, 2048, 2048]⟩ : Shape).Idx → EReal from m ((c : Thread nD τ).loc main_arg4)) (ix3 0 i j)
/-- The projection's. -/
def wp (c : Dev nD) : Fin 256 → Fin 2048 → EReal := fun i j => (show (⟨3, ![1, 256, 2048]⟩ : Shape).Idx → EReal from m ((c : Thread nD τ).loc main_arg5)) (ix3 0 i j)
/-- The final norm's gain. -/
def fin_ (c : Dev nD) : Fin 2048 → EReal := fun j => (show (⟨1, ![2048]⟩ : Shape).Idx → EReal from m ((c : Thread nD τ).loc main_arg6)) (ix1 j)

/-- The gate's weights the launch reads are the argument's. -/
theorem V_w (c : Dev nD) (j k : Fin 2048) : V m c main_v1 (ix2 j k) = wg m c j k := by
  have h : V m c main_v1 = truncf (F := Ideal) .bf16 (shapeCast S2048x2048 (m ((c : Thread nD τ).loc main_arg4))
      shapeCasts_S1x2048x2048_S2048x2048) bitsLt_bf16_f32 := by
    show StableHlo.after hostOps0 _ (Proc.devRef .tc main_v1) = _
    after_results
    rfl
  rw [h]
  exact shapeCast_lead _ _ j k
/-- So are the projection's. -/
theorem V_p (c : Dev nD) (j : Fin 256) (k : Fin 2048) : V m c main_v3 (ix2 j k) = wp m c j k := by
  have h : V m c main_v3 = truncf (F := Ideal) .bf16 (shapeCast S256x2048 (m ((c : Thread nD τ).loc main_arg5))
      shapeCasts_S1x256x2048_S256x2048) bitsLt_bf16_f32 := by
    show StableHlo.after hostOps0 _ (Proc.devRef .tc main_v3) = _
    after_results
    rfl
  rw [h]
  exact shapeCast_lead _ _ j k
/-- So is the final norm's gain. -/
theorem V_f (c : Dev nD) (k : Fin 2048) : V m c main_v4 (ix2 0 k) = fin_ m c k := by
  have h : V m c main_v4 = shapeCast S1x2048 (m ((c : Thread nD τ).loc main_arg6)) shapeCasts_S2048_S1x2048 := by
    show StableHlo.after hostOps0 _ (Proc.devRef .tc main_v4) = _
    after_results
    rfl
  rw [h]
  exact shapeCast_apply _ _ _ (ix1 k) (by
    rw [Shape.rowMajor_val_two, Shape.rowMajor_val_one]
    show k.val = 0 * 2048 + k.val
    omega)

/-- Window 0's block of a point. -/
theorem index0_0 : ∀ t : Fin grid0.N, win0_0.index t 0 = t.val ∧ win0_0.index t 1 = 0 := by decide +kernel
/-- Window 1's block of a point. -/
theorem index0_1 : ∀ t : Fin grid0.N, win0_1.index t 0 = min t.val 15 ∧ win0_1.index t 1 = 0 := by decide +kernel
/-- Window 2's block of a point. -/
theorem index0_2 : ∀ t : Fin grid0.N, win0_2.index t 0 = t.val - 16 ∧ win0_2.index t 1 = 0 := by decide +kernel
/-- Window 7's block of a point. -/
theorem index0_7 : ∀ t : Fin grid0.N, win0_7.index t 0 = min t.val 15 ∧ win0_7.index t 1 = 0 := by decide +kernel
/-- Window 3 is one block. -/
theorem index0_3 : ∀ t : Fin grid0.N, win0_3.index t 0 = 0 ∧ win0_3.index t 1 = 0 := by decide +kernel
/-- Window 4 is one block. -/
theorem index0_4 : ∀ t : Fin grid0.N, win0_4.index t 0 = 0 ∧ win0_4.index t 1 = 0 := by decide +kernel
/-- Window 5 is one block. -/
theorem index0_5 : ∀ t : Fin grid0.N, win0_5.index t 0 = 0 ∧ win0_5.index t 1 = 0 := by decide +kernel
/-- Window 6 is one block. -/
theorem index0_6 : ∀ t : Fin grid0.N, win0_6.index t 0 = 0 ∧ win0_6.index t 1 = 0 := by decide +kernel
/-- Window 8 is one block. -/
theorem index0_8 : ∀ t : Fin grid0.N, win0_8.index t 0 = 0 ∧ win0_8.index t 1 = 0 := by decide +kernel
/-- A point's coordinate is its number. -/
theorem coord : ∀ t : Fin grid0.N, (grid0.coords t 0).val = t.val := by decide +kernel

/-- A point's rows. -/
theorem iblk_0 (c : Dev nD) (t : Fin cfg0.N) (r : Fin 512) (k : Fin 2048) : iblk m c 0 t (ix2 r k) = xr m c (512 * t.val + r.val) k := by
  have hN : cfg0.N = 17 := N_0
  have ht := t.isLt
  have hr := r.isLt
  unfold iblk xr
  rw [View.read_apply]
  show V m c main_arg0 _ = _
  rw [V_main_arg0 m c]
  show m ((c : Thread nD τ).loc main_arg0) _ = m ((c : Thread nD τ).loc main_arg0) _
  congr 1
  funext a
  apply Fin.ext
  match a with
  | ⟨0, _⟩ => show win0_0.index t 0 * 512 + 1 * r.val = (512 * t.val + r.val) % 8704
              rw [(index0_0 t).1]; omega
  | ⟨1, _⟩ => show win0_0.index t 1 * 2048 + 1 * k.val = k.val
              rw [(index0_0 t).2]; omega
/-- A point's prompt embeddings. -/
theorem iblk_1 (c : Dev nD) (t : Fin cfg0.N) (r : Fin 512) (k : Fin 256) : iblk m c 1 t (ix2 r k) = ppr m c (512 * min t.val 15 + r.val) k := by
  have hN : cfg0.N = 17 := N_0
  have ht := t.isLt
  have hr := r.isLt
  unfold iblk ppr
  rw [View.read_apply]
  show V m c main_arg1 _ = _
  rw [V_main_arg1 m c]
  show m ((c : Thread nD τ).loc main_arg1) _ = m ((c : Thread nD τ).loc main_arg1) _
  congr 1
  funext a
  apply Fin.ext
  match a with
  | ⟨0, _⟩ => show win0_1.index t 0 * 512 + 1 * r.val = (512 * min t.val 15 + r.val) % 8192
              rw [(index0_1 t).1]; omega
  | ⟨1, _⟩ => show win0_1.index t 1 * 256 + 1 * k.val = k.val
              rw [(index0_1 t).2]; omega
/-- A point's sample embeddings. -/
theorem iblk_2 (c : Dev nD) (t : Fin cfg0.N) (r : Fin 512) (k : Fin 256) : iblk m c 2 t (ix2 r k) = psr m c (512 * (t.val - 16) + r.val) k := by
  have hN : cfg0.N = 17 := N_0
  have ht := t.isLt
  have hr := r.isLt
  unfold iblk psr
  rw [View.read_apply]
  show V m c main_arg2 _ = _
  rw [V_main_arg2 m c]
  show m ((c : Thread nD τ).loc main_arg2) _ = m ((c : Thread nD τ).loc main_arg2) _
  congr 1
  funext a
  apply Fin.ext
  match a with
  | ⟨0, _⟩ => show win0_2.index t 0 * 512 + 1 * r.val = (512 * (t.val - 16) + r.val) % 512
              rw [(index0_2 t).1]; omega
  | ⟨1, _⟩ => show win0_2.index t 1 * 256 + 1 * k.val = k.val
              rw [(index0_2 t).2]; omega
/-- Window 3 at a point. -/
theorem iblk_3 (c : Dev nD) (t : Fin cfg0.N) (k : Fin 2048) : iblk m c 3 t (ix2 0 k) = gn m c k := by
  unfold iblk
  rw [View.read_apply]
  show V m c main_arg3 _ = _
  rw [V_main_arg3 m c]
  unfold gn
  show m ((c : Thread nD τ).loc main_arg3) _ = m ((c : Thread nD τ).loc main_arg3) _
  congr 1
  funext a
  apply Fin.ext
  match a with
  | ⟨0, _⟩ => show win0_3.index t 0 * 1 + 1 * 0 = 0
              rw [(index0_3 t).1]
  | ⟨1, _⟩ => show win0_3.index t 1 * 2048 + 1 * k.val = k.val
              rw [(index0_3 t).2]; omega
/-- Window 4 at a point. -/
theorem iblk_4 (c : Dev nD) (t : Fin cfg0.N) (r : Fin 2048) (k : Fin 2048) : iblk m c 4 t (ix2 r k) = wg m c r k := by
  unfold iblk
  rw [View.read_apply]
  refine Eq.trans (b := V m c main_v1 (ix2 r k)) ?_ (V_w m c r k)
  show V m c main_v1 _ = V m c main_v1 _
  congr 1
  funext a
  apply Fin.ext
  match a with
  | ⟨0, _⟩ => show win0_4.index t 0 * 2048 + 1 * r.val = r.val
              rw [(index0_4 t).1]; omega
  | ⟨1, _⟩ => show win0_4.index t 1 * 2048 + 1 * k.val = k.val
              rw [(index0_4 t).2]; omega
/-- Window 5 at a point. -/
theorem iblk_5 (c : Dev nD) (t : Fin cfg0.N) (r : Fin 256) (k : Fin 2048) : iblk m c 5 t (ix2 r k) = wp m c r k := by
  unfold iblk
  rw [View.read_apply]
  refine Eq.trans (b := V m c main_v3 (ix2 r k)) ?_ (V_p m c r k)
  show V m c main_v3 _ = V m c main_v3 _
  congr 1
  funext a
  apply Fin.ext
  match a with
  | ⟨0, _⟩ => show win0_5.index t 0 * 256 + 1 * r.val = r.val
              rw [(index0_5 t).1]; omega
  | ⟨1, _⟩ => show win0_5.index t 1 * 2048 + 1 * k.val = k.val
              rw [(index0_5 t).2]; omega
/-- Window 6 at a point. -/
theorem iblk_6 (c : Dev nD) (t : Fin cfg0.N) (k : Fin 2048) : iblk m c 6 t (ix2 0 k) = fin_ m c k := by
  unfold iblk
  rw [View.read_apply]
  refine Eq.trans (b := V m c main_v4 (ix2 0 k)) ?_ (V_f m c k)
  show V m c main_v4 _ = V m c main_v4 _
  congr 1
  funext a
  apply Fin.ext
  match a with
  | ⟨0, _⟩ => show win0_6.index t 0 * 1 + 1 * 0 = 0
              rw [(index0_6 t).1]
  | ⟨1, _⟩ => show win0_6.index t 1 * 2048 + 1 * k.val = k.val
              rw [(index0_6 t).2]; omega

/-- The offsets of a whole block are zero. -/
theorem hz : (![0, 0] : Fin 2 → ℕ) = 0 := by funext a; match a with | ⟨0, _⟩ => rfl | ⟨1, _⟩ => rfl

/-- What a point stores. -/
theorem rows_lt (c : Dev nD) (t : Fin cfg0.N) (h : t.val < 16) (r : Fin 512) (k : Fin 2048) :
    rows (F := Ideal) (grid0.coords t) (iblk m c 0 t) (iblk m c 1 t) (iblk m c 2 t) (iblk m c 3 t) (iblk m c 4 t) (iblk m c 5 t) (iblk m c 6 t) (ix2 r k) =
      tail (xr m c (512 * t.val + r.val)) (gn m c) (wg m c) (ppr m c (512 * min t.val 15 + r.val)) (wp m c) (fin_ m c) k := by
  unfold rows kept
  rw [View.canon_unit_zero (S := S512x2048) hz]
  simp only [View.ld_unit_zero (S := S512x2048) hz, View.ld_unit_zero (S := S512x256) hz, View.ld_unit_zero (S := S1x2048) hz,
    View.ld_unit_zero (S := S2048x2048) hz, View.ld_unit_zero (S := S256x2048) hz]
  rw [pay1_apply]
  unfold tail
  have e : ∀ j : Fin 2048, k0_pay2 (F := Ideal) (grid0.coords t) (iblk m c 0 t) (iblk m c 3 t) (iblk m c 4 t) (iblk m c 1 t) (iblk m c 2 t) (iblk m c 5 t) (ix2 r j) =
      added (xr m c (512 * t.val + r.val)) (gn m c) (wg m c) (ppr m c (512 * min t.val 15 + r.val)) (wp m c) j := fun j => by
    rw [pay2_lt _ (by rw [coord t]; exact h)]
    simp only [iblk_0, iblk_1, iblk_3, iblk_4, iblk_5]
  simp only [e, iblk_6]

/-- What a point stores. -/
theorem rows_eq (c : Dev nD) (t : Fin cfg0.N) (h : t.val = 16) (r : Fin 512) (k : Fin 2048) :
    rows (F := Ideal) (grid0.coords t) (iblk m c 0 t) (iblk m c 1 t) (iblk m c 2 t) (iblk m c 3 t) (iblk m c 4 t) (iblk m c 5 t) (iblk m c 6 t) (ix2 r k) =
      tail (xr m c (512 * t.val + r.val)) (gn m c) (wg m c) (psr m c (512 * (t.val - 16) + r.val)) (wp m c) (fin_ m c) k := by
  unfold rows kept
  rw [View.canon_unit_zero (S := S512x2048) hz]
  simp only [View.ld_unit_zero (S := S512x2048) hz, View.ld_unit_zero (S := S512x256) hz, View.ld_unit_zero (S := S1x2048) hz,
    View.ld_unit_zero (S := S2048x2048) hz, View.ld_unit_zero (S := S256x2048) hz]
  rw [pay1_apply]
  unfold tail
  have e : ∀ j : Fin 2048, k0_pay2 (F := Ideal) (grid0.coords t) (iblk m c 0 t) (iblk m c 3 t) (iblk m c 4 t) (iblk m c 1 t) (iblk m c 2 t) (iblk m c 5 t) (ix2 r j) =
      added (xr m c (512 * t.val + r.val)) (gn m c) (wg m c) (psr m c (512 * (t.val - 16) + r.val)) (wp m c) j := fun j => by
    rw [pay2_eq _ (by rw [coord t]; exact h)]
    simp only [iblk_0, iblk_2, iblk_3, iblk_4, iblk_5]
  simp only [e, iblk_6]

/-- The prompt's blocks are written back each at its last point. -/
theorem flushAt_7 : ∀ t : Fin cfg0.N, t.val < 15 ∨ t.val = 16 → (cfg0.win 7).flush t = true :=
  (by decide +kernel : ∀ t : Fin grid0.N, t.val < 15 ∨ t.val = 16 → win0_7.flush t = true)

/-- The prompt's result. -/
def resP (c : Dev nD) : Buf (Elt Ideal) ((c : Thread nD τ).loc main_v5_0) :=
  fun i => (tail (xr m c (i 0).val) (gn m c) (wg m c) (ppr m c (i 0).val) (wp m c) (fin_ m c) (i 1) : EReal)

/-- A point that writes it back writes its rows. -/
theorem flushed_7 (c : Dev nD) (t : Fin cfg0.N) (hf : (cfg0.win 7).flush t = true) :
    (dats m 0 c).flushed 7 t = ((cfg0.win 7).blk t).view.read (Elt Ideal) (resP m c) := by
  have hN : cfg0.N = 17 := N_0
  have ht := t.isLt
  show (cfg0.win 7).cut (grid0.coords t) ((dats m 0 c).after 7 t) = _
  rw [after_7]
  funext (y : S512x2048.Idx)
  rw [View.read_apply, eq_ix2 y]
  have hb : (back t).val = min t.val 15 := rfl
  refine (rows_lt m c (back t) (by omega) (y 0) (y 1)).trans ?_
  have e0 : (((cfg0.win 7).blk t).view.emb (ix2 (y 0) (y 1)) 0).val = 512 * (back t).val + (y 0).val := by
    show win0_7.index t 0 * 512 + 1 * (y 0).val = _
    rw [(index0_7 t).1]; omega
  have e1 : ((cfg0.win 7).blk t).view.emb (ix2 (y 0) (y 1)) 1 = y 1 := by
    apply Fin.ext
    show win0_7.index t 1 * 2048 + 1 * (y 1).val = _
    rw [(index0_7 t).2]; omega
  unfold resP
  rw [e0, e1, show min (back t).val 15 = (back t).val by omega]
  rfl

/-- So the array ends holding every row. -/
theorem final_7 (c : Dev nD) : (dats m 0 c).arrAt 7 cfg0.N = resP m c :=
  (dats m 0 c).arrAt_eq_of_cover 7 (resP m c) (flushed_7 m c) fun i => by
    have hN : cfg0.N = 17 := N_0
    have h0 : (i 0 : Nat) < 8192 := (i 0).isLt
    have h1 : (i 1 : Nat) < 2048 := (i 1).isLt
    obtain ⟨t, ht⟩ : ∃ t : Fin cfg0.N, t.val = if (i 0 : Nat) / 512 < 15 then (i 0 : Nat) / 512 else 16 :=
      ⟨⟨if (i 0 : Nat) / 512 < 15 then (i 0 : Nat) / 512 else 16, by split <;> omega⟩, rfl⟩
    have hm : min t.val 15 = (i 0 : Nat) / 512 := by split at ht <;> omega
    refine ⟨t, flushAt_7 t (by split at ht <;> omega), ?_⟩
    have e := index0_7 t
    show i ∈ ((View.whole main_v5_0).slice (win0_7.rect t)).set
    rw [View.set_slice_whole, Rect.mem_set_unit]
    intro a
    match a with
    | ⟨0, _⟩ => show win0_7.index t 0 * 512 ≤ (i 0 : Nat) ∧ (i 0 : Nat) < win0_7.index t 0 * 512 + 512
                rw [e.1, hm]; omega
    | ⟨1, _⟩ => show win0_7.index t 1 * 2048 ≤ (i 1 : Nat) ∧ (i 1 : Nat) < win0_7.index t 1 * 2048 + 2048
                rw [e.2]; omega

/-- The sample's result. -/
def resS (c : Dev nD) : Buf (Elt Ideal) ((c : Thread nD τ).loc main_v5_1) :=
  fun i => (tail (xr m c (8192 + (i 0).val)) (gn m c) (wg m c) (psr m c (i 0).val) (wp m c) (fin_ m c) (i 1) : EReal)

/-- A point that writes it back writes its rows. -/
theorem flushed_8 (c : Dev nD) (t : Fin cfg0.N) (hf : (cfg0.win 8).flush t = true) :
    (dats m 0 c).flushed 8 t = ((cfg0.win 8).blk t).view.read (Elt Ideal) (resS m c) := by
  have hN : cfg0.N = 17 := N_0
  have ht := t.isLt
  show (cfg0.win 8).cut (grid0.coords t) ((dats m 0 c).after 8 t) = _
  rw [after_8]
  funext (y : S512x2048.Idx)
  rw [View.read_apply, eq_ix2 y]
  have h16 : t.val = 16 := by have := (flush0_8 t).mp hf; omega
  refine (rows_eq m c t h16 (y 0) (y 1)).trans ?_
  have e0 : (((cfg0.win 8).blk t).view.emb (ix2 (y 0) (y 1)) 0).val = (y 0).val := by
    show win0_8.index t 0 * 512 + 1 * (y 0).val = _
    rw [(index0_8 t).1]; omega
  have e1 : ((cfg0.win 8).blk t).view.emb (ix2 (y 0) (y 1)) 1 = y 1 := by
    apply Fin.ext
    show win0_8.index t 1 * 2048 + 1 * (y 1).val = _
    rw [(index0_8 t).2]; omega
  unfold resS
  rw [e0, e1, show 512 * t.val + (y 0).val = 8192 + (y 0).val by omega, show 512 * (t.val - 16) + (y 0).val = (y 0).val by omega]
  rfl

/-- So the array ends holding every row. -/
theorem final_8 (c : Dev nD) : (dats m 0 c).arrAt 8 cfg0.N = resS m c :=
  (dats m 0 c).arrAt_eq_of_cover 8 (resS m c) (flushed_8 m c) fun i => by
    have hN : cfg0.N = 17 := N_0
    have h0 : (i 0 : Nat) < 512 := (i 0).isLt
    have h1 : (i 1 : Nat) < 2048 := (i 1).isLt
    obtain ⟨t, ht⟩ : ∃ t : Fin cfg0.N, t.val = 16 := ⟨⟨16, by omega⟩, rfl⟩
    refine ⟨t, (flush0_8 t).mpr (by omega), ?_⟩
    have e := index0_8 t
    show i ∈ ((View.whole main_v5_1).slice (win0_8.rect t)).set
    rw [View.set_slice_whole, Rect.mem_set_unit]
    intro a
    match a with
    | ⟨0, _⟩ => show win0_8.index t 0 * 512 ≤ (i 0 : Nat) ∧ (i 0 : Nat) < win0_8.index t 0 * 512 + 512
                rw [e.1]; omega
    | ⟨1, _⟩ => show win0_8.index t 1 * 2048 ≤ (i 1 : Nat) ∧ (i 1 : Nat) < win0_8.index t 1 * 2048 + 2048
                rw [e.2]; omega

/-- The program's run: the two results, and the arguments as they were. -/
theorem run : θ_run defs (onTc (τ := τ) (main (F := Ideal))) (s₀ m ρ) (fun r => ∀ c : Dev nD,
    r.2.mem ((c : Thread nD τ).loc main_v5_0) = resP m c ∧
    r.2.mem ((c : Thread nD τ).loc main_v5_1) = resS m c ∧
    r.2.mem ((c : Thread nD τ).loc main_arg0) = m ((c : Thread nD τ).loc main_arg0) ∧
    r.2.mem ((c : Thread nD τ).loc main_arg1) = m ((c : Thread nD τ).loc main_arg1) ∧
    r.2.mem ((c : Thread nD τ).loc main_arg2) = m ((c : Thread nD τ).loc main_arg2) ∧
    r.2.mem ((c : Thread nD τ).loc main_arg3) = m ((c : Thread nD τ).loc main_arg3) ∧
    r.2.mem ((c : Thread nD τ).loc main_arg4) = m ((c : Thread nD τ).loc main_arg4) ∧
    r.2.mem ((c : Thread nD τ).loc main_arg5) = m ((c : Thread nD τ).loc main_arg5) ∧
    r.2.mem ((c : Thread nD τ).loc main_arg6) = m ((c : Thread nD τ).loc main_arg6)) :=
  (θ_run defs _ _).mono (fun r h c => ⟨((h c).1 7).trans (final_7 m c), ((h c).1 8).trans (final_8 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩)
    (run_main m ρ)

end Cert.Kernel2Ideal.PleValue

end
-- ==== Proof.PleRef.lean ====
/-
  The mathematics' two results of the per-layer embedding, entry by entry: each row with its gated embedding added, through
  the final norm.
-/
module

public import proofs.«01_k».proof.Proof.PleLayer
public import proofs.«01_k».proof.Proof.Gen.Reference2Ideal.Read

@[expose] public section

set_option maxRecDepth 16384

noncomputable section

namespace Cert.Reference2Ideal.PleRef

open Cert.Reference2Ideal Cert.Reference2Ideal.Read Idealize.ShloMosaic Cert.Layer

/-- The prompt: an entry of its rows. -/
theorem row_p (x0 : (⟨S8704x2048, .f32⟩ : BufTy).Contents (Elt Ideal)) (R : Fin 8192) (k : Fin 2048) : val_main_v0 (F := Ideal) x0 (ix2 R k) = x0 (ix2 ⟨R.val, by omega⟩ k) := by
  rw [val_main_v0_apply]
  congr 1
  funext a; apply Fin.ext
  match a with | ⟨0, _⟩ => rfl | ⟨1, _⟩ => rfl

/-- The prompt: a normalised row. -/
theorem xn_p (x0 : (⟨S8704x2048, .f32⟩ : BufTy).Contents (Elt Ideal)) (x3 : (⟨S1x2048, .f32⟩ : BufTy).Contents (Elt Ideal)) (R : Fin 8192) (k : Fin 2048) :
    val_main_v14 (F := Ideal) x0 x3 (ix2 R k) = rms (fun j => x0 (ix2 ⟨R.val, by omega⟩ j)) (fun j => x3 (ix2 0 j)) k := by
  simp only [val_main_v14_apply, val_main_v11_apply, val_main_v10_apply, val_main_v9_apply, val_main_v8_apply, val_main_v6_apply, val_main_v4_apply, val_main_v5_apply, val_main_v7_apply, val_main_v3_apply, val_main_v2_apply, val_main_v13_apply, val_main_v12_apply, val_main_v1_apply, val_main_cst_apply, val_main_cst_0_apply, val_main_cst_1_apply]
  have e1 : ∀ j, idx_main_v3 (idx_main_v4 (idx_main_v10 (ix2 R k))) j = ix2 R j := fun j => by
    funext a; match a with | ⟨0, _⟩ => rfl | ⟨1, _⟩ => rfl
  have e2 : idx_main_v1 (idx_main_v12 (idx_main_v13 (ix2 R k))) = ix2 0 k := by
    funext a; match a with | ⟨0, _⟩ => rfl | ⟨1, _⟩ => exact Fin.ext (Nat.mod_eq_of_lt k.isLt)
  simp only [e1, e2, row_p]
  unfold rms
  show x0 (ix2 ⟨R.val, by omega⟩ k) * Ideal.rsqrt (Ideal.div (Ideal.ofBits .f32 0x00000000#32 + ∑ j, x0 (ix2 ⟨R.val, by omega⟩ j) * x0 (ix2 ⟨R.val, by omega⟩ j)) width + eps) * x3 (ix2 0 k) = _
  rw [Ideal.ofBits_zero_f32, zero_add]

/-- The prompt: an entry of the gate's product. -/
theorem gate_p (x0 : (⟨S8704x2048, .f32⟩ : BufTy).Contents (Elt Ideal)) (x3 : (⟨S1x2048, .f32⟩ : BufTy).Contents (Elt Ideal)) (x4 : (⟨S1x2048x2048, .f32⟩ : BufTy).Contents (Elt Ideal)) (R : Fin 8192) (k : Fin 2048) :
    val_main_v16 (F := Ideal) x0 x3 x4 (ix2 R k) = dot (rms (fun j => x0 (ix2 ⟨R.val, by omega⟩ j)) (fun j => x3 (ix2 0 j))) (fun i => x4 (ix3 0 i k)) := by
  rw [val_main_v16_apply]
  unfold dot
  refine Finset.sum_congr rfl fun j _ => ?_
  have e1 : lidx_main_v16 (ix2 R k) j = ix2 R j := by
    funext a; match a with | ⟨0, _⟩ => rfl | ⟨1, _⟩ => rfl
  have e2 : ridx_main_v16 (ix2 R k) j = ix2 j k := by
    funext a; match a with | ⟨0, _⟩ => rfl | ⟨1, _⟩ => rfl
  rw [e1, e2, xn_p]
  unfold val_main_v15
  rw [shapeCast_lead]

/-- The prompt: an entry of the projected embedding. -/
theorem emb_p (x1 : (⟨S8192x256, .f32⟩ : BufTy).Contents (Elt Ideal)) (x5 : (⟨S1x256x2048, .f32⟩ : BufTy).Contents (Elt Ideal)) (R : Fin 8192) (k : Fin 2048) :
    val_main_v24 (F := Ideal) x1 x5 (ix2 R k) = dot (fun j => x1 (ix2 R j)) (fun i => x5 (ix3 0 i k)) := by
  rw [val_main_v24_apply]
  unfold dot
  refine Finset.sum_congr rfl fun j _ => ?_
  have e1 : lidx_main_v24 (ix2 R k) j = ix2 R j := by
    funext a; match a with | ⟨0, _⟩ => rfl | ⟨1, _⟩ => rfl
  have e2 : ridx_main_v24 (ix2 R k) j = ix2 j k := by
    funext a; match a with | ⟨0, _⟩ => rfl | ⟨1, _⟩ => rfl
  rw [e1, e2]
  unfold val_main_v23
  rw [shapeCast_lead]

/-- The prompt: an entry of the rows with their embeddings added. -/
theorem added_p (x0 : (⟨S8704x2048, .f32⟩ : BufTy).Contents (Elt Ideal)) (x1 : (⟨S8192x256, .f32⟩ : BufTy).Contents (Elt Ideal)) (x3 : (⟨S1x2048, .f32⟩ : BufTy).Contents (Elt Ideal)) (x4 : (⟨S1x2048x2048, .f32⟩ : BufTy).Contents (Elt Ideal)) (x5 : (⟨S1x256x2048, .f32⟩ : BufTy).Contents (Elt Ideal)) (R : Fin 8192) (k : Fin 2048) :
    val_main_v26 (F := Ideal) x0 x1 x3 x4 x5 (ix2 R k) = added (fun j => x0 (ix2 ⟨R.val, by omega⟩ j)) (fun j => x3 (ix2 0 j)) (fun i j => x4 (ix3 0 i j)) (fun j => x1 (ix2 R j)) (fun i j => x5 (ix3 0 i j)) k := by
  simp only [val_main_v26_apply, val_main_v25_apply, val_main_v22_apply, val_main_v21_apply, val_main_v20_apply, val_main_v19_apply, val_main_v18_apply, val_main_v17_apply, val_main_cst_2_apply, val_main_cst_3_apply]
  rw [row_p, gate_p, emb_p]
  unfold added
  show _ + Ideal.div one (one + Ideal.exp (-_)) * _ = _ + Ideal.div 1 (1 + Ideal.exp (-_)) * _
  rw [one_eq]

/-- The prompt's result at an entry. -/
theorem out_p (x0 : (⟨S8704x2048, .f32⟩ : BufTy).Contents (Elt Ideal)) (x1 : (⟨S8192x256, .f32⟩ : BufTy).Contents (Elt Ideal)) (x3 : (⟨S1x2048, .f32⟩ : BufTy).Contents (Elt Ideal)) (x4 : (⟨S1x2048x2048, .f32⟩ : BufTy).Contents (Elt Ideal)) (x5 : (⟨S1x256x2048, .f32⟩ : BufTy).Contents (Elt Ideal)) (x6 : (⟨S2048, .f32⟩ : BufTy).Contents (Elt Ideal)) (R : Fin 8192) (k : Fin 2048) :
    val_main_v39 (F := Ideal) x0 x1 x3 x4 x5 x6 (ix2 R k) = tail (fun j => x0 (ix2 ⟨R.val, by omega⟩ j)) (fun j => x3 (ix2 0 j)) (fun i j => x4 (ix3 0 i j)) (fun j => x1 (ix2 R j)) (fun i j => x5 (ix3 0 i j)) (fun j => x6 (ix1 j)) k := by
  simp only [val_main_v39_apply, val_main_v36_apply, val_main_v35_apply, val_main_v34_apply, val_main_v33_apply, val_main_v31_apply, val_main_v29_apply, val_main_v30_apply, val_main_v32_apply, val_main_v28_apply, val_main_v27_apply, val_main_v38_apply, val_main_v37_apply, val_main_cst_4_apply, val_main_cst_5_apply, val_main_cst_6_apply]
  have e1 : ∀ j, idx_main_v28 (idx_main_v29 (idx_main_v35 (ix2 R k))) j = ix2 R j := fun j => by
    funext a; match a with | ⟨0, _⟩ => rfl | ⟨1, _⟩ => rfl
  have e2 : idx_main_v37 (idx_main_v38 (ix2 R k)) = ix1 k := by
    funext a; match a with | ⟨0, _⟩ => rfl
  simp only [e1, e2, added_p]
  unfold tail rms
  show added (fun j => x0 (ix2 ⟨R.val, by omega⟩ j)) (fun j => x3 (ix2 0 j)) (fun i j => x4 (ix3 0 i j)) (fun j => x1 (ix2 R j)) (fun i j => x5 (ix3 0 i j)) k * Ideal.rsqrt (Ideal.div (Ideal.ofBits .f32 0x00000000#32 + ∑ j, added (fun j => x0 (ix2 ⟨R.val, by omega⟩ j)) (fun j => x3 (ix2 0 j)) (fun i j => x4 (ix3 0 i j)) (fun j => x1 (ix2 R j)) (fun i j => x5 (ix3 0 i j)) j * added (fun j => x0 (ix2 ⟨R.val, by omega⟩ j)) (fun j => x3 (ix2 0 j)) (fun i j => x4 (ix3 0 i j)) (fun j => x1 (ix2 R j)) (fun i j => x5 (ix3 0 i j)) j) width + eps) * x6 (ix1 k) = _
  rw [Ideal.ofBits_zero_f32, zero_add]

/-- The sample: an entry of its rows. -/
theorem row_s (x0 : (⟨S8704x2048, .f32⟩ : BufTy).Contents (Elt Ideal)) (R : Fin 512) (k : Fin 2048) : val_main_v40 (F := Ideal) x0 (ix2 R k) = x0 (ix2 ⟨8192 + R.val, by omega⟩ k) := by
  rw [val_main_v40_apply]
  congr 1
  funext a; apply Fin.ext
  match a with | ⟨0, _⟩ => rfl | ⟨1, _⟩ => rfl

/-- The sample: a normalised row. -/
theorem xn_s (x0 : (⟨S8704x2048, .f32⟩ : BufTy).Contents (Elt Ideal)) (x3 : (⟨S1x2048, .f32⟩ : BufTy).Contents (Elt Ideal)) (R : Fin 512) (k : Fin 2048) :
    val_main_v54 (F := Ideal) x0 x3 (ix2 R k) = rms (fun j => x0 (ix2 ⟨8192 + R.val, by omega⟩ j)) (fun j => x3 (ix2 0 j)) k := by
  simp only [val_main_v54_apply, val_main_v51_apply, val_main_v50_apply, val_main_v49_apply, val_main_v48_apply, val_main_v46_apply, val_main_v44_apply, val_main_v45_apply, val_main_v47_apply, val_main_v43_apply, val_main_v42_apply, val_main_v53_apply, val_main_v52_apply, val_main_v41_apply, val_main_cst_7_apply, val_main_cst_8_apply, val_main_cst_9_apply]
  have e1 : ∀ j, idx_main_v43 (idx_main_v44 (idx_main_v50 (ix2 R k))) j = ix2 R j := fun j => by
    funext a; match a with | ⟨0, _⟩ => rfl | ⟨1, _⟩ => rfl
  have e2 : idx_main_v41 (idx_main_v52 (idx_main_v53 (ix2 R k))) = ix2 0 k := by
    funext a; match a with | ⟨0, _⟩ => rfl | ⟨1, _⟩ => exact Fin.ext (Nat.mod_eq_of_lt k.isLt)
  simp only [e1, e2, row_s]
  unfold rms
  show x0 (ix2 ⟨8192 + R.val, by omega⟩ k) * Ideal.rsqrt (Ideal.div (Ideal.ofBits .f32 0x00000000#32 + ∑ j, x0 (ix2 ⟨8192 + R.val, by omega⟩ j) * x0 (ix2 ⟨8192 + R.val, by omega⟩ j)) width + eps) * x3 (ix2 0 k) = _
  rw [Ideal.ofBits_zero_f32, zero_add]

/-- The sample: an entry of the gate's product. -/
theorem gate_s (x0 : (⟨S8704x2048, .f32⟩ : BufTy).Contents (Elt Ideal)) (x3 : (⟨S1x2048, .f32⟩ : BufTy).Contents (Elt Ideal)) (x4 : (⟨S1x2048x2048, .f32⟩ : BufTy).Contents (Elt Ideal)) (R : Fin 512) (k : Fin 2048) :
    val_main_v56 (F := Ideal) x0 x3 x4 (ix2 R k) = dot (rms (fun j => x0 (ix2 ⟨8192 + R.val, by omega⟩ j)) (fun j => x3 (ix2 0 j))) (fun i => x4 (ix3 0 i k)) := by
  rw [val_main_v56_apply]
  unfold dot
  refine Finset.sum_congr rfl fun j _ => ?_
  have e1 : lidx_main_v56 (ix2 R k) j = ix2 R j := by
    funext a; match a with | ⟨0, _⟩ => rfl | ⟨1, _⟩ => rfl
  have e2 : ridx_main_v56 (ix2 R k) j = ix2 j k := by
    funext a; match a with | ⟨0, _⟩ => rfl | ⟨1, _⟩ => rfl
  rw [e1, e2, xn_s]
  unfold val_main_v55
  rw [shapeCast_lead]

/-- The sample: an entry of the projected embedding. -/
theorem emb_s (x2 : (⟨S512x256, .f32⟩ : BufTy).Contents (Elt Ideal)) (x5 : (⟨S1x256x2048, .f32⟩ : BufTy).Contents (Elt Ideal)) (R : Fin 512) (k : Fin 2048) :
    val_main_v64 (F := Ideal) x2 x5 (ix2 R k) = dot (fun j => x2 (ix2 R j)) (fun i => x5 (ix3 0 i k)) := by
  rw [val_main_v64_apply]
  unfold dot
  refine Finset.sum_congr rfl fun j _ => ?_
  have e1 : lidx_main_v64 (ix2 R k) j = ix2 R j := by
    funext a; match a with | ⟨0, _⟩ => rfl | ⟨1, _⟩ => rfl
  have e2 : ridx_main_v64 (ix2 R k) j = ix2 j k := by
    funext a; match a with | ⟨0, _⟩ => rfl | ⟨1, _⟩ => rfl
  rw [e1, e2]
  unfold val_main_v63
  rw [shapeCast_lead]

/-- The sample: an entry of the rows with their embeddings added. -/
theorem added_s (x0 : (⟨S8704x2048, .f32⟩ : BufTy).Contents (Elt Ideal)) (x2 : (⟨S512x256, .f32⟩ : BufTy).Contents (Elt Ideal)) (x3 : (⟨S1x2048, .f32⟩ : BufTy).Contents (Elt Ideal)) (x4 : (⟨S1x2048x2048, .f32⟩ : BufTy).Contents (Elt Ideal)) (x5 : (⟨S1x256x2048, .f32⟩ : BufTy).Contents (Elt Ideal)) (R : Fin 512) (k : Fin 2048) :
    val_main_v66 (F := Ideal) x0 x2 x3 x4 x5 (ix2 R k) = added (fun j => x0 (ix2 ⟨8192 + R.val, by omega⟩ j)) (fun j => x3 (ix2 0 j)) (fun i j => x4 (ix3 0 i j)) (fun j => x2 (ix2 R j)) (fun i j => x5 (ix3 0 i j)) k := by
  simp only [val_main_v66_apply, val_main_v65_apply, val_main_v62_apply, val_main_v61_apply, val_main_v60_apply, val_main_v59_apply, val_main_v58_apply, val_main_v57_apply, val_main_cst_10_apply, val_main_cst_11_apply]
  rw [row_s, gate_s, emb_s]
  unfold added
  show _ + Ideal.div one (one + Ideal.exp (-_)) * _ = _ + Ideal.div 1 (1 + Ideal.exp (-_)) * _
  rw [one_eq]

/-- The sample's result at an entry. -/
theorem out_s (x0 : (⟨S8704x2048, .f32⟩ : BufTy).Contents (Elt Ideal)) (x2 : (⟨S512x256, .f32⟩ : BufTy).Contents (Elt Ideal)) (x3 : (⟨S1x2048, .f32⟩ : BufTy).Contents (Elt Ideal)) (x4 : (⟨S1x2048x2048, .f32⟩ : BufTy).Contents (Elt Ideal)) (x5 : (⟨S1x256x2048, .f32⟩ : BufTy).Contents (Elt Ideal)) (x6 : (⟨S2048, .f32⟩ : BufTy).Contents (Elt Ideal)) (R : Fin 512) (k : Fin 2048) :
    val_main_v79 (F := Ideal) x0 x2 x3 x4 x5 x6 (ix2 R k) = tail (fun j => x0 (ix2 ⟨8192 + R.val, by omega⟩ j)) (fun j => x3 (ix2 0 j)) (fun i j => x4 (ix3 0 i j)) (fun j => x2 (ix2 R j)) (fun i j => x5 (ix3 0 i j)) (fun j => x6 (ix1 j)) k := by
  simp only [val_main_v79_apply, val_main_v76_apply, val_main_v75_apply, val_main_v74_apply, val_main_v73_apply, val_main_v71_apply, val_main_v69_apply, val_main_v70_apply, val_main_v72_apply, val_main_v68_apply, val_main_v67_apply, val_main_v78_apply, val_main_v77_apply, val_main_cst_12_apply, val_main_cst_13_apply, val_main_cst_14_apply]
  have e1 : ∀ j, idx_main_v68 (idx_main_v69 (idx_main_v75 (ix2 R k))) j = ix2 R j := fun j => by
    funext a; match a with | ⟨0, _⟩ => rfl | ⟨1, _⟩ => rfl
  have e2 : idx_main_v77 (idx_main_v78 (ix2 R k)) = ix1 k := by
    funext a; match a with | ⟨0, _⟩ => rfl
  simp only [e1, e2, added_s]
  unfold tail rms
  show added (fun j => x0 (ix2 ⟨8192 + R.val, by omega⟩ j)) (fun j => x3 (ix2 0 j)) (fun i j => x4 (ix3 0 i j)) (fun j => x2 (ix2 R j)) (fun i j => x5 (ix3 0 i j)) k * Ideal.rsqrt (Ideal.div (Ideal.ofBits .f32 0x00000000#32 + ∑ j, added (fun j => x0 (ix2 ⟨8192 + R.val, by omega⟩ j)) (fun j => x3 (ix2 0 j)) (fun i j => x4 (ix3 0 i j)) (fun j => x2 (ix2 R j)) (fun i j => x5 (ix3 0 i j)) j * added (fun j => x0 (ix2 ⟨8192 + R.val, by omega⟩ j)) (fun j => x3 (ix2 0 j)) (fun i j => x4 (ix3 0 i j)) (fun j => x2 (ix2 R j)) (fun i j => x5 (ix3 0 i j)) j) width + eps) * x6 (ix1 k) = _
  rw [Ideal.ofBits_zero_f32, zero_add]

end Cert.Reference2Ideal.PleRef

end
-- ==== Proof.PleEnd.lean ====
/-
  The per-layer embedding's claims: the three programs terminate and leave their arguments, and the kernel's two results are
  the mathematics'.
-/
module

public import proofs.«01_k».proof.Defs
public import proofs.«01_k».proof.Proof.PleValue
public import proofs.«01_k».proof.Proof.PleRef
public import proofs.«01_k».proof.Proof.PleFrameBits
public import proofs.«01_k».proof.Proof.Gen.Reference2Ideal.Run
public import Idealize.ShloMosaic.Adequacy
public import Idealize.ShloMosaic.Init
public import Idealize.ShloMosaic.Lib.Quiescent

@[expose] public section

noncomputable section

namespace Cert.Proof.Ple

open Idealize.ShloMosaic Idealize.SL.Sem Cert.Layer

/-- The kernel on floats terminates, leaves its arguments as they were and no semaphore raised. -/
theorem quiescent_Kernel2 : quiescent_Kernel2 := fun m ρ _ => Cert.Kernel2.PleFrame.frame m ρ
/-- So does the kernel on the extended reals. -/
theorem quiescent_Kernel2Ideal : quiescent_Kernel2Ideal := fun m ρ _ => Cert.Kernel2Ideal.PleFrame.frame m ρ
/-- So does the mathematics. -/
theorem quiescent_Reference2Ideal : quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

variable (m : (ℓ : Loc Cert.Kernel2Ideal.nD Cert.Kernel2Ideal.τ Cert.Kernel2Ideal.sig) → Buf (Elt Ideal) ℓ) (c : Dev Cert.Kernel2Ideal.nD)

/-- The prompt's result. -/
theorem eq_39 : Cert.Reference2Ideal.Read.val_main_v39 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) = Cert.Kernel2Ideal.PleValue.resP m c := by
  funext (i : Cert.Kernel2Ideal.S8192x2048.Idx)
  have h0 : (i 0 : Nat) < 8192 := (i 0).isLt
  rw [eq_ix2 i]
  refine (Cert.Reference2Ideal.PleRef.out_p _ _ _ _ _ _ (i 0) (i 1)).trans ?_
  have ep : (⟨(i 0 : Nat) % 8192, Nat.mod_lt _ (by norm_num)⟩ : Fin 8192) = i 0 := Fin.ext (Nat.mod_eq_of_lt h0)
  show _ = tail (Cert.Kernel2Ideal.PleValue.xr m c (i 0).val) (Cert.Kernel2Ideal.PleValue.gn m c) (Cert.Kernel2Ideal.PleValue.wg m c) (Cert.Kernel2Ideal.PleValue.ppr m c (i 0).val) (Cert.Kernel2Ideal.PleValue.wp m c) (Cert.Kernel2Ideal.PleValue.fin_ m c) (i 1)
  have ex : (⟨(i 0 : Nat) % 8704, Nat.mod_lt _ (by norm_num)⟩ : Fin 8704) = ⟨(i 0 : Nat), by omega⟩ := Fin.ext (Nat.mod_eq_of_lt (by omega))
  unfold Cert.Kernel2Ideal.PleValue.xr Cert.Kernel2Ideal.PleValue.ppr
  rw [ep, ex]
  rfl
/-- The sample's result. -/
theorem eq_79 : Cert.Reference2Ideal.Read.val_main_v79 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) = Cert.Kernel2Ideal.PleValue.resS m c := by
  funext (i : Cert.Kernel2Ideal.S512x2048.Idx)
  have h0 : (i 0 : Nat) < 512 := (i 0).isLt
  rw [eq_ix2 i]
  refine (Cert.Reference2Ideal.PleRef.out_s _ _ _ _ _ _ (i 0) (i 1)).trans ?_
  have ep : (⟨(i 0 : Nat) % 512, Nat.mod_lt _ (by norm_num)⟩ : Fin 512) = i 0 := Fin.ext (Nat.mod_eq_of_lt h0)
  show _ = tail (Cert.Kernel2Ideal.PleValue.xr m c (8192 + (i 0).val)) (Cert.Kernel2Ideal.PleValue.gn m c) (Cert.Kernel2Ideal.PleValue.wg m c) (Cert.Kernel2Ideal.PleValue.psr m c (i 0).val) (Cert.Kernel2Ideal.PleValue.wp m c) (Cert.Kernel2Ideal.PleValue.fin_ m c) (i 1)
  have ex : (⟨(8192 + (i 0 : Nat)) % 8704, Nat.mod_lt _ (by norm_num)⟩ : Fin 8704) = ⟨8192 + (i 0 : Nat), by omega⟩ := Fin.ext (Nat.mod_eq_of_lt (by omega))
  unfold Cert.Kernel2Ideal.PleValue.xr Cert.Kernel2Ideal.PleValue.psr
  rw [ep, ex]
  rfl

/-- The kernel computes the mathematics over the extended reals. -/
theorem algebraic_Kernel2Ideal_Reference2Ideal : algebraic_Kernel2Ideal_Reference2Ideal := by
  intro m ρ m' ρ' _ hagree
  refine ⟨_, _, Cert.Kernel2Ideal.PleValue.run m ρ, ?_⟩
  refine (θ_run Cert.Reference2Ideal.defs _ _).mono (fun _ h c => ?_) (Cert.Reference2Ideal.Value.run (F := Ideal) m' ρ')
  obtain ⟨h0, h1, h2, h3, h4, h5, h6⟩ := hagree c
  obtain ⟨r0, r1, hr⟩ := h c
  refine ⟨?_, ?_, hr⟩
  · refine (r0.trans (Cert.Reference2Ideal.Read.val_main_v39_eq _ _)).trans ?_
    show Cert.Reference2Ideal.Read.val_main_v39 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) = _
    rw [h0, h1, h3, h4, h5, h6]
    exact eq_39 m c
  · refine (r1.trans (Cert.Reference2Ideal.Read.val_main_v79_eq _ _)).trans ?_
    show Cert.Reference2Ideal.Read.val_main_v79 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) = _
    rw [h0, h2, h3, h4, h5, h6]
    exact eq_79 m c

end Cert.Proof.Ple

end
-- ==== Proof.UqkvLayer.lean ====
/-
  The joined projection's mathematics over the extended reals, free of any program: one entry of the projection, the
  gated linear unit, and the rotary turn of a head's first sixteen columns.
-/
module

public import proofs.«01_k».proof.Proof.Layer

@[expose] public section

noncomputable section

namespace Cert.Layer

open Idealize.ShloMosaic

/-- Row `R` of the normalised rows against column `c` of the joined weights. -/
def proj (x : (⟨2, ![8704, 2048]⟩ : Shape).Idx → EReal) (w : (⟨3, ![1, 2048, 7680]⟩ : Shape).Idx → EReal) (R c : ℕ) : EReal :=
  dot (fun j : Fin 2048 => x (ix2 ⟨R % 8704, Nat.mod_lt _ (by norm_num)⟩ j))
    (fun j => w (ix3 0 j ⟨c % 7680, Nat.mod_lt _ (by norm_num)⟩))

/-- The gated linear unit's column `c`. -/
def glu (x : (⟨2, ![8704, 2048]⟩ : Shape).Idx → EReal) (w : (⟨3, ![1, 2048, 7680]⟩ : Shape).Idx → EReal) (R c : ℕ) : EReal :=
  proj x w R c * Ideal.logistic (proj x w R (1024 + c))

/-- Column `l`'s frequency: 500000 to the power of minus `2 l / 16`. -/
def freq (l : ℕ) : EReal :=
  FloatOps.hostPowf (F := Ideal) (φ := .f32) (FloatOps.ofBits .f32 0x48F42400#32)
    (FloatOps.hostDivf (FloatOps.hostNegf (FloatOps.addf (FloatOps.ofBits .f32 0x00000000#32)
      (FloatOps.mulf (FloatOps.ofBits .f32 0x40000000#32) (FloatOps.sitofp .f32 (BitVec.ofNat 32 l))))) (FloatOps.ofBits .f32 0x41800000#32))

/-- The angle of position `p` at column `l`. -/
def angle (p : BitVec 32) (l : ℕ) : EReal :=
  FloatOps.mulf (F := Ideal) (φ := .f32) (FloatOps.sitofp .f32 p) (freq l)
/-- Its cosine … -/
def cosA (p : BitVec 32) (l : ℕ) : EReal := Host.cos (F := Ideal) (φ := .f32) (s := ⟨0, ![]⟩) (fun _ => angle p l) (fun a => a.elim0)
/-- … and its sine. -/
def sinA (p : BitVec 32) (l : ℕ) : EReal := Host.sin (F := Ideal) (φ := .f32) (s := ⟨0, ![]⟩) (fun _ => angle p l) (fun a => a.elim0)

/-- A head's column `l` after the turn: `X` the head's columns, `C` and `S` the cosines and sines of the eight angles. -/
def turn (X C S : ℕ → EReal) (l : ℕ) : EReal :=
  if l < 8 then X l * C l - X (l + 8) * S l
  else if l < 16 then X l * C (l - 8) + X (l - 8) * S (l - 8)
  else X l

/-- The position of row `R`: two prompt sequences of 4096, then eight sample sequences of 64 that start at 1024. -/
def place (R : ℕ) : BitVec 32 :=
  if R < 8192 then BitVec.ofNat 32 (R % 4096) else 1024#32 + BitVec.ofNat 32 ((R - 8192) % 64)

/-- Row `R`'s column `c` of a run of heads that starts at column `base` of the projection, turned. -/
def turned (x : (⟨2, ![8704, 2048]⟩ : Shape).Idx → EReal) (w : (⟨3, ![1, 2048, 7680]⟩ : Shape).Idx → EReal) (base R c : ℕ) : EReal :=
  turn (fun l => proj x w R (base + (64 * (c / 64) + l))) (cosA (place R)) (sinA (place R)) (c % 64)

/-- A prompt row's position … -/
theorem place_p {b t : ℕ} (hb : b < 2) (ht : t < 4096) : place (b * 4096 + t) = BitVec.ofNat 32 t := by
  unfold place
  rw [if_pos (by omega), show (b * 4096 + t) % 4096 = t by omega]
/-- … and a sample row's. -/
theorem place_s {b t : ℕ} (ht : t < 64) : place (8192 + (b * 64 + t)) = 1024#32 + BitVec.ofNat 32 t := by
  unfold place
  rw [if_neg (by omega), show (8192 + (b * 64 + t) - 8192) % 64 = t by omega]

/-- A head's entry, turned. -/
theorem turned_head (x : (⟨2, ![8704, 2048]⟩ : Shape).Idx → EReal) (w : (⟨3, ![1, 2048, 7680]⟩ : Shape).Idx → EReal) (base R n l : ℕ)
    (hl : l < 64) : turned x w base R (64 * n + l) = turn (fun l => proj x w R (base + (64 * n + l))) (cosA (place R)) (sinA (place R)) l := by
  unfold turned
  rw [show (64 * n + l) / 64 = n by omega, show (64 * n + l) % 64 = l by omega]

/-- A sample sequence's new key or value cache: 128 rows, the old cache's last 64 and then the 64 new rows `f`. -/
def cached {b n l : ℕ} (old : (⟨5, ![1, b, 128, n, l]⟩ : Shape).Idx → EReal) (f : ℕ → ℕ → EReal) (i : Fin b) (t : Fin 128) (j : Fin n) (k : Fin l) : EReal :=
  if h : 64 + t.val < 128 then old (ix5 0 i ⟨64 + t.val, h⟩ j k) else f (8192 + (i.val * 64 + (64 + t.val - 128))) (64 * j.val + k.val)

/-- An array with a leading axis of length one, read without that axis: three axes behind it … -/
theorem shapeCast_lead3 {α : Type} {a b c : ℕ} (x : (⟨4, ![1, a, b, c]⟩ : Shape).Idx → α)
    (h : (⟨4, ![1, a, b, c]⟩ : Shape).ShapeCasts ⟨3, ![a, b, c]⟩) (i : Fin a) (j : Fin b) (k : Fin c) :
    shapeCast ⟨3, ![a, b, c]⟩ x h (ix3 i j k) = x (ix4 0 i j k) :=
  shapeCast_apply x h (ix3 i j k) (ix4 0 i j k) (by
    rw [Shape.rowMajor_val_four, Shape.rowMajor_val_three]
    show ((0 * a + i.val) * b + j.val) * c + k.val = (i.val * b + j.val) * c + k.val
    rw [zero_mul, zero_add])
/-- … and four. -/
theorem shapeCast_lead4 {α : Type} {a b c d : ℕ} (x : (⟨5, ![1, a, b, c, d]⟩ : Shape).Idx → α)
    (h : (⟨5, ![1, a, b, c, d]⟩ : Shape).ShapeCasts ⟨4, ![a, b, c, d]⟩) (i : Fin a) (j : Fin b) (k : Fin c) (l : Fin d) :
    shapeCast ⟨4, ![a, b, c, d]⟩ x h (ix4 i j k l) = x (ix5 0 i j k l) :=
  shapeCast_apply x h (ix4 i j k l) (ix5 0 i j k l) (by
    rw [Shape.rowMajor_val_five, Shape.rowMajor_val_four]
    show (((0 * a + i.val) * b + j.val) * c + k.val) * d + l.val = ((i.val * b + j.val) * c + k.val) * d + l.val
    rw [zero_mul, zero_add])

end Cert.Layer

end
-- ==== Proof.UqkvPay.lean ====
/-
  The joined projection's stored values read at an entry: the gated linear unit, the turned queries and keys, slice by
  slice of 128 columns, and the values.
-/
module

public import proofs.«01_k».proof.Proof.UqkvLayer
public import proofs.«01_k».proof.Proof.Gen.Kernel3Ideal.Skeleton
public import Idealize.ShloMosaic.Lib.MatmulPlain
public import Idealize.ShloMosaic.Lib.Tactic
public import Idealize.ShloMosaic.Lib.Pipeline.Value

@[expose] public section

set_option maxRecDepth 16384

noncomputable section

namespace Cert.Kernel3Ideal.UqkvValue

open Cert.Kernel3Ideal Cert.Kernel3Ideal.Gen Idealize.ShloMosaic Cert.Layer

/-- Column `j` of slice `s` of 128 columns of a row `f`: the column times its cosine, plus the columns eight to the right
    and eight to the left, around the slice, times the two sines. -/
def rot (f C L H : ℕ → EReal) (s j : ℕ) : EReal :=
  f (128 * s + j) * C j + f (128 * s + (j + 128 - 120) % 128) * L j + f (128 * s + (j + 128 - 8) % 128) * H j

/-- The first column block's product with its gate, at an entry. -/
theorem pay8_apply (x : Vec Ideal S544x2048 .bf16) (wa wb : Vec Ideal S2048x1024 .bf16) (r : Fin 544) (c : Fin 1024) :
    k0_pay8 x wa wb (ix2 r c) = dot (fun j => x (ix2 r j)) (fun j => wa (ix2 j c)) *
      Ideal.logistic (dot (fun j => x (ix2 r j)) (fun j => wb (ix2 j c))) := by
  unfold dot
  pointwise [k0_pay8, k0_pay4]

/-- The queries' product at an entry. -/
theorem pay9_apply (x : Vec Ideal S544x2048 .bf16) (w : Vec Ideal S2048x1024 .bf16) (r : Fin 544) (c : Fin 1024) :
    k0_pay9 x w (ix2 r c) = dot (fun j => x (ix2 r j)) (fun j => w (ix2 j c)) := by
  unfold dot
  pointwise [k0_pay9, k0_pay4]

/-- The values' product at an entry. -/
theorem pay3_apply (x : Vec Ideal S544x2048 .bf16) (w : Vec Ideal S2048x256 .bf16) (r : Fin 544) (c : Fin 256) :
    k0_pay3 x w (ix2 r c) = dot (fun j => x (ix2 r j)) (fun j => w (ix2 j c)) := by
  unfold dot
  pointwise [k0_pay3]

/-- Slice 2 of the queries. -/
theorem pay15_apply (c l h : Vec Ideal S544x128 .f32) (q : Vec Ideal S544x1024 .f32) (r : Fin 544)
    (f C L H : ℕ → EReal) (hC : ∀ j : Fin 128, c (ix2 r j) = C j.val) (hL : ∀ j : Fin 128, l (ix2 r j) = L j.val)
    (hH : ∀ j : Fin 128, h (ix2 r j) = H j.val)
    (hf : ∀ k : Fin 1024, q (ix2 r k) = f k.val) (j : Fin 128) : k0_pay15 (F := Ideal) c l h q (ix2 r j) = rot f C L H 2 j.val := by
  have e : k0_pay15 (F := Ideal) c l h q (ix2 r j) = q (ix2 r ⟨256 + j.val, by omega⟩) * c (ix2 r j) +
      q (ix2 r ⟨256 + (j.val + 128 - 120) % 128, by omega⟩) * l (ix2 r j) + q (ix2 r ⟨256 + (j.val + 128 - 8) % 128, by omega⟩) * h (ix2 r j) := by
    pointwise [k0_pay15]
  rw [e, hf, hf, hf, hC, hL, hH]
  rfl

/-- Slice 3 of the queries. -/
theorem pay16_apply (c l h : Vec Ideal S544x128 .f32) (q : Vec Ideal S544x1024 .f32) (r : Fin 544)
    (f C L H : ℕ → EReal) (hC : ∀ j : Fin 128, c (ix2 r j) = C j.val) (hL : ∀ j : Fin 128, l (ix2 r j) = L j.val)
    (hH : ∀ j : Fin 128, h (ix2 r j) = H j.val)
    (hf : ∀ k : Fin 1024, q (ix2 r k) = f k.val) (j : Fin 128) : k0_pay16 (F := Ideal) c l h q (ix2 r j) = rot f C L H 3 j.val := by
  have e : k0_pay16 (F := Ideal) c l h q (ix2 r j) = q (ix2 r ⟨384 + j.val, by omega⟩) * c (ix2 r j) +
      q (ix2 r ⟨384 + (j.val + 128 - 120) % 128, by omega⟩) * l (ix2 r j) + q (ix2 r ⟨384 + (j.val + 128 - 8) % 128, by omega⟩) * h (ix2 r j) := by
    pointwise [k0_pay16]
  rw [e, hf, hf, hf, hC, hL, hH]
  rfl

/-- Slice 4 of the queries. -/
theorem pay17_apply (c l h : Vec Ideal S544x128 .f32) (q : Vec Ideal S544x1024 .f32) (r : Fin 544)
    (f C L H : ℕ → EReal) (hC : ∀ j : Fin 128, c (ix2 r j) = C j.val) (hL : ∀ j : Fin 128, l (ix2 r j) = L j.val)
    (hH : ∀ j : Fin 128, h (ix2 r j) = H j.val)
    (hf : ∀ k : Fin 1024, q (ix2 r k) = f k.val) (j : Fin 128) : k0_pay17 (F := Ideal) c l h q (ix2 r j) = rot f C L H 4 j.val := by
  have e : k0_pay17 (F := Ideal) c l h q (ix2 r j) = q (ix2 r ⟨512 + j.val, by omega⟩) * c (ix2 r j) +
      q (ix2 r ⟨512 + (j.val + 128 - 120) % 128, by omega⟩) * l (ix2 r j) + q (ix2 r ⟨512 + (j.val + 128 - 8) % 128, by omega⟩) * h (ix2 r j) := by
    pointwise [k0_pay17]
  rw [e, hf, hf, hf, hC, hL, hH]
  rfl

/-- Slice 5 of the queries. -/
theorem pay18_apply (c l h : Vec Ideal S544x128 .f32) (q : Vec Ideal S544x1024 .f32) (r : Fin 544)
    (f C L H : ℕ → EReal) (hC : ∀ j : Fin 128, c (ix2 r j) = C j.val) (hL : ∀ j : Fin 128, l (ix2 r j) = L j.val)
    (hH : ∀ j : Fin 128, h (ix2 r j) = H j.val)
    (hf : ∀ k : Fin 1024, q (ix2 r k) = f k.val) (j : Fin 128) : k0_pay18 (F := Ideal) c l h q (ix2 r j) = rot f C L H 5 j.val := by
  have e : k0_pay18 (F := Ideal) c l h q (ix2 r j) = q (ix2 r ⟨640 + j.val, by omega⟩) * c (ix2 r j) +
      q (ix2 r ⟨640 + (j.val + 128 - 120) % 128, by omega⟩) * l (ix2 r j) + q (ix2 r ⟨640 + (j.val + 128 - 8) % 128, by omega⟩) * h (ix2 r j) := by
    pointwise [k0_pay18]
  rw [e, hf, hf, hf, hC, hL, hH]
  rfl

/-- Slice 6 of the queries. -/
theorem pay19_apply (c l h : Vec Ideal S544x128 .f32) (q : Vec Ideal S544x1024 .f32) (r : Fin 544)
    (f C L H : ℕ → EReal) (hC : ∀ j : Fin 128, c (ix2 r j) = C j.val) (hL : ∀ j : Fin 128, l (ix2 r j) = L j.val)
    (hH : ∀ j : Fin 128, h (ix2 r j) = H j.val)
    (hf : ∀ k : Fin 1024, q (ix2 r k) = f k.val) (j : Fin 128) : k0_pay19 (F := Ideal) c l h q (ix2 r j) = rot f C L H 6 j.val := by
  have e : k0_pay19 (F := Ideal) c l h q (ix2 r j) = q (ix2 r ⟨768 + j.val, by omega⟩) * c (ix2 r j) +
      q (ix2 r ⟨768 + (j.val + 128 - 120) % 128, by omega⟩) * l (ix2 r j) + q (ix2 r ⟨768 + (j.val + 128 - 8) % 128, by omega⟩) * h (ix2 r j) := by
    pointwise [k0_pay19]
  rw [e, hf, hf, hf, hC, hL, hH]
  rfl

/-- The queries' row, as a function of the column. -/
def qrow (x : Vec Ideal S544x2048 .bf16) (w : Vec Ideal S2048x1024 .bf16) (r : Fin 544) (k : Fin 1024) : EReal :=
  dot (fun j => x (ix2 r j)) (fun j => w (ix2 j k))

/-- Slice 0 of the queries. -/
theorem pay10_apply (x : Vec Ideal S544x2048 .bf16) (w : Vec Ideal S2048x1024 .bf16) (c l h : Vec Ideal S544x128 .f32) (r : Fin 544)
    (f C L H : ℕ → EReal) (hC : ∀ j : Fin 128, c (ix2 r j) = C j.val) (hL : ∀ j : Fin 128, l (ix2 r j) = L j.val)
    (hH : ∀ j : Fin 128, h (ix2 r j) = H j.val)
    (hf : ∀ k : Fin 1024, qrow x w r k = f k.val) (j : Fin 128) : k0_pay10 x c l h w (ix2 r j) = rot f C L H 0 j.val := by
  have e : k0_pay10 x c l h w (ix2 r j) = k0_pay9 x w (ix2 r ⟨0 + j.val, by omega⟩) * c (ix2 r j) +
      k0_pay9 x w (ix2 r ⟨0 + (j.val + 128 - 120) % 128, by omega⟩) * l (ix2 r j) + k0_pay9 x w (ix2 r ⟨0 + (j.val + 128 - 8) % 128, by omega⟩) * h (ix2 r j) := by
    pointwise [k0_pay10, k0_pay5, k0_pay6, k0_pay7]
  have hf' : ∀ k : Fin 1024, k0_pay9 x w (ix2 r k) = f k.val := fun k => (pay9_apply x w r k).trans (hf k)
  rw [e, hf', hf', hf', hC, hL, hH]
  rfl

/-- Slice 1 of the queries. -/
theorem pay14_apply (x : Vec Ideal S544x2048 .bf16) (w : Vec Ideal S2048x1024 .bf16) (c l h : Vec Ideal S544x128 .f32) (r : Fin 544)
    (f C L H : ℕ → EReal) (hC : ∀ j : Fin 128, c (ix2 r j) = C j.val) (hL : ∀ j : Fin 128, l (ix2 r j) = L j.val)
    (hH : ∀ j : Fin 128, h (ix2 r j) = H j.val)
    (hf : ∀ k : Fin 1024, qrow x w r k = f k.val) (j : Fin 128) :
    k0_pay14 (k0_pay12 x c l w) (k0_pay13 x h w) (ix2 r j) = rot f C L H 1 j.val := by
  have e : k0_pay14 (k0_pay12 x c l w) (k0_pay13 x h w) (ix2 r j) = k0_pay9 x w (ix2 r ⟨128 + j.val, by omega⟩) * c (ix2 r j) +
      k0_pay9 x w (ix2 r ⟨128 + (j.val + 128 - 120) % 128, by omega⟩) * l (ix2 r j) + k0_pay9 x w (ix2 r ⟨128 + (j.val + 128 - 8) % 128, by omega⟩) * h (ix2 r j) := by
    pointwise [k0_pay14, k0_pay12, k0_pay13, k0_pay11, k0_pay5, k0_pay6, k0_pay7]
  have hf' : ∀ k : Fin 1024, k0_pay9 x w (ix2 r k) = f k.val := fun k => (pay9_apply x w r k).trans (hf k)
  rw [e, hf', hf', hf', hC, hL, hH]
  rfl

/-- Slice 7 of the queries. -/
theorem pay21_apply (c l h : Vec Ideal S544x128 .f32) (q : Vec Ideal S544x1024 .f32) (r : Fin 544)
    (f C L H : ℕ → EReal) (hC : ∀ j : Fin 128, c (ix2 r j) = C j.val) (hL : ∀ j : Fin 128, l (ix2 r j) = L j.val)
    (hH : ∀ j : Fin 128, h (ix2 r j) = H j.val)
    (hf : ∀ k : Fin 1024, q (ix2 r k) = f k.val) (j : Fin 128) :
    k0_pay21 (F := Ideal) c l q (ix2 r j) + k0_pay22 (F := Ideal) h q (ix2 r j) = rot f C L H 7 j.val := by
  have e : (k0_pay21 (F := Ideal) c l q (ix2 r j) + k0_pay22 (F := Ideal) h q (ix2 r j) : EReal) = q (ix2 r ⟨896 + j.val, by omega⟩) * c (ix2 r j) +
      q (ix2 r ⟨896 + (j.val + 128 - 120) % 128, by omega⟩) * l (ix2 r j) + q (ix2 r ⟨896 + (j.val + 128 - 8) % 128, by omega⟩) * h (ix2 r j) := by
    pointwise [k0_pay21, k0_pay22, k0_pay20]
  rw [e, hf, hf, hf, hC, hL, hH]
  rfl

/-- The queries' slices, joined and scaled. -/
theorem pay1_apply (a0 a1 a2 a3 a4 a5 a6 a7 b7 : FVec Ideal S544x128 .f32) (r : Fin 544) (g : ℕ → ℕ → EReal)
    (h0 : ∀ j : Fin 128, a0 (ix2 r j) = g 0 j.val) (h1 : ∀ j : Fin 128, a1 (ix2 r j) = g 1 j.val)
    (h2 : ∀ j : Fin 128, a2 (ix2 r j) = g 2 j.val) (h3 : ∀ j : Fin 128, a3 (ix2 r j) = g 3 j.val)
    (h4 : ∀ j : Fin 128, a4 (ix2 r j) = g 4 j.val) (h5 : ∀ j : Fin 128, a5 (ix2 r j) = g 5 j.val)
    (h6 : ∀ j : Fin 128, a6 (ix2 r j) = g 6 j.val) (h7 : ∀ j : Fin 128, (a7 (ix2 r j) + b7 (ix2 r j) : EReal) = g 7 j.val) (c : Fin 1024) :
    k0_pay1 a0 a1 a2 a3 a4 a5 a6 a7 b7 (ix2 r c) = g (c.val / 128) (c.val % 128) * Ideal.ofBits .f32 0x3E38AA3B#32 := by
  pointwise [k0_pay1]
  simp only [h0, h1, h2, h3, h4, h5, h6, h7]
  refine congrArg (· * Ideal.ofBits .f32 0x3E38AA3B#32) ?_
  have hc := c.isLt
  split_ifs <;> exact congrArg₂ g (by omega) (by omega)

/-- The keys' slices, turned and joined. -/
theorem pay2_apply (x : FVec Ideal S544x2048 .bf16) (c l h : FVec Ideal S544x128 .f32) (w : Vec Ideal S2048x256 .bf16) (r : Fin 544)
    (f C L H : ℕ → EReal) (hC : ∀ j : Fin 128, c (ix2 r j) = C j.val) (hL : ∀ j : Fin 128, l (ix2 r j) = L j.val)
    (hH : ∀ j : Fin 128, h (ix2 r j) = H j.val)
    (hf : ∀ k : Fin 256, dot (fun j => x (ix2 r j)) (fun j => w (ix2 j k)) = f k.val) (k : Fin 256) :
    k0_pay2 x c l h w (ix2 r k) = rot f C L H (k.val / 128) (k.val % 128) := by
  have hf' : ∀ k : Fin 256, ∑ j : Fin 2048, x (ix2 r j) * w (ix2 j k) = f k.val := hf
  pointwise [k0_pay2]
  simp only [hf', hC, hL, hH]
  have hk := k.isLt
  unfold rot
  by_cases e : k.val < 128
  · rw [dif_pos e, show k.val / 128 = 0 by omega, show k.val % 128 = k.val by omega]
    simp only [Nat.mul_zero, Nat.zero_add]
  · rw [dif_neg e, show k.val / 128 = 1 by omega, show k.val % 128 = k.val - 128 by omega]

end Cert.Kernel3Ideal.UqkvValue

end
-- ==== Proof.UqkvTable.lean ====
/-
  The rotary tables the joined projection's launch reads, at an entry: 128 columns per row, two heads of 64, with the
  cosines, the sines of the columns eight to the right with a minus, and those of the columns eight to the left.
-/
module

public import proofs.«01_k».proof.Proof.UqkvPay
public import proofs.«01_k».proof.Proof.Gen.Kernel3Ideal.Frame

@[expose] public section

set_option maxRecDepth 16384

noncomputable section

namespace Cert.Kernel3Ideal.UqkvValue

open Cert.Kernel3Ideal Cert.Kernel3Ideal.Gen Idealize.ShloMosaic Idealize.ShloMosaic.TcCoe Cert.Layer

variable (m : (ℓ : Loc nD τ sig) → Buf (Elt Ideal) ℓ)

/-- The eight frequencies. -/
def freqs : FVec Ideal S8 .f32 :=
  Host.powf (broadcastInDim S8 ![] bcast_S_S8 (constant (F := Ideal) S_ .f32 0x48F42400#32))
    (Host.divf (Host.negf (addf (broadcastInDim S8 ![] bcast_S_S8 (constant (F := Ideal) S_ .f32 0x00000000#32))
      (mulf (broadcastInDim S8 ![] bcast_S_S8 (constant (F := Ideal) S_ .f32 0x40000000#32)) (sitofp .f32 (iotaInDim S8 32 0)))))
      (broadcastInDim S8 ![] bcast_S_S8 (constant (F := Ideal) S_ .f32 0x41800000#32)))

/-- The rows' positions. -/
def positions : IVec S8704 32 :=
  concatenate S8704 0 [⟨S8192, shapeCast S8192 (broadcastInDim S2x4096 ![0, 1] bcast_S1x4096_S2x4096_0_1
      (shapeCast S1x4096 (iotaInDim S4096 32 0) shapeCasts_S4096_S1x4096)) shapeCasts_S2x4096_S8192⟩,
    ⟨S512, shapeCast S512 (broadcastInDim S8x64 ![0, 1] bcast_S1x64_S8x64_0_1
      (shapeCast S1x64 (addi (broadcastInDim S64 ![] bcast_S_S64 (constantI S_ 32 1024#32)) (iotaInDim S64 32 0)) shapeCasts_S64_S1x64))
      shapeCasts_S8x64_S512⟩] concatenates_S8192_S512_S8704_d0

/-- The rows' angles. -/
def angles : FVec Ideal S8704x8 .f32 :=
  mulf (broadcastInDim S8704x8 ![0, 1] bcast_S8704x1_S8704x8_0_1
      (broadcastInDim S8704x1 ![0] bcast_S8704_S8704x1_0 (sitofp (F := Ideal) .f32 positions)))
    (broadcastInDim S8704x8 ![0, 1] bcast_S1x8_S8704x8_0_1 (broadcastInDim S1x8 ![1] bcast_S8_S1x8_1 freqs))

/-- Three runs of columns of a table, 8, 8 and 48, joined. -/
def joined (a b : FVec Ideal S8704x8 .f32) (k : BitVec 32) : FVec Ideal S8704x64 .f32 :=
  concatenate S8704x64 1 [⟨S8704x8, a⟩, ⟨S8704x8, b⟩,
    ⟨S8704x48, broadcastInDim S8704x48 ![] bcast_S_S8704x48 (constant (F := Ideal) S_ .f32 k)⟩] concatenates_S8704x8_S8704x8_S8704x48_S8704x64_d1
/-- Eight columns of zeros. -/
def zeros : FVec Ideal S8704x8 .f32 := broadcastInDim S8704x8 ![] bcast_S_S8704x8 (constant (F := Ideal) S_ .f32 0x00000000#32)
/-- A table of 64 columns, written twice side by side. -/
def twice (T : FVec Ideal S8704x64 .f32) : FVec Ideal S8704x128 .f32 :=
  shapeCast S8704x128 (broadcastInDim S1x8704x2x64 ![0, 1, 2, 3] bcast_S1x8704x1x64_S1x8704x2x64_0_1_2_3
    (shapeCast S1x8704x1x64 T shapeCasts_S8704x64_S1x8704x1x64)) shapeCasts_S1x8704x2x64_S8704x128

/-- A frequency. -/
theorem freqs_apply (l : Fin 8) : freqs (ix1 l) = freq l.val := rfl

/-- A sample row's position: 64 positions from 1024, once per sequence. -/
theorem sample_apply (q : Fin 512) : shapeCast S512 (broadcastInDim S8x64 ![0, 1] bcast_S1x64_S8x64_0_1
      (shapeCast S1x64 (addi (broadcastInDim S64 ![] bcast_S_S64 (constantI S_ 32 1024#32)) (iotaInDim S64 32 0)) shapeCasts_S64_S1x64))
      shapeCasts_S8x64_S512 (ix1 q) = 1024#32 + BitVec.ofNat 32 (q.val % 64) := by
  have hq := q.isLt
  refine (shapeCast_apply _ _ _ (ix2 ⟨q.val / 64, by omega⟩ ⟨q.val % 64, by omega⟩) (by
    rw [Shape.rowMajor_val_two, Shape.rowMajor_val_one]
    show q.val / 64 * 64 + q.val % 64 = q.val
    omega)).trans ?_
  refine (broadcastInDim_apply _ _ _ _ (ix2 0 ⟨q.val % 64, by omega⟩) (fun a => match a with
    | ⟨0, _⟩ => rfl
    | ⟨1, _⟩ => rfl)).trans ?_
  refine (shapeCast_apply _ _ _ (ix1 ⟨q.val % 64, by omega⟩) (by
    rw [Shape.rowMajor_val_two, Shape.rowMajor_val_one]
    show q.val % 64 = 0 * 64 + q.val % 64
    omega)).trans ?_
  rfl

/-- A row's position. -/
theorem positions_apply (R : Fin 8704) : positions (ix1 R) = place R.val := by
  have hR := R.isLt
  unfold positions
  rw [concatenate_pair_apply]
  by_cases h : R.val < 8192
  · refine (dif_pos (show R.val < 8192 from h)).trans ?_
    refine (shapeCast_apply _ _ _ (ix2 ⟨R.val / 4096, by omega⟩ ⟨R.val % 4096, by omega⟩) (by
      rw [Shape.rowMajor_val_two, Shape.rowMajor_val_one]
      show R.val / 4096 * 4096 + R.val % 4096 = R.val
      omega)).trans ?_
    refine (broadcastInDim_apply _ _ _ _ (ix2 0 ⟨R.val % 4096, by omega⟩) (fun a => match a with
      | ⟨0, _⟩ => rfl
      | ⟨1, _⟩ => rfl)).trans ?_
    refine (shapeCast_apply _ _ _ (ix1 ⟨R.val % 4096, by omega⟩) (by
      rw [Shape.rowMajor_val_two, Shape.rowMajor_val_one]
      show R.val % 4096 = 0 * 4096 + R.val % 4096
      omega)).trans ?_
    unfold place
    rw [if_pos h]
    rfl
  · refine (dif_neg (show ¬R.val < 8192 from h)).trans ?_
    unfold place
    rw [if_neg h]
    exact sample_apply ⟨R.val - 8192, by omega⟩

/-- A row's angle. -/
theorem angles_apply (R : Fin 8704) (l : Fin 8) : angles (ix2 R l) = angle (place R.val) l.val := by
  unfold angles angle
  rw [← positions_apply, ← freqs_apply]
  refine congrArg₂ (fun a b : EReal => a * b) ?_ ?_
  · refine (broadcastInDim_apply _ _ _ _ (ix2 R 0) (fun a => match a with
      | ⟨0, _⟩ => rfl
      | ⟨1, _⟩ => rfl)).trans ?_
    exact broadcastInDim_apply _ _ _ _ (ix1 R) (fun a => match a with
      | ⟨0, _⟩ => rfl)
  · refine (broadcastInDim_apply _ _ _ _ (ix2 0 l) (fun a => match a with
      | ⟨0, _⟩ => rfl
      | ⟨1, _⟩ => rfl)).trans ?_
    exact broadcastInDim_apply _ _ _ _ (ix1 l) (fun a => match a with
      | ⟨0, _⟩ => rfl)

/-- Its cosine. -/
theorem cos_apply (R : Fin 8704) (l : Fin 8) : Host.cos angles (ix2 R l) = cosA (place R.val) l.val := by
  unfold cosA
  rw [← angles_apply]
  rfl
/-- Its sine. -/
theorem sin_apply (R : Fin 8704) (l : Fin 8) : Host.sin angles (ix2 R l) = sinA (place R.val) l.val := by
  unfold sinA
  rw [← angles_apply]
  rfl

/-- A joined table's entry. -/
theorem joined_apply (a b : FVec Ideal S8704x8 .f32) (k : BitVec 32) (R : Fin 8704) (l : Fin 64) :
    joined a b k (ix2 R l) = if h : l.val < 8 then a (ix2 R ⟨l.val, h⟩) else if h : l.val - 8 < 8 then b (ix2 R ⟨l.val - 8, h⟩)
      else Ideal.ofBits .f32 k := by
  pointwise [joined]

/-- A doubled table's entry. -/
theorem twice_apply (T : FVec Ideal S8704x64 .f32) (R : Fin 8704) (j : Fin 128) :
    twice T (ix2 R j) = T (ix2 R ⟨j.val % 64, Nat.mod_lt _ (by norm_num)⟩) := by
  have hj := j.isLt
  unfold twice
  refine (shapeCast_apply _ _ _ (ix4 0 R ⟨j.val / 64, by omega⟩ ⟨j.val % 64, by omega⟩) (by
    rw [Shape.rowMajor_val_four, Shape.rowMajor_val_two]
    show ((0 * 8704 + R.val) * 2 + j.val / 64) * 64 + j.val % 64 = R.val * 128 + j.val
    omega)).trans ?_
  refine (broadcastInDim_apply _ _ _ _ (ix4 0 R 0 ⟨j.val % 64, by omega⟩) (fun a => match a with
    | ⟨0, _⟩ => rfl
    | ⟨1, _⟩ => rfl
    | ⟨2, _⟩ => rfl
    | ⟨3, _⟩ => rfl)).trans ?_
  exact shapeCast_apply _ _ _ (ix2 R ⟨j.val % 64, by omega⟩) (by
    rw [Shape.rowMajor_val_four, Shape.rowMajor_val_two]
    show R.val * 64 + j.val % 64 = ((0 * 8704 + R.val) * 1 + 0) * 64 + j.val % 64
    omega)

/-- The cosines' column `l` of a head. -/
def tabC (R l : ℕ) : EReal := if l < 8 then cosA (place R) l else if l - 8 < 8 then cosA (place R) (l - 8) else 1
/-- The sines with a minus. -/
def tabL (R l : ℕ) : EReal := if l < 8 then -sinA (place R) l else 0
/-- The sines. -/
def tabH (R l : ℕ) : EReal := if l < 8 then 0 else if l - 8 < 8 then sinA (place R) (l - 8) else 0

/-- The launch's first table. -/
theorem V_cos (c : Dev nD) (R : Fin 8704) (j : Fin 128) : V m c main_v38 (ix2 R j) = tabC R.val (j.val % 64) := by
  have h : V m c main_v38 = twice (joined (Host.cos angles) (Host.cos angles) 0x3F800000#32) := by
    show StableHlo.after hostOps0 _ (Proc.devRef .tc main_v38) = _
    after_results
    rfl
  rw [h, twice_apply, joined_apply]
  unfold tabC
  split_ifs with h1 h2
  · exact cos_apply R _
  · exact cos_apply R _
  · exact one_eq
/-- Its second. -/
theorem V_lo (c : Dev nD) (R : Fin 8704) (j : Fin 128) : V m c main_v41 (ix2 R j) = tabL R.val (j.val % 64) := by
  have h : V m c main_v41 = twice (joined (Host.negf (Host.sin angles)) zeros 0x00000000#32) := by
    show StableHlo.after hostOps0 _ (Proc.devRef .tc main_v41) = _
    after_results
    rfl
  rw [h, twice_apply, joined_apply]
  unfold tabL
  split_ifs with h1 h2
  · exact congrArg (fun x : EReal => -x) (sin_apply R _)
  · exact Ideal.ofBits_zero_f32
  · exact Ideal.ofBits_zero_f32
/-- Its third. -/
theorem V_hi (c : Dev nD) (R : Fin 8704) (j : Fin 128) : V m c main_v44 (ix2 R j) = tabH R.val (j.val % 64) := by
  have h : V m c main_v44 = twice (joined zeros (Host.sin angles) 0x00000000#32) := by
    show StableHlo.after hostOps0 _ (Proc.devRef .tc main_v44) = _
    after_results
    rfl
  rw [h, twice_apply, joined_apply]
  unfold tabH
  split_ifs with h1 h2
  · exact Ideal.ofBits_zero_f32
  · exact sin_apply R _
  · exact Ideal.ofBits_zero_f32

/-- With these tables the slices' sum is a head's turn. -/
theorem rot_eq (f : ℕ → EReal) (R s j : ℕ) (hj : j < 128) :
    rot f (fun j => tabC R (j % 64)) (fun j => tabL R (j % 64)) (fun j => tabH R (j % 64)) s j =
      turn (fun l => f (64 * ((128 * s + j) / 64) + l)) (cosA (place R)) (sinA (place R)) (j % 64) := by
  unfold rot turn tabC tabL tabH
  dsimp only
  have e0 : 128 * s + j = 64 * ((128 * s + j) / 64) + j % 64 := by omega
  by_cases h1 : j % 64 < 8
  · rw [if_pos h1, if_pos h1, if_pos h1, if_pos h1, mul_zero, add_zero, mul_neg, ← sub_eq_add_neg]
    rw [show 128 * s + (j + 128 - 120) % 128 = 64 * ((128 * s + j) / 64) + (j % 64 + 8) by omega]
    rw [← e0]
  · rw [if_neg h1, if_neg h1, if_neg h1, if_neg h1]
    by_cases h2 : j % 64 < 16
    · rw [if_pos (show j % 64 - 8 < 8 by omega), if_pos (show j % 64 - 8 < 8 by omega), if_pos h2, mul_zero, add_zero]
      rw [show 128 * s + (j + 128 - 8) % 128 = 64 * ((128 * s + j) / 64) + (j % 64 - 8) by omega]
      rw [← e0]
    · rw [if_neg (show ¬j % 64 - 8 < 8 by omega), if_neg (show ¬j % 64 - 8 < 8 by omega), if_neg h2, mul_zero, mul_zero, add_zero, add_zero, mul_one]
      rw [← e0]

end Cert.Kernel3Ideal.UqkvValue

end
-- ==== Proof.UqkvBlocks.lean ====
/-
  The joined projection's blocks: what a point reads, as entries of the argument arrays and the rotary tables, what it
  stores, and so what the four arrays it writes end at.
-/
module

public import proofs.«01_k».proof.Proof.UqkvTable
public import Idealize.ShloMosaic.Lib.Pipeline.ValueKit.Tiles

@[expose] public section

set_option maxRecDepth 16384

noncomputable section

namespace Cert.Kernel3Ideal.UqkvValue

open Cert.Kernel3Ideal Cert.Kernel3Ideal.Gen Idealize.ShloMosaic Idealize.ShloMosaic.TcCoe Cert.Layer

variable (m : (ℓ : Loc nD τ sig) → Buf (Elt Ideal) ℓ)

/-- The normalised rows. -/
def xs (c : Dev nD) : (⟨2, ![8704, 2048]⟩ : Shape).Idx → EReal := m ((c : Thread nD τ).loc main_arg0)
/-- The joined weights. -/
def ws (c : Dev nD) : (⟨3, ![1, 2048, 7680]⟩ : Shape).Idx → EReal := m ((c : Thread nD τ).loc main_arg1)

/-- The rows the launch reads are the argument's. -/
theorem V_x (c : Dev nD) (R : Fin 8704) (j : Fin 2048) : V m c main_v45 (ix2 R j) = xs m c (ix2 R j) := by
  have h : V m c main_v45 = truncf (F := Ideal) .bf16 (m ((c : Thread nD τ).loc main_arg0)) bitsLt_bf16_f32 := by
    show StableHlo.after hostOps0 _ (Proc.devRef .tc main_v45) = _
    after_results
  rw [h]
  rfl
/-- The weights it reads are the argument's. -/
theorem V_w (c : Dev nD) (j : Fin 2048) (k : Fin 7680) : V m c main_v47 (ix2 j k) = ws m c (ix3 0 j k) := by
  have h : V m c main_v47 = truncf (F := Ideal) .bf16 (shapeCast S2048x7680 (m ((c : Thread nD τ).loc main_arg1))
      shapeCasts_S1x2048x7680_S2048x7680) bitsLt_bf16_f32 := by
    show StableHlo.after hostOps0 _ (Proc.devRef .tc main_v47) = _
    after_results
    rfl
  rw [h]
  exact shapeCast_lead _ _ j k

/-- Window 0's block is the point's row block. -/
theorem index0_0 : ∀ t : Fin grid0.N, win0_0.index t 0 = t.val ∧ win0_0.index t 1 = 0 := by decide +kernel
/-- Window 2's block is the point's row block. -/
theorem index0_2 : ∀ t : Fin grid0.N, win0_2.index t 0 = t.val ∧ win0_2.index t 1 = 0 := by decide +kernel
/-- Window 3's block is the point's row block. -/
theorem index0_3 : ∀ t : Fin grid0.N, win0_3.index t 0 = t.val ∧ win0_3.index t 1 = 0 := by decide +kernel
/-- Window 4's block is the point's row block. -/
theorem index0_4 : ∀ t : Fin grid0.N, win0_4.index t 0 = t.val ∧ win0_4.index t 1 = 0 := by decide +kernel
/-- Window 5's block is the point's row block. -/
theorem index0_5 : ∀ t : Fin grid0.N, win0_5.index t 0 = t.val ∧ win0_5.index t 1 = 0 := by decide +kernel
/-- Window 6's block is the point's row block. -/
theorem index0_6 : ∀ t : Fin grid0.N, win0_6.index t 0 = t.val ∧ win0_6.index t 1 = 0 := by decide +kernel
/-- Window 7's block is the point's row block. -/
theorem index0_7 : ∀ t : Fin grid0.N, win0_7.index t 0 = t.val ∧ win0_7.index t 1 = 0 := by decide +kernel
/-- Window 8's block is the point's row block. -/
theorem index0_8 : ∀ t : Fin grid0.N, win0_8.index t 0 = t.val ∧ win0_8.index t 1 = 0 := by decide +kernel
/-- The weights' block starts at the first entry. -/
theorem index0_1 : ∀ t : Fin grid0.N, win0_1.index t 0 = 0 ∧ win0_1.index t 1 = 0 := by decide +kernel

/-- A point's rows. -/
theorem iblk_0 (c : Dev nD) (t : Fin cfg0.N) (r : Fin 544) (k : Fin 2048) :
    iblk m c 0 t (ix2 r k) = xs m c (ix2 ⟨(544 * t.val + r.val) % 8704, Nat.mod_lt _ (by norm_num)⟩ k) := by
  have hN : cfg0.N = 16 := N_0
  have ht := t.isLt
  have hr := r.isLt
  unfold iblk
  rw [View.read_apply, ← V_x]
  show V m c main_v45 _ = V m c main_v45 _
  congr 1
  funext a
  apply Fin.ext
  match a with
  | ⟨0, _⟩ => show win0_0.index t 0 * 544 + 1 * r.val = (544 * t.val + r.val) % 8704
              rw [(index0_0 t).1]; omega
  | ⟨1, _⟩ => show win0_0.index t 1 * 2048 + 1 * k.val = k.val
              rw [(index0_0 t).2]; omega

/-- The weights' block: the first 3584 columns, by the element-indexed window. -/
theorem iblk_1 (c : Dev nD) (t : Fin cfg0.N) (a : Fin 2048) (b : Fin 3584) :
    iblk m c 1 t (ix2 a b) = ws m c (ix3 0 a ⟨b.val % 7680, Nat.mod_lt _ (by norm_num)⟩) := by
  have ha := a.isLt
  have hb := b.isLt
  unfold iblk
  rw [View.read_apply, ← V_w]
  show V m c main_v47 _ = V m c main_v47 _
  congr 1
  funext x
  apply Fin.ext
  match x with
  | ⟨0, _⟩ => show win0_1.index t 0 + 1 * a.val = a.val
              rw [(index0_1 t).1]; omega
  | ⟨1, _⟩ => show win0_1.index t 1 + 1 * b.val = b.val % 7680
              rw [(index0_1 t).2]; omega

/-- A point's cosines. -/
theorem iblk_2 (c : Dev nD) (t : Fin cfg0.N) (r : Fin 544) (j : Fin 128) :
    iblk m c 2 t (ix2 r j) = tabC (544 * t.val + r.val) (j.val % 64) := by
  have hN : cfg0.N = 16 := N_0
  have ht := t.isLt
  have hr := r.isLt
  unfold iblk
  rw [View.read_apply]
  refine Eq.trans (b := V m c main_v38 (ix2 ⟨544 * t.val + r.val, by omega⟩ j)) ?_ (V_cos m c _ j)
  show V m c main_v38 _ = V m c main_v38 _
  congr 1
  funext a
  apply Fin.ext
  match a with
  | ⟨0, _⟩ => show win0_2.index t 0 * 544 + 1 * r.val = 544 * t.val + r.val
              rw [(index0_2 t).1]; omega
  | ⟨1, _⟩ => show win0_2.index t 1 * 128 + 1 * j.val = j.val
              rw [(index0_2 t).2]; omega

/-- A point's sines with a minus. -/
theorem iblk_3 (c : Dev nD) (t : Fin cfg0.N) (r : Fin 544) (j : Fin 128) :
    iblk m c 3 t (ix2 r j) = tabL (544 * t.val + r.val) (j.val % 64) := by
  have hN : cfg0.N = 16 := N_0
  have ht := t.isLt
  have hr := r.isLt
  unfold iblk
  rw [View.read_apply]
  refine Eq.trans (b := V m c main_v41 (ix2 ⟨544 * t.val + r.val, by omega⟩ j)) ?_ (V_lo m c _ j)
  show V m c main_v41 _ = V m c main_v41 _
  congr 1
  funext a
  apply Fin.ext
  match a with
  | ⟨0, _⟩ => show win0_3.index t 0 * 544 + 1 * r.val = 544 * t.val + r.val
              rw [(index0_3 t).1]; omega
  | ⟨1, _⟩ => show win0_3.index t 1 * 128 + 1 * j.val = j.val
              rw [(index0_3 t).2]; omega

/-- A point's sines. -/
theorem iblk_4 (c : Dev nD) (t : Fin cfg0.N) (r : Fin 544) (j : Fin 128) :
    iblk m c 4 t (ix2 r j) = tabH (544 * t.val + r.val) (j.val % 64) := by
  have hN : cfg0.N = 16 := N_0
  have ht := t.isLt
  have hr := r.isLt
  unfold iblk
  rw [View.read_apply]
  refine Eq.trans (b := V m c main_v44 (ix2 ⟨544 * t.val + r.val, by omega⟩ j)) ?_ (V_hi m c _ j)
  show V m c main_v44 _ = V m c main_v44 _
  congr 1
  funext a
  apply Fin.ext
  match a with
  | ⟨0, _⟩ => show win0_4.index t 0 * 544 + 1 * r.val = 544 * t.val + r.val
              rw [(index0_4 t).1]; omega
  | ⟨1, _⟩ => show win0_4.index t 1 * 128 + 1 * j.val = j.val
              rw [(index0_4 t).2]; omega

/-- A row against the 1024 columns from 0. -/
theorem dot_0 (c : Dev nD) (t : Fin cfg0.N) (r : Fin 544) (k : Fin 1024) :
    dot (fun j => iblk m c 0 t (ix2 r j)) (fun j => View.ld (iblk m c 1 t) r0_2 (ix2 j k)) =
      proj (xs m c) (ws m c) (544 * t.val + r.val) (0 + k.val) := by
  have hk := k.isLt
  have e : ∀ j : Fin 2048, View.ld (iblk m c 1 t) r0_2 (ix2 j k) = iblk m c 1 t (ix2 j ⟨0 + k.val, by omega⟩) := fun j => by
    refine View.ld_unit_apply_of _ _ _ _ _ _ (fun a => ?_)
    match a with
    | ⟨0, _⟩ => show j.val = 0 + j.val
                omega
    | ⟨1, _⟩ => show 0 + k.val = 0 + k.val
                rfl
  unfold proj
  simp only [e, iblk_0, iblk_1]

/-- A row against the 1024 columns from 1024. -/
theorem dot_1024 (c : Dev nD) (t : Fin cfg0.N) (r : Fin 544) (k : Fin 1024) :
    dot (fun j => iblk m c 0 t (ix2 r j)) (fun j => View.ld (iblk m c 1 t) r0_3 (ix2 j k)) =
      proj (xs m c) (ws m c) (544 * t.val + r.val) (1024 + k.val) := by
  have hk := k.isLt
  have e : ∀ j : Fin 2048, View.ld (iblk m c 1 t) r0_3 (ix2 j k) = iblk m c 1 t (ix2 j ⟨1024 + k.val, by omega⟩) := fun j => by
    refine View.ld_unit_apply_of _ _ _ _ _ _ (fun a => ?_)
    match a with
    | ⟨0, _⟩ => show j.val = 0 + j.val
                omega
    | ⟨1, _⟩ => show 1024 + k.val = 1024 + k.val
                rfl
  unfold proj
  simp only [e, iblk_0, iblk_1]

/-- A row against the 1024 columns from 2048. -/
theorem dot_2048 (c : Dev nD) (t : Fin cfg0.N) (r : Fin 544) (k : Fin 1024) :
    dot (fun j => iblk m c 0 t (ix2 r j)) (fun j => View.ld (iblk m c 1 t) r0_5 (ix2 j k)) =
      proj (xs m c) (ws m c) (544 * t.val + r.val) (2048 + k.val) := by
  have hk := k.isLt
  have e : ∀ j : Fin 2048, View.ld (iblk m c 1 t) r0_5 (ix2 j k) = iblk m c 1 t (ix2 j ⟨2048 + k.val, by omega⟩) := fun j => by
    refine View.ld_unit_apply_of _ _ _ _ _ _ (fun a => ?_)
    match a with
    | ⟨0, _⟩ => show j.val = 0 + j.val
                omega
    | ⟨1, _⟩ => show 2048 + k.val = 2048 + k.val
                rfl
  unfold proj
  simp only [e, iblk_0, iblk_1]

/-- A row against the 256 columns from 3072. -/
theorem dot_3072 (c : Dev nD) (t : Fin cfg0.N) (r : Fin 544) (k : Fin 256) :
    dot (fun j => iblk m c 0 t (ix2 r j)) (fun j => View.ld (iblk m c 1 t) r0_6 (ix2 j k)) =
      proj (xs m c) (ws m c) (544 * t.val + r.val) (3072 + k.val) := by
  have hk := k.isLt
  have e : ∀ j : Fin 2048, View.ld (iblk m c 1 t) r0_6 (ix2 j k) = iblk m c 1 t (ix2 j ⟨3072 + k.val, by omega⟩) := fun j => by
    refine View.ld_unit_apply_of _ _ _ _ _ _ (fun a => ?_)
    match a with
    | ⟨0, _⟩ => show j.val = 0 + j.val
                omega
    | ⟨1, _⟩ => show 3072 + k.val = 3072 + k.val
                rfl
  unfold proj
  simp only [e, iblk_0, iblk_1]

/-- A row against the 256 columns from 3328. -/
theorem dot_3328 (c : Dev nD) (t : Fin cfg0.N) (r : Fin 544) (k : Fin 256) :
    dot (fun j => iblk m c 0 t (ix2 r j)) (fun j => View.ld (iblk m c 1 t) r0_8 (ix2 j k)) =
      proj (xs m c) (ws m c) (544 * t.val + r.val) (3328 + k.val) := by
  have hk := k.isLt
  have e : ∀ j : Fin 2048, View.ld (iblk m c 1 t) r0_8 (ix2 j k) = iblk m c 1 t (ix2 j ⟨3328 + k.val, by omega⟩) := fun j => by
    refine View.ld_unit_apply_of _ _ _ _ _ _ (fun a => ?_)
    match a with
    | ⟨0, _⟩ => show j.val = 0 + j.val
                omega
    | ⟨1, _⟩ => show 3328 + k.val = 3328 + k.val
                rfl
  unfold proj
  simp only [e, iblk_0, iblk_1]

/-- The offsets of a whole block are zero. -/
theorem hz : (![0, 0] : Fin 2 → ℕ) = 0 := by funext a; match a with | ⟨0, _⟩ => rfl | ⟨1, _⟩ => rfl

/-- A point's gated linear unit. -/
theorem out_5 (c : Dev nD) (t : Fin cfg0.N) (r : Fin 544) (k : Fin 1024) :
    out0_5 (iblk m c 0 t) (iblk m c 1 t) (iblk m c 2 t) (iblk m c 3 t) (iblk m c 4 t) (ix2 r k) =
      glu (xs m c) (ws m c) (544 * t.val + r.val) k.val := by
  unfold out0_5
  rw [View.canon_unit_zero (S := S544x1024) hz, View.ld_unit_zero (S := S544x2048) hz, pay8_apply, dot_0, dot_1024, Nat.zero_add]
  rfl

/-- A point's turned and scaled queries. -/
theorem out_6 (c : Dev nD) (t : Fin cfg0.N) (r : Fin 544) (k : Fin 1024) :
    out0_6 (iblk m c 0 t) (iblk m c 1 t) (iblk m c 2 t) (iblk m c 3 t) (iblk m c 4 t) (ix2 r k) =
      turned (xs m c) (ws m c) 2048 (544 * t.val + r.val) k.val * Ideal.ofBits .f32 0x3E38AA3B#32 := by
  have hk := k.isLt
  unfold out0_6 k0_pay24 k0_pay25 k0_pay26 k0_pay27
  rw [View.canon_unit_zero (S := S544x1024) hz]
  simp only [View.ld_unit_zero (S := S544x2048) hz, View.ld_unit_zero (S := S544x128) hz]
  have hq : ∀ n : Fin 1024, dot (fun j => iblk m c 0 t (ix2 r j)) (fun j => View.ld (iblk m c 1 t) r0_5 (ix2 j n)) =
      (fun k => proj (xs m c) (ws m c) (544 * t.val + r.val) (2048 + k)) n.val := fun n => dot_2048 m c t r n
  have h9 : ∀ n : Fin 1024, k0_pay9 (F := Ideal) (iblk m c 0 t) (View.ld (iblk m c 1 t) r0_5) (ix2 r n) =
      (fun k => proj (xs m c) (ws m c) (544 * t.val + r.val) (2048 + k)) n.val := fun n => (pay9_apply _ _ r n).trans (hq n)
  have h5 : ∀ j : Fin 128, k0_pay5 (F := Ideal) (iblk m c 2 t) (ix2 r j) = (fun j => tabC (544 * t.val + r.val) (j % 64)) j.val := fun j =>
    Eq.trans (b := iblk m c 2 t (ix2 r j)) (by pointwise [k0_pay5]) (iblk_2 m c t r j)
  have h6 : ∀ j : Fin 128, k0_pay6 (F := Ideal) (iblk m c 3 t) (ix2 r j) = (fun j => tabL (544 * t.val + r.val) (j % 64)) j.val := fun j =>
    Eq.trans (b := iblk m c 3 t (ix2 r j)) (by pointwise [k0_pay6]) (iblk_3 m c t r j)
  have h7 : ∀ j : Fin 128, k0_pay7 (F := Ideal) (iblk m c 4 t) (ix2 r j) = (fun j => tabH (544 * t.val + r.val) (j % 64)) j.val := fun j =>
    Eq.trans (b := iblk m c 4 t (ix2 r j)) (by pointwise [k0_pay7]) (iblk_4 m c t r j)
  refine (pay1_apply _ _ _ _ _ _ _ _ _ r (rot (fun k => proj (xs m c) (ws m c) (544 * t.val + r.val) (2048 + k))
    (fun j => tabC (544 * t.val + r.val) (j % 64)) (fun j => tabL (544 * t.val + r.val) (j % 64)) (fun j => tabH (544 * t.val + r.val) (j % 64)))
    (pay10_apply _ _ _ _ _ r _ _ _ _ (iblk_2 m c t r) (iblk_3 m c t r) (iblk_4 m c t r) hq)
    (pay14_apply _ _ _ _ _ r _ _ _ _ (iblk_2 m c t r) (iblk_3 m c t r) (iblk_4 m c t r) hq)
    (pay15_apply _ _ _ _ r _ _ _ _ h5 h6 h7 h9)
    (pay16_apply _ _ _ _ r _ _ _ _ h5 h6 h7 h9)
    (pay17_apply _ _ _ _ r _ _ _ _ h5 h6 h7 h9)
    (pay18_apply _ _ _ _ r _ _ _ _ h5 h6 h7 h9)
    (pay19_apply _ _ _ _ r _ _ _ _ h5 h6 h7 h9)
    (pay21_apply _ _ _ _ r _ _ _ _ h5 h6 h7 h9) k).trans ?_
  rw [rot_eq _ _ _ _ (Nat.mod_lt _ (by norm_num))]
  unfold turned
  rw [show 128 * (k.val / 128) + k.val % 128 = k.val by omega, show k.val % 128 % 64 = k.val % 64 by omega]

/-- A point's turned keys. -/
theorem out_7 (c : Dev nD) (t : Fin cfg0.N) (r : Fin 544) (k : Fin 256) :
    out0_7 (iblk m c 0 t) (iblk m c 1 t) (iblk m c 2 t) (iblk m c 3 t) (iblk m c 4 t) (ix2 r k) =
      turned (xs m c) (ws m c) 3072 (544 * t.val + r.val) k.val := by
  have hk := k.isLt
  unfold out0_7 k0_pay23 k0_pay24 k0_pay25 k0_pay26
  rw [View.canon_unit_zero (S := S544x256) hz]
  simp only [View.ld_unit_zero (S := S544x2048) hz, View.ld_unit_zero (S := S544x128) hz]
  have h4 : k0_pay4 (F := Ideal) (iblk m c 0 t) = iblk m c 0 t := by
    funext y; rw [eq_ix2 y]; pointwise [k0_pay4]
  have h5 : ∀ j : Fin 128, k0_pay5 (F := Ideal) (iblk m c 2 t) (ix2 r j) = (fun j => tabC (544 * t.val + r.val) (j % 64)) j.val := fun j =>
    Eq.trans (b := iblk m c 2 t (ix2 r j)) (by pointwise [k0_pay5]) (iblk_2 m c t r j)
  have h6 : ∀ j : Fin 128, k0_pay6 (F := Ideal) (iblk m c 3 t) (ix2 r j) = (fun j => tabL (544 * t.val + r.val) (j % 64)) j.val := fun j =>
    Eq.trans (b := iblk m c 3 t (ix2 r j)) (by pointwise [k0_pay6]) (iblk_3 m c t r j)
  have h7 : ∀ j : Fin 128, k0_pay7 (F := Ideal) (iblk m c 4 t) (ix2 r j) = (fun j => tabH (544 * t.val + r.val) (j % 64)) j.val := fun j =>
    Eq.trans (b := iblk m c 4 t (ix2 r j)) (by pointwise [k0_pay7]) (iblk_4 m c t r j)
  rw [h4]
  refine (pay2_apply _ _ _ _ _ r (fun k => proj (xs m c) (ws m c) (544 * t.val + r.val) (3072 + k))
    (fun j => tabC (544 * t.val + r.val) (j % 64)) (fun j => tabL (544 * t.val + r.val) (j % 64)) (fun j => tabH (544 * t.val + r.val) (j % 64)) h5 h6 h7
    (fun n => dot_3072 m c t r n) k).trans ?_
  rw [rot_eq _ _ _ _ (Nat.mod_lt _ (by norm_num))]
  unfold turned
  rw [show 128 * (k.val / 128) + k.val % 128 = k.val by omega, show k.val % 128 % 64 = k.val % 64 by omega]

/-- A point's values. -/
theorem out_8 (c : Dev nD) (t : Fin cfg0.N) (r : Fin 544) (k : Fin 256) :
    out0_8 (iblk m c 0 t) (iblk m c 1 t) (iblk m c 2 t) (iblk m c 3 t) (iblk m c 4 t) (ix2 r k) =
      proj (xs m c) (ws m c) (544 * t.val + r.val) (3328 + k.val) := by
  unfold out0_8 k0_pay23
  rw [View.canon_unit_zero (S := S544x256) hz, View.ld_unit_zero (S := S544x2048) hz]
  have h4 : k0_pay4 (F := Ideal) (iblk m c 0 t) = iblk m c 0 t := by
    funext y; rw [eq_ix2 y]; pointwise [k0_pay4]
  rw [h4, pay3_apply, dot_3328]

/-- The gated linear unit's array. -/
def resU (c : Dev nD) : Buf (Elt Ideal) ((c : Thread nD τ).loc main_v48_0) := fun i => (glu (xs m c) (ws m c) (i 0).val (i 1).val : EReal)

/-- Each point writes its rows' gated linear unit back. -/
theorem flushed_5 (c : Dev nD) (t : Fin cfg0.N) (hf : (cfg0.win 5).flush t = true) :
    (dats m 0 c).flushed 5 t = ((cfg0.win 5).blk t).view.read (Elt Ideal) (resU m c) := by
  show (cfg0.win 5).cut (grid0.coords t) ((dats m 0 c).after 5 t) = _
  rw [after0_5]
  funext (y : S544x1024.Idx)
  rw [View.read_apply, eq_ix2 y]
  refine (out_5 m c t (y 0) (y 1)).trans ?_
  have e0 : (((cfg0.win 5).blk t).view.emb (ix2 (y 0) (y 1)) 0).val = 544 * t.val + (y 0).val := by
    show win0_5.index t 0 * 544 + 1 * (y 0).val = _
    rw [(index0_5 t).1]; omega
  have e1 : (((cfg0.win 5).blk t).view.emb (ix2 (y 0) (y 1)) 1).val = (y 1).val := by
    show win0_5.index t 1 * 1024 + 1 * (y 1).val = _
    rw [(index0_5 t).2]; omega
  unfold resU
  rw [e0, e1]
  rfl

/-- So the array ends holding every row's gated linear unit. -/
theorem final_5 (c : Dev nD) : (dats m 0 c).arrAt 5 cfg0.N = resU m c :=
  (dats m 0 c).arrAt_eq_of_cover 5 (resU m c) (flushed_5 m c) fun i => by
    have hN : cfg0.N = 16 := N_0
    have h0 : (i 0 : Nat) < 8704 := (i 0).isLt
    have h1 : (i 1 : Nat) < 1024 := (i 1).isLt
    obtain ⟨t, ht⟩ : ∃ t : Fin cfg0.N, t.val = (i 0 : Nat) / 544 := ⟨⟨(i 0 : Nat) / 544, by omega⟩, rfl⟩
    refine ⟨t, flush0_5 t, ?_⟩
    have e := index0_5 t
    show i ∈ ((View.whole main_v48_0).slice (win0_5.rect t)).set
    rw [View.set_slice_whole, Rect.mem_set_unit]
    intro a
    match a with
    | ⟨0, _⟩ => show win0_5.index t 0 * 544 ≤ (i 0 : Nat) ∧ (i 0 : Nat) < win0_5.index t 0 * 544 + 544
                rw [e.1]; omega
    | ⟨1, _⟩ => show win0_5.index t 1 * 1024 ≤ (i 1 : Nat) ∧ (i 1 : Nat) < win0_5.index t 1 * 1024 + 1024
                rw [e.2]; omega

/-- The queries' array. -/
def resQ (c : Dev nD) : Buf (Elt Ideal) ((c : Thread nD τ).loc main_v48_1) := fun i => (turned (xs m c) (ws m c) 2048 (i 0).val (i 1).val * Ideal.ofBits .f32 0x3E38AA3B#32 : EReal)

/-- Each point writes its rows' queries back. -/
theorem flushed_6 (c : Dev nD) (t : Fin cfg0.N) (hf : (cfg0.win 6).flush t = true) :
    (dats m 0 c).flushed 6 t = ((cfg0.win 6).blk t).view.read (Elt Ideal) (resQ m c) := by
  show (cfg0.win 6).cut (grid0.coords t) ((dats m 0 c).after 6 t) = _
  rw [after0_6]
  funext (y : S544x1024.Idx)
  rw [View.read_apply, eq_ix2 y]
  refine (out_6 m c t (y 0) (y 1)).trans ?_
  have e0 : (((cfg0.win 6).blk t).view.emb (ix2 (y 0) (y 1)) 0).val = 544 * t.val + (y 0).val := by
    show win0_6.index t 0 * 544 + 1 * (y 0).val = _
    rw [(index0_6 t).1]; omega
  have e1 : (((cfg0.win 6).blk t).view.emb (ix2 (y 0) (y 1)) 1).val = (y 1).val := by
    show win0_6.index t 1 * 1024 + 1 * (y 1).val = _
    rw [(index0_6 t).2]; omega
  unfold resQ
  rw [e0, e1]
  rfl

/-- So the array ends holding every row's queries. -/
theorem final_6 (c : Dev nD) : (dats m 0 c).arrAt 6 cfg0.N = resQ m c :=
  (dats m 0 c).arrAt_eq_of_cover 6 (resQ m c) (flushed_6 m c) fun i => by
    have hN : cfg0.N = 16 := N_0
    have h0 : (i 0 : Nat) < 8704 := (i 0).isLt
    have h1 : (i 1 : Nat) < 1024 := (i 1).isLt
    obtain ⟨t, ht⟩ : ∃ t : Fin cfg0.N, t.val = (i 0 : Nat) / 544 := ⟨⟨(i 0 : Nat) / 544, by omega⟩, rfl⟩
    refine ⟨t, flush0_6 t, ?_⟩
    have e := index0_6 t
    show i ∈ ((View.whole main_v48_1).slice (win0_6.rect t)).set
    rw [View.set_slice_whole, Rect.mem_set_unit]
    intro a
    match a with
    | ⟨0, _⟩ => show win0_6.index t 0 * 544 ≤ (i 0 : Nat) ∧ (i 0 : Nat) < win0_6.index t 0 * 544 + 544
                rw [e.1]; omega
    | ⟨1, _⟩ => show win0_6.index t 1 * 1024 ≤ (i 1 : Nat) ∧ (i 1 : Nat) < win0_6.index t 1 * 1024 + 1024
                rw [e.2]; omega

/-- The keys' array. -/
def resK (c : Dev nD) : Buf (Elt Ideal) ((c : Thread nD τ).loc main_v48_2) := fun i => (turned (xs m c) (ws m c) 3072 (i 0).val (i 1).val : EReal)

/-- Each point writes its rows' keys back. -/
theorem flushed_7 (c : Dev nD) (t : Fin cfg0.N) (hf : (cfg0.win 7).flush t = true) :
    (dats m 0 c).flushed 7 t = ((cfg0.win 7).blk t).view.read (Elt Ideal) (resK m c) := by
  show (cfg0.win 7).cut (grid0.coords t) ((dats m 0 c).after 7 t) = _
  rw [after0_7]
  funext (y : S544x256.Idx)
  rw [View.read_apply, eq_ix2 y]
  refine (out_7 m c t (y 0) (y 1)).trans ?_
  have e0 : (((cfg0.win 7).blk t).view.emb (ix2 (y 0) (y 1)) 0).val = 544 * t.val + (y 0).val := by
    show win0_7.index t 0 * 544 + 1 * (y 0).val = _
    rw [(index0_7 t).1]; omega
  have e1 : (((cfg0.win 7).blk t).view.emb (ix2 (y 0) (y 1)) 1).val = (y 1).val := by
    show win0_7.index t 1 * 256 + 1 * (y 1).val = _
    rw [(index0_7 t).2]; omega
  unfold resK
  rw [e0, e1]
  rfl

/-- So the array ends holding every row's keys. -/
theorem final_7 (c : Dev nD) : (dats m 0 c).arrAt 7 cfg0.N = resK m c :=
  (dats m 0 c).arrAt_eq_of_cover 7 (resK m c) (flushed_7 m c) fun i => by
    have hN : cfg0.N = 16 := N_0
    have h0 : (i 0 : Nat) < 8704 := (i 0).isLt
    have h1 : (i 1 : Nat) < 256 := (i 1).isLt
    obtain ⟨t, ht⟩ : ∃ t : Fin cfg0.N, t.val = (i 0 : Nat) / 544 := ⟨⟨(i 0 : Nat) / 544, by omega⟩, rfl⟩
    refine ⟨t, flush0_7 t, ?_⟩
    have e := index0_7 t
    show i ∈ ((View.whole main_v48_2).slice (win0_7.rect t)).set
    rw [View.set_slice_whole, Rect.mem_set_unit]
    intro a
    match a with
    | ⟨0, _⟩ => show win0_7.index t 0 * 544 ≤ (i 0 : Nat) ∧ (i 0 : Nat) < win0_7.index t 0 * 544 + 544
                rw [e.1]; omega
    | ⟨1, _⟩ => show win0_7.index t 1 * 256 ≤ (i 1 : Nat) ∧ (i 1 : Nat) < win0_7.index t 1 * 256 + 256
                rw [e.2]; omega

/-- The values' array. -/
def resV (c : Dev nD) : Buf (Elt Ideal) ((c : Thread nD τ).loc main_v48_3) := fun i => (proj (xs m c) (ws m c) (i 0).val (3328 + (i 1).val) : EReal)

/-- Each point writes its rows' values back. -/
theorem flushed_8 (c : Dev nD) (t : Fin cfg0.N) (hf : (cfg0.win 8).flush t = true) :
    (dats m 0 c).flushed 8 t = ((cfg0.win 8).blk t).view.read (Elt Ideal) (resV m c) := by
  show (cfg0.win 8).cut (grid0.coords t) ((dats m 0 c).after 8 t) = _
  rw [after0_8]
  funext (y : S544x256.Idx)
  rw [View.read_apply, eq_ix2 y]
  refine (out_8 m c t (y 0) (y 1)).trans ?_
  have e0 : (((cfg0.win 8).blk t).view.emb (ix2 (y 0) (y 1)) 0).val = 544 * t.val + (y 0).val := by
    show win0_8.index t 0 * 544 + 1 * (y 0).val = _
    rw [(index0_8 t).1]; omega
  have e1 : (((cfg0.win 8).blk t).view.emb (ix2 (y 0) (y 1)) 1).val = (y 1).val := by
    show win0_8.index t 1 * 256 + 1 * (y 1).val = _
    rw [(index0_8 t).2]; omega
  unfold resV
  rw [e0, e1]
  rfl

/-- So the array ends holding every row's values. -/
theorem final_8 (c : Dev nD) : (dats m 0 c).arrAt 8 cfg0.N = resV m c :=
  (dats m 0 c).arrAt_eq_of_cover 8 (resV m c) (flushed_8 m c) fun i => by
    have hN : cfg0.N = 16 := N_0
    have h0 : (i 0 : Nat) < 8704 := (i 0).isLt
    have h1 : (i 1 : Nat) < 256 := (i 1).isLt
    obtain ⟨t, ht⟩ : ∃ t : Fin cfg0.N, t.val = (i 0 : Nat) / 544 := ⟨⟨(i 0 : Nat) / 544, by omega⟩, rfl⟩
    refine ⟨t, flush0_8 t, ?_⟩
    have e := index0_8 t
    show i ∈ ((View.whole main_v48_3).slice (win0_8.rect t)).set
    rw [View.set_slice_whole, Rect.mem_set_unit]
    intro a
    match a with
    | ⟨0, _⟩ => show win0_8.index t 0 * 544 ≤ (i 0 : Nat) ∧ (i 0 : Nat) < win0_8.index t 0 * 544 + 544
                rw [e.1]; omega
    | ⟨1, _⟩ => show win0_8.index t 1 * 256 ≤ (i 1 : Nat) ∧ (i 1 : Nat) < win0_8.index t 1 * 256 + 256
                rw [e.2]; omega

end Cert.Kernel3Ideal.UqkvValue

end
-- ==== Proof.UqkvValue.lean ====
/-
  The joined projection's results: what the host lines after the launch make of the four arrays it wrote, entry by entry,
  and the program's run.
-/
module

public import proofs.«01_k».proof.Proof.UqkvBlocks

@[expose] public section

set_option maxRecDepth 16384

noncomputable section

namespace Cert.Kernel3Ideal.UqkvValue

open Cert.Kernel3Ideal Cert.Kernel3Ideal.Gen Idealize.ShloMosaic Idealize.ShloMosaic.TcCoe Cert.Layer

variable (m : (ℓ : Loc nD τ sig) → Buf (Elt Ideal) ℓ) (ρ : Dev nD → PrngReg)

/-- The two prompt sequences' last 128 rows of an array of 256 columns, a head per 64 columns. -/
def lastHeads (A : FVec Ideal S8704x256 .f32) : FVec Ideal S1x2x128x4x64 .f32 :=
  broadcastInDim S1x2x128x4x64 ![1, 2, 3, 4] bcast_S2x128x4x64_S1x2x128x4x64_1_2_3_4 (shapeCast S2x128x4x64
    (concatenate S2x128x256 0 [⟨S1x128x256, broadcastInDim S1x128x256 ![1, 2] bcast_S128x256_S1x128x256_1_2
        (extractStridedSlice S128x256 ![3968, 0] A slices_S8704x256_S128x256_3968_0)⟩,
      ⟨S1x128x256, broadcastInDim S1x128x256 ![1, 2] bcast_S128x256_S1x128x256_1_2
        (extractStridedSlice S128x256 ![8064, 0] A slices_S8704x256_S128x256_8064_0)⟩] concatenates_S1x128x256_S1x128x256_S2x128x256_d0)
    shapeCasts_S2x128x256_S2x128x4x64)
/-- The two prompt sequences' last 30 rows of an array of 1024 columns. -/
def lastRows (A : FVec Ideal S8704x1024 .f32) : FVec Ideal S1x2x30x1024 .f32 :=
  broadcastInDim S1x2x30x1024 ![1, 2, 3] bcast_S2x30x1024_S1x2x30x1024_1_2_3
    (concatenate S2x30x1024 0 [⟨S1x30x1024, broadcastInDim S1x30x1024 ![1, 2] bcast_S30x1024_S1x30x1024_1_2
        (extractStridedSlice S30x1024 ![4066, 0] A slices_S8704x1024_S30x1024_4066_0)⟩,
      ⟨S1x30x1024, broadcastInDim S1x30x1024 ![1, 2] bcast_S30x1024_S1x30x1024_1_2
        (extractStridedSlice S30x1024 ![8162, 0] A slices_S8704x1024_S30x1024_8162_0)⟩] concatenates_S1x30x1024_S1x30x1024_S2x30x1024_d0)
/-- The sample sequences' caches: the old cache's rows and then the array's last 512, the last 128 of each. -/
def newHeads (old : FVec Ideal S1x8x128x4x64 .f32) (A : FVec Ideal S8704x256 .f32) : FVec Ideal S1x8x128x4x64 .f32 :=
  broadcastInDim S1x8x128x4x64 ![1, 2, 3, 4] bcast_S8x128x4x64_S1x8x128x4x64_1_2_3_4 (extractStridedSlice S8x128x4x64 ![0, 64, 0, 0]
    (concatenate S8x192x4x64 1 [⟨S8x128x4x64, shapeCast S8x128x4x64 old shapeCasts_S1x8x128x4x64_S8x128x4x64⟩,
      ⟨S8x64x4x64, shapeCast S8x64x4x64 (extractStridedSlice S512x256 ![8192, 0] A slices_S8704x256_S512x256_8192_0) shapeCasts_S512x256_S8x64x4x64⟩]
      concatenates_S8x128x4x64_S8x64x4x64_S8x192x4x64_d1) slices_S8x192x4x64_S8x128x4x64_0_64_0_0)
/-- The sample sequences' convolution states: the old state's rows and then the array's last 512, the last 30 of each. -/
def newRows (old : FVec Ideal S1x8x30x1024 .f32) (A : FVec Ideal S8704x1024 .f32) : FVec Ideal S1x8x30x1024 .f32 :=
  broadcastInDim S1x8x30x1024 ![1, 2, 3] bcast_S8x30x1024_S1x8x30x1024_1_2_3 (extractStridedSlice S8x30x1024 ![0, 64, 0]
    (concatenate S8x94x1024 1 [⟨S8x30x1024, shapeCast S8x30x1024 old shapeCasts_S1x8x30x1024_S8x30x1024⟩,
      ⟨S8x64x1024, shapeCast S8x64x1024 (extractStridedSlice S512x1024 ![8192, 0] A slices_S8704x1024_S512x1024_8192_0) shapeCasts_S512x1024_S8x64x1024⟩]
      concatenates_S8x30x1024_S8x64x1024_S8x94x1024_d1) slices_S8x94x1024_S8x30x1024_0_64_0)

/-- An entry of the last 128 rows. -/
theorem lastHeads_apply (A : FVec Ideal S8704x256 .f32) (z : Fin 1) (b : Fin 2) (t : Fin 128) (n : Fin 4) (l : Fin 64) :
    lastHeads A (ix5 z b t n l) = A (ix2 ⟨b.val * 4096 + (3968 + t.val), by omega⟩ ⟨64 * n.val + l.val, by omega⟩) := by
  have hb := b.isLt
  have ht := t.isLt
  have hn := n.isLt
  have hl := l.isLt
  unfold lastHeads
  refine (broadcastInDim_apply _ _ _ _ (ix4 b t n l) (fun a => match a with
    | ⟨0, _⟩ => rfl | ⟨1, _⟩ => rfl | ⟨2, _⟩ => rfl | ⟨3, _⟩ => rfl)).trans ?_
  refine (shapeCast_apply _ _ _ (ix3 b t ⟨64 * n.val + l.val, by omega⟩) (by
    rw [Shape.rowMajor_val_four, Shape.rowMajor_val_three]
    show (b.val * 128 + t.val) * 256 + (64 * n.val + l.val) = ((b.val * 128 + t.val) * 4 + n.val) * 64 + l.val
    omega)).trans ?_
  rw [concatenate_pair_apply]
  by_cases h : b.val < 1
  · refine (dif_pos (show b.val < 1 from h)).trans ?_
    refine (broadcastInDim_apply _ _ _ _ (ix2 t ⟨64 * n.val + l.val, by omega⟩) (fun a => match a with
      | ⟨0, _⟩ => rfl | ⟨1, _⟩ => rfl)).trans ?_
    refine extractStridedSlice_apply _ _ _ _ _ (fun a => ?_)
    match a with
    | ⟨0, _⟩ => show b.val * 4096 + (3968 + t.val) = 3968 + t.val
                omega
    | ⟨1, _⟩ => show 64 * n.val + l.val = 0 + (64 * n.val + l.val)
                omega
  · refine (dif_neg (show ¬b.val < 1 from h)).trans ?_
    refine (broadcastInDim_apply _ _ _ _ (ix2 t ⟨64 * n.val + l.val, by omega⟩) (fun a => match a with
      | ⟨0, _⟩ => rfl | ⟨1, _⟩ => rfl)).trans ?_
    refine extractStridedSlice_apply _ _ _ _ _ (fun a => ?_)
    match a with
    | ⟨0, _⟩ => show b.val * 4096 + (3968 + t.val) = 8064 + t.val
                omega
    | ⟨1, _⟩ => show 64 * n.val + l.val = 0 + (64 * n.val + l.val)
                omega

/-- An entry of the last 30 rows. -/
theorem lastRows_apply (A : FVec Ideal S8704x1024 .f32) (z : Fin 1) (b : Fin 2) (t : Fin 30) (k : Fin 1024) :
    lastRows A (ix4 z b t k) = A (ix2 ⟨b.val * 4096 + (4066 + t.val), by omega⟩ k) := by
  have hb := b.isLt
  have ht := t.isLt
  unfold lastRows
  refine (broadcastInDim_apply _ _ _ _ (ix3 b t k) (fun a => match a with
    | ⟨0, _⟩ => rfl | ⟨1, _⟩ => rfl | ⟨2, _⟩ => rfl)).trans ?_
  rw [concatenate_pair_apply]
  by_cases h : b.val < 1
  · refine (dif_pos (show b.val < 1 from h)).trans ?_
    refine (broadcastInDim_apply _ _ _ _ (ix2 t k) (fun a => match a with
      | ⟨0, _⟩ => rfl | ⟨1, _⟩ => rfl)).trans ?_
    refine extractStridedSlice_apply _ _ _ _ _ (fun a => ?_)
    match a with
    | ⟨0, _⟩ => show b.val * 4096 + (4066 + t.val) = 4066 + t.val
                omega
    | ⟨1, _⟩ => show k.val = 0 + k.val
                omega
  · refine (dif_neg (show ¬b.val < 1 from h)).trans ?_
    refine (broadcastInDim_apply _ _ _ _ (ix2 t k) (fun a => match a with
      | ⟨0, _⟩ => rfl | ⟨1, _⟩ => rfl)).trans ?_
    refine extractStridedSlice_apply _ _ _ _ _ (fun a => ?_)
    match a with
    | ⟨0, _⟩ => show b.val * 4096 + (4066 + t.val) = 8162 + t.val
                omega
    | ⟨1, _⟩ => show k.val = 0 + k.val
                omega

/-- An entry of the new caches, of an array with entries `f`. -/
theorem newHeads_apply (old : FVec Ideal S1x8x128x4x64 .f32) (A : FVec Ideal S8704x256 .f32) (f : ℕ → ℕ → EReal)
    (hA : ∀ (R : Fin 8704) (k : Fin 256), A (ix2 R k) = f R.val k.val) (z : Fin 1) (b : Fin 8) (t : Fin 128) (n : Fin 4) (l : Fin 64) :
    newHeads old A (ix5 z b t n l) = cached old f b t n l := by
  have hb := b.isLt
  have ht := t.isLt
  have hn := n.isLt
  have hl := l.isLt
  unfold newHeads cached
  refine (broadcastInDim_apply _ _ _ _ (ix4 b t n l) (fun a => match a with
    | ⟨0, _⟩ => rfl | ⟨1, _⟩ => rfl | ⟨2, _⟩ => rfl | ⟨3, _⟩ => rfl)).trans ?_
  refine (extractStridedSlice_apply _ _ _ _ (ix4 b ⟨64 + t.val, by omega⟩ n l) (fun a => match a with
    | ⟨0, _⟩ => (Nat.zero_add _).symm | ⟨1, _⟩ => rfl | ⟨2, _⟩ => (Nat.zero_add _).symm | ⟨3, _⟩ => (Nat.zero_add _).symm)).trans ?_
  rw [concatenate_pair_apply]
  by_cases h : 64 + t.val < 128
  · rw [dif_pos h]
    refine (dif_pos (show 64 + t.val < 128 from h)).trans ?_
    refine (congrArg (shapeCast S8x128x4x64 old shapeCasts_S1x8x128x4x64_S8x128x4x64) (show _ = ix4 b ⟨64 + t.val, h⟩ n l by
      funext a; match a with | ⟨0, _⟩ => rfl | ⟨1, _⟩ => rfl | ⟨2, _⟩ => rfl | ⟨3, _⟩ => rfl)).trans ?_
    exact shapeCast_lead4 _ _ b _ n l
  · rw [dif_neg h]
    refine (dif_neg (show ¬64 + t.val < 128 from h)).trans ?_
    rw [← hA ⟨8192 + (b.val * 64 + (64 + t.val - 128)), by omega⟩ ⟨64 * n.val + l.val, by omega⟩]
    refine (shapeCast_apply _ _ _ (ix2 ⟨b.val * 64 + (64 + t.val - 128), by omega⟩ ⟨64 * n.val + l.val, by omega⟩) (by
      rw [Shape.rowMajor_val_four, Shape.rowMajor_val_two]
      show (b.val * 64 + (64 + t.val - 128)) * 256 + (64 * n.val + l.val) = ((b.val * 64 + (64 + t.val - 128)) * 4 + n.val) * 64 + l.val
      omega)).trans ?_
    exact extractStridedSlice_apply _ _ _ _ _ (fun a => match a with
      | ⟨0, _⟩ => rfl
      | ⟨1, _⟩ => (Nat.zero_add _).symm)

/-- An entry of the new states: always one of the array's rows. -/
theorem newRows_apply (old : FVec Ideal S1x8x30x1024 .f32) (A : FVec Ideal S8704x1024 .f32) (z : Fin 1) (b : Fin 8) (t : Fin 30) (k : Fin 1024) :
    newRows old A (ix4 z b t k) = A (ix2 ⟨8192 + (b.val * 64 + (34 + t.val)), by omega⟩ k) := by
  have hb := b.isLt
  have ht := t.isLt
  unfold newRows
  refine (broadcastInDim_apply _ _ _ _ (ix3 b t k) (fun a => match a with
    | ⟨0, _⟩ => rfl | ⟨1, _⟩ => rfl | ⟨2, _⟩ => rfl)).trans ?_
  refine (extractStridedSlice_apply _ _ _ _ (ix3 b ⟨64 + t.val, by omega⟩ k) (fun a => match a with
    | ⟨0, _⟩ => (Nat.zero_add _).symm | ⟨1, _⟩ => rfl | ⟨2, _⟩ => (Nat.zero_add _).symm)).trans ?_
  rw [concatenate_pair_apply]
  refine (dif_neg (show ¬64 + t.val < 30 by omega)).trans ?_
  refine (shapeCast_apply _ _ _ (ix2 ⟨b.val * 64 + (34 + t.val), by omega⟩ k) (by
    rw [Shape.rowMajor_val_three, Shape.rowMajor_val_two]
    show (b.val * 64 + (34 + t.val)) * 1024 + k.val = (b.val * 64 + (64 + t.val - 30)) * 1024 + k.val
    omega)).trans ?_
  exact extractStridedSlice_apply _ _ _ _ _ (fun a => match a with
    | ⟨0, _⟩ => rfl
    | ⟨1, _⟩ => (Nat.zero_add _).symm)

/-- The buffers after the launch, before the host lines that follow it. -/
def W (c : Dev nD) : Valuation τ sig (Elt Ideal) :=
  Pipeline.withArrays spec0 c (V0 m c) fun w => (dats m 0 c).arrAt w cfg0.N

/-- They hold the launch's array 5. -/
theorem W_5 (c : Dev nD) : W m c (Proc.devRef .tc main_v48_0) = resU m c :=
  (Pipeline.withArrays_arr spec0 (by decide) c (V0 m c) _ 5).trans (final_5 m c)
/-- They hold the launch's array 7. -/
theorem W_7 (c : Dev nD) : W m c (Proc.devRef .tc main_v48_2) = resK m c :=
  (Pipeline.withArrays_arr spec0 (by decide) c (V0 m c) _ 7).trans (final_7 m c)
/-- They hold the launch's array 8. -/
theorem W_8 (c : Dev nD) : W m c (Proc.devRef .tc main_v48_3) = resV m c :=
  (Pipeline.withArrays_arr spec0 (by decide) c (V0 m c) _ 8).trans (final_8 m c)
/-- They hold the argument's array. -/
theorem W_a2 (c : Dev nD) : W m c (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)
/-- They hold the argument's array. -/
theorem W_a3 (c : Dev nD) : W m c (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)
/-- They hold the argument's array. -/
theorem W_a4 (c : Dev nD) : W m c (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)

/-- What the host lines leave in result buffer 81. -/
theorem tail_81 (c : Dev nD) : Pipeline.afterTail₀ cfgs (dats m) 0 (V0 m) [hostOps1] c main_v81 = lastHeads (resK m c) := by
  rw [← W_7 m c]
  show StableHlo.after hostOps1 (W m c) (Proc.devRef .tc main_v81) = _
  generalize W m c = U
  after_results
  rfl

/-- What the host lines leave in result buffer 82. -/
theorem tail_82 (c : Dev nD) : Pipeline.afterTail₀ cfgs (dats m) 0 (V0 m) [hostOps1] c main_v82 = lastHeads (resV m c) := by
  rw [← W_8 m c]
  show StableHlo.after hostOps1 (W m c) (Proc.devRef .tc main_v82) = _
  generalize W m c = U
  after_results
  rfl

/-- What the host lines leave in result buffer 83. -/
theorem tail_83 (c : Dev nD) : Pipeline.afterTail₀ cfgs (dats m) 0 (V0 m) [hostOps1] c main_v83 = lastRows (resU m c) := by
  rw [← W_5 m c]
  show StableHlo.after hostOps1 (W m c) (Proc.devRef .tc main_v83) = _
  generalize W m c = U
  after_results
  rfl

/-- What the host lines leave in result buffer 84. -/
theorem tail_84 (c : Dev nD) : Pipeline.afterTail₀ cfgs (dats m) 0 (V0 m) [hostOps1] c main_v84 = newHeads (m ((c : Thread nD τ).loc main_arg3)) (resK m c) := by
  rw [← W_7 m c, ← W_a3 m c]
  show StableHlo.after hostOps1 (W m c) (Proc.devRef .tc main_v84) = _
  generalize W m c = U
  after_results
  rfl

/-- What the host lines leave in result buffer 85. -/
theorem tail_85 (c : Dev nD) : Pipeline.afterTail₀ cfgs (dats m) 0 (V0 m) [hostOps1] c main_v85 = newHeads (m ((c : Thread nD τ).loc main_arg4)) (resV m c) := by
  rw [← W_8 m c, ← W_a4 m c]
  show StableHlo.after hostOps1 (W m c) (Proc.devRef .tc main_v85) = _
  generalize W m c = U
  after_results
  rfl

/-- What the host lines leave in result buffer 86. -/
theorem tail_86 (c : Dev nD) : Pipeline.afterTail₀ cfgs (dats m) 0 (V0 m) [hostOps1] c main_v86 = newRows (m ((c : Thread nD τ).loc main_arg2)) (resU m c) := by
  rw [← W_5 m c, ← W_a2 m c]
  show StableHlo.after hostOps1 (W m c) (Proc.devRef .tc main_v86) = _
  generalize W m c = U
  after_results
  rfl

/-- The program's run: the four arrays the launch writes, the six results made of them, and the arguments as they were. -/
theorem run : θ_run defs (onTc (τ := τ) (main (F := Ideal))) (s₀ m ρ) (fun r => ∀ c : Dev nD,
    r.2.mem ((c : Thread nD τ).loc main_v48_0) = resU m c ∧
    r.2.mem ((c : Thread nD τ).loc main_v48_1) = resQ m c ∧
    r.2.mem ((c : Thread nD τ).loc main_v48_2) = resK m c ∧
    r.2.mem ((c : Thread nD τ).loc main_v48_3) = resV m c ∧
    r.2.mem ((c : Thread nD τ).loc main_v81) = lastHeads (resK m c) ∧
    r.2.mem ((c : Thread nD τ).loc main_v82) = lastHeads (resV m c) ∧
    r.2.mem ((c : Thread nD τ).loc main_v83) = lastRows (resU m c) ∧
    r.2.mem ((c : Thread nD τ).loc main_v84) = newHeads (m ((c : Thread nD τ).loc main_arg3)) (resK m c) ∧
    r.2.mem ((c : Thread nD τ).loc main_v85) = newHeads (m ((c : Thread nD τ).loc main_arg4)) (resV m c) ∧
    r.2.mem ((c : Thread nD τ).loc main_v86) = newRows (m ((c : Thread nD τ).loc main_arg2)) (resU m c) ∧
    r.2.mem ((c : Thread nD τ).loc main_arg0) = m ((c : Thread nD τ).loc main_arg0) ∧
    r.2.mem ((c : Thread nD τ).loc main_arg1) = m ((c : Thread nD τ).loc main_arg1) ∧
    r.2.mem ((c : Thread nD τ).loc main_arg2) = m ((c : Thread nD τ).loc main_arg2) ∧
    r.2.mem ((c : Thread nD τ).loc main_arg3) = m ((c : Thread nD τ).loc main_arg3) ∧
    r.2.mem ((c : Thread nD τ).loc main_arg4) = m ((c : Thread nD τ).loc main_arg4)) :=
  (θ_run defs _ _).mono (fun r h c => ⟨((h c).1 5).trans (final_5 m c), ((h c).1 6).trans (final_6 m c),
    ((h c).1 7).trans (final_7 m c), ((h c).1 8).trans (final_8 m c),
    ((h c).2 main_v81 (Pipeline.mem_restRefs_of main_v81 (by decide) (by decide))).trans (tail_81 m c),
    ((h c).2 main_v82 (Pipeline.mem_restRefs_of main_v82 (by decide) (by decide))).trans (tail_82 m c),
    ((h c).2 main_v83 (Pipeline.mem_restRefs_of main_v83 (by decide) (by decide))).trans (tail_83 m c),
    ((h c).2 main_v84 (Pipeline.mem_restRefs_of main_v84 (by decide) (by decide))).trans (tail_84 m c),
    ((h c).2 main_v85 (Pipeline.mem_restRefs_of main_v85 (by decide) (by decide))).trans (tail_85 m c),
    ((h c).2 main_v86 (Pipeline.mem_restRefs_of main_v86 (by decide) (by decide))).trans (tail_86 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c)⟩)
    (run_main m ρ)

end Cert.Kernel3Ideal.UqkvValue

end
-- ==== Proof.UqkvRef.lean ====
/-
  The mathematics' result arrays of the joined projection, entry by entry: the gated linear unit, the turned queries and
  keys and the values, for the prompt's rows and the sample's.
-/
module

public import proofs.«01_k».proof.Proof.UqkvLayer
public import proofs.«01_k».proof.Proof.Gen.Reference3Ideal.Read

@[expose] public section

set_option maxRecDepth 16384

noncomputable section

namespace Cert.Reference3Ideal.UqkvRef

open Cert.Reference3Ideal Cert.Reference3Ideal.Read Idealize.ShloMosaic Cert.Layer

/-- The frequencies, stated four times. -/
theorem freq_eq (l : Fin 8) : val_main_v29 (F := Ideal) (ix1 l) = freq l.val := by
  simp only [val_main_v29_apply, val_main_v28_apply, val_main_cst_4_apply, val_main_v27_apply, val_main_v26_apply, val_main_cst_3_apply, val_main_v25_apply, val_main_v24_apply, val_main_v23_apply, val_main_cst_2_apply, val_main_v22_apply, val_main_v21_apply, val_main_cst_1_apply]
  rfl
theorem freq_eq_k (l : Fin 8) : val_main_v70 (F := Ideal) (ix1 l) = freq l.val := freq_eq l
theorem freq_eq_sq (l : Fin 8) : val_main_v133 (F := Ideal) (ix1 l) = freq l.val := freq_eq l
theorem freq_eq_sk (l : Fin 8) : val_main_v174 (F := Ideal) (ix1 l) = freq l.val := freq_eq l

/-- The prompt: an entry of the projection. -/
theorem proj_p (x0 : (⟨S8704x2048, .f32⟩ : BufTy).Contents (Elt Ideal)) (x1 : (⟨S1x2048x7680, .f32⟩ : BufTy).Contents (Elt Ideal)) (b : Fin 2) (t : Fin 4096) (c : Fin 7680) :
    val_main_v4 (F := Ideal) x0 x1 (ix3 b t c) = proj x0 x1 (b.val * 4096 + t.val) c.val := by
  have hb := b.isLt
  have ht := t.isLt
  have hc := c.isLt
  rw [val_main_v4_apply]
  unfold proj dot
  refine Finset.sum_congr rfl fun j _ => ?_
  have hj := j.isLt
  rw [val_main_v1_apply, val_main_v0_apply]
  have e1 : idx_main_v0 (idx_main_v1 (lidx_main_v4 (ix3 b t c) j)) = ix2 ⟨(b.val * 4096 + t.val) % 8704, Nat.mod_lt _ (by norm_num)⟩ j := by
    funext a
    apply Fin.ext
    match a with
    | ⟨0, _⟩ => show ((b.val * 4096 + t.val) * 2048 + j.val) / 2048 = (b.val * 4096 + t.val) % 8704
                omega
    | ⟨1, _⟩ => show ((b.val * 4096 + t.val) * 2048 + j.val) % 2048 = j.val
                omega
  have e2 : ridx_main_v4 (ix3 b t c) j = ix2 j c := by
    funext a; match a with | ⟨0, _⟩ => rfl | ⟨1, _⟩ => rfl
  have e3 : (⟨c.val % 7680, Nat.mod_lt _ (by norm_num)⟩ : Fin 7680) = c := Fin.ext (Nat.mod_eq_of_lt hc)
  rw [e1, e2, e3]
  unfold val_main_v3
  rw [shapeCast_lead]

/-- The prompt: an entry of the gated linear unit. -/
theorem glu_p (x0 : (⟨S8704x2048, .f32⟩ : BufTy).Contents (Elt Ideal)) (x1 : (⟨S1x2048x7680, .f32⟩ : BufTy).Contents (Elt Ideal)) (b : Fin 2) (t : Fin 4096) (c : Fin 1024) :
    val_main_v18 (F := Ideal) x0 x1 (ix3 b t c) = glu x0 x1 (b.val * 4096 + t.val) c.val := by
  simp only [val_main_v18_apply, val_main_v17_apply, val_main_v16_apply, val_main_cst_0_apply, val_main_v15_apply, val_main_v14_apply, val_main_cst_apply, val_main_v13_apply, val_main_v12_apply, val_main_v6_apply, val_main_v5_apply]
  have e1 : idx_main_v5 (ix3 b t c) = ix3 b t ⟨c.val, by omega⟩ := by
    funext a; match a with | ⟨0, _⟩ => rfl | ⟨1, _⟩ => rfl | ⟨2, _⟩ => rfl
  have e2 : idx_main_v6 (ix3 b t c) = ix3 b t ⟨1024 + c.val, by omega⟩ := by
    funext a; match a with | ⟨0, _⟩ => rfl | ⟨1, _⟩ => rfl | ⟨2, _⟩ => rfl
  rw [e1, e2, proj_p, proj_p]
  unfold glu
  show _ * Ideal.div one (one + Ideal.exp (-_)) = _ * Ideal.div 1 (1 + Ideal.exp (-_))
  rw [one_eq]

/-- The prompt: an entry of the values. -/
theorem v_p (x0 : (⟨S8704x2048, .f32⟩ : BufTy).Contents (Elt Ideal)) (x1 : (⟨S1x2048x7680, .f32⟩ : BufTy).Contents (Elt Ideal)) (b : Fin 2) (t : Fin 4096) (n : Fin 4) (l : Fin 64) :
    val_main_v101 (F := Ideal) x0 x1 (ix4 b t n l) = proj x0 x1 (b.val * 4096 + t.val) (3328 + (64 * n.val + l.val)) := by
  have hb := b.isLt
  have ht := t.isLt
  have hn := n.isLt
  have hl := l.isLt
  rw [val_main_v101_apply, val_main_v9_apply]
  have e1 : idx_main_v9 (idx_main_v101 (ix4 b t n l)) = ix3 b t ⟨3328 + (64 * n.val + l.val), by omega⟩ := by
    funext a
    apply Fin.ext
    match a with
    | ⟨0, _⟩ => show (((b.val * 4096 + t.val) * 4 + n.val) * 64 + l.val) / 1048576 = b.val
                omega
    | ⟨1, _⟩ => show (((b.val * 4096 + t.val) * 4 + n.val) * 64 + l.val) / 256 % 4096 = t.val
                omega
    | ⟨2, _⟩ => show 3328 + (((b.val * 4096 + t.val) * 4 + n.val) * 64 + l.val) % 256 = 3328 + (64 * n.val + l.val)
                omega
  rw [e1, proj_p]

/-- The prompt: an entry of the queries before the turn. -/
theorem q_p (x0 : (⟨S8704x2048, .f32⟩ : BufTy).Contents (Elt Ideal)) (x1 : (⟨S1x2048x7680, .f32⟩ : BufTy).Contents (Elt Ideal)) (b : Fin 2) (t : Fin 4096) (n : Fin 16) (l : Fin 64) :
    val_main_v19 (F := Ideal) x0 x1 (ix4 b t n l) = proj x0 x1 (b.val * 4096 + t.val) (2048 + (64 * n.val + l.val)) := by
  have hb := b.isLt
  have ht := t.isLt
  have hn := n.isLt
  have hl := l.isLt
  rw [val_main_v19_apply, val_main_v7_apply]
  have e1 : idx_main_v7 (idx_main_v19 (ix4 b t n l)) = ix3 b t ⟨2048 + (64 * n.val + l.val), by omega⟩ := by
    funext a
    apply Fin.ext
    match a with
    | ⟨0, _⟩ => show (((b.val * 4096 + t.val) * 16 + n.val) * 64 + l.val) / 4194304 = b.val
                omega
    | ⟨1, _⟩ => show (((b.val * 4096 + t.val) * 16 + n.val) * 64 + l.val) / 1024 % 4096 = t.val
                omega
    | ⟨2, _⟩ => show 2048 + (((b.val * 4096 + t.val) * 16 + n.val) * 64 + l.val) % 1024 = 2048 + (64 * n.val + l.val)
                omega
  rw [e1, proj_p]

/-- The prompt: the cosine and the sine the queries meet. -/
theorem cos_qp (t : Fin 4096) (l : Fin 8) : val_main_v36 (F := Ideal) (ix2 t l) = cosA (BitVec.ofNat 32 t.val) l.val := by
  simp only [val_main_v36_apply, val_main_v35_apply, val_main_v34_apply, val_main_v33_apply, val_main_v32_apply, val_main_v31_apply, val_main_v30_apply, val_main_v2_apply]
  have e : idx_main_v32 (idx_main_v34 (ix2 t l)) = ix1 l := by funext a; match a with | ⟨0, _⟩ => rfl
  rw [e, freq_eq]
  rfl
theorem sin_qp (t : Fin 4096) (l : Fin 8) : val_main_v38 (F := Ideal) (ix2 t l) = sinA (BitVec.ofNat 32 t.val) l.val := by
  simp only [val_main_v38_apply, val_main_v35_apply, val_main_v34_apply, val_main_v33_apply, val_main_v32_apply, val_main_v31_apply, val_main_v30_apply, val_main_v2_apply]
  have e : idx_main_v32 (idx_main_v34 (ix2 t l)) = ix1 l := by funext a; match a with | ⟨0, _⟩ => rfl
  rw [e, freq_eq]
  rfl

/-- The prompt: the turned queries' first eight columns … -/
theorem lo_qp (x0 : (⟨S8704x2048, .f32⟩ : BufTy).Contents (Elt Ideal)) (x1 : (⟨S1x2048x7680, .f32⟩ : BufTy).Contents (Elt Ideal)) (b : Fin 2) (t : Fin 4096) (n : Fin 16) (l : Fin 8) :
    val_main_v49 (F := Ideal) x0 x1 (ix4 b t n l) = proj x0 x1 (b.val * 4096 + t.val) (2048 + (64 * n.val + l.val)) * cosA (BitVec.ofNat 32 t.val) l.val
      - proj x0 x1 (b.val * 4096 + t.val) (2048 + (64 * n.val + (l.val + 8))) * sinA (BitVec.ofNat 32 t.val) l.val := by
  simp only [val_main_v49_apply, val_main_v45_apply, val_main_v48_apply, val_main_v41_apply, val_main_v42_apply, val_main_v40_apply, val_main_v44_apply, val_main_v43_apply, val_main_v37_apply, val_main_v47_apply, val_main_v46_apply, val_main_v39_apply]
  have e1 : idx_main_v40 (idx_main_v41 (ix4 b t n l)) = ix4 b t n ⟨l.val, by omega⟩ := by
    funext a; match a with | ⟨0, _⟩ => rfl | ⟨1, _⟩ => rfl | ⟨2, _⟩ => rfl | ⟨3, _⟩ => rfl
  have e2 : idx_main_v40 (idx_main_v42 (ix4 b t n l)) = ix4 b t n ⟨l.val + 8, by omega⟩ := by
    funext a; match a with | ⟨0, _⟩ => rfl | ⟨1, _⟩ => rfl | ⟨2, _⟩ => rfl | ⟨3, _⟩ => exact Fin.ext (Nat.add_comm 8 l.val)
  have e3 : idx_main_v37 (idx_main_v43 (idx_main_v44 (ix4 b t n l))) = ix2 t l := by
    funext a; match a with | ⟨0, _⟩ => rfl | ⟨1, _⟩ => rfl
  have e4 : idx_main_v39 (idx_main_v46 (idx_main_v47 (ix4 b t n l))) = ix2 t l := by
    funext a; match a with | ⟨0, _⟩ => rfl | ⟨1, _⟩ => rfl
  rw [e1, e2, e3, e4, q_p, q_p, cos_qp, sin_qp]
  rfl
/-- … and the next eight. -/
theorem hi_qp (x0 : (⟨S8704x2048, .f32⟩ : BufTy).Contents (Elt Ideal)) (x1 : (⟨S1x2048x7680, .f32⟩ : BufTy).Contents (Elt Ideal)) (b : Fin 2) (t : Fin 4096) (n : Fin 16) (l : Fin 8) :
    val_main_v56 (F := Ideal) x0 x1 (ix4 b t n l) = proj x0 x1 (b.val * 4096 + t.val) (2048 + (64 * n.val + (l.val + 8))) * cosA (BitVec.ofNat 32 t.val) l.val
      + proj x0 x1 (b.val * 4096 + t.val) (2048 + (64 * n.val + l.val)) * sinA (BitVec.ofNat 32 t.val) l.val := by
  simp only [val_main_v56_apply, val_main_v52_apply, val_main_v55_apply, val_main_v41_apply, val_main_v42_apply, val_main_v40_apply, val_main_v51_apply, val_main_v50_apply, val_main_v37_apply, val_main_v54_apply, val_main_v53_apply, val_main_v39_apply]
  have e1 : idx_main_v40 (idx_main_v41 (ix4 b t n l)) = ix4 b t n ⟨l.val, by omega⟩ := by
    funext a; match a with | ⟨0, _⟩ => rfl | ⟨1, _⟩ => rfl | ⟨2, _⟩ => rfl | ⟨3, _⟩ => rfl
  have e2 : idx_main_v40 (idx_main_v42 (ix4 b t n l)) = ix4 b t n ⟨l.val + 8, by omega⟩ := by
    funext a; match a with | ⟨0, _⟩ => rfl | ⟨1, _⟩ => rfl | ⟨2, _⟩ => rfl | ⟨3, _⟩ => exact Fin.ext (Nat.add_comm 8 l.val)
  have e3 : idx_main_v37 (idx_main_v50 (idx_main_v51 (ix4 b t n l))) = ix2 t l := by
    funext a; match a with | ⟨0, _⟩ => rfl | ⟨1, _⟩ => rfl
  have e4 : idx_main_v39 (idx_main_v53 (idx_main_v54 (ix4 b t n l))) = ix2 t l := by
    funext a; match a with | ⟨0, _⟩ => rfl | ⟨1, _⟩ => rfl
  rw [e1, e2, e3, e4, q_p, q_p, cos_qp, sin_qp]
  rfl

/-- The prompt: an entry of the turned queries. -/
theorem turn_qp (x0 : (⟨S8704x2048, .f32⟩ : BufTy).Contents (Elt Ideal)) (x1 : (⟨S1x2048x7680, .f32⟩ : BufTy).Contents (Elt Ideal)) (b : Fin 2) (t : Fin 4096) (n : Fin 16) (l : Fin 64) :
    val_main_v59 (F := Ideal) x0 x1 (ix4 b t n l) = turn (fun l => proj x0 x1 (b.val * 4096 + t.val) (2048 + (64 * n.val + l))) (cosA (BitVec.ofNat 32 t.val)) (sinA (BitVec.ofNat 32 t.val)) l.val := by
  have hl := l.isLt
  unfold val_main_v59 turn
  rw [concatenate_pair_apply]
  by_cases h16 : l.val < 16
  · refine (dif_pos (show l.val < 16 from h16)).trans ?_
    refine (congrArg (val_main_v57 (F := Ideal) x0 x1) (show _ = ix4 b t n ⟨l.val, h16⟩ by
      funext a; match a with | ⟨0, _⟩ => rfl | ⟨1, _⟩ => rfl | ⟨2, _⟩ => rfl | ⟨3, _⟩ => rfl)).trans ?_
    unfold val_main_v57
    rw [concatenate_pair_apply]
    by_cases h8 : l.val < 8
    · rw [if_pos h8]
      refine (dif_pos (show l.val < 8 from h8)).trans ?_
      refine (congrArg (val_main_v49 (F := Ideal) x0 x1) (show _ = ix4 b t n ⟨l.val, h8⟩ by
        funext a; match a with | ⟨0, _⟩ => rfl | ⟨1, _⟩ => rfl | ⟨2, _⟩ => rfl | ⟨3, _⟩ => rfl)).trans ?_
      exact lo_qp x0 x1 b t n ⟨l.val, h8⟩
    · rw [if_neg h8, if_pos h16]
      refine (dif_neg (show ¬l.val < 8 from h8)).trans ?_
      refine (congrArg (val_main_v56 (F := Ideal) x0 x1) (show _ = ix4 b t n ⟨l.val - 8, by omega⟩ by
        funext a; match a with | ⟨0, _⟩ => rfl | ⟨1, _⟩ => rfl | ⟨2, _⟩ => rfl | ⟨3, _⟩ => rfl)).trans ?_
      refine (hi_qp x0 x1 b t n ⟨l.val - 8, by omega⟩).trans ?_
      have e : l.val - 8 + 8 = l.val := by omega
      dsimp only
      rw [e]
  · rw [if_neg (by omega), if_neg h16]
    refine (dif_neg (show ¬l.val < 16 from h16)).trans ?_
    refine (congrArg (val_main_v58 (F := Ideal) x0 x1) (show _ = ix4 b t n ⟨l.val - 16, by omega⟩ by
      funext a; match a with | ⟨0, _⟩ => rfl | ⟨1, _⟩ => rfl | ⟨2, _⟩ => rfl | ⟨3, _⟩ => rfl)).trans ?_
    rw [val_main_v58_apply]
    have e : idx_main_v58 (ix4 b t n ⟨l.val - 16, by omega⟩) = ix4 b t n l := by
      funext a; match a with | ⟨0, _⟩ => rfl | ⟨1, _⟩ => rfl | ⟨2, _⟩ => rfl | ⟨3, _⟩ => exact Fin.ext (show 16 + (l.val - 16) = l.val by omega)
    rw [e, q_p]

/-- The prompt: an entry of the keys before the turn. -/
theorem k_p (x0 : (⟨S8704x2048, .f32⟩ : BufTy).Contents (Elt Ideal)) (x1 : (⟨S1x2048x7680, .f32⟩ : BufTy).Contents (Elt Ideal)) (b : Fin 2) (t : Fin 4096) (n : Fin 4) (l : Fin 64) :
    val_main_v60 (F := Ideal) x0 x1 (ix4 b t n l) = proj x0 x1 (b.val * 4096 + t.val) (3072 + (64 * n.val + l.val)) := by
  have hb := b.isLt
  have ht := t.isLt
  have hn := n.isLt
  have hl := l.isLt
  rw [val_main_v60_apply, val_main_v8_apply]
  have e1 : idx_main_v8 (idx_main_v60 (ix4 b t n l)) = ix3 b t ⟨3072 + (64 * n.val + l.val), by omega⟩ := by
    funext a
    apply Fin.ext
    match a with
    | ⟨0, _⟩ => show (((b.val * 4096 + t.val) * 4 + n.val) * 64 + l.val) / 1048576 = b.val
                omega
    | ⟨1, _⟩ => show (((b.val * 4096 + t.val) * 4 + n.val) * 64 + l.val) / 256 % 4096 = t.val
                omega
    | ⟨2, _⟩ => show 3072 + (((b.val * 4096 + t.val) * 4 + n.val) * 64 + l.val) % 256 = 3072 + (64 * n.val + l.val)
                omega
  rw [e1, proj_p]

/-- The prompt: the cosine and the sine the keys meet. -/
theorem cos_kp (t : Fin 4096) (l : Fin 8) : val_main_v77 (F := Ideal) (ix2 t l) = cosA (BitVec.ofNat 32 t.val) l.val := by
  simp only [val_main_v77_apply, val_main_v76_apply, val_main_v75_apply, val_main_v74_apply, val_main_v73_apply, val_main_v72_apply, val_main_v71_apply, val_main_v2_apply]
  have e : idx_main_v73 (idx_main_v75 (ix2 t l)) = ix1 l := by funext a; match a with | ⟨0, _⟩ => rfl
  rw [e, freq_eq_k]
  rfl
theorem sin_kp (t : Fin 4096) (l : Fin 8) : val_main_v79 (F := Ideal) (ix2 t l) = sinA (BitVec.ofNat 32 t.val) l.val := by
  simp only [val_main_v79_apply, val_main_v76_apply, val_main_v75_apply, val_main_v74_apply, val_main_v73_apply, val_main_v72_apply, val_main_v71_apply, val_main_v2_apply]
  have e : idx_main_v73 (idx_main_v75 (ix2 t l)) = ix1 l := by funext a; match a with | ⟨0, _⟩ => rfl
  rw [e, freq_eq_k]
  rfl

/-- The prompt: the turned keys' first eight columns … -/
theorem lo_kp (x0 : (⟨S8704x2048, .f32⟩ : BufTy).Contents (Elt Ideal)) (x1 : (⟨S1x2048x7680, .f32⟩ : BufTy).Contents (Elt Ideal)) (b : Fin 2) (t : Fin 4096) (n : Fin 4) (l : Fin 8) :
    val_main_v90 (F := Ideal) x0 x1 (ix4 b t n l) = proj x0 x1 (b.val * 4096 + t.val) (3072 + (64 * n.val + l.val)) * cosA (BitVec.ofNat 32 t.val) l.val
      - proj x0 x1 (b.val * 4096 + t.val) (3072 + (64 * n.val + (l.val + 8))) * sinA (BitVec.ofNat 32 t.val) l.val := by
  simp only [val_main_v90_apply, val_main_v86_apply, val_main_v89_apply, val_main_v82_apply, val_main_v83_apply, val_main_v81_apply, val_main_v85_apply, val_main_v84_apply, val_main_v78_apply, val_main_v88_apply, val_main_v87_apply, val_main_v80_apply]
  have e1 : idx_main_v81 (idx_main_v82 (ix4 b t n l)) = ix4 b t n ⟨l.val, by omega⟩ := by
    funext a; match a with | ⟨0, _⟩ => rfl | ⟨1, _⟩ => rfl | ⟨2, _⟩ => rfl | ⟨3, _⟩ => rfl
  have e2 : idx_main_v81 (idx_main_v83 (ix4 b t n l)) = ix4 b t n ⟨l.val + 8, by omega⟩ := by
    funext a; match a with | ⟨0, _⟩ => rfl | ⟨1, _⟩ => rfl | ⟨2, _⟩ => rfl | ⟨3, _⟩ => exact Fin.ext (Nat.add_comm 8 l.val)
  have e3 : idx_main_v78 (idx_main_v84 (idx_main_v85 (ix4 b t n l))) = ix2 t l := by
    funext a; match a with | ⟨0, _⟩ => rfl | ⟨1, _⟩ => rfl
  have e4 : idx_main_v80 (idx_main_v87 (idx_main_v88 (ix4 b t n l))) = ix2 t l := by
    funext a; match a with | ⟨0, _⟩ => rfl | ⟨1, _⟩ => rfl
  rw [e1, e2, e3, e4, k_p, k_p, cos_kp, sin_kp]
  rfl
/-- … and the next eight. -/
theorem hi_kp (x0 : (⟨S8704x2048, .f32⟩ : BufTy).Contents (Elt Ideal)) (x1 : (⟨S1x2048x7680, .f32⟩ : BufTy).Contents (Elt Ideal)) (b : Fin 2) (t : Fin 4096) (n : Fin 4) (l : Fin 8) :
    val_main_v97 (F := Ideal) x0 x1 (ix4 b t n l) = proj x0 x1 (b.val * 4096 + t.val) (3072 + (64 * n.val + (l.val + 8))) * cosA (BitVec.ofNat 32 t.val) l.val
      + proj x0 x1 (b.val * 4096 + t.val) (3072 + (64 * n.val + l.val)) * sinA (BitVec.ofNat 32 t.val) l.val := by
  simp only [val_main_v97_apply, val_main_v93_apply, val_main_v96_apply, val_main_v82_apply, val_main_v83_apply, val_main_v81_apply, val_main_v92_apply, val_main_v91_apply, val_main_v78_apply, val_main_v95_apply, val_main_v94_apply, val_main_v80_apply]
  have e1 : idx_main_v81 (idx_main_v82 (ix4 b t n l)) = ix4 b t n ⟨l.val, by omega⟩ := by
    funext a; match a with | ⟨0, _⟩ => rfl | ⟨1, _⟩ => rfl | ⟨2, _⟩ => rfl | ⟨3, _⟩ => rfl
  have e2 : idx_main_v81 (idx_main_v83 (ix4 b t n l)) = ix4 b t n ⟨l.val + 8, by omega⟩ := by
    funext a; match a with | ⟨0, _⟩ => rfl | ⟨1, _⟩ => rfl | ⟨2, _⟩ => rfl | ⟨3, _⟩ => exact Fin.ext (Nat.add_comm 8 l.val)
  have e3 : idx_main_v78 (idx_main_v91 (idx_main_v92 (ix4 b t n l))) = ix2 t l := by
    funext a; match a with | ⟨0, _⟩ => rfl | ⟨1, _⟩ => rfl
  have e4 : idx_main_v80 (idx_main_v94 (idx_main_v95 (ix4 b t n l))) = ix2 t l := by
    funext a; match a with | ⟨0, _⟩ => rfl | ⟨1, _⟩ => rfl
  rw [e1, e2, e3, e4, k_p, k_p, cos_kp, sin_kp]
  rfl

/-- The prompt: an entry of the turned keys. -/
theorem turn_kp (x0 : (⟨S8704x2048, .f32⟩ : BufTy).Contents (Elt Ideal)) (x1 : (⟨S1x2048x7680, .f32⟩ : BufTy).Contents (Elt Ideal)) (b : Fin 2) (t : Fin 4096) (n : Fin 4) (l : Fin 64) :
    val_main_v100 (F := Ideal) x0 x1 (ix4 b t n l) = turn (fun l => proj x0 x1 (b.val * 4096 + t.val) (3072 + (64 * n.val + l))) (cosA (BitVec.ofNat 32 t.val)) (sinA (BitVec.ofNat 32 t.val)) l.val := by
  have hl := l.isLt
  unfold val_main_v100 turn
  rw [concatenate_pair_apply]
  by_cases h16 : l.val < 16
  · refine (dif_pos (show l.val < 16 from h16)).trans ?_
    refine (congrArg (val_main_v98 (F := Ideal) x0 x1) (show _ = ix4 b t n ⟨l.val, h16⟩ by
      funext a; match a with | ⟨0, _⟩ => rfl | ⟨1, _⟩ => rfl | ⟨2, _⟩ => rfl | ⟨3, _⟩ => rfl)).trans ?_
    unfold val_main_v98
    rw [concatenate_pair_apply]
    by_cases h8 : l.val < 8
    · rw [if_pos h8]
      refine (dif_pos (show l.val < 8 from h8)).trans ?_
      refine (congrArg (val_main_v90 (F := Ideal) x0 x1) (show _ = ix4 b t n ⟨l.val, h8⟩ by
        funext a; match a with | ⟨0, _⟩ => rfl | ⟨1, _⟩ => rfl | ⟨2, _⟩ => rfl | ⟨3, _⟩ => rfl)).trans ?_
      exact lo_kp x0 x1 b t n ⟨l.val, h8⟩
    · rw [if_neg h8, if_pos h16]
      refine (dif_neg (show ¬l.val < 8 from h8)).trans ?_
      refine (congrArg (val_main_v97 (F := Ideal) x0 x1) (show _ = ix4 b t n ⟨l.val - 8, by omega⟩ by
        funext a; match a with | ⟨0, _⟩ => rfl | ⟨1, _⟩ => rfl | ⟨2, _⟩ => rfl | ⟨3, _⟩ => rfl)).trans ?_
      refine (hi_kp x0 x1 b t n ⟨l.val - 8, by omega⟩).trans ?_
      have e : l.val - 8 + 8 = l.val := by omega
      dsimp only
      rw [e]
  · rw [if_neg (by omega), if_neg h16]
    refine (dif_neg (show ¬l.val < 16 from h16)).trans ?_
    refine (congrArg (val_main_v99 (F := Ideal) x0 x1) (show _ = ix4 b t n ⟨l.val - 16, by omega⟩ by
      funext a; match a with | ⟨0, _⟩ => rfl | ⟨1, _⟩ => rfl | ⟨2, _⟩ => rfl | ⟨3, _⟩ => rfl)).trans ?_
    rw [val_main_v99_apply]
    have e : idx_main_v99 (ix4 b t n ⟨l.val - 16, by omega⟩) = ix4 b t n l := by
      funext a; match a with | ⟨0, _⟩ => rfl | ⟨1, _⟩ => rfl | ⟨2, _⟩ => rfl | ⟨3, _⟩ => exact Fin.ext (show 16 + (l.val - 16) = l.val by omega)
    rw [e, k_p]

/-- The sample: an entry of the projection. -/
theorem proj_s (x0 : (⟨S8704x2048, .f32⟩ : BufTy).Contents (Elt Ideal)) (x1 : (⟨S1x2048x7680, .f32⟩ : BufTy).Contents (Elt Ideal)) (b : Fin 8) (t : Fin 64) (c : Fin 7680) :
    val_main_v108 (F := Ideal) x0 x1 (ix3 b t c) = proj x0 x1 (8192 + (b.val * 64 + t.val)) c.val := by
  have hb := b.isLt
  have ht := t.isLt
  have hc := c.isLt
  rw [val_main_v108_apply]
  unfold proj dot
  refine Finset.sum_congr rfl fun j _ => ?_
  have hj := j.isLt
  rw [val_main_v103_apply, val_main_v102_apply]
  have e1 : idx_main_v102 (idx_main_v103 (lidx_main_v108 (ix3 b t c) j)) = ix2 ⟨(8192 + (b.val * 64 + t.val)) % 8704, Nat.mod_lt _ (by norm_num)⟩ j := by
    funext a
    apply Fin.ext
    match a with
    | ⟨0, _⟩ => show 8192 + ((b.val * 64 + t.val) * 2048 + j.val) / 2048 = (8192 + (b.val * 64 + t.val)) % 8704
                omega
    | ⟨1, _⟩ => show ((b.val * 64 + t.val) * 2048 + j.val) % 2048 = j.val
                omega
  have e2 : ridx_main_v108 (ix3 b t c) j = ix2 j c := by
    funext a; match a with | ⟨0, _⟩ => rfl | ⟨1, _⟩ => rfl
  have e3 : (⟨c.val % 7680, Nat.mod_lt _ (by norm_num)⟩ : Fin 7680) = c := Fin.ext (Nat.mod_eq_of_lt hc)
  rw [e1, e2, e3]
  unfold val_main_v107
  rw [shapeCast_lead]

/-- The sample: an entry of the gated linear unit. -/
theorem glu_s (x0 : (⟨S8704x2048, .f32⟩ : BufTy).Contents (Elt Ideal)) (x1 : (⟨S1x2048x7680, .f32⟩ : BufTy).Contents (Elt Ideal)) (b : Fin 8) (t : Fin 64) (c : Fin 1024) :
    val_main_v122 (F := Ideal) x0 x1 (ix3 b t c) = glu x0 x1 (8192 + (b.val * 64 + t.val)) c.val := by
  simp only [val_main_v122_apply, val_main_v121_apply, val_main_v120_apply, val_main_cst_10_apply, val_main_v119_apply, val_main_v118_apply, val_main_cst_9_apply, val_main_v117_apply, val_main_v116_apply, val_main_v110_apply, val_main_v109_apply]
  have e1 : idx_main_v109 (ix3 b t c) = ix3 b t ⟨c.val, by omega⟩ := by
    funext a; match a with | ⟨0, _⟩ => rfl | ⟨1, _⟩ => rfl | ⟨2, _⟩ => rfl
  have e2 : idx_main_v110 (ix3 b t c) = ix3 b t ⟨1024 + c.val, by omega⟩ := by
    funext a; match a with | ⟨0, _⟩ => rfl | ⟨1, _⟩ => rfl | ⟨2, _⟩ => rfl
  rw [e1, e2, proj_s, proj_s]
  unfold glu
  show _ * Ideal.div one (one + Ideal.exp (-_)) = _ * Ideal.div 1 (1 + Ideal.exp (-_))
  rw [one_eq]

/-- The sample: an entry of the values. -/
theorem v_s (x0 : (⟨S8704x2048, .f32⟩ : BufTy).Contents (Elt Ideal)) (x1 : (⟨S1x2048x7680, .f32⟩ : BufTy).Contents (Elt Ideal)) (b : Fin 8) (t : Fin 64) (n : Fin 4) (l : Fin 64) :
    val_main_v205 (F := Ideal) x0 x1 (ix4 b t n l) = proj x0 x1 (8192 + (b.val * 64 + t.val)) (3328 + (64 * n.val + l.val)) := by
  have hb := b.isLt
  have ht := t.isLt
  have hn := n.isLt
  have hl := l.isLt
  rw [val_main_v205_apply, val_main_v113_apply]
  have e1 : idx_main_v113 (idx_main_v205 (ix4 b t n l)) = ix3 b t ⟨3328 + (64 * n.val + l.val), by omega⟩ := by
    funext a
    apply Fin.ext
    match a with
    | ⟨0, _⟩ => show (((b.val * 64 + t.val) * 4 + n.val) * 64 + l.val) / 16384 = b.val
                omega
    | ⟨1, _⟩ => show (((b.val * 64 + t.val) * 4 + n.val) * 64 + l.val) / 256 % 64 = t.val
                omega
    | ⟨2, _⟩ => show 3328 + (((b.val * 64 + t.val) * 4 + n.val) * 64 + l.val) % 256 = 3328 + (64 * n.val + l.val)
                omega
  rw [e1, proj_s]

/-- The sample: an entry of the queries before the turn. -/
theorem q_s (x0 : (⟨S8704x2048, .f32⟩ : BufTy).Contents (Elt Ideal)) (x1 : (⟨S1x2048x7680, .f32⟩ : BufTy).Contents (Elt Ideal)) (b : Fin 8) (t : Fin 64) (n : Fin 16) (l : Fin 64) :
    val_main_v123 (F := Ideal) x0 x1 (ix4 b t n l) = proj x0 x1 (8192 + (b.val * 64 + t.val)) (2048 + (64 * n.val + l.val)) := by
  have hb := b.isLt
  have ht := t.isLt
  have hn := n.isLt
  have hl := l.isLt
  rw [val_main_v123_apply, val_main_v111_apply]
  have e1 : idx_main_v111 (idx_main_v123 (ix4 b t n l)) = ix3 b t ⟨2048 + (64 * n.val + l.val), by omega⟩ := by
    funext a
    apply Fin.ext
    match a with
    | ⟨0, _⟩ => show (((b.val * 64 + t.val) * 16 + n.val) * 64 + l.val) / 65536 = b.val
                omega
    | ⟨1, _⟩ => show (((b.val * 64 + t.val) * 16 + n.val) * 64 + l.val) / 1024 % 64 = t.val
                omega
    | ⟨2, _⟩ => show 2048 + (((b.val * 64 + t.val) * 16 + n.val) * 64 + l.val) % 1024 = 2048 + (64 * n.val + l.val)
                omega
  rw [e1, proj_s]

/-- The sample: the cosine and the sine the queries meet. -/
theorem cos_qs (t : Fin 64) (l : Fin 8) : val_main_v140 (F := Ideal) (ix2 t l) = cosA (1024#32 + BitVec.ofNat 32 t.val) l.val := by
  simp only [val_main_v140_apply, val_main_v139_apply, val_main_v138_apply, val_main_v137_apply, val_main_v136_apply, val_main_v135_apply, val_main_v134_apply, val_main_v106_apply, val_main_v105_apply, val_main_c_apply, val_main_v104_apply]
  have e : idx_main_v136 (idx_main_v138 (ix2 t l)) = ix1 l := by funext a; match a with | ⟨0, _⟩ => rfl
  rw [e, freq_eq_sq]
  rfl
theorem sin_qs (t : Fin 64) (l : Fin 8) : val_main_v142 (F := Ideal) (ix2 t l) = sinA (1024#32 + BitVec.ofNat 32 t.val) l.val := by
  simp only [val_main_v142_apply, val_main_v139_apply, val_main_v138_apply, val_main_v137_apply, val_main_v136_apply, val_main_v135_apply, val_main_v134_apply, val_main_v106_apply, val_main_v105_apply, val_main_c_apply, val_main_v104_apply]
  have e : idx_main_v136 (idx_main_v138 (ix2 t l)) = ix1 l := by funext a; match a with | ⟨0, _⟩ => rfl
  rw [e, freq_eq_sq]
  rfl

/-- The sample: the turned queries' first eight columns … -/
theorem lo_qs (x0 : (⟨S8704x2048, .f32⟩ : BufTy).Contents (Elt Ideal)) (x1 : (⟨S1x2048x7680, .f32⟩ : BufTy).Contents (Elt Ideal)) (b : Fin 8) (t : Fin 64) (n : Fin 16) (l : Fin 8) :
    val_main_v153 (F := Ideal) x0 x1 (ix4 b t n l) = proj x0 x1 (8192 + (b.val * 64 + t.val)) (2048 + (64 * n.val + l.val)) * cosA (1024#32 + BitVec.ofNat 32 t.val) l.val
      - proj x0 x1 (8192 + (b.val * 64 + t.val)) (2048 + (64 * n.val + (l.val + 8))) * sinA (1024#32 + BitVec.ofNat 32 t.val) l.val := by
  simp only [val_main_v153_apply, val_main_v149_apply, val_main_v152_apply, val_main_v145_apply, val_main_v146_apply, val_main_v144_apply, val_main_v148_apply, val_main_v147_apply, val_main_v141_apply, val_main_v151_apply, val_main_v150_apply, val_main_v143_apply]
  have e1 : idx_main_v144 (idx_main_v145 (ix4 b t n l)) = ix4 b t n ⟨l.val, by omega⟩ := by
    funext a; match a with | ⟨0, _⟩ => rfl | ⟨1, _⟩ => rfl | ⟨2, _⟩ => rfl | ⟨3, _⟩ => rfl
  have e2 : idx_main_v144 (idx_main_v146 (ix4 b t n l)) = ix4 b t n ⟨l.val + 8, by omega⟩ := by
    funext a; match a with | ⟨0, _⟩ => rfl | ⟨1, _⟩ => rfl | ⟨2, _⟩ => rfl | ⟨3, _⟩ => exact Fin.ext (Nat.add_comm 8 l.val)
  have e3 : idx_main_v141 (idx_main_v147 (idx_main_v148 (ix4 b t n l))) = ix2 t l := by
    funext a; match a with | ⟨0, _⟩ => rfl | ⟨1, _⟩ => rfl
  have e4 : idx_main_v143 (idx_main_v150 (idx_main_v151 (ix4 b t n l))) = ix2 t l := by
    funext a; match a with | ⟨0, _⟩ => rfl | ⟨1, _⟩ => rfl
  rw [e1, e2, e3, e4, q_s, q_s, cos_qs, sin_qs]
  rfl
/-- … and the next eight. -/
theorem hi_qs (x0 : (⟨S8704x2048, .f32⟩ : BufTy).Contents (Elt Ideal)) (x1 : (⟨S1x2048x7680, .f32⟩ : BufTy).Contents (Elt Ideal)) (b : Fin 8) (t : Fin 64) (n : Fin 16) (l : Fin 8) :
    val_main_v160 (F := Ideal) x0 x1 (ix4 b t n l) = proj x0 x1 (8192 + (b.val * 64 + t.val)) (2048 + (64 * n.val + (l.val + 8))) * cosA (1024#32 + BitVec.ofNat 32 t.val) l.val
      + proj x0 x1 (8192 + (b.val * 64 + t.val)) (2048 + (64 * n.val + l.val)) * sinA (1024#32 + BitVec.ofNat 32 t.val) l.val := by
  simp only [val_main_v160_apply, val_main_v156_apply, val_main_v159_apply, val_main_v145_apply, val_main_v146_apply, val_main_v144_apply, val_main_v155_apply, val_main_v154_apply, val_main_v141_apply, val_main_v158_apply, val_main_v157_apply, val_main_v143_apply]
  have e1 : idx_main_v144 (idx_main_v145 (ix4 b t n l)) = ix4 b t n ⟨l.val, by omega⟩ := by
    funext a; match a with | ⟨0, _⟩ => rfl | ⟨1, _⟩ => rfl | ⟨2, _⟩ => rfl | ⟨3, _⟩ => rfl
  have e2 : idx_main_v144 (idx_main_v146 (ix4 b t n l)) = ix4 b t n ⟨l.val + 8, by omega⟩ := by
    funext a; match a with | ⟨0, _⟩ => rfl | ⟨1, _⟩ => rfl | ⟨2, _⟩ => rfl | ⟨3, _⟩ => exact Fin.ext (Nat.add_comm 8 l.val)
  have e3 : idx_main_v141 (idx_main_v154 (idx_main_v155 (ix4 b t n l))) = ix2 t l := by
    funext a; match a with | ⟨0, _⟩ => rfl | ⟨1, _⟩ => rfl
  have e4 : idx_main_v143 (idx_main_v157 (idx_main_v158 (ix4 b t n l))) = ix2 t l := by
    funext a; match a with | ⟨0, _⟩ => rfl | ⟨1, _⟩ => rfl
  rw [e1, e2, e3, e4, q_s, q_s, cos_qs, sin_qs]
  rfl

/-- The sample: an entry of the turned queries. -/
theorem turn_qs (x0 : (⟨S8704x2048, .f32⟩ : BufTy).Contents (Elt Ideal)) (x1 : (⟨S1x2048x7680, .f32⟩ : BufTy).Contents (Elt Ideal)) (b : Fin 8) (t : Fin 64) (n : Fin 16) (l : Fin 64) :
    val_main_v163 (F := Ideal) x0 x1 (ix4 b t n l) = turn (fun l => proj x0 x1 (8192 + (b.val * 64 + t.val)) (2048 + (64 * n.val + l))) (cosA (1024#32 + BitVec.ofNat 32 t.val)) (sinA (1024#32 + BitVec.ofNat 32 t.val)) l.val := by
  have hl := l.isLt
  unfold val_main_v163 turn
  rw [concatenate_pair_apply]
  by_cases h16 : l.val < 16
  · refine (dif_pos (show l.val < 16 from h16)).trans ?_
    refine (congrArg (val_main_v161 (F := Ideal) x0 x1) (show _ = ix4 b t n ⟨l.val, h16⟩ by
      funext a; match a with | ⟨0, _⟩ => rfl | ⟨1, _⟩ => rfl | ⟨2, _⟩ => rfl | ⟨3, _⟩ => rfl)).trans ?_
    unfold val_main_v161
    rw [concatenate_pair_apply]
    by_cases h8 : l.val < 8
    · rw [if_pos h8]
      refine (dif_pos (show l.val < 8 from h8)).trans ?_
      refine (congrArg (val_main_v153 (F := Ideal) x0 x1) (show _ = ix4 b t n ⟨l.val, h8⟩ by
        funext a; match a with | ⟨0, _⟩ => rfl | ⟨1, _⟩ => rfl | ⟨2, _⟩ => rfl | ⟨3, _⟩ => rfl)).trans ?_
      exact lo_qs x0 x1 b t n ⟨l.val, h8⟩
    · rw [if_neg h8, if_pos h16]
      refine (dif_neg (show ¬l.val < 8 from h8)).trans ?_
      refine (congrArg (val_main_v160 (F := Ideal) x0 x1) (show _ = ix4 b t n ⟨l.val - 8, by omega⟩ by
        funext a; match a with | ⟨0, _⟩ => rfl | ⟨1, _⟩ => rfl | ⟨2, _⟩ => rfl | ⟨3, _⟩ => rfl)).trans ?_
      refine (hi_qs x0 x1 b t n ⟨l.val - 8, by omega⟩).trans ?_
      have e : l.val - 8 + 8 = l.val := by omega
      dsimp only
      rw [e]
  · rw [if_neg (by omega), if_neg h16]
    refine (dif_neg (show ¬l.val < 16 from h16)).trans ?_
    refine (congrArg (val_main_v162 (F := Ideal) x0 x1) (show _ = ix4 b t n ⟨l.val - 16, by omega⟩ by
      funext a; match a with | ⟨0, _⟩ => rfl | ⟨1, _⟩ => rfl | ⟨2, _⟩ => rfl | ⟨3, _⟩ => rfl)).trans ?_
    rw [val_main_v162_apply]
    have e : idx_main_v162 (ix4 b t n ⟨l.val - 16, by omega⟩) = ix4 b t n l := by
      funext a; match a with | ⟨0, _⟩ => rfl | ⟨1, _⟩ => rfl | ⟨2, _⟩ => rfl | ⟨3, _⟩ => exact Fin.ext (show 16 + (l.val - 16) = l.val by omega)
    rw [e, q_s]

/-- The sample: an entry of the keys before the turn. -/
theorem k_s (x0 : (⟨S8704x2048, .f32⟩ : BufTy).Contents (Elt Ideal)) (x1 : (⟨S1x2048x7680, .f32⟩ : BufTy).Contents (Elt Ideal)) (b : Fin 8) (t : Fin 64) (n : Fin 4) (l : Fin 64) :
    val_main_v164 (F := Ideal) x0 x1 (ix4 b t n l) = proj x0 x1 (8192 + (b.val * 64 + t.val)) (3072 + (64 * n.val + l.val)) := by
  have hb := b.isLt
  have ht := t.isLt
  have hn := n.isLt
  have hl := l.isLt
  rw [val_main_v164_apply, val_main_v112_apply]
  have e1 : idx_main_v112 (idx_main_v164 (ix4 b t n l)) = ix3 b t ⟨3072 + (64 * n.val + l.val), by omega⟩ := by
    funext a
    apply Fin.ext
    match a with
    | ⟨0, _⟩ => show (((b.val * 64 + t.val) * 4 + n.val) * 64 + l.val) / 16384 = b.val
                omega
    | ⟨1, _⟩ => show (((b.val * 64 + t.val) * 4 + n.val) * 64 + l.val) / 256 % 64 = t.val
                omega
    | ⟨2, _⟩ => show 3072 + (((b.val * 64 + t.val) * 4 + n.val) * 64 + l.val) % 256 = 3072 + (64 * n.val + l.val)
                omega
  rw [e1, proj_s]

/-- The sample: the cosine and the sine the keys meet. -/
theorem cos_ks (t : Fin 64) (l : Fin 8) : val_main_v181 (F := Ideal) (ix2 t l) = cosA (1024#32 + BitVec.ofNat 32 t.val) l.val := by
  simp only [val_main_v181_apply, val_main_v180_apply, val_main_v179_apply, val_main_v178_apply, val_main_v177_apply, val_main_v176_apply, val_main_v175_apply, val_main_v106_apply, val_main_v105_apply, val_main_c_apply, val_main_v104_apply]
  have e : idx_main_v177 (idx_main_v179 (ix2 t l)) = ix1 l := by funext a; match a with | ⟨0, _⟩ => rfl
  rw [e, freq_eq_sk]
  rfl
theorem sin_ks (t : Fin 64) (l : Fin 8) : val_main_v183 (F := Ideal) (ix2 t l) = sinA (1024#32 + BitVec.ofNat 32 t.val) l.val := by
  simp only [val_main_v183_apply, val_main_v180_apply, val_main_v179_apply, val_main_v178_apply, val_main_v177_apply, val_main_v176_apply, val_main_v175_apply, val_main_v106_apply, val_main_v105_apply, val_main_c_apply, val_main_v104_apply]
  have e : idx_main_v177 (idx_main_v179 (ix2 t l)) = ix1 l := by funext a; match a with | ⟨0, _⟩ => rfl
  rw [e, freq_eq_sk]
  rfl

/-- The sample: the turned keys' first eight columns … -/
theorem lo_ks (x0 : (⟨S8704x2048, .f32⟩ : BufTy).Contents (Elt Ideal)) (x1 : (⟨S1x2048x7680, .f32⟩ : BufTy).Contents (Elt Ideal)) (b : Fin 8) (t : Fin 64) (n : Fin 4) (l : Fin 8) :
    val_main_v194 (F := Ideal) x0 x1 (ix4 b t n l) = proj x0 x1 (8192 + (b.val * 64 + t.val)) (3072 + (64 * n.val + l.val)) * cosA (1024#32 + BitVec.ofNat 32 t.val) l.val
      - proj x0 x1 (8192 + (b.val * 64 + t.val)) (3072 + (64 * n.val + (l.val + 8))) * sinA (1024#32 + BitVec.ofNat 32 t.val) l.val := by
  simp only [val_main_v194_apply, val_main_v190_apply, val_main_v193_apply, val_main_v186_apply, val_main_v187_apply, val_main_v185_apply, val_main_v189_apply, val_main_v188_apply, val_main_v182_apply, val_main_v192_apply, val_main_v191_apply, val_main_v184_apply]
  have e1 : idx_main_v185 (idx_main_v186 (ix4 b t n l)) = ix4 b t n ⟨l.val, by omega⟩ := by
    funext a; match a with | ⟨0, _⟩ => rfl | ⟨1, _⟩ => rfl | ⟨2, _⟩ => rfl | ⟨3, _⟩ => rfl
  have e2 : idx_main_v185 (idx_main_v187 (ix4 b t n l)) = ix4 b t n ⟨l.val + 8, by omega⟩ := by
    funext a; match a with | ⟨0, _⟩ => rfl | ⟨1, _⟩ => rfl | ⟨2, _⟩ => rfl | ⟨3, _⟩ => exact Fin.ext (Nat.add_comm 8 l.val)
  have e3 : idx_main_v182 (idx_main_v188 (idx_main_v189 (ix4 b t n l))) = ix2 t l := by
    funext a; match a with | ⟨0, _⟩ => rfl | ⟨1, _⟩ => rfl
  have e4 : idx_main_v184 (idx_main_v191 (idx_main_v192 (ix4 b t n l))) = ix2 t l := by
    funext a; match a with | ⟨0, _⟩ => rfl | ⟨1, _⟩ => rfl
  rw [e1, e2, e3, e4, k_s, k_s, cos_ks, sin_ks]
  rfl
/-- … and the next eight. -/
theorem hi_ks (x0 : (⟨S8704x2048, .f32⟩ : BufTy).Contents (Elt Ideal)) (x1 : (⟨S1x2048x7680, .f32⟩ : BufTy).Contents (Elt Ideal)) (b : Fin 8) (t : Fin 64) (n : Fin 4) (l : Fin 8) :
    val_main_v201 (F := Ideal) x0 x1 (ix4 b t n l) = proj x0 x1 (8192 + (b.val * 64 + t.val)) (3072 + (64 * n.val + (l.val + 8))) * cosA (1024#32 + BitVec.ofNat 32 t.val) l.val
      + proj x0 x1 (8192 + (b.val * 64 + t.val)) (3072 + (64 * n.val + l.val)) * sinA (1024#32 + BitVec.ofNat 32 t.val) l.val := by
  simp only [val_main_v201_apply, val_main_v197_apply, val_main_v200_apply, val_main_v186_apply, val_main_v187_apply, val_main_v185_apply, val_main_v196_apply, val_main_v195_apply, val_main_v182_apply, val_main_v199_apply, val_main_v198_apply, val_main_v184_apply]
  have e1 : idx_main_v185 (idx_main_v186 (ix4 b t n l)) = ix4 b t n ⟨l.val, by omega⟩ := by
    funext a; match a with | ⟨0, _⟩ => rfl | ⟨1, _⟩ => rfl | ⟨2, _⟩ => rfl | ⟨3, _⟩ => rfl
  have e2 : idx_main_v185 (idx_main_v187 (ix4 b t n l)) = ix4 b t n ⟨l.val + 8, by omega⟩ := by
    funext a; match a with | ⟨0, _⟩ => rfl | ⟨1, _⟩ => rfl | ⟨2, _⟩ => rfl | ⟨3, _⟩ => exact Fin.ext (Nat.add_comm 8 l.val)
  have e3 : idx_main_v182 (idx_main_v195 (idx_main_v196 (ix4 b t n l))) = ix2 t l := by
    funext a; match a with | ⟨0, _⟩ => rfl | ⟨1, _⟩ => rfl
  have e4 : idx_main_v184 (idx_main_v198 (idx_main_v199 (ix4 b t n l))) = ix2 t l := by
    funext a; match a with | ⟨0, _⟩ => rfl | ⟨1, _⟩ => rfl
  rw [e1, e2, e3, e4, k_s, k_s, cos_ks, sin_ks]
  rfl

/-- The sample: an entry of the turned keys. -/
theorem turn_ks (x0 : (⟨S8704x2048, .f32⟩ : BufTy).Contents (Elt Ideal)) (x1 : (⟨S1x2048x7680, .f32⟩ : BufTy).Contents (Elt Ideal)) (b : Fin 8) (t : Fin 64) (n : Fin 4) (l : Fin 64) :
    val_main_v204 (F := Ideal) x0 x1 (ix4 b t n l) = turn (fun l => proj x0 x1 (8192 + (b.val * 64 + t.val)) (3072 + (64 * n.val + l))) (cosA (1024#32 + BitVec.ofNat 32 t.val)) (sinA (1024#32 + BitVec.ofNat 32 t.val)) l.val := by
  have hl := l.isLt
  unfold val_main_v204 turn
  rw [concatenate_pair_apply]
  by_cases h16 : l.val < 16
  · refine (dif_pos (show l.val < 16 from h16)).trans ?_
    refine (congrArg (val_main_v202 (F := Ideal) x0 x1) (show _ = ix4 b t n ⟨l.val, h16⟩ by
      funext a; match a with | ⟨0, _⟩ => rfl | ⟨1, _⟩ => rfl | ⟨2, _⟩ => rfl | ⟨3, _⟩ => rfl)).trans ?_
    unfold val_main_v202
    rw [concatenate_pair_apply]
    by_cases h8 : l.val < 8
    · rw [if_pos h8]
      refine (dif_pos (show l.val < 8 from h8)).trans ?_
      refine (congrArg (val_main_v194 (F := Ideal) x0 x1) (show _ = ix4 b t n ⟨l.val, h8⟩ by
        funext a; match a with | ⟨0, _⟩ => rfl | ⟨1, _⟩ => rfl | ⟨2, _⟩ => rfl | ⟨3, _⟩ => rfl)).trans ?_
      exact lo_ks x0 x1 b t n ⟨l.val, h8⟩
    · rw [if_neg h8, if_pos h16]
      refine (dif_neg (show ¬l.val < 8 from h8)).trans ?_
      refine (congrArg (val_main_v201 (F := Ideal) x0 x1) (show _ = ix4 b t n ⟨l.val - 8, by omega⟩ by
        funext a; match a with | ⟨0, _⟩ => rfl | ⟨1, _⟩ => rfl | ⟨2, _⟩ => rfl | ⟨3, _⟩ => rfl)).trans ?_
      refine (hi_ks x0 x1 b t n ⟨l.val - 8, by omega⟩).trans ?_
      have e : l.val - 8 + 8 = l.val := by omega
      dsimp only
      rw [e]
  · rw [if_neg (by omega), if_neg h16]
    refine (dif_neg (show ¬l.val < 16 from h16)).trans ?_
    refine (congrArg (val_main_v203 (F := Ideal) x0 x1) (show _ = ix4 b t n ⟨l.val - 16, by omega⟩ by
      funext a; match a with | ⟨0, _⟩ => rfl | ⟨1, _⟩ => rfl | ⟨2, _⟩ => rfl | ⟨3, _⟩ => rfl)).trans ?_
    rw [val_main_v203_apply]
    have e : idx_main_v203 (ix4 b t n ⟨l.val - 16, by omega⟩) = ix4 b t n l := by
      funext a; match a with | ⟨0, _⟩ => rfl | ⟨1, _⟩ => rfl | ⟨2, _⟩ => rfl | ⟨3, _⟩ => exact Fin.ext (show 16 + (l.val - 16) = l.val by omega)
    rw [e, k_s]

end Cert.Reference3Ideal.UqkvRef

end
-- ==== Proof.UqkvOut.lean ====
/-
  The mathematics' ten result arrays of the joined projection, entry by entry: the joined rows' gated linear unit, queries,
  keys and values, the prompt's last rows and the sample's new caches.
-/
module

public import proofs.«01_k».proof.Proof.UqkvRef

@[expose] public section

set_option maxRecDepth 16384

noncomputable section

namespace Cert.Reference3Ideal.UqkvRef

open Cert.Reference3Ideal Cert.Reference3Ideal.Read Idealize.ShloMosaic Cert.Layer

/-- The prompt's turned queries by row. -/
theorem turned_qp (x0 : (⟨S8704x2048, .f32⟩ : BufTy).Contents (Elt Ideal)) (x1 : (⟨S1x2048x7680, .f32⟩ : BufTy).Contents (Elt Ideal)) (b : Fin 2) (t : Fin 4096) (n : Fin 16) (l : Fin 64) :
    val_main_v59 (F := Ideal) x0 x1 (ix4 b t n l) = turned x0 x1 2048 (b.val * 4096 + t.val) (64 * n.val + l.val) := by
  rw [turned_head _ _ _ _ _ _ l.isLt, place_p b.isLt t.isLt]
  exact turn_qp x0 x1 b t n l

/-- The prompt's turned keys by row. -/
theorem turned_kp (x0 : (⟨S8704x2048, .f32⟩ : BufTy).Contents (Elt Ideal)) (x1 : (⟨S1x2048x7680, .f32⟩ : BufTy).Contents (Elt Ideal)) (b : Fin 2) (t : Fin 4096) (n : Fin 4) (l : Fin 64) :
    val_main_v100 (F := Ideal) x0 x1 (ix4 b t n l) = turned x0 x1 3072 (b.val * 4096 + t.val) (64 * n.val + l.val) := by
  rw [turned_head _ _ _ _ _ _ l.isLt, place_p b.isLt t.isLt]
  exact turn_kp x0 x1 b t n l

/-- The sample's turned queries by row. -/
theorem turned_qs (x0 : (⟨S8704x2048, .f32⟩ : BufTy).Contents (Elt Ideal)) (x1 : (⟨S1x2048x7680, .f32⟩ : BufTy).Contents (Elt Ideal)) (b : Fin 8) (t : Fin 64) (n : Fin 16) (l : Fin 64) :
    val_main_v163 (F := Ideal) x0 x1 (ix4 b t n l) = turned x0 x1 2048 (8192 + (b.val * 64 + t.val)) (64 * n.val + l.val) := by
  rw [turned_head _ _ _ _ _ _ l.isLt, place_s t.isLt]
  exact turn_qs x0 x1 b t n l

/-- The sample's turned keys by row. -/
theorem turned_ks (x0 : (⟨S8704x2048, .f32⟩ : BufTy).Contents (Elt Ideal)) (x1 : (⟨S1x2048x7680, .f32⟩ : BufTy).Contents (Elt Ideal)) (b : Fin 8) (t : Fin 64) (n : Fin 4) (l : Fin 64) :
    val_main_v204 (F := Ideal) x0 x1 (ix4 b t n l) = turned x0 x1 3072 (8192 + (b.val * 64 + t.val)) (64 * n.val + l.val) := by
  rw [turned_head _ _ _ _ _ _ l.isLt, place_s t.isLt]
  exact turn_ks x0 x1 b t n l

/-- The joined rows' gated linear unit. -/
theorem out_u (x0 : (⟨S8704x2048, .f32⟩ : BufTy).Contents (Elt Ideal)) (x1 : (⟨S1x2048x7680, .f32⟩ : BufTy).Contents (Elt Ideal)) (R : Fin 8704) (c : Fin 1024) :
    val_main_v217 (F := Ideal) x0 x1 (ix2 R c) = glu x0 x1 R.val c.val := by
  have hR := R.isLt
  have hc := c.isLt
  unfold val_main_v217
  rw [concatenate_pair_apply]
  by_cases h : R.val < 8192
  · refine (dif_pos (show R.val < 8192 from h)).trans ?_
    refine (congrArg (val_main_v215 (F := Ideal) x0 x1) (show _ = ix2 ⟨R.val, by omega⟩ c by
      funext a; match a with | ⟨0, _⟩ => rfl | ⟨1, _⟩ => rfl)).trans ?_
    rw [val_main_v215_apply]
    have e : idx_main_v215 (ix2 ⟨R.val, by omega⟩ c) = ix3 ⟨R.val / 4096, by omega⟩ ⟨R.val % 4096, by omega⟩ c := by
      funext a
      apply Fin.ext
      match a with
      | ⟨0, _⟩ => show (R.val * 1024 + c.val) / 4194304 = R.val / 4096
                  omega
      | ⟨1, _⟩ => show (R.val * 1024 + c.val) / 1024 % 4096 = R.val % 4096
                  omega
      | ⟨2, _⟩ => show (R.val * 1024 + c.val) % 1024 = c.val
                  omega
    rw [e, glu_p]
    dsimp only
    rw [show R.val / 4096 * 4096 + R.val % 4096 = R.val by omega]
  · refine (dif_neg (show ¬R.val < 8192 from h)).trans ?_
    refine (congrArg (val_main_v216 (F := Ideal) x0 x1) (show _ = ix2 ⟨R.val - 8192, by omega⟩ c by
      funext a; match a with | ⟨0, _⟩ => rfl | ⟨1, _⟩ => rfl)).trans ?_
    rw [val_main_v216_apply]
    have e : idx_main_v216 (ix2 ⟨(R.val - 8192), by omega⟩ c) = ix3 ⟨(R.val - 8192) / 64, by omega⟩ ⟨(R.val - 8192) % 64, by omega⟩ c := by
      funext a
      apply Fin.ext
      match a with
      | ⟨0, _⟩ => show ((R.val - 8192) * 1024 + c.val) / 65536 = (R.val - 8192) / 64
                  omega
      | ⟨1, _⟩ => show ((R.val - 8192) * 1024 + c.val) / 1024 % 64 = (R.val - 8192) % 64
                  omega
      | ⟨2, _⟩ => show ((R.val - 8192) * 1024 + c.val) % 1024 = c.val
                  omega
    rw [e, glu_s]
    dsimp only
    rw [show 8192 + ((R.val - 8192) / 64 * 64 + (R.val - 8192) % 64) = R.val by omega]

/-- The joined rows' turned queries. -/
theorem out_q (x0 : (⟨S8704x2048, .f32⟩ : BufTy).Contents (Elt Ideal)) (x1 : (⟨S1x2048x7680, .f32⟩ : BufTy).Contents (Elt Ideal)) (R : Fin 8704) (c : Fin 1024) :
    val_main_v220 (F := Ideal) x0 x1 (ix2 R c) = turned x0 x1 2048 R.val c.val := by
  have hR := R.isLt
  have hc := c.isLt
  unfold val_main_v220
  rw [concatenate_pair_apply]
  by_cases h : R.val < 8192
  · refine (dif_pos (show R.val < 8192 from h)).trans ?_
    refine (congrArg (val_main_v218 (F := Ideal) x0 x1) (show _ = ix2 ⟨R.val, by omega⟩ c by
      funext a; match a with | ⟨0, _⟩ => rfl | ⟨1, _⟩ => rfl)).trans ?_
    rw [val_main_v218_apply]
    have e : idx_main_v218 (ix2 ⟨R.val, by omega⟩ c) = ix4 ⟨R.val / 4096, by omega⟩ ⟨R.val % 4096, by omega⟩ ⟨c.val / 64, by omega⟩ ⟨c.val % 64, by omega⟩ := by
      funext a
      apply Fin.ext
      match a with
      | ⟨0, _⟩ => show (R.val * 1024 + c.val) / 4194304 = R.val / 4096
                  omega
      | ⟨1, _⟩ => show (R.val * 1024 + c.val) / 1024 % 4096 = R.val % 4096
                  omega
      | ⟨2, _⟩ => show (R.val * 1024 + c.val) / 64 % 16 = c.val / 64
                  omega
      | ⟨3, _⟩ => show (R.val * 1024 + c.val) % 64 = c.val % 64
                  omega
    rw [e, turned_qp]
    dsimp only
    rw [show R.val / 4096 * 4096 + R.val % 4096 = R.val by omega, show 64 * (c.val / 64) + c.val % 64 = c.val by omega]
  · refine (dif_neg (show ¬R.val < 8192 from h)).trans ?_
    refine (congrArg (val_main_v219 (F := Ideal) x0 x1) (show _ = ix2 ⟨R.val - 8192, by omega⟩ c by
      funext a; match a with | ⟨0, _⟩ => rfl | ⟨1, _⟩ => rfl)).trans ?_
    rw [val_main_v219_apply]
    have e : idx_main_v219 (ix2 ⟨(R.val - 8192), by omega⟩ c) = ix4 ⟨(R.val - 8192) / 64, by omega⟩ ⟨(R.val - 8192) % 64, by omega⟩ ⟨c.val / 64, by omega⟩ ⟨c.val % 64, by omega⟩ := by
      funext a
      apply Fin.ext
      match a with
      | ⟨0, _⟩ => show ((R.val - 8192) * 1024 + c.val) / 65536 = (R.val - 8192) / 64
                  omega
      | ⟨1, _⟩ => show ((R.val - 8192) * 1024 + c.val) / 1024 % 64 = (R.val - 8192) % 64
                  omega
      | ⟨2, _⟩ => show ((R.val - 8192) * 1024 + c.val) / 64 % 16 = c.val / 64
                  omega
      | ⟨3, _⟩ => show ((R.val - 8192) * 1024 + c.val) % 64 = c.val % 64
                  omega
    rw [e, turned_qs]
    dsimp only
    rw [show 8192 + ((R.val - 8192) / 64 * 64 + (R.val - 8192) % 64) = R.val by omega, show 64 * (c.val / 64) + c.val % 64 = c.val by omega]

/-- The joined rows' turned keys. -/
theorem out_k (x0 : (⟨S8704x2048, .f32⟩ : BufTy).Contents (Elt Ideal)) (x1 : (⟨S1x2048x7680, .f32⟩ : BufTy).Contents (Elt Ideal)) (R : Fin 8704) (c : Fin 256) :
    val_main_v226 (F := Ideal) x0 x1 (ix2 R c) = turned x0 x1 3072 R.val c.val := by
  have hR := R.isLt
  have hc := c.isLt
  unfold val_main_v226
  rw [concatenate_pair_apply]
  by_cases h : R.val < 8192
  · refine (dif_pos (show R.val < 8192 from h)).trans ?_
    refine (congrArg (val_main_v224 (F := Ideal) x0 x1) (show _ = ix2 ⟨R.val, by omega⟩ c by
      funext a; match a with | ⟨0, _⟩ => rfl | ⟨1, _⟩ => rfl)).trans ?_
    rw [val_main_v224_apply]
    have e : idx_main_v224 (ix2 ⟨R.val, by omega⟩ c) = ix4 ⟨R.val / 4096, by omega⟩ ⟨R.val % 4096, by omega⟩ ⟨c.val / 64, by omega⟩ ⟨c.val % 64, by omega⟩ := by
      funext a
      apply Fin.ext
      match a with
      | ⟨0, _⟩ => show (R.val * 256 + c.val) / 1048576 = R.val / 4096
                  omega
      | ⟨1, _⟩ => show (R.val * 256 + c.val) / 256 % 4096 = R.val % 4096
                  omega
      | ⟨2, _⟩ => show (R.val * 256 + c.val) / 64 % 4 = c.val / 64
                  omega
      | ⟨3, _⟩ => show (R.val * 256 + c.val) % 64 = c.val % 64
                  omega
    rw [e, turned_kp]
    dsimp only
    rw [show R.val / 4096 * 4096 + R.val % 4096 = R.val by omega, show 64 * (c.val / 64) + c.val % 64 = c.val by omega]
  · refine (dif_neg (show ¬R.val < 8192 from h)).trans ?_
    refine (congrArg (val_main_v225 (F := Ideal) x0 x1) (show _ = ix2 ⟨R.val - 8192, by omega⟩ c by
      funext a; match a with | ⟨0, _⟩ => rfl | ⟨1, _⟩ => rfl)).trans ?_
    rw [val_main_v225_apply]
    have e : idx_main_v225 (ix2 ⟨(R.val - 8192), by omega⟩ c) = ix4 ⟨(R.val - 8192) / 64, by omega⟩ ⟨(R.val - 8192) % 64, by omega⟩ ⟨c.val / 64, by omega⟩ ⟨c.val % 64, by omega⟩ := by
      funext a
      apply Fin.ext
      match a with
      | ⟨0, _⟩ => show ((R.val - 8192) * 256 + c.val) / 16384 = (R.val - 8192) / 64
                  omega
      | ⟨1, _⟩ => show ((R.val - 8192) * 256 + c.val) / 256 % 64 = (R.val - 8192) % 64
                  omega
      | ⟨2, _⟩ => show ((R.val - 8192) * 256 + c.val) / 64 % 4 = c.val / 64
                  omega
      | ⟨3, _⟩ => show ((R.val - 8192) * 256 + c.val) % 64 = c.val % 64
                  omega
    rw [e, turned_ks]
    dsimp only
    rw [show 8192 + ((R.val - 8192) / 64 * 64 + (R.val - 8192) % 64) = R.val by omega, show 64 * (c.val / 64) + c.val % 64 = c.val by omega]

/-- The joined rows' values. -/
theorem out_v (x0 : (⟨S8704x2048, .f32⟩ : BufTy).Contents (Elt Ideal)) (x1 : (⟨S1x2048x7680, .f32⟩ : BufTy).Contents (Elt Ideal)) (R : Fin 8704) (c : Fin 256) :
    val_main_v229 (F := Ideal) x0 x1 (ix2 R c) = proj x0 x1 R.val (3328 + c.val) := by
  have hR := R.isLt
  have hc := c.isLt
  unfold val_main_v229
  rw [concatenate_pair_apply]
  by_cases h : R.val < 8192
  · refine (dif_pos (show R.val < 8192 from h)).trans ?_
    refine (congrArg (val_main_v227 (F := Ideal) x0 x1) (show _ = ix2 ⟨R.val, by omega⟩ c by
      funext a; match a with | ⟨0, _⟩ => rfl | ⟨1, _⟩ => rfl)).trans ?_
    rw [val_main_v227_apply]
    have e : idx_main_v227 (ix2 ⟨R.val, by omega⟩ c) = ix4 ⟨R.val / 4096, by omega⟩ ⟨R.val % 4096, by omega⟩ ⟨c.val / 64, by omega⟩ ⟨c.val % 64, by omega⟩ := by
      funext a
      apply Fin.ext
      match a with
      | ⟨0, _⟩ => show (R.val * 256 + c.val) / 1048576 = R.val / 4096
                  omega
      | ⟨1, _⟩ => show (R.val * 256 + c.val) / 256 % 4096 = R.val % 4096
                  omega
      | ⟨2, _⟩ => show (R.val * 256 + c.val) / 64 % 4 = c.val / 64
                  omega
      | ⟨3, _⟩ => show (R.val * 256 + c.val) % 64 = c.val % 64
                  omega
    rw [e, v_p]
    dsimp only
    rw [show R.val / 4096 * 4096 + R.val % 4096 = R.val by omega, show 64 * (c.val / 64) + c.val % 64 = c.val by omega]
  · refine (dif_neg (show ¬R.val < 8192 from h)).trans ?_
    refine (congrArg (val_main_v228 (F := Ideal) x0 x1) (show _ = ix2 ⟨R.val - 8192, by omega⟩ c by
      funext a; match a with | ⟨0, _⟩ => rfl | ⟨1, _⟩ => rfl)).trans ?_
    rw [val_main_v228_apply]
    have e : idx_main_v228 (ix2 ⟨(R.val - 8192), by omega⟩ c) = ix4 ⟨(R.val - 8192) / 64, by omega⟩ ⟨(R.val - 8192) % 64, by omega⟩ ⟨c.val / 64, by omega⟩ ⟨c.val % 64, by omega⟩ := by
      funext a
      apply Fin.ext
      match a with
      | ⟨0, _⟩ => show ((R.val - 8192) * 256 + c.val) / 16384 = (R.val - 8192) / 64
                  omega
      | ⟨1, _⟩ => show ((R.val - 8192) * 256 + c.val) / 256 % 64 = (R.val - 8192) % 64
                  omega
      | ⟨2, _⟩ => show ((R.val - 8192) * 256 + c.val) / 64 % 4 = c.val / 64
                  omega
      | ⟨3, _⟩ => show ((R.val - 8192) * 256 + c.val) % 64 = c.val % 64
                  omega
    rw [e, v_s]
    dsimp only
    rw [show 8192 + ((R.val - 8192) / 64 * 64 + (R.val - 8192) % 64) = R.val by omega, show 64 * (c.val / 64) + c.val % 64 = c.val by omega]

/-- The joined rows' queries, scaled for the attention. -/
theorem out_qs (x0 : (⟨S8704x2048, .f32⟩ : BufTy).Contents (Elt Ideal)) (x1 : (⟨S1x2048x7680, .f32⟩ : BufTy).Contents (Elt Ideal)) (R : Fin 8704) (c : Fin 1024) :
    val_main_v223 (F := Ideal) x0 x1 (ix2 R c) = turned x0 x1 2048 R.val c.val * Ideal.ofBits .f32 0x3E38AA3B#32 := by
  show val_main_v220 (F := Ideal) x0 x1 (ix2 R c) * val_main_v221 (F := Ideal) (ix2 R c) = _
  rw [out_q, val_main_v221_apply, val_main_cst_19_apply]
  rfl

/-- The prompt's last 128 rows' turned keys. -/
theorem last_kp (x0 : (⟨S8704x2048, .f32⟩ : BufTy).Contents (Elt Ideal)) (x1 : (⟨S1x2048x7680, .f32⟩ : BufTy).Contents (Elt Ideal)) (z : Fin 1) (b : Fin 2) (t : Fin 128) (n : Fin 4) (l : Fin 64) :
    val_main_v231 (F := Ideal) x0 x1 (ix5 z b t n l) = turned x0 x1 3072 (b.val * 4096 + (3968 + t.val)) (64 * n.val + l.val) := by
  rw [val_main_v231_apply, val_main_v230_apply]
  have e : idx_main_v230 (idx_main_v231 (ix5 z b t n l)) = ix4 b ⟨3968 + t.val, by omega⟩ n l := by
    funext a; match a with | ⟨0, _⟩ => rfl | ⟨1, _⟩ => rfl | ⟨2, _⟩ => rfl | ⟨3, _⟩ => rfl
  rw [e, turned_kp]

/-- The prompt's last 128 rows' values. -/
theorem last_vp (x0 : (⟨S8704x2048, .f32⟩ : BufTy).Contents (Elt Ideal)) (x1 : (⟨S1x2048x7680, .f32⟩ : BufTy).Contents (Elt Ideal)) (z : Fin 1) (b : Fin 2) (t : Fin 128) (n : Fin 4) (l : Fin 64) :
    val_main_v233 (F := Ideal) x0 x1 (ix5 z b t n l) = proj x0 x1 (b.val * 4096 + (3968 + t.val)) (3328 + (64 * n.val + l.val)) := by
  rw [val_main_v233_apply, val_main_v232_apply]
  have e : idx_main_v232 (idx_main_v233 (ix5 z b t n l)) = ix4 b ⟨3968 + t.val, by omega⟩ n l := by
    funext a; match a with | ⟨0, _⟩ => rfl | ⟨1, _⟩ => rfl | ⟨2, _⟩ => rfl | ⟨3, _⟩ => rfl
  rw [e, v_p]

/-- The prompt's last 30 rows' gated linear unit. -/
theorem last_up (x0 : (⟨S8704x2048, .f32⟩ : BufTy).Contents (Elt Ideal)) (x1 : (⟨S1x2048x7680, .f32⟩ : BufTy).Contents (Elt Ideal)) (z : Fin 1) (b : Fin 2) (t : Fin 30) (c : Fin 1024) :
    val_main_v235 (F := Ideal) x0 x1 (ix4 z b t c) = glu x0 x1 (b.val * 4096 + (4066 + t.val)) c.val := by
  rw [val_main_v235_apply, val_main_v234_apply]
  have e : idx_main_v234 (idx_main_v235 (ix4 z b t c)) = ix3 b ⟨4066 + t.val, by omega⟩ c := by
    funext a; match a with | ⟨0, _⟩ => rfl | ⟨1, _⟩ => rfl | ⟨2, _⟩ => rfl
  rw [e, glu_p]

/-- The sample's new key cache. -/
theorem cache_k (x0 : (⟨S8704x2048, .f32⟩ : BufTy).Contents (Elt Ideal)) (x1 : (⟨S1x2048x7680, .f32⟩ : BufTy).Contents (Elt Ideal)) (x3 : (⟨S1x8x128x4x64, .f32⟩ : BufTy).Contents (Elt Ideal)) (z : Fin 1) (b : Fin 8) (t : Fin 128) (n : Fin 4) (l : Fin 64) :
    val_main_v236 (F := Ideal) x0 x1 x3 (ix5 z b t n l) = cached x3 (turned x0 x1 3072) b t n l := by
  have ht := t.isLt
  rw [val_main_v236_apply, val_main_v208_apply]
  have e : idx_main_v208 (idx_main_v236 (ix5 z b t n l)) = ix4 b ⟨64 + t.val, by omega⟩ n l := by
    funext a; match a with | ⟨0, _⟩ => rfl | ⟨1, _⟩ => rfl | ⟨2, _⟩ => rfl | ⟨3, _⟩ => rfl
  rw [e]
  unfold val_main_v207 cached
  rw [concatenate_pair_apply]
  by_cases h : 64 + t.val < 128
  · rw [dif_pos h]
    refine (dif_pos (show 64 + t.val < 128 from h)).trans ?_
    refine (congrArg (val_main_v206 (F := Ideal) x3) (show _ = ix4 b ⟨64 + t.val, h⟩ n l by
      funext a; match a with | ⟨0, _⟩ => rfl | ⟨1, _⟩ => rfl | ⟨2, _⟩ => rfl | ⟨3, _⟩ => rfl)).trans ?_
    unfold val_main_v206
    rw [shapeCast_lead4]
  · rw [dif_neg h]
    refine (dif_neg (show ¬64 + t.val < 128 from h)).trans ?_
    refine (congrArg (val_main_v204 (F := Ideal) x0 x1) (show _ = ix4 b ⟨64 + t.val - 128, by omega⟩ n l by
      funext a; match a with | ⟨0, _⟩ => rfl | ⟨1, _⟩ => rfl | ⟨2, _⟩ => rfl | ⟨3, _⟩ => rfl)).trans ?_
    rw [turned_ks]

/-- The sample's new value cache. -/
theorem cache_v (x0 : (⟨S8704x2048, .f32⟩ : BufTy).Contents (Elt Ideal)) (x1 : (⟨S1x2048x7680, .f32⟩ : BufTy).Contents (Elt Ideal)) (x4 : (⟨S1x8x128x4x64, .f32⟩ : BufTy).Contents (Elt Ideal)) (z : Fin 1) (b : Fin 8) (t : Fin 128) (n : Fin 4) (l : Fin 64) :
    val_main_v237 (F := Ideal) x0 x1 x4 (ix5 z b t n l) = cached x4 (fun R c => proj x0 x1 R (3328 + c)) b t n l := by
  have ht := t.isLt
  rw [val_main_v237_apply, val_main_v211_apply]
  have e : idx_main_v211 (idx_main_v237 (ix5 z b t n l)) = ix4 b ⟨64 + t.val, by omega⟩ n l := by
    funext a; match a with | ⟨0, _⟩ => rfl | ⟨1, _⟩ => rfl | ⟨2, _⟩ => rfl | ⟨3, _⟩ => rfl
  rw [e]
  unfold val_main_v210 cached
  rw [concatenate_pair_apply]
  by_cases h : 64 + t.val < 128
  · rw [dif_pos h]
    refine (dif_pos (show 64 + t.val < 128 from h)).trans ?_
    refine (congrArg (val_main_v209 (F := Ideal) x4) (show _ = ix4 b ⟨64 + t.val, h⟩ n l by
      funext a; match a with | ⟨0, _⟩ => rfl | ⟨1, _⟩ => rfl | ⟨2, _⟩ => rfl | ⟨3, _⟩ => rfl)).trans ?_
    unfold val_main_v209
    rw [shapeCast_lead4]
  · rw [dif_neg h]
    refine (dif_neg (show ¬64 + t.val < 128 from h)).trans ?_
    refine (congrArg (val_main_v205 (F := Ideal) x0 x1) (show _ = ix4 b ⟨64 + t.val - 128, by omega⟩ n l by
      funext a; match a with | ⟨0, _⟩ => rfl | ⟨1, _⟩ => rfl | ⟨2, _⟩ => rfl | ⟨3, _⟩ => rfl)).trans ?_
    rw [v_s]

/-- The sample's new convolution state: the last 30 of its 64 rows. -/
theorem cache_u (x0 : (⟨S8704x2048, .f32⟩ : BufTy).Contents (Elt Ideal)) (x1 : (⟨S1x2048x7680, .f32⟩ : BufTy).Contents (Elt Ideal)) (x2 : (⟨S1x8x30x1024, .f32⟩ : BufTy).Contents (Elt Ideal)) (z : Fin 1) (b : Fin 8) (t : Fin 30) (c : Fin 1024) :
    val_main_v238 (F := Ideal) x0 x1 x2 (ix4 z b t c) = glu x0 x1 (8192 + (b.val * 64 + (34 + t.val))) c.val := by
  have ht := t.isLt
  rw [val_main_v238_apply, val_main_v214_apply]
  have e : idx_main_v214 (idx_main_v238 (ix4 z b t c)) = ix3 b ⟨64 + t.val, by omega⟩ c := by
    funext a; match a with | ⟨0, _⟩ => rfl | ⟨1, _⟩ => rfl | ⟨2, _⟩ => rfl
  rw [e]
  unfold val_main_v213
  rw [concatenate_pair_apply]
  refine (dif_neg (show ¬64 + t.val < 30 by omega)).trans ?_
  refine (congrArg (val_main_v122 (F := Ideal) x0 x1) (show _ = ix3 b ⟨34 + t.val, by omega⟩ c by
    funext a; match a with | ⟨0, _⟩ => rfl | ⟨1, _⟩ => exact Fin.ext (show 64 + t.val - 30 = 34 + t.val by omega) | ⟨2, _⟩ => rfl)).trans ?_
  rw [glu_s]

end Cert.Reference3Ideal.UqkvRef

end
-- ==== Proof.UqkvEnd.lean ====
/-
  The joined projection's claims: the mathematics terminates and leaves its arguments, and the kernel's ten results are
  the mathematics'.
-/
module

public import proofs.«01_k».proof.Defs
public import proofs.«01_k».proof.Proof.UqkvValue
public import proofs.«01_k».proof.Proof.UqkvOut
public import proofs.«01_k».proof.Proof.Gen.Reference3Ideal.Run
public import Idealize.ShloMosaic.Adequacy
public import Idealize.ShloMosaic.Init
public import Idealize.ShloMosaic.Lib.Quiescent

@[expose] public section

noncomputable section

namespace Cert.Proof.Uqkv

open Idealize.ShloMosaic Idealize.SL.Sem Cert.Layer

/-- The mathematics terminates, leaves its arguments as they were and no semaphore raised. -/
theorem quiescent_Reference3Ideal : quiescent_Reference3Ideal := fun m ρ _ =>
  (θ_run Cert.Reference3Ideal.defs _ _).mono (fun r h => ⟨fun c => (h c).2.2.2.2.2.2.2.2.2.2, sem_eq_zero_of_no_sems (by decide) r.2⟩)
    (Cert.Reference3Ideal.Value.run (F := Ideal) m ρ)

variable (m : (ℓ : Loc Cert.Kernel3Ideal.nD Cert.Kernel3Ideal.τ Cert.Kernel3Ideal.sig) → Buf (Elt Ideal) ℓ) (c : Dev Cert.Kernel3Ideal.nD)

/-- One of the four arrays by row. -/
theorem eq_217 : Cert.Reference3Ideal.Read.val_main_v217 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) = Cert.Kernel3Ideal.UqkvValue.resU m c := by
  funext (i : Cert.Kernel3Ideal.S8704x1024.Idx)
  rw [eq_ix2 i]
  exact Cert.Reference3Ideal.UqkvRef.out_u _ _ (i 0) (i 1)
/-- One of the four arrays by row. -/
theorem eq_223 : Cert.Reference3Ideal.Read.val_main_v223 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) = Cert.Kernel3Ideal.UqkvValue.resQ m c := by
  funext (i : Cert.Kernel3Ideal.S8704x1024.Idx)
  rw [eq_ix2 i]
  exact Cert.Reference3Ideal.UqkvRef.out_qs _ _ (i 0) (i 1)
/-- One of the four arrays by row. -/
theorem eq_226 : Cert.Reference3Ideal.Read.val_main_v226 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) = Cert.Kernel3Ideal.UqkvValue.resK m c := by
  funext (i : Cert.Kernel3Ideal.S8704x256.Idx)
  rw [eq_ix2 i]
  exact Cert.Reference3Ideal.UqkvRef.out_k _ _ (i 0) (i 1)
/-- One of the four arrays by row. -/
theorem eq_229 : Cert.Reference3Ideal.Read.val_main_v229 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) = Cert.Kernel3Ideal.UqkvValue.resV m c := by
  funext (i : Cert.Kernel3Ideal.S8704x256.Idx)
  rw [eq_ix2 i]
  exact Cert.Reference3Ideal.UqkvRef.out_v _ _ (i 0) (i 1)
/-- The prompt's last rows. -/
theorem eq_231 : Cert.Reference3Ideal.Read.val_main_v231 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) = Cert.Kernel3Ideal.UqkvValue.lastHeads (Cert.Kernel3Ideal.UqkvValue.resK m c) := by
  funext (i : Cert.Kernel3Ideal.S1x2x128x4x64.Idx)
  rw [eq_ix5 i]
  refine (Cert.Reference3Ideal.UqkvRef.last_kp _ _ (i 0) (i 1) (i 2) (i 3) (i 4)).trans ?_
  exact (Cert.Kernel3Ideal.UqkvValue.lastHeads_apply (Cert.Kernel3Ideal.UqkvValue.resK m c) (i 0) (i 1) (i 2) (i 3) (i 4)).symm
/-- The prompt's last rows. -/
theorem eq_233 : Cert.Reference3Ideal.Read.val_main_v233 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) = Cert.Kernel3Ideal.UqkvValue.lastHeads (Cert.Kernel3Ideal.UqkvValue.resV m c) := by
  funext (i : Cert.Kernel3Ideal.S1x2x128x4x64.Idx)
  rw [eq_ix5 i]
  refine (Cert.Reference3Ideal.UqkvRef.last_vp _ _ (i 0) (i 1) (i 2) (i 3) (i 4)).trans ?_
  exact (Cert.Kernel3Ideal.UqkvValue.lastHeads_apply (Cert.Kernel3Ideal.UqkvValue.resV m c) (i 0) (i 1) (i 2) (i 3) (i 4)).symm
/-- The prompt's last 30 rows. -/
theorem eq_235 : Cert.Reference3Ideal.Read.val_main_v235 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) = Cert.Kernel3Ideal.UqkvValue.lastRows (Cert.Kernel3Ideal.UqkvValue.resU m c) := by
  funext (i : Cert.Kernel3Ideal.S1x2x30x1024.Idx)
  rw [eq_ix4 i]
  refine (Cert.Reference3Ideal.UqkvRef.last_up _ _ (i 0) (i 1) (i 2) (i 3)).trans ?_
  exact (Cert.Kernel3Ideal.UqkvValue.lastRows_apply (Cert.Kernel3Ideal.UqkvValue.resU m c) (i 0) (i 1) (i 2) (i 3)).symm
/-- The sample's new cache. -/
theorem eq_236 : Cert.Reference3Ideal.Read.val_main_v236 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg3)) = Cert.Kernel3Ideal.UqkvValue.newHeads (m ((c.tc : Thread Cert.Kernel3Ideal.nD Cert.Kernel3Ideal.τ).loc Cert.Kernel3Ideal.main_arg3)) (Cert.Kernel3Ideal.UqkvValue.resK m c) := by
  funext (i : Cert.Kernel3Ideal.S1x8x128x4x64.Idx)
  rw [eq_ix5 i]
  refine (Cert.Reference3Ideal.UqkvRef.cache_k _ _ _ (i 0) (i 1) (i 2) (i 3) (i 4)).trans ?_
  exact (Cert.Kernel3Ideal.UqkvValue.newHeads_apply _ _ _ (fun _ _ => rfl) (i 0) (i 1) (i 2) (i 3) (i 4)).symm
/-- The sample's new cache. -/
theorem eq_237 : Cert.Reference3Ideal.Read.val_main_v237 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg4)) = Cert.Kernel3Ideal.UqkvValue.newHeads (m ((c.tc : Thread Cert.Kernel3Ideal.nD Cert.Kernel3Ideal.τ).loc Cert.Kernel3Ideal.main_arg4)) (Cert.Kernel3Ideal.UqkvValue.resV m c) := by
  funext (i : Cert.Kernel3Ideal.S1x8x128x4x64.Idx)
  rw [eq_ix5 i]
  refine (Cert.Reference3Ideal.UqkvRef.cache_v _ _ _ (i 0) (i 1) (i 2) (i 3) (i 4)).trans ?_
  exact (Cert.Kernel3Ideal.UqkvValue.newHeads_apply _ _ _ (fun _ _ => rfl) (i 0) (i 1) (i 2) (i 3) (i 4)).symm
/-- The sample's new convolution state. -/
theorem eq_238 : Cert.Reference3Ideal.Read.val_main_v238 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) = Cert.Kernel3Ideal.UqkvValue.newRows (m ((c.tc : Thread Cert.Kernel3Ideal.nD Cert.Kernel3Ideal.τ).loc Cert.Kernel3Ideal.main_arg2)) (Cert.Kernel3Ideal.UqkvValue.resU m c) := by
  funext (i : Cert.Kernel3Ideal.S1x8x30x1024.Idx)
  rw [eq_ix4 i]
  refine (Cert.Reference3Ideal.UqkvRef.cache_u _ _ _ (i 0) (i 1) (i 2) (i 3)).trans ?_
  exact (Cert.Kernel3Ideal.UqkvValue.newRows_apply (m ((c.tc : Thread Cert.Kernel3Ideal.nD Cert.Kernel3Ideal.τ).loc Cert.Kernel3Ideal.main_arg2)) (Cert.Kernel3Ideal.UqkvValue.resU m c) (i 0) (i 1) (i 2) (i 3)).symm

/-- The kernel computes the mathematics over the extended reals. -/
theorem algebraic_Kernel3Ideal_Reference3Ideal : algebraic_Kernel3Ideal_Reference3Ideal := by
  intro m ρ m' ρ' _ hagree
  refine ⟨_, _, _, _, _, _, _, _, _, _, Cert.Kernel3Ideal.UqkvValue.run m ρ, ?_⟩
  refine (θ_run Cert.Reference3Ideal.defs _ _).mono (fun _ h c => ?_) (Cert.Reference3Ideal.Value.run (F := Ideal) m' ρ')
  obtain ⟨h0, h1, h2, h3, h4⟩ := hagree c
  obtain ⟨r0, r1, r2, r3, r4, r5, r6, r7, r8, r9, hr⟩ := h c
  refine ⟨?_, ?_, ?_, ?_, ?_, ?_, ?_, ?_, ?_, ?_, hr⟩
  · refine (r0.trans (Cert.Reference3Ideal.Read.val_main_v217_eq _)).trans ?_
    show Cert.Reference3Ideal.Read.val_main_v217 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) = _
    rw [h0, h1]
    exact eq_217 m c
  · refine (r1.trans (Cert.Reference3Ideal.Read.val_main_v223_eq _)).trans ?_
    show Cert.Reference3Ideal.Read.val_main_v223 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) = _
    rw [h0, h1]
    exact eq_223 m c
  · refine (r2.trans (Cert.Reference3Ideal.Read.val_main_v226_eq _)).trans ?_
    show Cert.Reference3Ideal.Read.val_main_v226 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) = _
    rw [h0, h1]
    exact eq_226 m c
  · refine (r3.trans (Cert.Reference3Ideal.Read.val_main_v229_eq _)).trans ?_
    show Cert.Reference3Ideal.Read.val_main_v229 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) = _
    rw [h0, h1]
    exact eq_229 m c
  · refine (r4.trans (Cert.Reference3Ideal.Read.val_main_v231_eq _)).trans ?_
    show Cert.Reference3Ideal.Read.val_main_v231 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) = _
    rw [h0, h1]
    exact eq_231 m c
  · refine (r5.trans (Cert.Reference3Ideal.Read.val_main_v233_eq _)).trans ?_
    show Cert.Reference3Ideal.Read.val_main_v233 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) = _
    rw [h0, h1]
    exact eq_233 m c
  · refine (r6.trans (Cert.Reference3Ideal.Read.val_main_v235_eq _)).trans ?_
    show Cert.Reference3Ideal.Read.val_main_v235 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) = _
    rw [h0, h1]
    exact eq_235 m c
  · refine (r7.trans (Cert.Reference3Ideal.Read.val_main_v236_eq _)).trans ?_
    show Cert.Reference3Ideal.Read.val_main_v236 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg3)) = _
    rw [h0, h1, h3]
    exact eq_236 m c
  · refine (r8.trans (Cert.Reference3Ideal.Read.val_main_v237_eq _)).trans ?_
    show Cert.Reference3Ideal.Read.val_main_v237 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg4)) = _
    rw [h0, h1, h4]
    exact eq_237 m c
  · refine (r9.trans (Cert.Reference3Ideal.Read.val_main_v238_eq _)).trans ?_
    show Cert.Reference3Ideal.Read.val_main_v238 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = _
    rw [h0, h1, h2]
    exact eq_238 m c

end Cert.Proof.Uqkv

end
-- ==== Proof.FfnOneBlocks.lean ====
/-
  The first feed-forward's call, at an entry: the values its points store, and the blocks they read as entries of the
  argument arrays. The weights' padding is never read: a row block's ten runs of 512 columns end at column 5120, and the
  384 remaining columns at 5504, where the padding starts.
-/
module

public import proofs.«01_k».proof.Proof.Layer
public import proofs.«01_k».proof.Proof.Gen.Kernel4Ideal.Frame
public import proofs.«01_k».proof.Proof.Gen.Kernel4Ideal.Skeleton
public import Idealize.ShloMosaic.Lib.MatmulPlain
public import Idealize.ShloMosaic.Lib.Tactic
public import Idealize.ShloMosaic.Lib.Pipeline.Value

@[expose] public section

set_option maxRecDepth 16384

noncomputable section

namespace Cert.Kernel4Ideal.FfnOneValue

open Cert.Kernel4Ideal Cert.Kernel4Ideal.Gen Idealize.ShloMosaic Idealize.ShloMosaic.TcCoe Cert.Layer

variable (m : (ℓ : Loc nD τ sig) → Buf (Elt Ideal) ℓ) (ρ : Dev nD → PrngReg)

/-- The normalised row at an entry. -/
theorem pay11_apply (x : Vec Ideal S512x2048 .f32) (g : Vec Ideal S1x2048 .f32) (r : Fin 512) (k : Fin 2048) :
    k0_pay11 (F := Ideal) x g (ix2 r k) = rms (fun j => x (ix2 r j)) (fun j => g (ix2 0 j)) k := by
  unfold rms
  pointwise [k0_pay11]
/-- The row normalised again, with the mixer's gain. -/
theorem pay2_apply (x : Vec Ideal S512x2048 .f32) (g : Vec Ideal S1x2048 .f32) (r : Fin 512) (k : Fin 2048) :
    k0_pay2 (F := Ideal) x g (ix2 r k) = rms (fun j => x (ix2 r j)) (fun j => g (ix2 0 j)) k := by
  unfold rms
  pointwise [k0_pay2]
/-- The sample's rows are copied as they are. -/
theorem pay12_apply (x : Vec Ideal S512x2048 .bf16) (r : Fin 512) (k : Fin 2048) : k0_pay12 (F := Ideal) x (ix2 r k) = x (ix2 r k) := by
  pointwise [k0_pay12]
/-- The copies at the side too. -/
theorem pay8_apply (x : Vec Ideal S16x11008 .f32) (r : Fin 16) (k : Fin 11008) : k0_pay8 (F := Ideal) x (ix2 r k) = x (ix2 r k) := by
  pointwise [k0_pay8]
theorem pay9_apply (x : Vec Ideal S64x2048 .f32) (r : Fin 64) (k : Fin 2048) : k0_pay9 (F := Ideal) x (ix2 r k) = x (ix2 r k) := by
  pointwise [k0_pay9]
theorem pay10_apply (x : Vec Ideal S16x7680 .f32) (r : Fin 16) (k : Fin 7680) : k0_pay10 (F := Ideal) x (ix2 r k) = x (ix2 r k) := by
  pointwise [k0_pay10]
/-- A point's stored block at an entry: what the block held plus 512 hidden columns' part. -/
theorem pay13_apply (wg wu : Vec Ideal S2048x512 .bf16) (wd : Vec Ideal S512x2048 .bf16) (xn : Vec Ideal S512x2048 .bf16)
    (acc : Vec Ideal S512x2048 .f32) (r : Fin 512) (c : Fin 2048) :
    k0_pay13 (F := Ideal) wg wu wd xn acc (ix2 r c) = acc (ix2 r c) + ∑ k : Fin 512,
      part (fun j => xn (ix2 r j)) (fun j => wg (ix2 j k)) (fun j => wu (ix2 j k)) (wd (ix2 k c)) := by
  unfold part dot
  pointwise [k0_pay13]
/-- The same of a last point, before the remaining columns. -/
theorem pay3_apply (wg wu : Vec Ideal S2048x512 .bf16) (wd : Vec Ideal S512x2048 .bf16) (xn : Vec Ideal S512x2048 .bf16)
    (acc : Vec Ideal S512x2048 .f32) (r : Fin 512) (c : Fin 2048) :
    k0_pay3 (F := Ideal) wg wu wd xn acc (ix2 r c) = acc (ix2 r c) + ∑ k : Fin 512,
      part (fun j => xn (ix2 r j)) (fun j => wg (ix2 j k)) (fun j => wu (ix2 j k)) (wd (ix2 k c)) := by
  unfold part dot
  pointwise [k0_pay3]
/-- And with the 384 remaining columns' part. -/
theorem pay1_apply (wg wu : Vec Ideal S2048x384 .bf16) (wd : Vec Ideal S384x2048 .bf16) (xn : Vec Ideal S512x2048 .bf16)
    (acc : Vec Ideal S512x2048 .f32) (r : Fin 512) (c : Fin 2048) :
    k0_pay1 (F := Ideal) (k0_pay4 wd) (k0_pay5 wu xn) (k0_pay6 wg xn) k0_pay7 acc (ix2 r c) = acc (ix2 r c) + ∑ k : Fin 384,
      part (fun j => xn (ix2 r j)) (fun j => wg (ix2 j k)) (fun j => wu (ix2 j k)) (wd (ix2 k c)) := by
  unfold part dot
  pointwise [k0_pay1, k0_pay4, k0_pay5, k0_pay6, k0_pay7]

/-- The prompt's row `R`. -/
def row (c : Dev nD) (R : ℕ) (k : Fin 2048) : EReal := m ((c : Thread nD τ).loc main_arg0) (ix2 ⟨R % 8192, Nat.mod_lt _ (by norm_num)⟩ k)
/-- The sample's row `R`, -/
def rowS (c : Dev nD) (R : ℕ) (k : Fin 2048) : EReal := m ((c : Thread nD τ).loc main_arg1) (ix2 ⟨R % 512, Nat.mod_lt _ (by norm_num)⟩ k)
/-- and normalised. -/
def rowN (c : Dev nD) (R : ℕ) (k : Fin 2048) : EReal := m ((c : Thread nD τ).loc main_arg2) (ix2 ⟨R % 512, Nat.mod_lt _ (by norm_num)⟩ k)
/-- The feed-forward's gain. -/
def gain (c : Dev nD) (k : Fin 2048) : EReal := m ((c : Thread nD τ).loc main_arg3) (ix2 0 k)
/-- The mixer's gain. -/
def gainM (c : Dev nD) (k : Fin 2048) : EReal := m ((c : Thread nD τ).loc main_arg6) (ix2 0 k)
/-- The joined gate and up weights. -/
def wgu (c : Dev nD) (j : Fin 2048) (k : Fin 11008) : EReal := m ((c : Thread nD τ).loc main_arg4) (ix3 0 j k)
/-- The down weights. -/
def wd (c : Dev nD) (k : Fin 5504) (n : Fin 2048) : EReal := m ((c : Thread nD τ).loc main_arg5) (ix3 0 k n)

/-- Before the padding on the right, a padded matrix is the matrix. -/
theorem pad_right (x : S2048x5504.Idx → EReal) (v : S_.Idx → EReal) (j : Fin 2048) (k : Fin 5632) (hk : k.val < 5504) :
    pad S2048x5632 ![0, 0] ![0, 128] ![0, 0] x v pads_S2048x5504_S2048x5632_000_01280 h_S_ (ix2 j k) = x (ix2 j ⟨k.val, hk⟩) := by
  unfold pad
  have hj := j.isLt
  rw [dif_pos (fun a => match a with
    | ⟨0, _⟩ => show 0 ≤ j.val ∧ (j.val - 0) % (0 + 1) = 0 ∧ (j.val - 0) / (0 + 1) < 2048 by omega
    | ⟨1, _⟩ => show 0 ≤ k.val ∧ (k.val - 0) % (0 + 1) = 0 ∧ (k.val - 0) / (0 + 1) < 5504 by omega)]
  congr 1
  funext a
  apply Fin.ext
  match a with
  | ⟨0, _⟩ => show (j.val - 0) / (0 + 1) = j.val; omega
  | ⟨1, _⟩ => show (k.val - 0) / (0 + 1) = k.val; omega
/-- Above the padding below, too. -/
theorem pad_below (x : S5504x2048.Idx → EReal) (v : S_.Idx → EReal) (j : Fin 5632) (k : Fin 2048) (hj : j.val < 5504) :
    pad S5632x2048 ![0, 0] ![128, 0] ![0, 0] x v pads_S5504x2048_S5632x2048_01280_000 h_S_ (ix2 j k) = x (ix2 ⟨j.val, hj⟩ k) := by
  unfold pad
  have hk := k.isLt
  rw [dif_pos (fun a => match a with
    | ⟨0, _⟩ => show 0 ≤ j.val ∧ (j.val - 0) % (0 + 1) = 0 ∧ (j.val - 0) / (0 + 1) < 5504 by omega
    | ⟨1, _⟩ => show 0 ≤ k.val ∧ (k.val - 0) % (0 + 1) = 0 ∧ (k.val - 0) / (0 + 1) < 2048 by omega)]
  congr 1
  funext a
  apply Fin.ext
  match a with
  | ⟨0, _⟩ => show (j.val - 0) / (0 + 1) = j.val; omega
  | ⟨1, _⟩ => show (k.val - 0) / (0 + 1) = k.val; omega

/-- The gate weights the launch reads, before their padding. -/
theorem V_v3 (c : Dev nD) (j : Fin 2048) (k : Fin 5632) (hk : k.val < 5504) : V m c main_v3 (ix2 j k) = wgu m c j ⟨k.val, by omega⟩ := by
  have h : V m c main_v3 = pad S2048x5632 ![0, 0] ![0, 128] ![0, 0] (truncf (F := Ideal) .bf16 (extractStridedSlice S2048x5504 ![0, 0]
      (shapeCast S2048x11008 (m ((c : Thread nD τ).loc main_arg4)) shapeCasts_S1x2048x11008_S2048x11008) slices_S2048x11008_S2048x5504_0_0) bitsLt_bf16_f32)
      (sitofp (F := Ideal) .bf16 (constantI S_ 32 0#32)) pads_S2048x5504_S2048x5632_000_01280 h_S_ := by
    show StableHlo.after (List.flatten [hostOps0, hostOps0_1, hostOps0_2, hostOps0_3, hostOps0_4, hostOps0_5, hostOps0_6]) _ (Proc.devRef .tc main_v3) = _
    simp only [List.flatten_cons, List.flatten_nil, List.append_nil, List.cons_append, List.nil_append, StableHlo.TRef.binary, StableHlo.TRef.unary, StableHlo.TRef.toBuf, StableHlo.TRef.ofBuf, cast_eq]
    after_results_simp <;> rfl
  rw [h]
  refine (pad_right _ _ j k hk).trans ?_
  refine Eq.trans ?_ (shapeCast_lead (m ((c : Thread nD τ).loc main_arg4)) shapeCasts_S1x2048x11008_S2048x11008 j ⟨k.val, by omega⟩)
  show shapeCast S2048x11008 _ _ _ = shapeCast S2048x11008 _ _ _
  congr 1
  funext a
  apply Fin.ext
  match a with
  | ⟨0, _⟩ => show 0 + j.val = j.val; omega
  | ⟨1, _⟩ => show 0 + k.val = k.val; omega
/-- The up weights the launch reads, before their padding. -/
theorem V_v7 (c : Dev nD) (j : Fin 2048) (k : Fin 5632) (hk : k.val < 5504) : V m c main_v7 (ix2 j k) = wgu m c j ⟨5504 + k.val, by omega⟩ := by
  have h : V m c main_v7 = pad S2048x5632 ![0, 0] ![0, 128] ![0, 0] (truncf (F := Ideal) .bf16 (extractStridedSlice S2048x5504 ![0, 5504]
      (shapeCast S2048x11008 (m ((c : Thread nD τ).loc main_arg4)) shapeCasts_S1x2048x11008_S2048x11008) slices_S2048x11008_S2048x5504_0_5504) bitsLt_bf16_f32)
      (sitofp (F := Ideal) .bf16 (constantI S_ 32 0#32)) pads_S2048x5504_S2048x5632_000_01280 h_S_ := by
    show StableHlo.after (List.flatten [hostOps0, hostOps0_1, hostOps0_2, hostOps0_3, hostOps0_4, hostOps0_5, hostOps0_6]) _ (Proc.devRef .tc main_v7) = _
    simp only [List.flatten_cons, List.flatten_nil, List.append_nil, List.cons_append, List.nil_append, StableHlo.TRef.binary, StableHlo.TRef.unary, StableHlo.TRef.toBuf, StableHlo.TRef.ofBuf, cast_eq]
    after_results_simp <;> rfl
  rw [h]
  refine (pad_right _ _ j k hk).trans ?_
  refine Eq.trans ?_ (shapeCast_lead (m ((c : Thread nD τ).loc main_arg4)) shapeCasts_S1x2048x11008_S2048x11008 j ⟨5504 + k.val, by omega⟩)
  show shapeCast S2048x11008 _ _ _ = shapeCast S2048x11008 _ _ _
  congr 1
  funext a
  apply Fin.ext
  match a with
  | ⟨0, _⟩ => show 0 + j.val = j.val; omega
  | ⟨1, _⟩ => show 5504 + k.val = 5504 + k.val; omega
/-- The down weights it reads, above their padding. -/
theorem V_v10 (c : Dev nD) (k : Fin 5632) (n : Fin 2048) (hk : k.val < 5504) : V m c main_v10 (ix2 k n) = wd m c ⟨k.val, hk⟩ n := by
  have h : V m c main_v10 = pad S5632x2048 ![0, 0] ![128, 0] ![0, 0] (truncf (F := Ideal) .bf16
      (shapeCast S5504x2048 (m ((c : Thread nD τ).loc main_arg5)) shapeCasts_S1x5504x2048_S5504x2048) bitsLt_bf16_f32)
      (sitofp (F := Ideal) .bf16 (constantI S_ 32 0#32)) pads_S5504x2048_S5632x2048_01280_000 h_S_ := by
    show StableHlo.after (List.flatten [hostOps0, hostOps0_1, hostOps0_2, hostOps0_3, hostOps0_4, hostOps0_5, hostOps0_6]) _ (Proc.devRef .tc main_v10) = _
    simp only [List.flatten_cons, List.flatten_nil, List.append_nil, List.cons_append, List.nil_append, StableHlo.TRef.binary, StableHlo.TRef.unary, StableHlo.TRef.toBuf, StableHlo.TRef.ofBuf, cast_eq]
    after_results_simp <;> rfl
  rw [h]
  refine (pad_below _ _ k n hk).trans ?_
  exact shapeCast_lead (m ((c : Thread nD τ).loc main_arg5)) shapeCasts_S1x5504x2048_S5504x2048 ⟨k.val, hk⟩ n
/-- The sample's normalised rows it reads are the argument's. -/
theorem V_v11 (c : Dev nD) : V m c main_v11 = truncf (F := Ideal) .bf16 (m ((c : Thread nD τ).loc main_arg2)) bitsLt_bf16_f32 := by
  show StableHlo.after (List.flatten [hostOps0, hostOps0_1, hostOps0_2, hostOps0_3, hostOps0_4, hostOps0_5, hostOps0_6]) _ (Proc.devRef .tc main_v11) = _
  simp only [List.flatten_cons, List.flatten_nil, List.append_nil, List.cons_append, List.nil_append, StableHlo.TRef.binary, StableHlo.TRef.unary, StableHlo.TRef.toBuf, StableHlo.TRef.ofBuf, cast_eq]
  after_results_simp <;> rfl
/-- A weight matrix without its leading axis. -/
def side16 (c : Dev nD) : (⟨2, ![2048, 11008]⟩ : Shape).Idx → EReal :=
  shapeCast S2048x11008 (m ((c : Thread nD τ).loc main_arg7)) shapeCasts_S1x2048x11008_S2048x11008
/-- The launch reads it. -/
theorem V_v12 (c : Dev nD) : V m c main_v12 = side16 m c := by
  show StableHlo.after (List.flatten [hostOps0, hostOps0_1, hostOps0_2, hostOps0_3, hostOps0_4, hostOps0_5, hostOps0_6]) _ (Proc.devRef .tc main_v12) = _
  simp only [List.flatten_cons, List.flatten_nil, List.append_nil, List.cons_append, List.nil_append, StableHlo.TRef.binary, StableHlo.TRef.unary, StableHlo.TRef.toBuf, StableHlo.TRef.ofBuf, cast_eq]
  after_results_simp <;> rfl
/-- A weight matrix without its leading axis. -/
def side17 (c : Dev nD) : (⟨2, ![5504, 2048]⟩ : Shape).Idx → EReal :=
  shapeCast S5504x2048 (m ((c : Thread nD τ).loc main_arg8)) shapeCasts_S1x5504x2048_S5504x2048
/-- The launch reads it. -/
theorem V_v13 (c : Dev nD) : V m c main_v13 = side17 m c := by
  show StableHlo.after (List.flatten [hostOps0, hostOps0_1, hostOps0_2, hostOps0_3, hostOps0_4, hostOps0_5, hostOps0_6]) _ (Proc.devRef .tc main_v13) = _
  simp only [List.flatten_cons, List.flatten_nil, List.append_nil, List.cons_append, List.nil_append, StableHlo.TRef.binary, StableHlo.TRef.unary, StableHlo.TRef.toBuf, StableHlo.TRef.ofBuf, cast_eq]
  after_results_simp <;> rfl
/-- A weight matrix without its leading axis. -/
def side18 (c : Dev nD) : (⟨2, ![2048, 7680]⟩ : Shape).Idx → EReal :=
  shapeCast S2048x7680 (m ((c : Thread nD τ).loc main_arg9)) shapeCasts_S1x2048x7680_S2048x7680
/-- The launch reads it. -/
theorem V_v14 (c : Dev nD) : V m c main_v14 = side18 m c := by
  show StableHlo.after (List.flatten [hostOps0, hostOps0_1, hostOps0_2, hostOps0_3, hostOps0_4, hostOps0_5, hostOps0_6]) _ (Proc.devRef .tc main_v14) = _
  simp only [List.flatten_cons, List.flatten_nil, List.append_nil, List.cons_append, List.nil_append, StableHlo.TRef.binary, StableHlo.TRef.unary, StableHlo.TRef.toBuf, StableHlo.TRef.ofBuf, cast_eq]
  after_results_simp <;> rfl

/-- The rows' block of a point. -/
theorem index0_0 : ∀ t : Fin grid0.N, win0_0.index t 0 = min (t.val / 10) 15 ∧ win0_0.index t 1 = 0 := by decide +kernel
/-- The gate columns' block starts 512 further at each of the ten steps, -/
theorem index0_4 : ∀ t : Fin grid0.N, t.val / 10 < 16 → win0_4.index t 0 = 0 ∧ win0_4.index t 1 = t.val % 10 * 512 := by decide +kernel
/-- the up columns' too, -/
theorem index0_5 : ∀ t : Fin grid0.N, t.val / 10 < 16 → win0_5.index t 0 = 0 ∧ win0_5.index t 1 = t.val % 10 * 512 := by decide +kernel
/-- and the down rows'. -/
theorem index0_6 : ∀ t : Fin grid0.N, t.val / 10 < 16 → win0_6.index t 0 = t.val % 10 * 512 ∧ win0_6.index t 1 = 0 := by decide +kernel
/-- The row block's result. -/
theorem index0_14 : ∀ t : Fin grid0.N, win0_14.index t 0 = t.val / 10 ∧ win0_14.index t 1 = 0 := by decide +kernel
/-- Its rows normalised again. -/
theorem index0_15 : ∀ t : Fin grid0.N, win0_15.index t 0 = t.val / 10 ∧ win0_15.index t 1 = 0 := by decide +kernel
/-- Window 11's block. -/
theorem index0_11 : ∀ t : Fin grid0.N, win0_11.index t 0 = min t.val 127 ∧ win0_11.index t 1 = 0 := by decide +kernel
/-- Window 16's block. -/
theorem index0_16 : ∀ t : Fin grid0.N, win0_16.index t 0 = min t.val 127 ∧ win0_16.index t 1 = 0 := by decide +kernel
/-- Window 12's block. -/
theorem index0_12 : ∀ t : Fin grid0.N, win0_12.index t 0 = min t.val 85 ∧ win0_12.index t 1 = 0 := by decide +kernel
/-- Window 17's block. -/
theorem index0_17 : ∀ t : Fin grid0.N, win0_17.index t 0 = min t.val 85 ∧ win0_17.index t 1 = 0 := by decide +kernel
/-- Window 13's block. -/
theorem index0_13 : ∀ t : Fin grid0.N, win0_13.index t 0 = min t.val 127 ∧ win0_13.index t 1 = 0 := by decide +kernel
/-- Window 18's block. -/
theorem index0_18 : ∀ t : Fin grid0.N, win0_18.index t 0 = min t.val 127 ∧ win0_18.index t 1 = 0 := by decide +kernel

/-- A point's rows of the prompt. -/
theorem iblk_0 (c : Dev nD) (t : Fin cfg0.N) (h : t.val / 10 < 16) (r : Fin 512) (k : Fin 2048) :
    iblk m c 0 t (ix2 r k) = row m c (512 * (t.val / 10) + r.val) k := by
  have hr := r.isLt
  unfold iblk row
  rw [View.read_apply]
  show V m c main_arg0 _ = m ((c : Thread nD τ).loc main_arg0) _
  rw [V_main_arg0]
  congr 1
  funext a
  apply Fin.ext
  match a with
  | ⟨0, _⟩ => show win0_0.index t 0 * 512 + 1 * r.val = (512 * (t.val / 10) + r.val) % 8192
              rw [(index0_0 t).1]; omega
  | ⟨1, _⟩ => show win0_0.index t 1 * 2048 + 1 * k.val = k.val
              rw [(index0_0 t).2]; omega
/-- The sample's rows. -/
theorem iblk_1 (c : Dev nD) (t : Fin cfg0.N) (r : Fin 512) (k : Fin 2048) : iblk m c 1 t (ix2 r k) = rowS m c r.val k := by
  have hr := r.isLt
  unfold iblk rowS
  rw [View.read_apply]
  show V m c main_arg1 _ = m ((c : Thread nD τ).loc main_arg1) _
  rw [V_main_arg1]
  congr 1
  funext a
  apply Fin.ext
  match a with
  | ⟨0, _⟩ => show 0 * 512 + 1 * r.val = r.val % 512; omega
  | ⟨1, _⟩ => show 0 * 2048 + 1 * k.val = k.val; omega
/-- The sample's normalised rows. -/
theorem iblk_2 (c : Dev nD) (t : Fin cfg0.N) (r : Fin 512) (k : Fin 2048) : iblk m c 2 t (ix2 r k) = rowN m c r.val k := by
  have hr := r.isLt
  unfold iblk rowN
  rw [View.read_apply]
  show V m c main_v11 _ = m ((c : Thread nD τ).loc main_arg2) _
  rw [V_v11]
  show m ((c : Thread nD τ).loc main_arg2) _ = m ((c : Thread nD τ).loc main_arg2) _
  congr 1
  funext a
  apply Fin.ext
  match a with
  | ⟨0, _⟩ => show 0 * 512 + 1 * r.val = r.val % 512; omega
  | ⟨1, _⟩ => show 0 * 2048 + 1 * k.val = k.val; omega
/-- The feed-forward's gain. -/
theorem iblk_3 (c : Dev nD) (t : Fin cfg0.N) (k : Fin 2048) : iblk m c 3 t (ix2 0 k) = gain m c k := by
  unfold iblk gain
  rw [View.read_apply]
  show V m c main_arg3 _ = m ((c : Thread nD τ).loc main_arg3) _
  rw [V_main_arg3]
  congr 1
  funext a
  apply Fin.ext
  match a with
  | ⟨0, _⟩ => show 0 * 1 + 1 * 0 = 0; rfl
  | ⟨1, _⟩ => show 0 * 2048 + 1 * k.val = k.val; omega
/-- The mixer's gain. -/
theorem iblk_10 (c : Dev nD) (t : Fin cfg0.N) (k : Fin 2048) : iblk m c 10 t (ix2 0 k) = gainM m c k := by
  unfold iblk gainM
  rw [View.read_apply]
  show V m c main_arg6 _ = m ((c : Thread nD τ).loc main_arg6) _
  rw [V_main_arg6]
  congr 1
  funext a
  apply Fin.ext
  match a with
  | ⟨0, _⟩ => show 0 * 1 + 1 * 0 = 0; rfl
  | ⟨1, _⟩ => show 0 * 2048 + 1 * k.val = k.val; omega
/-- The gate columns of a point's run. -/
theorem iblk_4 (c : Dev nD) (t : Fin cfg0.N) (h : t.val / 10 < 16) (a : Fin 2048) (b : Fin 512) :
    iblk m c 4 t (ix2 a b) = wgu m c a ⟨(t.val % 10 * 512 + b.val), by have := b.isLt; omega⟩ := by
  have ha := a.isLt
  have hb := b.isLt
  unfold iblk
  rw [View.read_apply]
  refine Eq.trans ?_ (V_v3 m c a ⟨t.val % 10 * 512 + b.val, by omega⟩ (by show t.val % 10 * 512 + b.val < 5504; omega))
  show V m c main_v3 _ = V m c main_v3 _
  congr 1
  funext x
  apply Fin.ext
  match x with
  | ⟨0, _⟩ => show win0_4.index t 0 + 1 * a.val = a.val
              rw [(index0_4 t h).1]; omega
  | ⟨1, _⟩ => show win0_4.index t 1 + 1 * b.val = t.val % 10 * 512 + b.val
              rw [(index0_4 t h).2]; omega
/-- The up columns of a point's run. -/
theorem iblk_5 (c : Dev nD) (t : Fin cfg0.N) (h : t.val / 10 < 16) (a : Fin 2048) (b : Fin 512) :
    iblk m c 5 t (ix2 a b) = wgu m c a ⟨5504 + (t.val % 10 * 512 + b.val), by have := b.isLt; omega⟩ := by
  have ha := a.isLt
  have hb := b.isLt
  unfold iblk
  rw [View.read_apply]
  refine Eq.trans ?_ (V_v7 m c a ⟨t.val % 10 * 512 + b.val, by omega⟩ (by show t.val % 10 * 512 + b.val < 5504; omega))
  show V m c main_v7 _ = V m c main_v7 _
  congr 1
  funext x
  apply Fin.ext
  match x with
  | ⟨0, _⟩ => show win0_5.index t 0 + 1 * a.val = a.val
              rw [(index0_5 t h).1]; omega
  | ⟨1, _⟩ => show win0_5.index t 1 + 1 * b.val = t.val % 10 * 512 + b.val
              rw [(index0_5 t h).2]; omega
/-- The down rows of a point's run. -/
theorem iblk_6 (c : Dev nD) (t : Fin cfg0.N) (h : t.val / 10 < 16) (a : Fin 512) (b : Fin 2048) :
    iblk m c 6 t (ix2 a b) = wd m c ⟨t.val % 10 * 512 + a.val, by have := a.isLt; omega⟩ b := by
  have ha := a.isLt
  have hb := b.isLt
  unfold iblk
  rw [View.read_apply]
  refine Eq.trans ?_ (V_v10 m c ⟨t.val % 10 * 512 + a.val, by omega⟩ b (by show t.val % 10 * 512 + a.val < 5504; omega))
  show V m c main_v10 _ = V m c main_v10 _
  congr 1
  funext x
  apply Fin.ext
  match x with
  | ⟨0, _⟩ => show win0_6.index t 0 + 1 * a.val = t.val % 10 * 512 + a.val
              rw [(index0_6 t h).1]; omega
  | ⟨1, _⟩ => show win0_6.index t 1 + 1 * b.val = b.val
              rw [(index0_6 t h).2]; omega
/-- The remaining gate columns. -/
theorem iblk_7 (c : Dev nD) (t : Fin cfg0.N) (a : Fin 2048) (b : Fin 384) :
    iblk m c 7 t (ix2 a b) = wgu m c a ⟨(5120 + b.val), by have := b.isLt; omega⟩ := by
  have ha := a.isLt
  have hb := b.isLt
  unfold iblk
  rw [View.read_apply]
  refine Eq.trans ?_ (V_v3 m c a ⟨5120 + b.val, by omega⟩ (by show 5120 + b.val < 5504; omega))
  show V m c main_v3 _ = V m c main_v3 _
  congr 1
  funext x
  apply Fin.ext
  match x with
  | ⟨0, _⟩ => show 0 + 1 * a.val = a.val; omega
  | ⟨1, _⟩ => show 5120 + 1 * b.val = 5120 + b.val; omega
/-- The remaining up columns. -/
theorem iblk_8 (c : Dev nD) (t : Fin cfg0.N) (a : Fin 2048) (b : Fin 384) :
    iblk m c 8 t (ix2 a b) = wgu m c a ⟨5504 + (5120 + b.val), by have := b.isLt; omega⟩ := by
  have ha := a.isLt
  have hb := b.isLt
  unfold iblk
  rw [View.read_apply]
  refine Eq.trans ?_ (V_v7 m c a ⟨5120 + b.val, by omega⟩ (by show 5120 + b.val < 5504; omega))
  show V m c main_v7 _ = V m c main_v7 _
  congr 1
  funext x
  apply Fin.ext
  match x with
  | ⟨0, _⟩ => show 0 + 1 * a.val = a.val; omega
  | ⟨1, _⟩ => show 5120 + 1 * b.val = 5120 + b.val; omega
/-- The remaining down rows. -/
theorem iblk_9 (c : Dev nD) (t : Fin cfg0.N) (a : Fin 384) (b : Fin 2048) :
    iblk m c 9 t (ix2 a b) = wd m c ⟨5120 + a.val, by have := a.isLt; omega⟩ b := by
  have ha := a.isLt
  have hb := b.isLt
  unfold iblk
  rw [View.read_apply]
  refine Eq.trans ?_ (V_v10 m c ⟨5120 + a.val, by omega⟩ b (by show 5120 + a.val < 5504; omega))
  show V m c main_v10 _ = V m c main_v10 _
  congr 1
  funext x
  apply Fin.ext
  match x with
  | ⟨0, _⟩ => show 5120 + 1 * a.val = 5120 + a.val; omega
  | ⟨1, _⟩ => show 0 + 1 * b.val = b.val; omega
/-- A point's block of a weight matrix to copy. -/
theorem iblk_11 (c : Dev nD) (t : Fin cfg0.N) (r : Fin 16) (k : Fin 11008) :
    iblk m c 11 t (ix2 r k) = side16 m c (ix2 ⟨16 * min t.val 127 + r.val, by have := r.isLt; omega⟩ k) := by
  have hr := r.isLt
  unfold iblk
  rw [View.read_apply, ← V_v12]
  show V m c main_v12 _ = V m c main_v12 _
  congr 1
  funext a
  apply Fin.ext
  match a with
  | ⟨0, _⟩ => show win0_11.index t 0 * 16 + 1 * r.val = 16 * min t.val 127 + r.val
              rw [(index0_11 t).1]; omega
  | ⟨1, _⟩ => show win0_11.index t 1 * 11008 + 1 * k.val = k.val
              rw [(index0_11 t).2]; omega
/-- A point's block of a weight matrix to copy. -/
theorem iblk_12 (c : Dev nD) (t : Fin cfg0.N) (r : Fin 64) (k : Fin 2048) :
    iblk m c 12 t (ix2 r k) = side17 m c (ix2 ⟨64 * min t.val 85 + r.val, by have := r.isLt; omega⟩ k) := by
  have hr := r.isLt
  unfold iblk
  rw [View.read_apply, ← V_v13]
  show V m c main_v13 _ = V m c main_v13 _
  congr 1
  funext a
  apply Fin.ext
  match a with
  | ⟨0, _⟩ => show win0_12.index t 0 * 64 + 1 * r.val = 64 * min t.val 85 + r.val
              rw [(index0_12 t).1]; omega
  | ⟨1, _⟩ => show win0_12.index t 1 * 2048 + 1 * k.val = k.val
              rw [(index0_12 t).2]; omega
/-- A point's block of a weight matrix to copy. -/
theorem iblk_13 (c : Dev nD) (t : Fin cfg0.N) (r : Fin 16) (k : Fin 7680) :
    iblk m c 13 t (ix2 r k) = side18 m c (ix2 ⟨16 * min t.val 127 + r.val, by have := r.isLt; omega⟩ k) := by
  have hr := r.isLt
  unfold iblk
  rw [View.read_apply, ← V_v14]
  show V m c main_v14 _ = V m c main_v14 _
  congr 1
  funext a
  apply Fin.ext
  match a with
  | ⟨0, _⟩ => show win0_13.index t 0 * 16 + 1 * r.val = 16 * min t.val 127 + r.val
              rw [(index0_13 t).1]; omega
  | ⟨1, _⟩ => show win0_13.index t 1 * 7680 + 1 * k.val = k.val
              rw [(index0_13 t).2]; omega

end Cert.Kernel4Ideal.FfnOneValue

end
-- ==== Proof.FfnOneFrame.lean ====
/-
  The frame of the first feed-forward's call: what its body leaves in its five results' staging memrefs and its scratch at
  each point, and so the run of the whole program. A row block of the prompt takes ten points; the sample's row block is
  copied at its first point and stays through the other nine, the last of which writes it back.
-/
module

public import proofs.«01_k».proof.Proof.Gen.Kernel4Ideal.Frame
public import proofs.«01_k».proof.Proof.Gen.Kernel4Ideal.Skeleton
public import Idealize.ShloMosaic.Lib.Claim
public import Idealize.ShloMosaic.Lib.VecWindow
public import Idealize.ShloMosaic.Lib.Pipeline.Value

@[expose] public section

set_option maxRecDepth 16384

noncomputable section

namespace Cert.Kernel4Ideal.FfnOneFrame

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offsets of a load or store at a block's corner. -/
theorem hz : (![0, 0] : Fin 2 → ℕ) = fun _ => 0 := funext fun a => by fin_cases a <;> rfl

set_option maxHeartbeats 2000000 in
/-- The body at a row block's first point: it stores the normalised rows and starts the sum; the inputs stay, the copies at the side are made. -/
theorem run_A (c : Dev nD) (E : Set ℕ) (i : grid0.Coords) (arg2 : Memref sig .tc .vmem S512x2048 .f32) (harg2 : arg2.IsWhole) (arg3 : Memref sig .tc .vmem S512x2048 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S2048x384 .bf16) (harg9 : arg9.IsWhole) (arg10 : Memref sig .tc .vmem S2048x384 .bf16) (harg10 : arg10.IsWhole) (arg11 : Memref sig .tc .vmem S384x2048 .bf16) (harg11 : arg11.IsWhole) (arg12 : Memref sig .tc .vmem S1x2048 .f32) (harg12 : arg12.IsWhole) (arg13 : Memref sig .tc .vmem S16x11008 .f32) (harg13 : arg13.IsWhole) (arg14 : Memref sig .tc .vmem S64x2048 .f32) (harg14 : arg14.IsWhole) (arg15 : Memref sig .tc .vmem S16x7680 .f32) (harg15 : arg15.IsWhole) (arg16 : Memref sig .tc .vmem S512x2048 .f32) (harg16 : arg16.IsWhole) (arg17 : Memref sig .tc .vmem S512x2048 .bf16) (harg17 : arg17.IsWhole) (arg18 : Memref sig .tc .vmem S16x11008 .bf16) (harg18 : arg18.IsWhole) (arg19 : Memref sig .tc .vmem S64x2048 .bf16) (harg19 : arg19.IsWhole) (arg20 : Memref sig .tc .vmem S16x7680 .bf16) (harg20 : arg20.IsWhole) (arg21 : Memref sig .tc .vmem S512x2048 .bf16) (harg21 : arg21.IsWhole)
    (h1 : k0_cond1 i = 1#1) (h2 : ¬k0_cond2 i = 1#1) (h3 : k0_cond3 i = 1#1) (h4 : ¬k0_cond4 i = 1#1)
    (x0 : Vec F S512x2048 .f32) (x1 : Vec F S512x2048 .f32) (x2 : Vec F S512x2048 .bf16) (x3 : Vec F S1x2048 .f32) (x4 : Vec F S2048x512 .bf16) (x5 : Vec F S2048x512 .bf16) (x6 : Vec F S512x2048 .bf16) (x7 : Vec F S2048x384 .bf16) (x8 : Vec F S2048x384 .bf16) (x9 : Vec F S384x2048 .bf16) (x10 : Vec F S1x2048 .f32) (x11 : Vec F S16x11008 .f32) (x12 : Vec F S64x2048 .f32) (x13 : Vec F S16x7680 .f32) (y14 : Vec F S512x2048 .f32) (y15 : Vec F S512x2048 .bf16) (s : Vec F S512x2048 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ owns (c : Thread nD τ) arg17 fullShare y15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (k0_pay13 x4 x5 x6 (k0_pay11 x0 x3) x0) ∗ owns (c : Thread nD τ) arg17 fullShare y15 ∗ owns (c : Thread nD τ) arg18 fullShare (k0_pay8 x11) ∗ owns (c : Thread nD τ) arg19 fullShare (k0_pay9 x12) ∗ owns (c : Thread nD τ) arg20 fullShare (k0_pay10 x13) ∗ owns (c : Thread nD τ) arg21 fullShare (k0_pay11 x0 x3)) -∗ K ⟨⟩))
      ⊢ wp frame (wpE (defs₀ (F := F)) Variants.none c none) E (cc0_ffn1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_ffn1_eq_skeleton]; unfold cc0_ffn1_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%d16, %f16, -, H16⟩, ⟨%d17, %f17, -, H17⟩, ⟨%d18, %f18, -, H18⟩, ⟨%d19, %f19, -, H19⟩, Hk⟩
  subst hf0 hf1 hf2 hf3 hf4 hf5 hf6 hf7 hf8 hf9 hf10 hf11 hf12 hf13 hf15
  sl_exec (disch := first | sl_exact h1 | sl_exact h2 | sl_exact h3 | sl_exact h4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_full _ _ _ _ _).trans ?_
    sl_unfold_words
    simp only [View.readCov_unit_zero (S := S512x2048) _ hz, View.readCov, View.readAt_writes_full (s := S512x2048), View.read_writes_full (s := S512x2048), View.readAt_eq_ld, View.ld_unit_zero (S := S512x2048) hz, View.ld_unit_zero (S := S1x2048) hz, View.ld_unit_zero (S := S2048x512) hz, View.ld_unit_zero (S := S2048x384) hz, View.ld_unit_zero (S := S384x2048) hz, View.ld_unit_zero (S := S16x11008) hz, View.ld_unit_zero (S := S64x2048) hz, View.ld_unit_zero (S := S16x7680) hz]
  isplitl [H15]
  · iexists f15; isplitr; · ipureintro; rfl
    iexact H15
  isplitl [H16]
  · iexists _; isplitr
    swap; · iexact H16
    ipureintro
    refine (View.read_writes_full _ _ _ _ _).trans ?_
    sl_unfold_words
    simp only [View.readCov_unit_zero (S := S512x2048) _ hz, View.readCov, View.readAt_writes_full (s := S512x2048), View.read_writes_full (s := S512x2048), View.readAt_eq_ld, View.ld_unit_zero (S := S512x2048) hz, View.ld_unit_zero (S := S1x2048) hz, View.ld_unit_zero (S := S2048x512) hz, View.ld_unit_zero (S := S2048x384) hz, View.ld_unit_zero (S := S384x2048) hz, View.ld_unit_zero (S := S16x11008) hz, View.ld_unit_zero (S := S64x2048) hz, View.ld_unit_zero (S := S16x7680) hz]
  isplitl [H17]
  · iexists _; isplitr
    swap; · iexact H17
    ipureintro
    refine (View.read_writes_full _ _ _ _ _).trans ?_
    sl_unfold_words
    simp only [View.readCov_unit_zero (S := S512x2048) _ hz, View.readCov, View.readAt_writes_full (s := S512x2048), View.read_writes_full (s := S512x2048), View.readAt_eq_ld, View.ld_unit_zero (S := S512x2048) hz, View.ld_unit_zero (S := S1x2048) hz, View.ld_unit_zero (S := S2048x512) hz, View.ld_unit_zero (S := S2048x384) hz, View.ld_unit_zero (S := S384x2048) hz, View.ld_unit_zero (S := S16x11008) hz, View.ld_unit_zero (S := S64x2048) hz, View.ld_unit_zero (S := S16x7680) hz]
  isplitl [H18]
  · iexists _; isplitr
    swap; · iexact H18
    ipureintro
    refine (View.read_writes_full _ _ _ _ _).trans ?_
    sl_unfold_words
    simp only [View.readCov_unit_zero (S := S512x2048) _ hz, View.readCov, View.readAt_writes_full (s := S512x2048), View.read_writes_full (s := S512x2048), View.readAt_eq_ld, View.ld_unit_zero (S := S512x2048) hz, View.ld_unit_zero (S := S1x2048) hz, View.ld_unit_zero (S := S2048x512) hz, View.ld_unit_zero (S := S2048x384) hz, View.ld_unit_zero (S := S384x2048) hz, View.ld_unit_zero (S := S16x11008) hz, View.ld_unit_zero (S := S64x2048) hz, View.ld_unit_zero (S := S16x7680) hz]
  iexists _; isplitr
  swap; · iexact H19
  ipureintro
  refine (View.read_writes_full _ _ _ _ _).trans ?_
  sl_unfold_words
  simp only [View.readCov_unit_zero (S := S512x2048) _ hz, View.readCov, View.readAt_writes_full (s := S512x2048), View.read_writes_full (s := S512x2048), View.readAt_eq_ld, View.ld_unit_zero (S := S512x2048) hz, View.ld_unit_zero (S := S1x2048) hz, View.ld_unit_zero (S := S2048x512) hz, View.ld_unit_zero (S := S2048x384) hz, View.ld_unit_zero (S := S384x2048) hz, View.ld_unit_zero (S := S16x11008) hz, View.ld_unit_zero (S := S64x2048) hz, View.ld_unit_zero (S := S16x7680) hz]

set_option maxHeartbeats 2000000 in
/-- The body at a row block's middle points: it adds 512 hidden columns' part; the inputs stay, the copies at the side are made. -/
theorem run_B (c : Dev nD) (E : Set ℕ) (i : grid0.Coords) (arg2 : Memref sig .tc .vmem S512x2048 .f32) (harg2 : arg2.IsWhole) (arg3 : Memref sig .tc .vmem S512x2048 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S2048x384 .bf16) (harg9 : arg9.IsWhole) (arg10 : Memref sig .tc .vmem S2048x384 .bf16) (harg10 : arg10.IsWhole) (arg11 : Memref sig .tc .vmem S384x2048 .bf16) (harg11 : arg11.IsWhole) (arg12 : Memref sig .tc .vmem S1x2048 .f32) (harg12 : arg12.IsWhole) (arg13 : Memref sig .tc .vmem S16x11008 .f32) (harg13 : arg13.IsWhole) (arg14 : Memref sig .tc .vmem S64x2048 .f32) (harg14 : arg14.IsWhole) (arg15 : Memref sig .tc .vmem S16x7680 .f32) (harg15 : arg15.IsWhole) (arg16 : Memref sig .tc .vmem S512x2048 .f32) (harg16 : arg16.IsWhole) (arg17 : Memref sig .tc .vmem S512x2048 .bf16) (harg17 : arg17.IsWhole) (arg18 : Memref sig .tc .vmem S16x11008 .bf16) (harg18 : arg18.IsWhole) (arg19 : Memref sig .tc .vmem S64x2048 .bf16) (harg19 : arg19.IsWhole) (arg20 : Memref sig .tc .vmem S16x7680 .bf16) (harg20 : arg20.IsWhole) (arg21 : Memref sig .tc .vmem S512x2048 .bf16) (harg21 : arg21.IsWhole)
    (h1 : ¬k0_cond1 i = 1#1) (h2 : ¬k0_cond2 i = 1#1) (h3 : k0_cond3 i = 1#1) (h4 : ¬k0_cond4 i = 1#1)
    (x0 : Vec F S512x2048 .f32) (x1 : Vec F S512x2048 .f32) (x2 : Vec F S512x2048 .bf16) (x3 : Vec F S1x2048 .f32) (x4 : Vec F S2048x512 .bf16) (x5 : Vec F S2048x512 .bf16) (x6 : Vec F S512x2048 .bf16) (x7 : Vec F S2048x384 .bf16) (x8 : Vec F S2048x384 .bf16) (x9 : Vec F S384x2048 .bf16) (x10 : Vec F S1x2048 .f32) (x11 : Vec F S16x11008 .f32) (x12 : Vec F S64x2048 .f32) (x13 : Vec F S16x7680 .f32) (y14 : Vec F S512x2048 .f32) (y15 : Vec F S512x2048 .bf16) (s : Vec F S512x2048 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare y14 ∗ owns (c : Thread nD τ) arg17 fullShare y15 ∗ (∃ d, owns (c : Thread nD τ) arg18 fullShare d) ∗ (∃ d, owns (c : Thread nD τ) arg19 fullShare d) ∗ (∃ d, owns (c : Thread nD τ) arg20 fullShare d) ∗ owns (c : Thread nD τ) arg21 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (k0_pay13 x4 x5 x6 s y14) ∗ owns (c : Thread nD τ) arg17 fullShare y15 ∗ owns (c : Thread nD τ) arg18 fullShare (k0_pay8 x11) ∗ owns (c : Thread nD τ) arg19 fullShare (k0_pay9 x12) ∗ owns (c : Thread nD τ) arg20 fullShare (k0_pay10 x13) ∗ owns (c : Thread nD τ) arg21 fullShare s) -∗ K ⟨⟩))
      ⊢ wp frame (wpE (defs₀ (F := F)) Variants.none c none) E (cc0_ffn1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_ffn1_eq_skeleton]; unfold cc0_ffn1_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%f19, %hf19, H19⟩, Hk⟩
  subst hf0 hf1 hf2 hf3 hf4 hf5 hf6 hf7 hf8 hf9 hf10 hf11 hf12 hf13 hf14 hf15 hf19
  sl_exec (disch := first | sl_exact h1 | sl_exact h2 | sl_exact h3 | sl_exact h4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_full _ _ _ _ _).trans ?_
    sl_unfold_words
    simp only [View.readCov_unit_zero (S := S512x2048) _ hz, View.readCov, View.readAt_writes_full (s := S512x2048), View.read_writes_full (s := S512x2048), View.readAt_eq_ld, View.ld_unit_zero (S := S512x2048) hz, View.ld_unit_zero (S := S1x2048) hz, View.ld_unit_zero (S := S2048x512) hz, View.ld_unit_zero (S := S2048x384) hz, View.ld_unit_zero (S := S384x2048) hz, View.ld_unit_zero (S := S16x11008) hz, View.ld_unit_zero (S := S64x2048) hz, View.ld_unit_zero (S := S16x7680) hz]
  isplitl [H15]
  · iexists f15; isplitr; · ipureintro; rfl
    iexact H15
  isplitl [H16]
  · iexists _; isplitr
    swap; · iexact H16
    ipureintro
    refine (View.read_writes_full _ _ _ _ _).trans ?_
    sl_unfold_words
    simp only [View.readCov_unit_zero (S := S512x2048) _ hz, View.readCov, View.readAt_writes_full (s := S512x2048), View.read_writes_full (s := S512x2048), View.readAt_eq_ld, View.ld_unit_zero (S := S512x2048) hz, View.ld_unit_zero (S := S1x2048) hz, View.ld_unit_zero (S := S2048x512) hz, View.ld_unit_zero (S := S2048x384) hz, View.ld_unit_zero (S := S384x2048) hz, View.ld_unit_zero (S := S16x11008) hz, View.ld_unit_zero (S := S64x2048) hz, View.ld_unit_zero (S := S16x7680) hz]
  isplitl [H17]
  · iexists _; isplitr
    swap; · iexact H17
    ipureintro
    refine (View.read_writes_full _ _ _ _ _).trans ?_
    sl_unfold_words
    simp only [View.readCov_unit_zero (S := S512x2048) _ hz, View.readCov, View.readAt_writes_full (s := S512x2048), View.read_writes_full (s := S512x2048), View.readAt_eq_ld, View.ld_unit_zero (S := S512x2048) hz, View.ld_unit_zero (S := S1x2048) hz, View.ld_unit_zero (S := S2048x512) hz, View.ld_unit_zero (S := S2048x384) hz, View.ld_unit_zero (S := S384x2048) hz, View.ld_unit_zero (S := S16x11008) hz, View.ld_unit_zero (S := S64x2048) hz, View.ld_unit_zero (S := S16x7680) hz]
  isplitl [H18]
  · iexists _; isplitr
    swap; · iexact H18
    ipureintro
    refine (View.read_writes_full _ _ _ _ _).trans ?_
    sl_unfold_words
    simp only [View.readCov_unit_zero (S := S512x2048) _ hz, View.readCov, View.readAt_writes_full (s := S512x2048), View.read_writes_full (s := S512x2048), View.readAt_eq_ld, View.ld_unit_zero (S := S512x2048) hz, View.ld_unit_zero (S := S1x2048) hz, View.ld_unit_zero (S := S2048x512) hz, View.ld_unit_zero (S := S2048x384) hz, View.ld_unit_zero (S := S384x2048) hz, View.ld_unit_zero (S := S16x11008) hz, View.ld_unit_zero (S := S64x2048) hz, View.ld_unit_zero (S := S16x7680) hz]
  iexists f19; isplitr; · ipureintro; rfl
  iexact H19

set_option maxHeartbeats 2000000 in
/-- The body at a row block's last point: it adds the last columns' part and stores the rows normalised again; the inputs stay, the copies at the side are made. -/
theorem run_C (c : Dev nD) (E : Set ℕ) (i : grid0.Coords) (arg2 : Memref sig .tc .vmem S512x2048 .f32) (harg2 : arg2.IsWhole) (arg3 : Memref sig .tc .vmem S512x2048 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S2048x384 .bf16) (harg9 : arg9.IsWhole) (arg10 : Memref sig .tc .vmem S2048x384 .bf16) (harg10 : arg10.IsWhole) (arg11 : Memref sig .tc .vmem S384x2048 .bf16) (harg11 : arg11.IsWhole) (arg12 : Memref sig .tc .vmem S1x2048 .f32) (harg12 : arg12.IsWhole) (arg13 : Memref sig .tc .vmem S16x11008 .f32) (harg13 : arg13.IsWhole) (arg14 : Memref sig .tc .vmem S64x2048 .f32) (harg14 : arg14.IsWhole) (arg15 : Memref sig .tc .vmem S16x7680 .f32) (harg15 : arg15.IsWhole) (arg16 : Memref sig .tc .vmem S512x2048 .f32) (harg16 : arg16.IsWhole) (arg17 : Memref sig .tc .vmem S512x2048 .bf16) (harg17 : arg17.IsWhole) (arg18 : Memref sig .tc .vmem S16x11008 .bf16) (harg18 : arg18.IsWhole) (arg19 : Memref sig .tc .vmem S64x2048 .bf16) (harg19 : arg19.IsWhole) (arg20 : Memref sig .tc .vmem S16x7680 .bf16) (harg20 : arg20.IsWhole) (arg21 : Memref sig .tc .vmem S512x2048 .bf16) (harg21 : arg21.IsWhole)
    (h1 : ¬k0_cond1 i = 1#1) (h2 : ¬k0_cond2 i = 1#1) (h3 : ¬k0_cond3 i = 1#1) (h4 : k0_cond4 i = 1#1)
    (x0 : Vec F S512x2048 .f32) (x1 : Vec F S512x2048 .f32) (x2 : Vec F S512x2048 .bf16) (x3 : Vec F S1x2048 .f32) (x4 : Vec F S2048x512 .bf16) (x5 : Vec F S2048x512 .bf16) (x6 : Vec F S512x2048 .bf16) (x7 : Vec F S2048x384 .bf16) (x8 : Vec F S2048x384 .bf16) (x9 : Vec F S384x2048 .bf16) (x10 : Vec F S1x2048 .f32) (x11 : Vec F S16x11008 .f32) (x12 : Vec F S64x2048 .f32) (x13 : Vec F S16x7680 .f32) (y14 : Vec F S512x2048 .f32) (y15 : Vec F S512x2048 .bf16) (s : Vec F S512x2048 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare y14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (k0_pay1 (k0_pay4 x9) (k0_pay5 x8 s) (k0_pay6 x7 s) (k0_pay7 (F := F)) (k0_pay3 x4 x5 x6 s y14)) ∗ owns (c : Thread nD τ) arg17 fullShare (k0_pay2 (k0_pay1 (k0_pay4 x9) (k0_pay5 x8 s) (k0_pay6 x7 s) (k0_pay7 (F := F)) (k0_pay3 x4 x5 x6 s y14)) x10) ∗ owns (c : Thread nD τ) arg18 fullShare (k0_pay8 x11) ∗ owns (c : Thread nD τ) arg19 fullShare (k0_pay9 x12) ∗ owns (c : Thread nD τ) arg20 fullShare (k0_pay10 x13) ∗ owns (c : Thread nD τ) arg21 fullShare s) -∗ K ⟨⟩))
      ⊢ wp frame (wpE (defs₀ (F := F)) Variants.none c none) E (cc0_ffn1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_ffn1_eq_skeleton]; unfold cc0_ffn1_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%f19, %hf19, H19⟩, Hk⟩
  subst hf0 hf1 hf2 hf3 hf4 hf5 hf6 hf7 hf8 hf9 hf10 hf11 hf12 hf13 hf14 hf19
  sl_exec (disch := first | sl_exact h1 | sl_exact h2 | sl_exact h3 | sl_exact h4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_full _ _ _ _ _).trans ?_
    sl_unfold_words
    simp only [View.readCov_unit_zero (S := S512x2048) _ hz, View.readCov, View.readAt_writes_full (s := S512x2048), View.read_writes_full (s := S512x2048), View.readAt_eq_ld, View.ld_unit_zero (S := S512x2048) hz, View.ld_unit_zero (S := S1x2048) hz, View.ld_unit_zero (S := S2048x512) hz, View.ld_unit_zero (S := S2048x384) hz, View.ld_unit_zero (S := S384x2048) hz, View.ld_unit_zero (S := S16x11008) hz, View.ld_unit_zero (S := S64x2048) hz, View.ld_unit_zero (S := S16x7680) hz]
  isplitl [H15]
  · iexists _; isplitr
    swap; · iexact H15
    ipureintro
    refine (View.read_writes_full _ _ _ _ _).trans ?_
    sl_unfold_words
    simp only [View.readCov_unit_zero (S := S512x2048) _ hz, View.readCov, View.readAt_writes_full (s := S512x2048), View.read_writes_full (s := S512x2048), View.readAt_eq_ld, View.ld_unit_zero (S := S512x2048) hz, View.ld_unit_zero (S := S1x2048) hz, View.ld_unit_zero (S := S2048x512) hz, View.ld_unit_zero (S := S2048x384) hz, View.ld_unit_zero (S := S384x2048) hz, View.ld_unit_zero (S := S16x11008) hz, View.ld_unit_zero (S := S64x2048) hz, View.ld_unit_zero (S := S16x7680) hz]
  isplitl [H16]
  · iexists _; isplitr
    swap; · iexact H16
    ipureintro
    refine (View.read_writes_full _ _ _ _ _).trans ?_
    sl_unfold_words
    simp only [View.readCov_unit_zero (S := S512x2048) _ hz, View.readCov, View.readAt_writes_full (s := S512x2048), View.read_writes_full (s := S512x2048), View.readAt_eq_ld, View.ld_unit_zero (S := S512x2048) hz, View.ld_unit_zero (S := S1x2048) hz, View.ld_unit_zero (S := S2048x512) hz, View.ld_unit_zero (S := S2048x384) hz, View.ld_unit_zero (S := S384x2048) hz, View.ld_unit_zero (S := S16x11008) hz, View.ld_unit_zero (S := S64x2048) hz, View.ld_unit_zero (S := S16x7680) hz]
  isplitl [H17]
  · iexists _; isplitr
    swap; · iexact H17
    ipureintro
    refine (View.read_writes_full _ _ _ _ _).trans ?_
    sl_unfold_words
    simp only [View.readCov_unit_zero (S := S512x2048) _ hz, View.readCov, View.readAt_writes_full (s := S512x2048), View.read_writes_full (s := S512x2048), View.readAt_eq_ld, View.ld_unit_zero (S := S512x2048) hz, View.ld_unit_zero (S := S1x2048) hz, View.ld_unit_zero (S := S2048x512) hz, View.ld_unit_zero (S := S2048x384) hz, View.ld_unit_zero (S := S384x2048) hz, View.ld_unit_zero (S := S16x11008) hz, View.ld_unit_zero (S := S64x2048) hz, View.ld_unit_zero (S := S16x7680) hz]
  isplitl [H18]
  · iexists _; isplitr
    swap; · iexact H18
    ipureintro
    refine (View.read_writes_full _ _ _ _ _).trans ?_
    sl_unfold_words
    simp only [View.readCov_unit_zero (S := S512x2048) _ hz, View.readCov, View.readAt_writes_full (s := S512x2048), View.read_writes_full (s := S512x2048), View.readAt_eq_ld, View.ld_unit_zero (S := S512x2048) hz, View.ld_unit_zero (S := S1x2048) hz, View.ld_unit_zero (S := S2048x512) hz, View.ld_unit_zero (S := S2048x384) hz, View.ld_unit_zero (S := S384x2048) hz, View.ld_unit_zero (S := S16x11008) hz, View.ld_unit_zero (S := S64x2048) hz, View.ld_unit_zero (S := S16x7680) hz]
  iexists f19; isplitr; · ipureintro; rfl
  iexact H19

set_option maxHeartbeats 2000000 in
/-- The body at the last row block's first point: it copies the sample's rows; the inputs stay, the copies at the side are made. -/
theorem run_D (c : Dev nD) (E : Set ℕ) (i : grid0.Coords) (arg2 : Memref sig .tc .vmem S512x2048 .f32) (harg2 : arg2.IsWhole) (arg3 : Memref sig .tc .vmem S512x2048 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S2048x384 .bf16) (harg9 : arg9.IsWhole) (arg10 : Memref sig .tc .vmem S2048x384 .bf16) (harg10 : arg10.IsWhole) (arg11 : Memref sig .tc .vmem S384x2048 .bf16) (harg11 : arg11.IsWhole) (arg12 : Memref sig .tc .vmem S1x2048 .f32) (harg12 : arg12.IsWhole) (arg13 : Memref sig .tc .vmem S16x11008 .f32) (harg13 : arg13.IsWhole) (arg14 : Memref sig .tc .vmem S64x2048 .f32) (harg14 : arg14.IsWhole) (arg15 : Memref sig .tc .vmem S16x7680 .f32) (harg15 : arg15.IsWhole) (arg16 : Memref sig .tc .vmem S512x2048 .f32) (harg16 : arg16.IsWhole) (arg17 : Memref sig .tc .vmem S512x2048 .bf16) (harg17 : arg17.IsWhole) (arg18 : Memref sig .tc .vmem S16x11008 .bf16) (harg18 : arg18.IsWhole) (arg19 : Memref sig .tc .vmem S64x2048 .bf16) (harg19 : arg19.IsWhole) (arg20 : Memref sig .tc .vmem S16x7680 .bf16) (harg20 : arg20.IsWhole) (arg21 : Memref sig .tc .vmem S512x2048 .bf16) (harg21 : arg21.IsWhole)
    (h1 : ¬k0_cond1 i = 1#1) (h2 : k0_cond2 i = 1#1) (h3 : ¬k0_cond3 i = 1#1) (h4 : ¬k0_cond4 i = 1#1)
    (x0 : Vec F S512x2048 .f32) (x1 : Vec F S512x2048 .f32) (x2 : Vec F S512x2048 .bf16) (x3 : Vec F S1x2048 .f32) (x4 : Vec F S2048x512 .bf16) (x5 : Vec F S2048x512 .bf16) (x6 : Vec F S512x2048 .bf16) (x7 : Vec F S2048x384 .bf16) (x8 : Vec F S2048x384 .bf16) (x9 : Vec F S384x2048 .bf16) (x10 : Vec F S1x2048 .f32) (x11 : Vec F S16x11008 .f32) (x12 : Vec F S64x2048 .f32) (x13 : Vec F S16x7680 .f32) (y14 : Vec F S512x2048 .f32) (y15 : Vec F S512x2048 .bf16) (s : Vec F S512x2048 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x1 ∗ owns (c : Thread nD τ) arg17 fullShare (k0_pay12 x2) ∗ owns (c : Thread nD τ) arg18 fullShare (k0_pay8 x11) ∗ owns (c : Thread nD τ) arg19 fullShare (k0_pay9 x12) ∗ owns (c : Thread nD τ) arg20 fullShare (k0_pay10 x13) ∗ owns (c : Thread nD τ) arg21 fullShare s) -∗ K ⟨⟩))
      ⊢ wp frame (wpE (defs₀ (F := F)) Variants.none c none) E (cc0_ffn1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_ffn1_eq_skeleton]; unfold cc0_ffn1_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%f19, %hf19, H19⟩, Hk⟩
  subst hf0 hf1 hf2 hf3 hf4 hf5 hf6 hf7 hf8 hf9 hf10 hf11 hf12 hf13 hf19
  sl_exec (disch := first | sl_exact h1 | sl_exact h2 | sl_exact h3 | sl_exact h4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_full _ _ _ _ _).trans ?_
    sl_unfold_words
    simp only [View.readCov_unit_zero (S := S512x2048) _ hz, View.readCov, View.readAt_writes_full (s := S512x2048), View.read_writes_full (s := S512x2048), View.readAt_eq_ld, View.ld_unit_zero (S := S512x2048) hz, View.ld_unit_zero (S := S1x2048) hz, View.ld_unit_zero (S := S2048x512) hz, View.ld_unit_zero (S := S2048x384) hz, View.ld_unit_zero (S := S384x2048) hz, View.ld_unit_zero (S := S16x11008) hz, View.ld_unit_zero (S := S64x2048) hz, View.ld_unit_zero (S := S16x7680) hz]
  isplitl [H15]
  · iexists _; isplitr
    swap; · iexact H15
    ipureintro
    refine (View.read_writes_full _ _ _ _ _).trans ?_
    sl_unfold_words
    simp only [View.readCov_unit_zero (S := S512x2048) _ hz, View.readCov, View.readAt_writes_full (s := S512x2048), View.read_writes_full (s := S512x2048), View.readAt_eq_ld, View.ld_unit_zero (S := S512x2048) hz, View.ld_unit_zero (S := S1x2048) hz, View.ld_unit_zero (S := S2048x512) hz, View.ld_unit_zero (S := S2048x384) hz, View.ld_unit_zero (S := S384x2048) hz, View.ld_unit_zero (S := S16x11008) hz, View.ld_unit_zero (S := S64x2048) hz, View.ld_unit_zero (S := S16x7680) hz]
  isplitl [H16]
  · iexists _; isplitr
    swap; · iexact H16
    ipureintro
    refine (View.read_writes_full _ _ _ _ _).trans ?_
    sl_unfold_words
    simp only [View.readCov_unit_zero (S := S512x2048) _ hz, View.readCov, View.readAt_writes_full (s := S512x2048), View.read_writes_full (s := S512x2048), View.readAt_eq_ld, View.ld_unit_zero (S := S512x2048) hz, View.ld_unit_zero (S := S1x2048) hz, View.ld_unit_zero (S := S2048x512) hz, View.ld_unit_zero (S := S2048x384) hz, View.ld_unit_zero (S := S384x2048) hz, View.ld_unit_zero (S := S16x11008) hz, View.ld_unit_zero (S := S64x2048) hz, View.ld_unit_zero (S := S16x7680) hz]
  isplitl [H17]
  · iexists _; isplitr
    swap; · iexact H17
    ipureintro
    refine (View.read_writes_full _ _ _ _ _).trans ?_
    sl_unfold_words
    simp only [View.readCov_unit_zero (S := S512x2048) _ hz, View.readCov, View.readAt_writes_full (s := S512x2048), View.read_writes_full (s := S512x2048), View.readAt_eq_ld, View.ld_unit_zero (S := S512x2048) hz, View.ld_unit_zero (S := S1x2048) hz, View.ld_unit_zero (S := S2048x512) hz, View.ld_unit_zero (S := S2048x384) hz, View.ld_unit_zero (S := S384x2048) hz, View.ld_unit_zero (S := S16x11008) hz, View.ld_unit_zero (S := S64x2048) hz, View.ld_unit_zero (S := S16x7680) hz]
  isplitl [H18]
  · iexists _; isplitr
    swap; · iexact H18
    ipureintro
    refine (View.read_writes_full _ _ _ _ _).trans ?_
    sl_unfold_words
    simp only [View.readCov_unit_zero (S := S512x2048) _ hz, View.readCov, View.readAt_writes_full (s := S512x2048), View.read_writes_full (s := S512x2048), View.readAt_eq_ld, View.ld_unit_zero (S := S512x2048) hz, View.ld_unit_zero (S := S1x2048) hz, View.ld_unit_zero (S := S2048x512) hz, View.ld_unit_zero (S := S2048x384) hz, View.ld_unit_zero (S := S384x2048) hz, View.ld_unit_zero (S := S16x11008) hz, View.ld_unit_zero (S := S64x2048) hz, View.ld_unit_zero (S := S16x7680) hz]
  iexists f19; isplitr; · ipureintro; rfl
  iexact H19

set_option maxHeartbeats 2000000 in
/-- The body at the last row block's further points: the row blocks stay; the inputs stay, the copies at the side are made. -/
theorem run_E (c : Dev nD) (E : Set ℕ) (i : grid0.Coords) (arg2 : Memref sig .tc .vmem S512x2048 .f32) (harg2 : arg2.IsWhole) (arg3 : Memref sig .tc .vmem S512x2048 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S2048x384 .bf16) (harg9 : arg9.IsWhole) (arg10 : Memref sig .tc .vmem S2048x384 .bf16) (harg10 : arg10.IsWhole) (arg11 : Memref sig .tc .vmem S384x2048 .bf16) (harg11 : arg11.IsWhole) (arg12 : Memref sig .tc .vmem S1x2048 .f32) (harg12 : arg12.IsWhole) (arg13 : Memref sig .tc .vmem S16x11008 .f32) (harg13 : arg13.IsWhole) (arg14 : Memref sig .tc .vmem S64x2048 .f32) (harg14 : arg14.IsWhole) (arg15 : Memref sig .tc .vmem S16x7680 .f32) (harg15 : arg15.IsWhole) (arg16 : Memref sig .tc .vmem S512x2048 .f32) (harg16 : arg16.IsWhole) (arg17 : Memref sig .tc .vmem S512x2048 .bf16) (harg17 : arg17.IsWhole) (arg18 : Memref sig .tc .vmem S16x11008 .bf16) (harg18 : arg18.IsWhole) (arg19 : Memref sig .tc .vmem S64x2048 .bf16) (harg19 : arg19.IsWhole) (arg20 : Memref sig .tc .vmem S16x7680 .bf16) (harg20 : arg20.IsWhole) (arg21 : Memref sig .tc .vmem S512x2048 .bf16) (harg21 : arg21.IsWhole)
    (h1 : ¬k0_cond1 i = 1#1) (h2 : ¬k0_cond2 i = 1#1) (h3 : ¬k0_cond3 i = 1#1) (h4 : ¬k0_cond4 i = 1#1)
    (x0 : Vec F S512x2048 .f32) (x1 : Vec F S512x2048 .f32) (x2 : Vec F S512x2048 .bf16) (x3 : Vec F S1x2048 .f32) (x4 : Vec F S2048x512 .bf16) (x5 : Vec F S2048x512 .bf16) (x6 : Vec F S512x2048 .bf16) (x7 : Vec F S2048x384 .bf16) (x8 : Vec F S2048x384 .bf16) (x9 : Vec F S384x2048 .bf16) (x10 : Vec F S1x2048 .f32) (x11 : Vec F S16x11008 .f32) (x12 : Vec F S64x2048 .f32) (x13 : Vec F S16x7680 .f32) (y14 : Vec F S512x2048 .f32) (y15 : Vec F S512x2048 .bf16) (s : Vec F S512x2048 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare y14 ∗ owns (c : Thread nD τ) arg17 fullShare y15 ∗ (∃ d, owns (c : Thread nD τ) arg18 fullShare d) ∗ (∃ d, owns (c : Thread nD τ) arg19 fullShare d) ∗ (∃ d, owns (c : Thread nD τ) arg20 fullShare d) ∗ owns (c : Thread nD τ) arg21 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare y14 ∗ owns (c : Thread nD τ) arg17 fullShare y15 ∗ owns (c : Thread nD τ) arg18 fullShare (k0_pay8 x11) ∗ owns (c : Thread nD τ) arg19 fullShare (k0_pay9 x12) ∗ owns (c : Thread nD τ) arg20 fullShare (k0_pay10 x13) ∗ owns (c : Thread nD τ) arg21 fullShare s) -∗ K ⟨⟩))
      ⊢ wp frame (wpE (defs₀ (F := F)) Variants.none c none) E (cc0_ffn1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_ffn1_eq_skeleton]; unfold cc0_ffn1_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%f19, %hf19, H19⟩, Hk⟩
  subst hf0 hf1 hf2 hf3 hf4 hf5 hf6 hf7 hf8 hf9 hf10 hf11 hf12 hf13 hf14 hf15 hf19
  sl_exec (disch := first | sl_exact h1 | sl_exact h2 | sl_exact h3 | sl_exact h4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    refine (View.read_writes_full _ _ _ _ _).trans ?_
    sl_unfold_words
    simp only [View.readCov_unit_zero (S := S512x2048) _ hz, View.readCov, View.readAt_writes_full (s := S512x2048), View.read_writes_full (s := S512x2048), View.readAt_eq_ld, View.ld_unit_zero (S := S512x2048) hz, View.ld_unit_zero (S := S1x2048) hz, View.ld_unit_zero (S := S2048x512) hz, View.ld_unit_zero (S := S2048x384) hz, View.ld_unit_zero (S := S384x2048) hz, View.ld_unit_zero (S := S16x11008) hz, View.ld_unit_zero (S := S64x2048) hz, View.ld_unit_zero (S := S16x7680) hz]
  isplitl [H17]
  · iexists _; isplitr
    swap; · iexact H17
    ipureintro
    refine (View.read_writes_full _ _ _ _ _).trans ?_
    sl_unfold_words
    simp only [View.readCov_unit_zero (S := S512x2048) _ hz, View.readCov, View.readAt_writes_full (s := S512x2048), View.read_writes_full (s := S512x2048), View.readAt_eq_ld, View.ld_unit_zero (S := S512x2048) hz, View.ld_unit_zero (S := S1x2048) hz, View.ld_unit_zero (S := S2048x512) hz, View.ld_unit_zero (S := S2048x384) hz, View.ld_unit_zero (S := S384x2048) hz, View.ld_unit_zero (S := S16x11008) hz, View.ld_unit_zero (S := S64x2048) hz, View.ld_unit_zero (S := S16x7680) hz]
  isplitl [H18]
  · iexists _; isplitr
    swap; · iexact H18
    ipureintro
    refine (View.read_writes_full _ _ _ _ _).trans ?_
    sl_unfold_words
    simp only [View.readCov_unit_zero (S := S512x2048) _ hz, View.readCov, View.readAt_writes_full (s := S512x2048), View.read_writes_full (s := S512x2048), View.readAt_eq_ld, View.ld_unit_zero (S := S512x2048) hz, View.ld_unit_zero (S := S1x2048) hz, View.ld_unit_zero (S := S2048x512) hz, View.ld_unit_zero (S := S2048x384) hz, View.ld_unit_zero (S := S384x2048) hz, View.ld_unit_zero (S := S16x11008) hz, View.ld_unit_zero (S := S64x2048) hz, View.ld_unit_zero (S := S16x7680) hz]
  iexists f19; isplitr; · ipureintro; rfl
  iexact H19

/-- The first branch is taken at a prompt row block's first point,  -/
theorem cond1_iff : ∀ t : Fin cfg0.N, k0_cond1 (grid0.coords t) = 1#1 ↔ t.val / 10 < 16 ∧ t.val % 10 = 0 :=
  (by decide +kernel : ∀ t : Fin grid0.N, k0_cond1 (grid0.coords t) = 1#1 ↔ t.val / 10 < 16 ∧ t.val % 10 = 0)
/-- the second at the sample's first point,  -/
theorem cond2_iff : ∀ t : Fin cfg0.N, k0_cond2 (grid0.coords t) = 1#1 ↔ ¬t.val / 10 < 16 ∧ t.val % 10 = 0 :=
  (by decide +kernel : ∀ t : Fin grid0.N, k0_cond2 (grid0.coords t) = 1#1 ↔ ¬t.val / 10 < 16 ∧ t.val % 10 = 0)
/-- the third at a prompt row block's first nine points,  -/
theorem cond3_iff : ∀ t : Fin cfg0.N, k0_cond3 (grid0.coords t) = 1#1 ↔ t.val / 10 < 16 ∧ ¬t.val % 10 = 9 :=
  (by decide +kernel : ∀ t : Fin grid0.N, k0_cond3 (grid0.coords t) = 1#1 ↔ t.val / 10 < 16 ∧ ¬t.val % 10 = 9)
/-- the fourth at its last. -/
theorem cond4_iff : ∀ t : Fin cfg0.N, k0_cond4 (grid0.coords t) = 1#1 ↔ t.val / 10 < 16 ∧ t.val % 10 = 9 :=
  (by decide +kernel : ∀ t : Fin grid0.N, k0_cond4 (grid0.coords t) = 1#1 ↔ t.val / 10 < 16 ∧ t.val % 10 = 9)

/-- The row block's result is stored at the prompt's points and the sample's first, -/
theorem live_14 (t : Fin cfg0.N) (h : t.val / 10 < 16 ∨ t.val % 10 = 0) : cfg0.idle 14 (grid0.coords t) = false := by
  show (!(k0_cond1 (grid0.coords t) == 1#1) && !(k0_cond2 (grid0.coords t) == 1#1) && !(k0_cond3 (grid0.coords t) == 1#1) && !(k0_cond4 (grid0.coords t) == 1#1)) = false
  simp only [Bool.and_eq_false_iff, Bool.not_eq_false', beq_iff_eq, cond1_iff, cond2_iff, cond3_iff, cond4_iff]
  omega
/-- and at no other. -/
theorem idle_14 (t : Fin cfg0.N) (h : ¬t.val / 10 < 16) (h' : ¬t.val % 10 = 0) : cfg0.idle 14 (grid0.coords t) = true := by
  show (!(k0_cond1 (grid0.coords t) == 1#1) && !(k0_cond2 (grid0.coords t) == 1#1) && !(k0_cond3 (grid0.coords t) == 1#1) && !(k0_cond4 (grid0.coords t) == 1#1)) = true
  simp only [Bool.and_eq_true, Bool.not_eq_true', beq_eq_false_iff_ne, ne_eq, cond1_iff, cond2_iff, cond3_iff, cond4_iff]
  omega
/-- The rows normalised again are stored at a prompt row block's last point and the sample's first, -/
theorem live_15 (t : Fin cfg0.N) (h : (t.val / 10 < 16 ∧ t.val % 10 = 9) ∨ (¬t.val / 10 < 16 ∧ t.val % 10 = 0)) : cfg0.idle 15 (grid0.coords t) = false := by
  show (!(k0_cond2 (grid0.coords t) == 1#1) && !(k0_cond4 (grid0.coords t) == 1#1)) = false
  simp only [Bool.and_eq_false_iff, Bool.not_eq_false', beq_iff_eq, cond2_iff, cond4_iff]
  omega
/-- and at no other. -/
theorem idle_15 (t : Fin cfg0.N) (h : ¬((t.val / 10 < 16 ∧ t.val % 10 = 9) ∨ (¬t.val / 10 < 16 ∧ t.val % 10 = 0))) : cfg0.idle 15 (grid0.coords t) = true := by
  show (!(k0_cond2 (grid0.coords t) == 1#1) && !(k0_cond4 (grid0.coords t) == 1#1)) = true
  simp only [Bool.and_eq_true, Bool.not_eq_true', beq_eq_false_iff_ne, ne_eq, cond2_iff, cond4_iff]
  omega
/-- A row block is not written back before its tenth point. -/
theorem noFlush_14 (t : Fin cfg0.N) (h : ¬t.val % 10 = 9) : (cfg0.win 14).flush t = false :=
  Bool.eq_false_iff.mpr fun h' => h ((flush0_14 t).mp h')
/-- Nor are the rows normalised again. -/
theorem noFlush_15 (t : Fin cfg0.N) (h : ¬t.val % 10 = 9) : (cfg0.win 15).flush t = false :=
  Bool.eq_false_iff.mpr fun h' => h ((flush0_15 t).mp h')

/-- The sample's first point. -/
def pS : Fin cfg0.N := ⟨160, by have : cfg0.N = 170 := N_0; omega⟩

/-- What a point leaves in the row block and the scratch, from what they held. -/
def step (c : Dev nD) (t : Fin cfg0.N) (p : Vec F S512x2048 .f32 × Vec F S512x2048 .bf16) : Vec F S512x2048 .f32 × Vec F S512x2048 .bf16 :=
  if t.val / 10 < 16 then
    if t.val % 10 = 0 then (k0_pay13 (iblk m c 4 t) (iblk m c 5 t) (iblk m c 6 t) (k0_pay11 (iblk m c 0 t) (iblk m c 3 t)) (iblk m c 0 t), k0_pay11 (iblk m c 0 t) (iblk m c 3 t))
    else if t.val % 10 = 9 then
      (k0_pay1 (k0_pay4 (iblk m c 9 t)) (k0_pay5 (iblk m c 8 t) p.2) (k0_pay6 (iblk m c 7 t) p.2) (k0_pay7 (F := F)) (k0_pay3 (iblk m c 4 t) (iblk m c 5 t) (iblk m c 6 t) p.2 p.1), p.2)
    else (k0_pay13 (iblk m c 4 t) (iblk m c 5 t) (iblk m c 6 t) p.2 p.1, p.2)
  else (iblk m c 1 pS, p.2)

/-- The row block and the scratch after each point. -/
def outs (c : Dev nD) : (n : ℕ) → n < cfg0.N → Vec F S512x2048 .f32 × Vec F S512x2048 .bf16
  | 0, h => step m c ⟨0, h⟩ (iblk m c 0 ⟨0, h⟩, k0_pay11 (iblk m c 0 ⟨0, h⟩) (iblk m c 3 ⟨0, h⟩))
  | n + 1, h => step m c ⟨n + 1, h⟩ (outs c n (Nat.lt_of_succ_lt h))

/-- A point after the first steps from the point before it. -/
theorem outs_pos (c : Dev nD) (t : Fin cfg0.N) (h : t.val ≠ 0) :
    outs m c t.val t.isLt = step m c t (outs m c (t.val - 1) (Nat.lt_of_le_of_lt (Nat.sub_le _ _) t.isLt)) := by
  obtain ⟨n, hn⟩ := t
  cases n with
  | zero => exact absurd rfl h
  | succ n => rfl
/-- A row block's first point does not read what they held. -/
theorem outs_first (c : Dev nD) (t : Fin cfg0.N) (h : t.val / 10 < 16) (h0 : t.val % 10 = 0) :
    outs m c t.val t.isLt = (k0_pay13 (iblk m c 4 t) (iblk m c 5 t) (iblk m c 6 t) (k0_pay11 (iblk m c 0 t) (iblk m c 3 t)) (iblk m c 0 t), k0_pay11 (iblk m c 0 t) (iblk m c 3 t)) := by
  obtain ⟨n, hn⟩ := t
  cases n with
  | zero => show step m c ⟨0, hn⟩ _ = _; unfold step; rw [if_pos h, if_pos h0]
  | succ n => show step m c ⟨n + 1, hn⟩ _ = _; unfold step; rw [if_pos h, if_pos h0]
/-- A middle point. -/
theorem outs_mid (c : Dev nD) (t : Fin cfg0.N) (h : t.val / 10 < 16) (h0 : ¬t.val % 10 = 0) (h9 : ¬t.val % 10 = 9) :
    outs m c t.val t.isLt = (k0_pay13 (iblk m c 4 t) (iblk m c 5 t) (iblk m c 6 t) (outs m c (t.val - 1) (Nat.lt_of_le_of_lt (Nat.sub_le _ _) t.isLt)).2 (outs m c (t.val - 1) (Nat.lt_of_le_of_lt (Nat.sub_le _ _) t.isLt)).1,
      (outs m c (t.val - 1) (Nat.lt_of_le_of_lt (Nat.sub_le _ _) t.isLt)).2) := by
  rw [outs_pos m c t (fun e => h0 (by omega))]; unfold step; rw [if_pos h, if_neg h0, if_neg h9]
/-- A row block's last point. -/
theorem outs_last (c : Dev nD) (t : Fin cfg0.N) (h : t.val / 10 < 16) (h9 : t.val % 10 = 9) :
    outs m c t.val t.isLt = (k0_pay1 (k0_pay4 (iblk m c 9 t)) (k0_pay5 (iblk m c 8 t) (outs m c (t.val - 1) (Nat.lt_of_le_of_lt (Nat.sub_le _ _) t.isLt)).2)
        (k0_pay6 (iblk m c 7 t) (outs m c (t.val - 1) (Nat.lt_of_le_of_lt (Nat.sub_le _ _) t.isLt)).2) (k0_pay7 (F := F))
        (k0_pay3 (iblk m c 4 t) (iblk m c 5 t) (iblk m c 6 t) (outs m c (t.val - 1) (Nat.lt_of_le_of_lt (Nat.sub_le _ _) t.isLt)).2 (outs m c (t.val - 1) (Nat.lt_of_le_of_lt (Nat.sub_le _ _) t.isLt)).1),
      (outs m c (t.val - 1) (Nat.lt_of_le_of_lt (Nat.sub_le _ _) t.isLt)).2) := by
  rw [outs_pos m c t (by omega)]; unfold step; rw [if_pos h, if_neg (by omega), if_pos h9]
/-- The sample's points. -/
theorem outs_sample (c : Dev nD) (t : Fin cfg0.N) (h : ¬t.val / 10 < 16) :
    outs m c t.val t.isLt = (iblk m c 1 pS, (outs m c (t.val - 1) (Nat.lt_of_le_of_lt (Nat.sub_le _ _) t.isLt)).2) := by
  rw [outs_pos m c t (by omega)]; unfold step; rw [if_neg h]

/-- The rows normalised again, once a row block is done. -/
def mixed (c : Dev nD) (t : Fin cfg0.N) : Vec F S512x2048 .bf16 :=
  if t.val / 10 < 16 then k0_pay2 (outs m c t.val t.isLt).1 (iblk m c 10 t) else k0_pay12 (iblk m c 2 pS)

/-- What the core keeps between points: the scratch at what the point before left. -/
def kept (c : Dev nD) : (n : ℕ) → n ≤ cfg0.N → sProp 𝕄
  | 0, _ => Pipeline.ΦA spec0 c
  | n + 1, hn => iprop(owns (c : Thread nD τ) (Memref.whole cc0_scratch0) fullShare (outs m c n hn).2 ∗ (∃ r, prngReg c r))

/-- Before the first point the scratch is at anything. -/
theorem start_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]; try rfl
/-- After any point it is at some contents. -/
theorem kept_any (c : Dev nD) (n : ℕ) (h : n ≤ cfg0.N) : kept m c n h ⊢ (Pipeline.ΦA spec0 c : sProp 𝕄) := by
  cases n with
  | zero => exact Idealize.SL.BI.Entails.refl _
  | succ n =>
    rw [start_eq]
    show iprop(owns (c : Thread nD τ) (Memref.whole cc0_scratch0) fullShare (outs m c n h).2 ∗ (∃ r, prngReg c r)) ⊢ _
    iintro ⟨HS, Hg⟩
    isplitl [HS]; · iexists _; iexact HS
    iexact Hg
/-- The same beside anything else. -/
theorem kept_weaken (c : Dev nD) (n : ℕ) (h : n ≤ cfg0.N) (R : sProp 𝕄) : iprop(kept m c n h ∗ R)
    ⊢ iprop(((∃ d, owns (c : Thread nD τ) (Memref.whole cc0_scratch0) fullShare d) ∗ (∃ r, prngReg c r)) ∗ R) := by
  rw [← start_eq]
  exact sep_mono_l (kept_any m c n h)
/-- Before a later point it is at what the point before left. -/
theorem kept_pos (c : Dev nD) (n : ℕ) (h : n ≤ cfg0.N) (hz : n ≠ 0) : kept m c n h
    = iprop(owns (c : Thread nD τ) (Memref.whole cc0_scratch0) fullShare (outs m c (n - 1) (by omega)).2 ∗ (∃ r, prngReg c r)) := by
  cases n with
  | zero => exact absurd rfl hz
  | succ n => rfl

/-- What the staging memrefs hold after the body at each point: each input's block, the row block so far, the rows normalised
    again (said of a done row block only), the copies. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outs m c t.val t.isLt).1
    | ⟨15, _⟩ => mixed m c t
    | ⟨16, _⟩ => k0_pay8 (iblk m c 11 t)
    | ⟨17, _⟩ => k0_pay9 (iblk m c 12 t)
    | ⟨18, _⟩ => k0_pay10 (iblk m c 13 t)
    | ⟨k + 19, h⟩ => absurd (show k + 19 < 19 from h) (by omega)
  Φ t := kept m c t.val (Nat.le_of_lt_succ t.isLt)
  q w := Pipeline.shareOf spec0 w
  owed _ := 0

/-- The arrays are the region's. -/
theorem A_eq (c : Dev nD) (w : Fin cfg0.W) : (dats m 0 c).A w = V m c (Pipeline.arrRef spec0 w) := by
  dsimp only [dats]

/-- What the core keeps at a point's start. -/
theorem Phi_start (c : Dev nD) (t : Fin cfg0.N) : (dats m 0 c).Φ t.castSucc = kept m c t.val (Nat.le_of_lt t.isLt) := by
  dsimp only [dats]; exact Pipeline.Dat.Φ_castSucc (kept m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = (outs m c t.val t.isLt).1 := by dsimp only [dats]
theorem after_15 (c : Dev nD) (t : Fin cfg0.N) : (dats m 0 c).after 15 t = mixed m c t := by dsimp only [dats]
theorem after_16 (c : Dev nD) (t : Fin cfg0.N) : (dats m 0 c).after 16 t = k0_pay8 (iblk m c 11 t) := by dsimp only [dats]
theorem after_17 (c : Dev nD) (t : Fin cfg0.N) : (dats m 0 c).after 17 t = k0_pay9 (iblk m c 12 t) := by dsimp only [dats]
theorem after_18 (c : Dev nD) (t : Fin cfg0.N) : (dats m 0 c).after 18 t = k0_pay10 (iblk m c 13 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d

/-- A row block the point before stored into and did not write back is found as that point left it. -/
theorem before_14 (c : Dev nD) (t : Fin cfg0.N) (h : (t.val / 10 < 16 ∧ ¬t.val % 10 = 0)) (d) :
    (dats m 0 c).before 14 t d = (outs m c (t.val - 1) (Nat.lt_of_le_of_lt (Nat.sub_le _ _) t.isLt)).1 := by
  rw [Dat.before_of_pos (dats m 0 c) 14 t (by omega) ((cfg0.win 14).fetch_out rfl t) d,
    if_neg (by rw [noFlush_14 _ (show ¬(t.val - 1) % 10 = 9 by omega)]; exact Bool.false_ne_true)]
  unfold Dat.left
  rw [live_14 _ (Or.inl (show (t.val - 1) / 10 < 16 by omega))]
  show (dats m 0 c).after 14 _ = _
  rw [after_14]

/-- At the sample's further points the row block is the sample's still. -/
theorem stays_14 (c : Dev nD) : ∀ (f : ℕ) (t : Fin cfg0.N), t.val = 161 + f → ∀ d, (dats m 0 c).before 14 t d = (dats m 0 c).after 14 t := by
  intro f
  have hN : cfg0.N = 170 := N_0
  induction f with
  | zero =>
    intro t ht d
    rw [Dat.before_of_pos (dats m 0 c) 14 t (by omega) ((cfg0.win 14).fetch_out rfl t) d,
      if_neg (by rw [noFlush_14 _ (show ¬(t.val - 1) % 10 = 9 by omega)]; exact Bool.false_ne_true)]
    unfold Dat.left
    rw [live_14 _ (Or.inr (show (t.val - 1) % 10 = 0 by omega))]
    show (dats m 0 c).after 14 _ = _
    rw [after_14, after_14]
    rw [outs_sample m c t (by omega), outs_sample m c ⟨t.val - 1, _⟩ (show ¬(t.val - 1) / 10 < 16 by omega)]
  | succ f ih =>
    intro t ht d
    have hlt := t.isLt
    rw [Dat.before_of_pos (dats m 0 c) 14 t (by omega) ((cfg0.win 14).fetch_out rfl t) d,
      if_neg (by rw [noFlush_14 _ (show ¬(t.val - 1) % 10 = 9 by omega)]; exact Bool.false_ne_true)]
    unfold Dat.left
    rw [idle_14 _ (show ¬(t.val - 1) / 10 < 16 by omega) (show ¬(t.val - 1) % 10 = 0 by omega)]
    show (dats m 0 c).before 14 _ _ = _
    rw [ih _ (show t.val - 1 = 161 + f by omega), after_14, after_14]
    rw [outs_sample m c t (by omega), outs_sample m c ⟨t.val - 1, _⟩ (show ¬(t.val - 1) / 10 < 16 by omega)]

/-- At the sample's further points the rows normalised again are the sample's still. -/
theorem stays_15 (c : Dev nD) : ∀ (f : ℕ) (t : Fin cfg0.N), t.val = 161 + f → ∀ d, (dats m 0 c).before 15 t d = (dats m 0 c).after 15 t := by
  intro f
  have hN : cfg0.N = 170 := N_0
  induction f with
  | zero =>
    intro t ht d
    rw [Dat.before_of_pos (dats m 0 c) 15 t (by omega) ((cfg0.win 15).fetch_out rfl t) d,
      if_neg (by rw [noFlush_15 _ (show ¬(t.val - 1) % 10 = 9 by omega)]; exact Bool.false_ne_true)]
    unfold Dat.left
    rw [live_15 _ (Or.inr (show ¬(t.val - 1) / 10 < 16 ∧ (t.val - 1) % 10 = 0 by omega))]
    show (dats m 0 c).after 15 _ = _
    rw [after_15, after_15]
    unfold mixed
    rw [if_neg (show ¬(t.val - 1) / 10 < 16 by omega), if_neg (show ¬t.val / 10 < 16 by omega)]
  | succ f ih =>
    intro t ht d
    have hlt := t.isLt
    rw [Dat.before_of_pos (dats m 0 c) 15 t (by omega) ((cfg0.win 15).fetch_out rfl t) d,
      if_neg (by rw [noFlush_15 _ (show ¬(t.val - 1) % 10 = 9 by omega)]; exact Bool.false_ne_true)]
    unfold Dat.left
    rw [idle_15 _ (show ¬(((t.val - 1) / 10 < 16 ∧ (t.val - 1) % 10 = 9) ∨ (¬(t.val - 1) / 10 < 16 ∧ (t.val - 1) % 10 = 0)) by omega)]
    show (dats m 0 c).before 15 _ _ = _
    rw [ih _ (show t.val - 1 = 161 + f by omega), after_15, after_15]
    unfold mixed
    rw [if_neg (show ¬(t.val - 1) / 10 < 16 by omega), if_neg (show ¬t.val / 10 < 16 by omega)]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  have hN : cfg0.N = 170 := N_0
  have hlt := t.isLt
  unfold bodyPre bodyPost bodyAt0
  simp only [before_0, before_1, before_2, before_3, before_4, before_5, before_6, before_7, before_8, before_9, before_10, before_11, before_12, before_13]
  rw [show (dats m 0 c).owesAt () t.succ = (dats m 0 c).owesAt () t.castSucc from rfl, Phi_start,
    show (dats m 0 c).Φ t.succ = iprop(owns (c : Thread nD τ) (Memref.whole cc0_scratch0) fullShare (outs m c t.val t.isLt).2 ∗ (∃ r, prngReg c r)) from rfl]
  rw [show (dats m 0 c).leavesExact 0 t = owns (c : Thread nD τ) (st0_0 t) fullShare ((dats m 0 c).after 0 t) from rfl, after_0]
  rw [show (dats m 0 c).leavesExact 1 t = owns (c : Thread nD τ) (st0_1 t) fullShare ((dats m 0 c).after 1 t) from rfl, after_1]
  rw [show (dats m 0 c).leavesExact 2 t = owns (c : Thread nD τ) (st0_2 t) fullShare ((dats m 0 c).after 2 t) from rfl, after_2]
  rw [show (dats m 0 c).leavesExact 3 t = owns (c : Thread nD τ) (st0_3 t) fullShare ((dats m 0 c).after 3 t) from rfl, after_3]
  rw [show (dats m 0 c).leavesExact 4 t = owns (c : Thread nD τ) (st0_4 t) fullShare ((dats m 0 c).after 4 t) from rfl, after_4]
  rw [show (dats m 0 c).leavesExact 5 t = owns (c : Thread nD τ) (st0_5 t) fullShare ((dats m 0 c).after 5 t) from rfl, after_5]
  rw [show (dats m 0 c).leavesExact 6 t = owns (c : Thread nD τ) (st0_6 t) fullShare ((dats m 0 c).after 6 t) from rfl, after_6]
  rw [show (dats m 0 c).leavesExact 7 t = owns (c : Thread nD τ) (st0_7 t) fullShare ((dats m 0 c).after 7 t) from rfl, after_7]
  rw [show (dats m 0 c).leavesExact 8 t = owns (c : Thread nD τ) (st0_8 t) fullShare ((dats m 0 c).after 8 t) from rfl, after_8]
  rw [show (dats m 0 c).leavesExact 9 t = owns (c : Thread nD τ) (st0_9 t) fullShare ((dats m 0 c).after 9 t) from rfl, after_9]
  rw [show (dats m 0 c).leavesExact 10 t = owns (c : Thread nD τ) (st0_10 t) fullShare ((dats m 0 c).after 10 t) from rfl, after_10]
  rw [show (dats m 0 c).leavesExact 11 t = owns (c : Thread nD τ) (st0_11 t) fullShare ((dats m 0 c).after 11 t) from rfl, after_11]
  rw [show (dats m 0 c).leavesExact 12 t = owns (c : Thread nD τ) (st0_12 t) fullShare ((dats m 0 c).after 12 t) from rfl, after_12]
  rw [show (dats m 0 c).leavesExact 13 t = owns (c : Thread nD τ) (st0_13 t) fullShare ((dats m 0 c).after 13 t) from rfl, after_13]
  rw [show (dats m 0 c).leavesExact 16 t = owns (c : Thread nD τ) (st0_16 t) fullShare ((dats m 0 c).after 16 t) from rfl, after_16]
  rw [show (dats m 0 c).leavesExact 17 t = owns (c : Thread nD τ) (st0_17 t) fullShare ((dats m 0 c).after 17 t) from rfl, after_17]
  rw [show (dats m 0 c).leavesExact 18 t = owns (c : Thread nD τ) (st0_18 t) fullShare ((dats m 0 c).after 18 t) from rfl, after_18]
  by_cases h : t.val / 10 < 16
  · by_cases h0 : t.val % 10 = 0
    · rw [show (dats m 0 c).leavesExact 14 t = owns (c : Thread nD τ) (st0_14 t) fullShare ((dats m 0 c).after 14 t) from by
        unfold Dat.leavesExact; rw [live_14 t (Or.inl h)], after_14, Dat.leavesExact_idle (dats m 0 c) 15 t (idle_15 t (by omega)) (noFlush_15 t (by omega)), outs_first m c t h h0]
      refine (kept_weaken m c t.val (Nat.le_of_lt t.isLt) _).trans ?_
      show _ ⊢ _
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply (run_A c Set.univ (grid0.coords t) _ _ _ _ _ _ _ _ _ _ _ _ _ _ _ _ _ _ _ _ _ _ _ _ _ _ _ _ _ _ _ _ _ _ _ _ _ _ _ _ ((cond1_iff t).mpr (by omega)) (fun e => by have := (cond2_iff t).mp e; omega) ((cond3_iff t).mpr (by omega)) (fun e => by have := (cond4_iff t).mp e; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 0 t) _ (iblk m c 2 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexact H15
      isplitl [H16]; · iexists _; iexact H16
      isplitl [H17]; · iexists _; iexact H17
      isplitl [H18]; · iexists _; iexact H18
      isplitl [HS]; · iexact HS
      iintro ⟨H0, H1, H2, H3, H4, H5, H6, H7, H8, H9, H10, H11, H12, H13, H14, H15, H16, H17, H18, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexact H16
      isplitl [H17]; · iexact H17
      iexact H18
    · rw [show (dats m 0 c).leavesExact 14 t = owns (c : Thread nD τ) (st0_14 t) fullShare ((dats m 0 c).after 14 t) from by
        unfold Dat.leavesExact; rw [live_14 t (Or.inl h)], after_14, kept_pos m c t.val _ (by omega)]
      simp only [before_14 m c t ⟨h, h0⟩]
      by_cases h9 : t.val % 10 = 9
      · rw [show (dats m 0 c).leavesExact 15 t = owns (c : Thread nD τ) (st0_15 t) fullShare ((dats m 0 c).after 15 t) from by
        unfold Dat.leavesExact; rw [live_15 t (Or.inl ⟨h, h9⟩)], after_15]
        unfold mixed
        rw [if_pos h, outs_last m c t h h9]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
        iapply (run_C c Set.univ (grid0.coords t) _ _ _ _ _ _ _ _ _ _ _ _ _ _ _ _ _ _ _ _ _ _ _ _ _ _ _ _ _ _ _ _ _ _ _ _ _ _ _ _ (fun e => by have := (cond1_iff t).mp e; omega) (fun e => by have := (cond2_iff t).mp e; omega) (fun e => by have := (cond3_iff t).mp e; omega) ((cond4_iff t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ (iblk m c 2 t) _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        isplitl [H16]; · iexists _; iexact H16
        isplitl [H17]; · iexists _; iexact H17
        isplitl [H18]; · iexists _; iexact H18
        isplitl [HS]; · iexact HS
        iintro ⟨H0, H1, H2, H3, H4, H5, H6, H7, H8, H9, H10, H11, H12, H13, H14, H15, H16, H17, H18, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        iexact H18
      · rw [Dat.leavesExact_idle (dats m 0 c) 15 t (idle_15 t (by omega)) (noFlush_15 t (by omega)), outs_mid m c t h h0 h9]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
        iapply (run_B c Set.univ (grid0.coords t) _ _ _ _ _ _ _ _ _ _ _ _ _ _ _ _ _ _ _ _ _ _ _ _ _ _ _ _ _ _ _ _ _ _ _ _ _ _ _ _ (fun e => by have := (cond1_iff t).mp e; omega) (fun e => by have := (cond2_iff t).mp e; omega) ((cond3_iff t).mpr (by omega)) (fun e => by have := (cond4_iff t).mp e; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexists _; iexact H16
        isplitl [H17]; · iexists _; iexact H17
        isplitl [H18]; · iexists _; iexact H18
        isplitl [HS]; · iexact HS
        iintro ⟨H0, H1, H2, H3, H4, H5, H6, H7, H8, H9, H10, H11, H12, H13, H14, H15, H16, H17, H18, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        isplitl [H16]; · iexact H16
        isplitl [H17]; · iexact H17
        iexact H18
  · rw [kept_pos m c t.val _ (by omega), outs_sample m c t h]
    by_cases h0 : t.val % 10 = 0
    · rw [show (dats m 0 c).leavesExact 14 t = owns (c : Thread nD τ) (st0_14 t) fullShare ((dats m 0 c).after 14 t) from by
        unfold Dat.leavesExact; rw [live_14 t (Or.inr h0)], after_14, show (dats m 0 c).leavesExact 15 t = owns (c : Thread nD τ) (st0_15 t) fullShare ((dats m 0 c).after 15 t) from by
        unfold Dat.leavesExact; rw [live_15 t (Or.inr ⟨h, h0⟩)], after_15]
      unfold mixed
      rw [if_neg h, outs_sample m c t h, show (pS : Fin cfg0.N) = t from Fin.ext (show 160 = t.val by omega)]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply (run_D c Set.univ (grid0.coords t) _ _ _ _ _ _ _ _ _ _ _ _ _ _ _ _ _ _ _ _ _ _ _ _ _ _ _ _ _ _ _ _ _ _ _ _ _ _ _ _ (fun e => by have := (cond1_iff t).mp e; omega) ((cond2_iff t).mpr (by omega)) (fun e => by have := (cond3_iff t).mp e; omega) (fun e => by have := (cond4_iff t).mp e; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 0 t) (iblk m c 2 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [HS]; · iexact HS
      iintro ⟨H0, H1, H2, H3, H4, H5, H6, H7, H8, H9, H10, H11, H12, H13, H14, H15, H16, H17, H18, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    · have e14 := stays_14 m c (t.val - 161) t (by omega)
      have e15 := stays_15 m c (t.val - 161) t (by omega)
      by_cases h9 : t.val % 10 = 9
      · simp only [e14, e15]
        rw [show (dats m 0 c).leavesExact 14 t = owns (c : Thread nD τ) (st0_14 t) fullShare ((dats m 0 c).after 14 t) from by
        unfold Dat.leavesExact; rw [idle_14 t h h0, (flush0_14 t).mpr h9], show (dats m 0 c).leavesExact 15 t = owns (c : Thread nD τ) (st0_15 t) fullShare ((dats m 0 c).after 15 t) from by
        unfold Dat.leavesExact; rw [idle_15 t (by omega), (flush0_15 t).mpr h9]]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
        iapply (run_E c Set.univ (grid0.coords t) _ _ _ _ _ _ _ _ _ _ _ _ _ _ _ _ _ _ _ _ _ _ _ _ _ _ _ _ _ _ _ _ _ _ _ _ _ _ _ _ (fun e => by have := (cond1_iff t).mp e; omega) (fun e => by have := (cond2_iff t).mp e; omega) (fun e => by have := (cond3_iff t).mp e; omega) (fun e => by have := (cond4_iff t).mp e; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexists _; iexact H16
        isplitl [H17]; · iexists _; iexact H17
        isplitl [H18]; · iexists _; iexact H18
        isplitl [HS]; · iexact HS
        iintro ⟨H0, H1, H2, H3, H4, H5, H6, H7, H8, H9, H10, H11, H12, H13, H14, H15, H16, H17, H18, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        iexact H18
      · rw [Dat.leavesExact_idle (dats m 0 c) 14 t (idle_14 t h h0) (noFlush_14 t h9), Dat.leavesExact_idle (dats m 0 c) 15 t (idle_15 t (by omega)) (noFlush_15 t h9)]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
        iapply (run_E c Set.univ (grid0.coords t) _ _ _ _ _ _ _ _ _ _ _ _ _ _ _ _ _ _ _ _ _ _ _ _ _ _ _ _ _ _ _ _ _ _ _ _ _ _ _ _ (fun e => by have := (cond1_iff t).mp e; omega) (fun e => by have := (cond2_iff t).mp e; omega) (fun e => by have := (cond3_iff t).mp e; omega) (fun e => by have := (cond4_iff t).mp e; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexists _; iexact H16
        isplitl [H17]; · iexists _; iexact H17
        isplitl [H18]; · iexists _; iexact H18
        isplitl [HS]; · iexact HS
        iintro ⟨H0, H1, H2, H3, H4, H5, H6, H7, H8, H9, H10, H11, H12, H13, H14, H15, H16, H17, H18, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexists _; iexact H14
        isplitl [H15]; · iexists _; iexact H15
        isplitl [H16]; · iexact H16
        isplitl [H17]; · iexact H17
        iexact H18

/-- The body table's row at a point's slots. -/
theorem row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
set_option maxHeartbeats 800000 in
/-- The launch: every array of the pipeline ends as its proof data says, and every semaphore at zero. -/
theorem launch : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => Idealize.SL.BI.Entails.refl _) (hout := fun c => kept_any m c cfg0.N (Nat.le_refl _))

/-- The run without the counters. -/
theorem run_main : θ_run defs (onTc (τ := τ) (main (F := F))) (s₀ m ρ) (Pipeline.FramePost cfgs (dats m) 0 (V m)) :=
  (θ_run defs _ _).mono (fun _ h => h.1) (launch m ρ)

/-- The program terminates, leaves its arguments as they were and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (launch m ρ))

end Cert.Kernel4Ideal.FfnOneFrame

end
-- ==== Proof.FfnOneValue.lean ====
/-
  The first feed-forward's call: its five result arrays, entry by entry, and the program's run. By induction on the grid's
  point the row block holds the rows plus the part of the hidden columns met so far, so after a row block's last point half
  a feed-forward step; the sample's rows pass through.
-/
module

public import proofs.«01_k».proof.Proof.FfnOneBlocks
public import proofs.«01_k».proof.Proof.FfnOneFrame

@[expose] public section

set_option maxRecDepth 16384

noncomputable section

namespace Cert.Kernel4Ideal.FfnOneValue

open Cert.Kernel4Ideal Cert.Kernel4Ideal.Gen Idealize.ShloMosaic Idealize.ShloMosaic.TcCoe Idealize.SL.Sem Cert.Layer

variable (m : (ℓ : Loc nD τ sig) → Buf (Elt Ideal) ℓ) (ρ : Dev nD → PrngReg)
open Cert.Kernel4Ideal.FfnOneFrame

/-- The normalised row `R` of the prompt. -/
abbrev xn (c : Dev nD) (R : ℕ) : Fin 2048 → EReal := rms (row m c R) (gain m c)
/-- How many hidden columns a row block has met after point `n`. -/
def met (n : ℕ) : ℕ := if n % 10 = 9 then 5504 else (n % 10 + 1) * 512
/-- What the row block holds at an entry of row `R`, column `q`, once `K` hidden columns are met. -/
def partial_ (c : Dev nD) (R : ℕ) (q : Fin 2048) (K : ℕ) : EReal :=
  row m c R q + ∑ k ∈ Finset.range K, term (xn m c R) (wgu m c) (fun k => wd m c k q) k
/-- Row `R` of the prompt after half a feed-forward step. -/
def stepped (c : Dev nD) (R : ℕ) (q : Fin 2048) : EReal :=
  halfStep (row m c R) (gain m c) (wgu m c) (fun k => wd m c k q) (row m c R q)

/-- The scratch a row block's first point leaves. -/
theorem scratch_eq (c : Dev nD) (t : Fin cfg0.N) (h : t.val / 10 < 16) (r : Fin 512) (k : Fin 2048) :
    k0_pay11 (F := Ideal) (iblk m c 0 t) (iblk m c 3 t) (ix2 r k) = xn m c (512 * (t.val / 10) + r.val) k := by
  rw [pay11_apply]
  unfold xn
  congr 1
  · funext j; exact iblk_0 m c t h r j
  · funext j; exact iblk_3 m c t j

/-- A point's run of 512 hidden columns, added to the columns before it. -/
theorem run_eq (c : Dev nD) (t : Fin cfg0.N) (h : t.val / 10 < 16) (xs : Vec Ideal S512x2048 .bf16) (acc : Vec Ideal S512x2048 .f32) (r : Fin 512) (q : Fin 2048)
    (R : ℕ) (hs : ∀ k, xs (ix2 r k) = xn m c R k) (ha : acc (ix2 r q) = partial_ m c R q (t.val % 10 * 512)) :
    k0_pay13 (F := Ideal) (iblk m c 4 t) (iblk m c 5 t) (iblk m c 6 t) xs acc (ix2 r q) = partial_ m c R q ((t.val % 10 + 1) * 512) := by
  rw [pay13_apply, ha]
  unfold partial_
  rw [add_assoc, add_mul, one_mul]
  congr 1
  refine range_add_fin _ _ _ _ fun k => ?_
  have hk := k.isLt
  rw [term_of_lt _ _ _ (by omega)]
  simp only [hs, iblk_4 m c t h, iblk_5 m c t h, iblk_6 m c t h]

/-- The same of a last point. -/
theorem run_eq' (c : Dev nD) (t : Fin cfg0.N) (h : t.val / 10 < 16) (xs : Vec Ideal S512x2048 .bf16) (acc : Vec Ideal S512x2048 .f32) (r : Fin 512) (q : Fin 2048)
    (R : ℕ) (hs : ∀ k, xs (ix2 r k) = xn m c R k) (ha : acc (ix2 r q) = partial_ m c R q (t.val % 10 * 512)) :
    k0_pay3 (F := Ideal) (iblk m c 4 t) (iblk m c 5 t) (iblk m c 6 t) xs acc (ix2 r q) = partial_ m c R q ((t.val % 10 + 1) * 512) := by
  rw [pay3_apply, ha]
  unfold partial_
  rw [add_assoc, add_mul, one_mul]
  congr 1
  refine range_add_fin _ _ _ _ fun k => ?_
  have hk := k.isLt
  rw [term_of_lt _ _ _ (by omega)]
  simp only [hs, iblk_4 m c t h, iblk_5 m c t h, iblk_6 m c t h]

/-- The 384 remaining columns, added to the 5120 before them. -/
theorem rest_eq (c : Dev nD) (t : Fin cfg0.N) (xs : Vec Ideal S512x2048 .bf16) (acc : Vec Ideal S512x2048 .f32) (r : Fin 512) (q : Fin 2048)
    (R : ℕ) (hs : ∀ k, xs (ix2 r k) = xn m c R k) (ha : acc (ix2 r q) = partial_ m c R q 5120) :
    k0_pay1 (F := Ideal) (k0_pay4 (iblk m c 9 t)) (k0_pay5 (iblk m c 8 t) xs) (k0_pay6 (iblk m c 7 t) xs) k0_pay7 acc (ix2 r q)
      = partial_ m c R q 5504 := by
  rw [pay1_apply, ha]
  unfold partial_
  rw [add_assoc]
  congr 1
  refine range_add_fin _ 5120 384 _ fun k => ?_
  have hk := k.isLt
  rw [term_of_lt _ _ _ (by omega)]
  simp only [hs, iblk_7, iblk_8, iblk_9]

/-- After point `n` of the prompt's the scratch holds the normalised rows of the point's row block, and the row block the rows
    plus the part of the hidden columns met. -/
theorem state_eq (c : Dev nD) : ∀ (n : ℕ) (h : n < cfg0.N), n / 10 < 16 → ∀ r : Fin 512,
    (∀ k, (outs m c n h).2 (ix2 r k) = xn m c (512 * (n / 10) + r.val) k) ∧
    ∀ q, (outs m c n h).1 (ix2 r q) = partial_ m c (512 * (n / 10) + r.val) q (met n) := by
  have first : ∀ (t : Fin cfg0.N), t.val / 10 < 16 → t.val % 10 = 0 → ∀ r : Fin 512,
      (∀ k, (outs m c t.val t.isLt).2 (ix2 r k) = xn m c (512 * (t.val / 10) + r.val) k) ∧
      ∀ q, (outs m c t.val t.isLt).1 (ix2 r q) = partial_ m c (512 * (t.val / 10) + r.val) q (met t.val) := by
    intro t hp h0 r
    rw [outs_first m c t hp h0]
    dsimp only
    refine ⟨fun k => scratch_eq m c t hp r k, fun q => ?_⟩
    rw [show met t.val = (t.val % 10 + 1) * 512 from if_neg (by omega)]
    refine run_eq m c t hp _ _ r q _ (fun k => scratch_eq m c t hp r k) ?_
    rw [iblk_0 m c t hp]
    simp [partial_, h0]
  intro n
  induction n with
  | zero => intro h hp r; exact first ⟨0, h⟩ hp (Nat.zero_mod 10) r
  | succ n ih =>
    intro h hp r
    by_cases h0 : (n + 1) % 10 = 0
    · exact first ⟨n + 1, h⟩ hp h0 r
    · have ih := ih (Nat.lt_of_succ_lt h) (by omega) r
      have hd : (n + 1) / 10 = n / 10 := by omega
      have hm : met n = (n + 1) % 10 * 512 := by unfold met; rw [if_neg (by omega)]; omega
      rw [hm, ← hd] at ih
      by_cases h9 : (n + 1) % 10 = 9
      · rw [outs_last m c ⟨n + 1, h⟩ hp h9]
        dsimp only
        refine ⟨ih.1, fun q => ?_⟩
        rw [show met (n + 1) = 5504 from if_pos h9]
        refine rest_eq m c ⟨n + 1, h⟩ _ _ r q _ ih.1 ?_
        refine (run_eq' m c ⟨n + 1, h⟩ hp _ _ r q _ ih.1 (ih.2 q)).trans ?_
        show partial_ m c _ q (((n + 1) % 10 + 1) * 512) = _
        rw [h9]
      · rw [outs_mid m c ⟨n + 1, h⟩ hp h0 h9]
        dsimp only
        refine ⟨ih.1, fun q => ?_⟩
        rw [show met (n + 1) = ((n + 1) % 10 + 1) * 512 from if_neg h9]
        exact run_eq m c ⟨n + 1, h⟩ hp _ _ r q _ ih.1 (ih.2 q)

/-- After a row block's last point it holds its rows' steps. -/
theorem stepped_eq (c : Dev nD) (t : Fin cfg0.N) (hp : t.val / 10 < 16) (h9 : t.val % 10 = 9) (r : Fin 512) (q : Fin 2048) :
    (outs m c t.val t.isLt).1 (ix2 r q) = stepped m c (512 * (t.val / 10) + r.val) q := by
  refine ((state_eq m c t.val t.isLt hp r).2 q).trans ?_
  rw [show met t.val = 5504 from if_pos h9]
  rfl

/-- The stream: the prompt's rows' steps, then the sample's rows. -/
def stream (c : Dev nD) : Buf (Elt Ideal) ((c : Thread nD τ).loc main_v15_0) := fun i =>
  if (i 0).val < 8192 then stepped m c (i 0).val (i 1) else rowS m c ((i 0).val - 8192) (i 1)
/-- The stream normalised for the mixer. -/
def normed (c : Dev nD) : Buf (Elt Ideal) ((c : Thread nD τ).loc main_v15_1) := fun i =>
  if (i 0).val < 8192 then rms (stepped m c (i 0).val) (gainM m c) (i 1) else rowN m c ((i 0).val - 8192) (i 1)

/-- A row block is written back with its rows of the stream. -/
theorem flushed_14 (c : Dev nD) (t : Fin cfg0.N) (hf : (cfg0.win 14).flush t = true) :
    (dats m 0 c).flushed 14 t = ((cfg0.win 14).blk t).view.read (Elt Ideal) (stream m c) := by
  have h9 : t.val % 10 = 9 := (flush0_14 t).mp hf
  have hN : cfg0.N = 170 := N_0
  have ht := t.isLt
  show (cfg0.win 14).cut (grid0.coords t) ((dats m 0 c).after 14 t) = _
  rw [after_14]
  funext (y : S512x2048.Idx)
  have hy : (y 0 : Nat) < 512 := (y 0).isLt
  rw [View.read_apply, eq_ix2 y]
  have e0 : (((cfg0.win 14).blk t).view.emb (ix2 (y 0) (y 1)) 0).val = 512 * (t.val / 10) + (y 0).val := by
    show win0_14.index t 0 * 512 + 1 * (y 0).val = _
    rw [(index0_14 t).1]; omega
  have e1 : ((cfg0.win 14).blk t).view.emb (ix2 (y 0) (y 1)) 1 = y 1 := by
    apply Fin.ext
    show win0_14.index t 1 * 2048 + 1 * (y 1).val = _
    rw [(index0_14 t).2]; omega
  unfold stream
  rw [e0, e1]
  show (outs m c t.val t.isLt).1 (ix2 (y 0) (y 1)) = _
  by_cases hp : t.val / 10 < 16
  · rw [if_pos (by omega)]
    exact stepped_eq m c t hp h9 (y 0) (y 1)
  · rw [if_neg (by omega), outs_sample m c t hp]
    refine (iblk_1 m c pS (y 0) (y 1)).trans ?_
    rw [show 512 * (t.val / 10) + (y 0).val - 8192 = (y 0).val by omega]
    rfl

/-- So it ends holding every row. -/
theorem final_14 (c : Dev nD) : (dats m 0 c).arrAt 14 cfg0.N = stream m c :=
  (dats m 0 c).arrAt_eq_of_cover 14 (stream m c) (flushed_14 m c) fun i => by
    have hN : cfg0.N = 170 := N_0
    have h0 : (i 0 : Nat) < 8704 := (i 0).isLt
    have h1 : (i 1 : Nat) < 2048 := (i 1).isLt
    obtain ⟨t, ht⟩ : ∃ t : Fin cfg0.N, t.val = (i 0 : Nat) / 512 * 10 + 9 := ⟨⟨(i 0 : Nat) / 512 * 10 + 9, by omega⟩, rfl⟩
    refine ⟨t, (flush0_14 t).mpr (by omega), ?_⟩
    have e := index0_14 t
    show i ∈ ((View.whole main_v15_0).slice (win0_14.rect t)).set
    rw [View.set_slice_whole, Rect.mem_set_unit]
    intro a
    match a with
    | ⟨0, _⟩ => show win0_14.index t 0 * 512 ≤ (i 0 : Nat) ∧ (i 0 : Nat) < win0_14.index t 0 * 512 + 512
                rw [e.1]; omega
    | ⟨1, _⟩ => show win0_14.index t 1 * 2048 ≤ (i 1 : Nat) ∧ (i 1 : Nat) < win0_14.index t 1 * 2048 + 2048
                rw [e.2]; omega

/-- With them their normalised rows. -/
theorem flushed_15 (c : Dev nD) (t : Fin cfg0.N) (hf : (cfg0.win 15).flush t = true) :
    (dats m 0 c).flushed 15 t = ((cfg0.win 15).blk t).view.read (Elt Ideal) (normed m c) := by
  have h9 : t.val % 10 = 9 := (flush0_15 t).mp hf
  have hN : cfg0.N = 170 := N_0
  have ht := t.isLt
  show (cfg0.win 15).cut (grid0.coords t) ((dats m 0 c).after 15 t) = _
  rw [after_15]
  funext (y : S512x2048.Idx)
  have hy : (y 0 : Nat) < 512 := (y 0).isLt
  rw [View.read_apply, eq_ix2 y]
  have e0 : (((cfg0.win 15).blk t).view.emb (ix2 (y 0) (y 1)) 0).val = 512 * (t.val / 10) + (y 0).val := by
    show win0_15.index t 0 * 512 + 1 * (y 0).val = _
    rw [(index0_15 t).1]; omega
  have e1 : ((cfg0.win 15).blk t).view.emb (ix2 (y 0) (y 1)) 1 = y 1 := by
    apply Fin.ext
    show win0_15.index t 1 * 2048 + 1 * (y 1).val = _
    rw [(index0_15 t).2]; omega
  unfold normed
  rw [e0, e1]
  show mixed m c t (ix2 (y 0) (y 1)) = _
  unfold mixed
  by_cases hp : t.val / 10 < 16
  · rw [if_pos hp, if_pos (by omega)]
    refine (pay2_apply _ _ (y 0) (y 1)).trans ?_
    congr 1
    · funext j; exact stepped_eq m c t hp h9 (y 0) j
    · funext j; exact iblk_10 m c t j
  · rw [if_neg hp, if_neg (by omega)]
    refine (pay12_apply _ (y 0) (y 1)).trans ((iblk_2 m c pS (y 0) (y 1)).trans ?_)
    rw [show 512 * (t.val / 10) + (y 0).val - 8192 = (y 0).val by omega]
    rfl

/-- So it ends holding every row. -/
theorem final_15 (c : Dev nD) : (dats m 0 c).arrAt 15 cfg0.N = normed m c :=
  (dats m 0 c).arrAt_eq_of_cover 15 (normed m c) (flushed_15 m c) fun i => by
    have hN : cfg0.N = 170 := N_0
    have h0 : (i 0 : Nat) < 8704 := (i 0).isLt
    have h1 : (i 1 : Nat) < 2048 := (i 1).isLt
    obtain ⟨t, ht⟩ : ∃ t : Fin cfg0.N, t.val = (i 0 : Nat) / 512 * 10 + 9 := ⟨⟨(i 0 : Nat) / 512 * 10 + 9, by omega⟩, rfl⟩
    refine ⟨t, (flush0_15 t).mpr (by omega), ?_⟩
    have e := index0_15 t
    show i ∈ ((View.whole main_v15_1).slice (win0_15.rect t)).set
    rw [View.set_slice_whole, Rect.mem_set_unit]
    intro a
    match a with
    | ⟨0, _⟩ => show win0_15.index t 0 * 512 ≤ (i 0 : Nat) ∧ (i 0 : Nat) < win0_15.index t 0 * 512 + 512
                rw [e.1]; omega
    | ⟨1, _⟩ => show win0_15.index t 1 * 2048 ≤ (i 1 : Nat) ∧ (i 1 : Nat) < win0_15.index t 1 * 2048 + 2048
                rw [e.2]; omega

/-- The copy's last block is written back at the last point, the blocks before it at theirs. -/
theorem flush_16 : ∀ t : Fin cfg0.N, t.val < 127 ∨ t.val = 169 → (cfg0.win 16).flush t = true :=
  (by decide +kernel : ∀ t : Fin grid0.N, t.val < 127 ∨ t.val = 169 → win0_16.flush t = true)
/-- A block is written back as it is. -/
theorem flushed_16 (c : Dev nD) (t : Fin cfg0.N) (hf : (cfg0.win 16).flush t = true) :
    (dats m 0 c).flushed 16 t = ((cfg0.win 16).blk t).view.read (Elt Ideal) (side16 m c) := by
  show (cfg0.win 16).cut (grid0.coords t) ((dats m 0 c).after 16 t) = _
  rw [after_16]
  funext (y : S16x11008.Idx)
  rw [View.read_apply, eq_ix2 y]
  refine (pay8_apply _ (y 0) (y 1)).trans ((iblk_11 m c t (y 0) (y 1)).trans ?_)
  show side16 m c _ = side16 m c _
  congr 1
  have h0 : (y 0 : Nat) < 16 := (y 0).isLt
  funext a
  apply Fin.ext
  match a with
  | ⟨0, _⟩ => show 16 * min t.val 127 + (y 0).val = win0_16.index t 0 * 16 + 1 * (y 0).val
              rw [(index0_16 t).1]; omega
  | ⟨1, _⟩ => show (y 1).val = win0_16.index t 1 * 11008 + 1 * (y 1).val
              rw [(index0_16 t).2]; omega
/-- So the copy ends holding the whole matrix. -/
theorem final_16 (c : Dev nD) : (dats m 0 c).arrAt 16 cfg0.N = side16 m c :=
  (dats m 0 c).arrAt_eq_of_cover 16 (side16 m c) (flushed_16 m c) fun i => by
    have hN : cfg0.N = 170 := N_0
    have h0 : (i 0 : Nat) < 2048 := (i 0).isLt
    have h1 : (i 1 : Nat) < 11008 := (i 1).isLt
    obtain ⟨t, ht⟩ : ∃ t : Fin cfg0.N, (t.val < 127 ∨ t.val = 169) ∧ min t.val 127 = (i 0 : Nat) / 16 := by
      by_cases hl : (i 0 : Nat) / 16 < 127
      · exact ⟨⟨(i 0 : Nat) / 16, by omega⟩, Or.inl hl, by show min ((i 0 : Nat) / 16) 127 = _; omega⟩
      · exact ⟨⟨169, by omega⟩, Or.inr rfl, by show min 169 127 = _; omega⟩
    refine ⟨t, flush_16 t ht.1, ?_⟩
    have e := index0_16 t
    show i ∈ ((View.whole main_v15_2).slice (win0_16.rect t)).set
    rw [View.set_slice_whole, Rect.mem_set_unit]
    intro a
    match a with
    | ⟨0, _⟩ => show win0_16.index t 0 * 16 ≤ (i 0 : Nat) ∧ (i 0 : Nat) < win0_16.index t 0 * 16 + 16
                rw [e.1, ht.2]; omega
    | ⟨1, _⟩ => show win0_16.index t 1 * 11008 ≤ (i 1 : Nat) ∧ (i 1 : Nat) < win0_16.index t 1 * 11008 + 11008
                rw [e.2]; omega

/-- The copy's last block is written back at the last point, the blocks before it at theirs. -/
theorem flush_17 : ∀ t : Fin cfg0.N, t.val < 85 ∨ t.val = 169 → (cfg0.win 17).flush t = true :=
  (by decide +kernel : ∀ t : Fin grid0.N, t.val < 85 ∨ t.val = 169 → win0_17.flush t = true)
/-- A block is written back as it is. -/
theorem flushed_17 (c : Dev nD) (t : Fin cfg0.N) (hf : (cfg0.win 17).flush t = true) :
    (dats m 0 c).flushed 17 t = ((cfg0.win 17).blk t).view.read (Elt Ideal) (side17 m c) := by
  show (cfg0.win 17).cut (grid0.coords t) ((dats m 0 c).after 17 t) = _
  rw [after_17]
  funext (y : S64x2048.Idx)
  rw [View.read_apply, eq_ix2 y]
  refine (pay9_apply _ (y 0) (y 1)).trans ((iblk_12 m c t (y 0) (y 1)).trans ?_)
  show side17 m c _ = side17 m c _
  congr 1
  have h0 : (y 0 : Nat) < 64 := (y 0).isLt
  funext a
  apply Fin.ext
  match a with
  | ⟨0, _⟩ => show 64 * min t.val 85 + (y 0).val = win0_17.index t 0 * 64 + 1 * (y 0).val
              rw [(index0_17 t).1]; omega
  | ⟨1, _⟩ => show (y 1).val = win0_17.index t 1 * 2048 + 1 * (y 1).val
              rw [(index0_17 t).2]; omega
/-- So the copy ends holding the whole matrix. -/
theorem final_17 (c : Dev nD) : (dats m 0 c).arrAt 17 cfg0.N = side17 m c :=
  (dats m 0 c).arrAt_eq_of_cover 17 (side17 m c) (flushed_17 m c) fun i => by
    have hN : cfg0.N = 170 := N_0
    have h0 : (i 0 : Nat) < 5504 := (i 0).isLt
    have h1 : (i 1 : Nat) < 2048 := (i 1).isLt
    obtain ⟨t, ht⟩ : ∃ t : Fin cfg0.N, (t.val < 85 ∨ t.val = 169) ∧ min t.val 85 = (i 0 : Nat) / 64 := by
      by_cases hl : (i 0 : Nat) / 64 < 85
      · exact ⟨⟨(i 0 : Nat) / 64, by omega⟩, Or.inl hl, by show min ((i 0 : Nat) / 64) 85 = _; omega⟩
      · exact ⟨⟨169, by omega⟩, Or.inr rfl, by show min 169 85 = _; omega⟩
    refine ⟨t, flush_17 t ht.1, ?_⟩
    have e := index0_17 t
    show i ∈ ((View.whole main_v15_3).slice (win0_17.rect t)).set
    rw [View.set_slice_whole, Rect.mem_set_unit]
    intro a
    match a with
    | ⟨0, _⟩ => show win0_17.index t 0 * 64 ≤ (i 0 : Nat) ∧ (i 0 : Nat) < win0_17.index t 0 * 64 + 64
                rw [e.1, ht.2]; omega
    | ⟨1, _⟩ => show win0_17.index t 1 * 2048 ≤ (i 1 : Nat) ∧ (i 1 : Nat) < win0_17.index t 1 * 2048 + 2048
                rw [e.2]; omega

/-- The copy's last block is written back at the last point, the blocks before it at theirs. -/
theorem flush_18 : ∀ t : Fin cfg0.N, t.val < 127 ∨ t.val = 169 → (cfg0.win 18).flush t = true :=
  (by decide +kernel : ∀ t : Fin grid0.N, t.val < 127 ∨ t.val = 169 → win0_18.flush t = true)
/-- A block is written back as it is. -/
theorem flushed_18 (c : Dev nD) (t : Fin cfg0.N) (hf : (cfg0.win 18).flush t = true) :
    (dats m 0 c).flushed 18 t = ((cfg0.win 18).blk t).view.read (Elt Ideal) (side18 m c) := by
  show (cfg0.win 18).cut (grid0.coords t) ((dats m 0 c).after 18 t) = _
  rw [after_18]
  funext (y : S16x7680.Idx)
  rw [View.read_apply, eq_ix2 y]
  refine (pay10_apply _ (y 0) (y 1)).trans ((iblk_13 m c t (y 0) (y 1)).trans ?_)
  show side18 m c _ = side18 m c _
  congr 1
  have h0 : (y 0 : Nat) < 16 := (y 0).isLt
  funext a
  apply Fin.ext
  match a with
  | ⟨0, _⟩ => show 16 * min t.val 127 + (y 0).val = win0_18.index t 0 * 16 + 1 * (y 0).val
              rw [(index0_18 t).1]; omega
  | ⟨1, _⟩ => show (y 1).val = win0_18.index t 1 * 7680 + 1 * (y 1).val
              rw [(index0_18 t).2]; omega
/-- So the copy ends holding the whole matrix. -/
theorem final_18 (c : Dev nD) : (dats m 0 c).arrAt 18 cfg0.N = side18 m c :=
  (dats m 0 c).arrAt_eq_of_cover 18 (side18 m c) (flushed_18 m c) fun i => by
    have hN : cfg0.N = 170 := N_0
    have h0 : (i 0 : Nat) < 2048 := (i 0).isLt
    have h1 : (i 1 : Nat) < 7680 := (i 1).isLt
    obtain ⟨t, ht⟩ : ∃ t : Fin cfg0.N, (t.val < 127 ∨ t.val = 169) ∧ min t.val 127 = (i 0 : Nat) / 16 := by
      by_cases hl : (i 0 : Nat) / 16 < 127
      · exact ⟨⟨(i 0 : Nat) / 16, by omega⟩, Or.inl hl, by show min ((i 0 : Nat) / 16) 127 = _; omega⟩
      · exact ⟨⟨169, by omega⟩, Or.inr rfl, by show min 169 127 = _; omega⟩
    refine ⟨t, flush_18 t ht.1, ?_⟩
    have e := index0_18 t
    show i ∈ ((View.whole main_v15_4).slice (win0_18.rect t)).set
    rw [View.set_slice_whole, Rect.mem_set_unit]
    intro a
    match a with
    | ⟨0, _⟩ => show win0_18.index t 0 * 16 ≤ (i 0 : Nat) ∧ (i 0 : Nat) < win0_18.index t 0 * 16 + 16
                rw [e.1, ht.2]; omega
    | ⟨1, _⟩ => show win0_18.index t 1 * 7680 ≤ (i 1 : Nat) ∧ (i 1 : Nat) < win0_18.index t 1 * 7680 + 7680
                rw [e.2]; omega

/-- The program's run: the five result arrays end at these, the arguments as they were. -/
theorem run : θ_run defs (onTc (τ := τ) (main (F := Ideal))) (s₀ m ρ) (fun r => ∀ c : Dev nD,
    r.2.mem ((c : Thread nD τ).loc main_v15_0) = stream m c ∧
    r.2.mem ((c : Thread nD τ).loc main_v15_1) = normed m c ∧
    r.2.mem ((c : Thread nD τ).loc main_v15_2) = side16 m c ∧
    r.2.mem ((c : Thread nD τ).loc main_v15_3) = side17 m c ∧
    r.2.mem ((c : Thread nD τ).loc main_v15_4) = side18 m c ∧
    r.2.mem ((c : Thread nD τ).loc main_arg0) = m ((c : Thread nD τ).loc main_arg0) ∧
    r.2.mem ((c : Thread nD τ).loc main_arg1) = m ((c : Thread nD τ).loc main_arg1) ∧
    r.2.mem ((c : Thread nD τ).loc main_arg2) = m ((c : Thread nD τ).loc main_arg2) ∧
    r.2.mem ((c : Thread nD τ).loc main_arg3) = m ((c : Thread nD τ).loc main_arg3) ∧
    r.2.mem ((c : Thread nD τ).loc main_arg4) = m ((c : Thread nD τ).loc main_arg4) ∧
    r.2.mem ((c : Thread nD τ).loc main_arg5) = m ((c : Thread nD τ).loc main_arg5) ∧
    r.2.mem ((c : Thread nD τ).loc main_arg6) = m ((c : Thread nD τ).loc main_arg6) ∧
    r.2.mem ((c : Thread nD τ).loc main_arg7) = m ((c : Thread nD τ).loc main_arg7) ∧
    r.2.mem ((c : Thread nD τ).loc main_arg8) = m ((c : Thread nD τ).loc main_arg8) ∧
    r.2.mem ((c : Thread nD τ).loc main_arg9) = m ((c : Thread nD τ).loc main_arg9)) :=
  (θ_run defs _ _).mono (fun r h c => ⟨((h c).1 14).trans (final_14 m c),
    ((h c).1 15).trans (final_15 m c),
    ((h c).1 16).trans (final_16 m c),
    ((h c).1 17).trans (final_17 m c),
    ((h c).1 18).trans (final_18 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).1 3).trans (((dats m 0 c).arrAt_in 3 rfl _).trans ((A_eq m c 3).trans (V_main_arg3 m c))),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).1 10).trans (((dats m 0 c).arrAt_in 10 rfl _).trans ((A_eq m c 10).trans (V_main_arg6 m c))),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c)⟩)
    (run_main m ρ)

end Cert.Kernel4Ideal.FfnOneValue

end
-- ==== Proof.FfnOneRef.lean ====
/-
  The mathematics of the first feed-forward's call, entry by entry: a row's half feed-forward step and its normalisation
  for the mixer, and the two joined with the sample's rows.
-/
module

public import proofs.«01_k».proof.Proof.Layer
public import proofs.«01_k».proof.Proof.Gen.Reference4Ideal.Read

@[expose] public section

set_option maxRecDepth 16384

noncomputable section

namespace Cert.Reference4Ideal.FfnOneRef

open Cert.Reference4Ideal Cert.Reference4Ideal.Read Idealize.ShloMosaic Cert.Layer

/-- The prompt: a normalised row. -/
theorem xn_p (x0 : (⟨S8192x2048, .f32⟩ : BufTy).Contents (Elt Ideal)) (x3 : (⟨S1x2048, .f32⟩ : BufTy).Contents (Elt Ideal)) (R : Fin 8192) (k : Fin 2048) :
    val_main_v13 (F := Ideal) x0 x3 (ix2 R k) = rms (fun j => x0 (ix2 R j)) (fun j => x3 (ix2 0 j)) k := by
  simp only [val_main_v13_apply, val_main_v10_apply, val_main_v9_apply, val_main_v8_apply, val_main_v7_apply, val_main_v5_apply, val_main_v3_apply, val_main_v4_apply, val_main_v6_apply, val_main_v2_apply, val_main_v1_apply, val_main_v12_apply, val_main_v11_apply, val_main_v0_apply, val_main_cst_apply, val_main_cst_0_apply, val_main_cst_1_apply]
  have e1 : ∀ j, idx_main_v2 (idx_main_v3 (idx_main_v9 (ix2 R k))) j = ix2 R j := fun j => by
    funext a; match a with | ⟨0, _⟩ => rfl | ⟨1, _⟩ => rfl
  have e2 : idx_main_v0 (idx_main_v11 (idx_main_v12 (ix2 R k))) = ix2 0 k := by
    funext a; match a with | ⟨0, _⟩ => rfl | ⟨1, _⟩ => exact Fin.ext (Nat.mod_eq_of_lt k.isLt)
  simp only [e1, e2]
  unfold rms
  show x0 (ix2 R k) * Ideal.rsqrt (Ideal.div (Ideal.ofBits .f32 0x00000000#32 + ∑ j, x0 (ix2 R j) * x0 (ix2 R j)) width + eps) * x3 (ix2 0 k) = _
  rw [Ideal.ofBits_zero_f32, zero_add]

/-- The prompt: a column of the joined gate and up product. -/
theorem gu_p (x0 : (⟨S8192x2048, .f32⟩ : BufTy).Contents (Elt Ideal)) (x3 : (⟨S1x2048, .f32⟩ : BufTy).Contents (Elt Ideal)) (x4 : (⟨S1x2048x11008, .f32⟩ : BufTy).Contents (Elt Ideal)) (R : Fin 8192) (k : Fin 11008) :
    val_main_v16 (F := Ideal) x0 x3 x4 (ix2 R k) = dot (rms (fun j => x0 (ix2 R j)) (fun j => x3 (ix2 0 j))) (fun j => x4 (ix3 0 j k)) := by
  rw [val_main_v16_apply]
  unfold dot
  refine Finset.sum_congr rfl fun j _ => ?_
  have e1 : lidx_main_v16 (ix2 R k) j = ix2 R j := by
    funext a; match a with | ⟨0, _⟩ => rfl | ⟨1, _⟩ => rfl
  have e2 : ridx_main_v16 (ix2 R k) j = ix2 j k := by
    funext a; match a with | ⟨0, _⟩ => rfl | ⟨1, _⟩ => rfl
  rw [e1, e2, xn_p]
  unfold val_main_v14
  rw [shapeCast_lead]

/-- The prompt: a row's gated hidden column. -/
theorem hid_p (x0 : (⟨S8192x2048, .f32⟩ : BufTy).Contents (Elt Ideal)) (x3 : (⟨S1x2048, .f32⟩ : BufTy).Contents (Elt Ideal)) (x4 : (⟨S1x2048x11008, .f32⟩ : BufTy).Contents (Elt Ideal)) (R : Fin 8192) (k : Fin 5504) :
    val_main_v20 (F := Ideal) x0 x3 x4 (ix2 R k) = dot (rms (fun j => x0 (ix2 R j)) (fun j => x3 (ix2 0 j))) (fun j => x4 (ix3 0 j ⟨k.val, by omega⟩))
      * Ideal.logistic (dot (rms (fun j => x0 (ix2 R j)) (fun j => x3 (ix2 0 j))) (fun j => x4 (ix3 0 j ⟨k.val, by omega⟩)))
      * dot (rms (fun j => x0 (ix2 R j)) (fun j => x3 (ix2 0 j))) (fun j => x4 (ix3 0 j ⟨5504 + k.val, by omega⟩)) := by
  simp only [val_main_v20_apply, val_main_v19_apply, val_main_v18_apply, val_main_v17_apply, val_main_call0_v5_apply, val_main_call0_v4_apply, val_main_call0_v3_apply, val_main_call0_v2_apply, val_main_call0_v1_apply, val_main_call0_v0_apply, val_main_call0_cst_apply, val_main_call0_cst_0_apply]
  have e1 : idx_main_v17 (ix2 R k) = ix2 R ⟨k.val, by omega⟩ := by
    funext a; match a with | ⟨0, _⟩ => rfl | ⟨1, _⟩ => rfl
  have e2 : idx_main_v18 (ix2 R k) = ix2 R ⟨5504 + k.val, by omega⟩ := by
    funext a; match a with | ⟨0, _⟩ => rfl | ⟨1, _⟩ => rfl
  rw [e1, e2, gu_p, gu_p]
  show _ * Ideal.div one (one + Ideal.exp (-_)) * _ = _ * Ideal.div 1 (1 + Ideal.exp (-_)) * _
  rw [one_eq]

/-- The prompt: a row's half feed-forward step. -/
theorem out_p (x0 : (⟨S8192x2048, .f32⟩ : BufTy).Contents (Elt Ideal)) (x3 : (⟨S1x2048, .f32⟩ : BufTy).Contents (Elt Ideal)) (x4 : (⟨S1x2048x11008, .f32⟩ : BufTy).Contents (Elt Ideal)) (x5 : (⟨S1x5504x2048, .f32⟩ : BufTy).Contents (Elt Ideal)) (R : Fin 8192) (q : Fin 2048) :
    val_main_v24 (F := Ideal) x0 x3 x4 x5 (ix2 R q) = halfStep (fun j => x0 (ix2 R j)) (fun j => x3 (ix2 0 j)) (fun j k => x4 (ix3 0 j k))
      (fun k => x5 (ix3 0 k q)) (x0 (ix2 R q)) := by
  simp only [val_main_v24_apply, val_main_v23_apply, val_main_v22_apply, val_main_cst_2_apply]
  rw [val_main_v21_apply]
  unfold halfStep
  rw [← half_mul_sum _ _ _ (fun k => val_main_v20 (F := Ideal) x0 x3 x4 (lidx_main_v21 (ix2 R q) k) * val_main_v15 (F := Ideal) x5 (ridx_main_v21 (ix2 R q) k))]
  · rfl
  · intro k
    have e1 : lidx_main_v21 (ix2 R q) k = ix2 R k := by
      funext a; match a with | ⟨0, _⟩ => rfl | ⟨1, _⟩ => rfl
    have e2 : ridx_main_v21 (ix2 R q) k = ix2 k q := by
      funext a; match a with | ⟨0, _⟩ => rfl | ⟨1, _⟩ => rfl
    rw [e1, e2, hid_p]
    unfold val_main_v15
    rw [shapeCast_lead]

/-- The prompt: a row's step normalised for the mixer. -/
theorem normed_p (x0 : (⟨S8192x2048, .f32⟩ : BufTy).Contents (Elt Ideal)) (x3 : (⟨S1x2048, .f32⟩ : BufTy).Contents (Elt Ideal)) (x4 : (⟨S1x2048x11008, .f32⟩ : BufTy).Contents (Elt Ideal)) (x5 : (⟨S1x5504x2048, .f32⟩ : BufTy).Contents (Elt Ideal)) (x6 : (⟨S1x2048, .f32⟩ : BufTy).Contents (Elt Ideal)) (R : Fin 8192) (k : Fin 2048) :
    val_main_v38 (F := Ideal) x0 x3 x4 x5 x6 (ix2 R k) = rms (fun q => halfStep (fun j => x0 (ix2 R j)) (fun j => x3 (ix2 0 j)) (fun j k => x4 (ix3 0 j k)) (fun k => x5 (ix3 0 k q)) (x0 (ix2 R q))) (fun j => x6 (ix2 0 j)) k := by
  simp only [val_main_v38_apply, val_main_v35_apply, val_main_v34_apply, val_main_v33_apply, val_main_v32_apply, val_main_v30_apply, val_main_v28_apply, val_main_v29_apply, val_main_v31_apply, val_main_v27_apply, val_main_v26_apply, val_main_v37_apply, val_main_v36_apply, val_main_v25_apply, val_main_cst_3_apply, val_main_cst_4_apply, val_main_cst_5_apply]
  have e1 : ∀ j, idx_main_v27 (idx_main_v28 (idx_main_v34 (ix2 R k))) j = ix2 R j := fun j => by
    funext a; match a with | ⟨0, _⟩ => rfl | ⟨1, _⟩ => rfl
  have e2 : idx_main_v25 (idx_main_v36 (idx_main_v37 (ix2 R k))) = ix2 0 k := by
    funext a; match a with | ⟨0, _⟩ => rfl | ⟨1, _⟩ => exact Fin.ext (Nat.mod_eq_of_lt k.isLt)
  simp only [e1, e2, out_p]
  unfold rms
  dsimp only
  rw [← out_p x0 x3 x4 x5 R k]
  simp only [← out_p x0 x3 x4 x5 R]
  show val_main_v24 (F := Ideal) x0 x3 x4 x5 (ix2 R k) * Ideal.rsqrt (Ideal.div (Ideal.ofBits .f32 0x00000000#32 + ∑ j, val_main_v24 (F := Ideal) x0 x3 x4 x5 (ix2 R j) * val_main_v24 (F := Ideal) x0 x3 x4 x5 (ix2 R j)) width + eps) * x6 (ix2 0 k) = _
  rw [Ideal.ofBits_zero_f32, zero_add]

/-- An entry of the stream: a prompt's row's step, or past the prompt's 8192 rows the sample's row. -/
theorem stream (x0 : (⟨S8192x2048, .f32⟩ : BufTy).Contents (Elt Ideal)) (x1 : (⟨S512x2048, .f32⟩ : BufTy).Contents (Elt Ideal)) (x3 : (⟨S1x2048, .f32⟩ : BufTy).Contents (Elt Ideal)) (x4 : (⟨S1x2048x11008, .f32⟩ : BufTy).Contents (Elt Ideal)) (x5 : (⟨S1x5504x2048, .f32⟩ : BufTy).Contents (Elt Ideal)) (R : Fin 8704) (q : Fin 2048) :
    val_main_v39 (F := Ideal) x0 x1 x3 x4 x5 (ix2 R q) =
      if h : R.val < 8192 then halfStep (fun j => x0 (ix2 ⟨R.val, h⟩ j)) (fun j => x3 (ix2 0 j)) (fun j k => x4 (ix3 0 j k)) (fun k => x5 (ix3 0 k q)) (x0 (ix2 ⟨R.val, h⟩ q))
      else x1 (ix2 ⟨R.val - 8192, by omega⟩ q) := by
  unfold val_main_v39
  rw [concatenate_pair_apply]
  by_cases h : R.val < 8192
  · rw [dif_pos h, ← out_p]
    refine (dif_pos h).trans ?_
    congr 1
    funext a; match a with | ⟨0, _⟩ => rfl | ⟨1, _⟩ => rfl
  · rw [dif_neg h]
    refine (dif_neg h).trans ?_
    congr 1
    funext a; match a with | ⟨0, _⟩ => rfl | ⟨1, _⟩ => rfl

/-- An entry of the stream normalised for the mixer. -/
theorem normed (x0 : (⟨S8192x2048, .f32⟩ : BufTy).Contents (Elt Ideal)) (x2 : (⟨S512x2048, .f32⟩ : BufTy).Contents (Elt Ideal)) (x3 : (⟨S1x2048, .f32⟩ : BufTy).Contents (Elt Ideal)) (x4 : (⟨S1x2048x11008, .f32⟩ : BufTy).Contents (Elt Ideal)) (x5 : (⟨S1x5504x2048, .f32⟩ : BufTy).Contents (Elt Ideal)) (x6 : (⟨S1x2048, .f32⟩ : BufTy).Contents (Elt Ideal)) (R : Fin 8704) (q : Fin 2048) :
    val_main_v41 (F := Ideal) x0 x2 x3 x4 x5 x6 (ix2 R q) =
      if h : R.val < 8192 then rms (fun q => halfStep (fun j => x0 (ix2 ⟨R.val, h⟩ j)) (fun j => x3 (ix2 0 j)) (fun j k => x4 (ix3 0 j k)) (fun k => x5 (ix3 0 k q)) (x0 (ix2 ⟨R.val, h⟩ q))) (fun j => x6 (ix2 0 j)) q
      else x2 (ix2 ⟨R.val - 8192, by omega⟩ q) := by
  show val_main_v40 (F := Ideal) x0 x2 x3 x4 x5 x6 (ix2 R q) = _
  unfold val_main_v40
  rw [concatenate_pair_apply]
  by_cases h : R.val < 8192
  · rw [dif_pos h, ← normed_p]
    refine (dif_pos h).trans ?_
    congr 1
    funext a; match a with | ⟨0, _⟩ => rfl | ⟨1, _⟩ => rfl
  · rw [dif_neg h]
    refine (dif_neg h).trans ?_
    congr 1
    funext a; match a with | ⟨0, _⟩ => rfl | ⟨1, _⟩ => rfl

end Cert.Reference4Ideal.FfnOneRef

end
-- ==== Proof.FfnOneEnd.lean ====
/-
  The first feed-forward's claims: the three programs terminate and leave their arguments, and the kernel's five results are
  the mathematics'.
-/
module

public import proofs.«01_k».proof.Defs
public import proofs.«01_k».proof.Proof.FfnOneValue
public import proofs.«01_k».proof.Proof.FfnOneRef
public import proofs.«01_k».proof.Proof.FfnOneFrameBits
public import proofs.«01_k».proof.Proof.Gen.Reference4Ideal.Run
public import Idealize.ShloMosaic.Adequacy
public import Idealize.ShloMosaic.Init
public import Idealize.ShloMosaic.Lib.Quiescent

@[expose] public section

noncomputable section

namespace Cert.Proof.FfnOne

open Idealize.ShloMosaic Idealize.SL.Sem Cert.Layer

/-- The kernel on floats terminates, leaves its arguments as they were and no semaphore raised. -/
theorem quiescent_Kernel4 : quiescent_Kernel4 := fun m ρ _ => Cert.Kernel4.FfnOneFrame.frame m ρ
/-- So does the kernel on the extended reals. -/
theorem quiescent_Kernel4Ideal : quiescent_Kernel4Ideal := fun m ρ _ => Cert.Kernel4Ideal.FfnOneFrame.frame m ρ
/-- So does the mathematics. -/
theorem quiescent_Reference4Ideal : quiescent_Reference4Ideal := fun m ρ _ =>
  (θ_run Cert.Reference4Ideal.defs _ _).mono (fun r h => ⟨fun c => (h c).2.2.2.2.2, sem_eq_zero_of_no_sems (by decide) r.2⟩)
    (Cert.Reference4Ideal.Value.run (F := Ideal) m ρ)

variable (m : (ℓ : Loc Cert.Kernel4Ideal.nD Cert.Kernel4Ideal.τ Cert.Kernel4Ideal.sig) → Buf (Elt Ideal) ℓ) (c : Dev Cert.Kernel4Ideal.nD)

/-- The stream. -/
theorem eq_39 : Cert.Reference4Ideal.Read.val_main_v39 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) = Cert.Kernel4Ideal.FfnOneValue.stream m c := by
  funext (i : Cert.Kernel4Ideal.S8704x2048.Idx)
  have h0 : (i 0 : Nat) < 8704 := (i 0).isLt
  rw [eq_ix2 i]
  refine (Cert.Reference4Ideal.FfnOneRef.stream _ _ _ _ _ (i 0) (i 1)).trans ?_
  show _ = if (i 0).val < 8192 then Cert.Kernel4Ideal.FfnOneValue.stepped m c (i 0).val (i 1) else Cert.Kernel4Ideal.FfnOneValue.rowS m c ((i 0).val - 8192) (i 1)
  by_cases h : (i 0 : Nat) < 8192
  · have ep : (⟨(i 0 : Nat) % 8192, Nat.mod_lt _ (by norm_num)⟩ : Fin 8192) = ⟨(i 0 : Nat), h⟩ := Fin.ext (Nat.mod_eq_of_lt h)
    rw [dif_pos h, if_pos h]
    unfold Cert.Kernel4Ideal.FfnOneValue.stepped Cert.Kernel4Ideal.FfnOneValue.row
    rw [ep]
    rfl
  · have ep : (⟨((i 0 : Nat) - 8192) % 512, Nat.mod_lt _ (by norm_num)⟩ : Fin 512) = ⟨(i 0 : Nat) - 8192, by omega⟩ := Fin.ext (Nat.mod_eq_of_lt (by omega))
    rw [dif_neg h, if_neg h]
    unfold Cert.Kernel4Ideal.FfnOneValue.rowS
    rw [ep]
/-- The stream normalised for the mixer. -/
theorem eq_41 : Cert.Reference4Ideal.Read.val_main_v41 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) = Cert.Kernel4Ideal.FfnOneValue.normed m c := by
  funext (i : Cert.Kernel4Ideal.S8704x2048.Idx)
  have h0 : (i 0 : Nat) < 8704 := (i 0).isLt
  rw [eq_ix2 i]
  refine (Cert.Reference4Ideal.FfnOneRef.normed _ _ _ _ _ _ (i 0) (i 1)).trans ?_
  show _ = if (i 0).val < 8192 then rms (Cert.Kernel4Ideal.FfnOneValue.stepped m c (i 0).val) (Cert.Kernel4Ideal.FfnOneValue.gainM m c) (i 1) else Cert.Kernel4Ideal.FfnOneValue.rowN m c ((i 0).val - 8192) (i 1)
  by_cases h : (i 0 : Nat) < 8192
  · have ep : (⟨(i 0 : Nat) % 8192, Nat.mod_lt _ (by norm_num)⟩ : Fin 8192) = ⟨(i 0 : Nat), h⟩ := Fin.ext (Nat.mod_eq_of_lt h)
    rw [dif_pos h, if_pos h]
    unfold Cert.Kernel4Ideal.FfnOneValue.stepped Cert.Kernel4Ideal.FfnOneValue.row
    rw [ep]
    rfl
  · have ep : (⟨((i 0 : Nat) - 8192) % 512, Nat.mod_lt _ (by norm_num)⟩ : Fin 512) = ⟨(i 0 : Nat) - 8192, by omega⟩ := Fin.ext (Nat.mod_eq_of_lt (by omega))
    rw [dif_neg h, if_neg h]
    unfold Cert.Kernel4Ideal.FfnOneValue.rowN
    rw [ep]

/-- The kernel computes the mathematics over the extended reals. -/
theorem algebraic_Kernel4Ideal_Reference4Ideal : algebraic_Kernel4Ideal_Reference4Ideal := by
  intro m ρ m' ρ' _ hagree
  refine ⟨_, _, _, _, _, Cert.Kernel4Ideal.FfnOneValue.run m ρ, ?_⟩
  refine (θ_run Cert.Reference4Ideal.defs _ _).mono (fun _ h c => ?_) (Cert.Reference4Ideal.Value.run (F := Ideal) m' ρ')
  obtain ⟨h0, h1, h2, h3, h4, h5, h6, h7, h8, h9⟩ := hagree c
  obtain ⟨r0, r1, r2, r3, r4, hr⟩ := h c
  refine ⟨?_, ?_, ?_, ?_, ?_, hr⟩
  · refine (r0.trans (Cert.Reference4Ideal.Read.val_main_v39_eq _ _ _ _ _)).trans ?_
    show Cert.Reference4Ideal.Read.val_main_v39 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) = _
    rw [h0, h1, h3, h4, h5]
    exact eq_39 m c
  · refine (r1.trans (Cert.Reference4Ideal.Read.val_main_v41_eq m' c)).trans ?_
    show Cert.Reference4Ideal.Read.val_main_v41 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) = _
    rw [h0, h2, h3, h4, h5, h6]
    exact eq_41 m c
  · refine r2.trans ?_
    rw [h7]
    rfl
  · refine r3.trans ?_
    rw [h8]
    rfl
  · refine r4.trans ?_
    rw [h9]
    rfl

end Cert.Proof.FfnOne

end
-- ==== Proof.GatesValue.lean ====
/-
  The gates' call: what a point reads, as entries of the argument arrays, what it stores, what the six arrays it writes end
  at, and the program's run.
-/
module

public import proofs.«01_k».proof.Proof.UqkvLayer
public import proofs.«01_k».proof.Proof.Gen.Kernel5Ideal.Frame
public import Idealize.ShloMosaic.Lib.Pipeline.ValueKit.Tiles

@[expose] public section

set_option maxRecDepth 16384

noncomputable section

namespace Cert.Kernel5Ideal.GatesValue

open Cert.Kernel5Ideal Cert.Kernel5Ideal.Gen Idealize.ShloMosaic Idealize.ShloMosaic.TcCoe Cert.Layer

variable (m : (ℓ : Loc nD τ sig) → Buf (Elt Ideal) ℓ) (ρ : Dev nD → PrngReg)

/-- The normalised rows. -/
def xs (c : Dev nD) : (⟨2, ![8704, 2048]⟩ : Shape).Idx → EReal := m ((c : Thread nD τ).loc main_arg0)
/-- The joined weights. -/
def ws (c : Dev nD) : (⟨3, ![1, 2048, 7680]⟩ : Shape).Idx → EReal := m ((c : Thread nD τ).loc main_arg1)

/-- The rows the launch reads are the argument's. -/
theorem V_x (c : Dev nD) (R : Fin 8704) (j : Fin 2048) : V m c main_v0 (ix2 R j) = xs m c (ix2 R j) := by
  have h : V m c main_v0 = truncf (F := Ideal) .bf16 (m ((c : Thread nD τ).loc main_arg0)) bitsLt_bf16_f32 := by
    show StableHlo.after hostOps0 _ (Proc.devRef .tc main_v0) = _
    after_results
  rw [h]
  rfl
/-- The weights it reads are the argument's. -/
theorem V_w (c : Dev nD) (j : Fin 2048) (k : Fin 7680) : V m c main_v2 (ix2 j k) = ws m c (ix3 0 j k) := by
  have h : V m c main_v2 = truncf (F := Ideal) .bf16 (shapeCast S2048x7680 (m ((c : Thread nD τ).loc main_arg1))
      shapeCasts_S1x2048x7680_S2048x7680) bitsLt_bf16_f32 := by
    show StableHlo.after hostOps0 _ (Proc.devRef .tc main_v2) = _
    after_results
    rfl
  rw [h]
  exact shapeCast_lead _ _ j k
/-- A weight matrix without its leading axis. -/
def side2 (c : Dev nD) : (⟨2, ![1024, 2048]⟩ : Shape).Idx → EReal :=
  shapeCast S1024x2048 (m ((c : Thread nD τ).loc main_arg2)) shapeCasts_S1x1024x2048_S1024x2048
/-- The launch reads it. -/
theorem V_2 (c : Dev nD) : V m c main_v3 = side2 m c := by
  show StableHlo.after hostOps0 _ (Proc.devRef .tc main_v3) = _
  after_results
  rfl
/-- A weight matrix without its leading axis. -/
def side3 (c : Dev nD) : (⟨2, ![1024, 2048]⟩ : Shape).Idx → EReal :=
  shapeCast S1024x2048 (m ((c : Thread nD τ).loc main_arg3)) shapeCasts_S1x1024x2048_S1024x2048
/-- The launch reads it. -/
theorem V_3 (c : Dev nD) : V m c main_v4 = side3 m c := by
  show StableHlo.after hostOps0 _ (Proc.devRef .tc main_v4) = _
  after_results
  rfl
/-- A weight matrix without its leading axis. -/
def side4 (c : Dev nD) : (⟨2, ![2048, 2048]⟩ : Shape).Idx → EReal :=
  shapeCast S2048x2048 (m ((c : Thread nD τ).loc main_arg4)) shapeCasts_S1x2048x2048_S2048x2048
/-- The launch reads it. -/
theorem V_4 (c : Dev nD) : V m c main_v5 = side4 m c := by
  show StableHlo.after hostOps0 _ (Proc.devRef .tc main_v5) = _
  after_results
  rfl
/-- A weight matrix without its leading axis. -/
def side5 (c : Dev nD) : (⟨2, ![2048, 2048]⟩ : Shape).Idx → EReal :=
  shapeCast S2048x2048 (m ((c : Thread nD τ).loc main_arg5)) shapeCasts_S1x2048x2048_S2048x2048
/-- The launch reads it. -/
theorem V_5 (c : Dev nD) : V m c main_v6 = side5 m c := by
  show StableHlo.after hostOps0 _ (Proc.devRef .tc main_v6) = _
  after_results
  rfl
/-- A weight matrix without its leading axis. -/
def side6 (c : Dev nD) : (⟨2, ![256, 2048]⟩ : Shape).Idx → EReal :=
  shapeCast S256x2048 (m ((c : Thread nD τ).loc main_arg6)) shapeCasts_S1x256x2048_S256x2048
/-- The launch reads it. -/
theorem V_6 (c : Dev nD) : V m c main_v7 = side6 m c := by
  show StableHlo.after hostOps0 _ (Proc.devRef .tc main_v7) = _
  after_results
  rfl

/-- The rows' block of a point. -/
theorem index0_0 : ∀ t : Fin grid0.N, win0_0.index t 0 = t.val / 4 ∧ win0_0.index t 1 = 0 := by decide +kernel
/-- The weights' block starts 3584 columns in, 1024 further at each of the four steps. -/
theorem index0_1 : ∀ t : Fin grid0.N, win0_1.index t 0 = 0 ∧ win0_1.index t 1 = 3584 + 1024 * (t.val % 4) := by decide +kernel
/-- The gates' block of a point. -/
theorem index0_7 : ∀ t : Fin grid0.N, win0_7.index t 0 = t.val / 4 ∧ win0_7.index t 1 = t.val % 4 := by decide +kernel
/-- Window 2's block. -/
theorem index0_2 : ∀ t : Fin grid0.N, win0_2.index t 0 = min t.val 31 ∧ win0_2.index t 1 = 0 := by decide +kernel
/-- Window 8's block. -/
theorem index0_8 : ∀ t : Fin grid0.N, win0_8.index t 0 = min t.val 31 ∧ win0_8.index t 1 = 0 := by decide +kernel
/-- Window 3's block. -/
theorem index0_3 : ∀ t : Fin grid0.N, win0_3.index t 0 = min t.val 31 ∧ win0_3.index t 1 = 0 := by decide +kernel
/-- Window 9's block. -/
theorem index0_9 : ∀ t : Fin grid0.N, win0_9.index t 0 = min t.val 31 ∧ win0_9.index t 1 = 0 := by decide +kernel
/-- Window 4's block. -/
theorem index0_4 : ∀ t : Fin grid0.N, win0_4.index t 0 = min t.val 31 ∧ win0_4.index t 1 = 0 := by decide +kernel
/-- Window 10's block. -/
theorem index0_10 : ∀ t : Fin grid0.N, win0_10.index t 0 = min t.val 31 ∧ win0_10.index t 1 = 0 := by decide +kernel
/-- Window 5's block. -/
theorem index0_5 : ∀ t : Fin grid0.N, win0_5.index t 0 = min t.val 31 ∧ win0_5.index t 1 = 0 := by decide +kernel
/-- Window 11's block. -/
theorem index0_11 : ∀ t : Fin grid0.N, win0_11.index t 0 = min t.val 31 ∧ win0_11.index t 1 = 0 := by decide +kernel
/-- Window 6's block. -/
theorem index0_6 : ∀ t : Fin grid0.N, win0_6.index t 0 = min t.val 15 ∧ win0_6.index t 1 = 0 := by decide +kernel
/-- Window 12's block. -/
theorem index0_12 : ∀ t : Fin grid0.N, win0_12.index t 0 = min t.val 15 ∧ win0_12.index t 1 = 0 := by decide +kernel

/-- A point's rows. -/
theorem iblk_0 (c : Dev nD) (t : Fin cfg0.N) (r : Fin 1088) (k : Fin 2048) :
    iblk m c 0 t (ix2 r k) = xs m c (ix2 ⟨(1088 * (t.val / 4) + r.val) % 8704, Nat.mod_lt _ (by norm_num)⟩ k) := by
  have hN : cfg0.N = 32 := N_0
  have ht := t.isLt
  have hr := r.isLt
  unfold iblk
  rw [View.read_apply, ← V_x]
  show V m c main_v0 _ = V m c main_v0 _
  congr 1
  funext a
  apply Fin.ext
  match a with
  | ⟨0, _⟩ => show win0_0.index t 0 * 1088 + 1 * r.val = (1088 * (t.val / 4) + r.val) % 8704
              rw [(index0_0 t).1]; omega
  | ⟨1, _⟩ => show win0_0.index t 1 * 2048 + 1 * k.val = k.val
              rw [(index0_0 t).2]; omega

/-- A point's weights: 1024 columns of the gates', by the element-indexed window. -/
theorem iblk_1 (c : Dev nD) (t : Fin cfg0.N) (a : Fin 2048) (b : Fin 1024) :
    iblk m c 1 t (ix2 a b) = ws m c (ix3 0 a ⟨(3584 + (1024 * (t.val % 4) + b.val)) % 7680, Nat.mod_lt _ (by norm_num)⟩) := by
  have ha := a.isLt
  have hb := b.isLt
  unfold iblk
  rw [View.read_apply, ← V_w]
  show V m c main_v2 _ = V m c main_v2 _
  congr 1
  funext x
  apply Fin.ext
  match x with
  | ⟨0, _⟩ => show win0_1.index t 0 + 1 * a.val = a.val
              rw [(index0_1 t).1]; omega
  | ⟨1, _⟩ => show win0_1.index t 1 + 1 * b.val = (3584 + (1024 * (t.val % 4) + b.val)) % 7680
              rw [(index0_1 t).2]; omega

/-- The offsets of a whole block are zero. -/
theorem hz : (![0, 0] : Fin 2 → ℕ) = 0 := by funext a; match a with | ⟨0, _⟩ => rfl | ⟨1, _⟩ => rfl

/-- The product's logistic at an entry. -/
theorem pay6_apply (x : Vec Ideal S1088x2048 .bf16) (w : Vec Ideal S2048x1024 .bf16) (r : Fin 1088) (c : Fin 1024) :
    k0_pay6 (F := Ideal) x w (ix2 r c) = Ideal.logistic (dot (fun j => x (ix2 r j)) (fun j => w (ix2 j c))) := by
  unfold dot
  pointwise [k0_pay6]

/-- A point's gates. -/
theorem out_7 (c : Dev nD) (t : Fin cfg0.N) (r : Fin 1088) (k : Fin 1024) :
    out0_7 (iblk m c 0 t) (iblk m c 1 t) (iblk m c 2 t) (iblk m c 3 t) (iblk m c 4 t) (iblk m c 5 t) (iblk m c 6 t) (ix2 r k) =
      Ideal.logistic (proj (xs m c) (ws m c) (1088 * (t.val / 4) + r.val) (3584 + (1024 * (t.val % 4) + k.val))) := by
  unfold out0_7
  rw [View.canon_unit_zero (S := S1088x1024) hz, View.ld_unit_zero (S := S1088x2048) hz, View.ld_unit_zero (S := S2048x1024) hz, pay6_apply]
  unfold proj
  simp only [iblk_0, iblk_1]

/-- The gates' array. -/
def resG (c : Dev nD) : Buf (Elt Ideal) ((c : Thread nD τ).loc main_v8_0) :=
  fun i => (Ideal.logistic (proj (xs m c) (ws m c) (i 0).val (3584 + (i 1).val)) : EReal)

/-- Each point writes its gates back. -/
theorem flushed_7 (c : Dev nD) (t : Fin cfg0.N) (hf : (cfg0.win 7).flush t = true) :
    (dats m 0 c).flushed 7 t = ((cfg0.win 7).blk t).view.read (Elt Ideal) (resG m c) := by
  show (cfg0.win 7).cut (grid0.coords t) ((dats m 0 c).after 7 t) = _
  rw [after0_7]
  funext (y : S1088x1024.Idx)
  rw [View.read_apply, eq_ix2 y]
  refine (out_7 m c t (y 0) (y 1)).trans ?_
  have e0 : (((cfg0.win 7).blk t).view.emb (ix2 (y 0) (y 1)) 0).val = 1088 * (t.val / 4) + (y 0).val := by
    show win0_7.index t 0 * 1088 + 1 * (y 0).val = _
    rw [(index0_7 t).1]; omega
  have e1 : (((cfg0.win 7).blk t).view.emb (ix2 (y 0) (y 1)) 1).val = 1024 * (t.val % 4) + (y 1).val := by
    show win0_7.index t 1 * 1024 + 1 * (y 1).val = _
    rw [(index0_7 t).2]; omega
  unfold resG
  rw [e0, e1]
  rfl

/-- So the array ends holding every gate. -/
theorem final_7 (c : Dev nD) : (dats m 0 c).arrAt 7 cfg0.N = resG m c :=
  (dats m 0 c).arrAt_eq_of_cover 7 (resG m c) (flushed_7 m c) fun i => by
    have hN : cfg0.N = 32 := N_0
    have h0 : (i 0 : Nat) < 8704 := (i 0).isLt
    have h1 : (i 1 : Nat) < 4096 := (i 1).isLt
    obtain ⟨t, ht⟩ : ∃ t : Fin cfg0.N, t.val = (i 0 : Nat) / 1088 * 4 + (i 1 : Nat) / 1024 := ⟨⟨(i 0 : Nat) / 1088 * 4 + (i 1 : Nat) / 1024, by omega⟩, rfl⟩
    refine ⟨t, flush0_7 t, ?_⟩
    have e := index0_7 t
    show i ∈ ((View.whole main_v8_0).slice (win0_7.rect t)).set
    rw [View.set_slice_whole, Rect.mem_set_unit]
    intro a
    match a with
    | ⟨0, _⟩ => show win0_7.index t 0 * 1088 ≤ (i 0 : Nat) ∧ (i 0 : Nat) < win0_7.index t 0 * 1088 + 1088
                rw [e.1]; omega
    | ⟨1, _⟩ => show win0_7.index t 1 * 1024 ≤ (i 1 : Nat) ∧ (i 1 : Nat) < win0_7.index t 1 * 1024 + 1024
                rw [e.2]; omega

/-- The smallest copy's last block is written back at the last point, the blocks before it at theirs. -/
theorem flush0_12 : ∀ t : Fin cfg0.N, t.val < 15 ∨ t.val = 31 → (cfg0.win 12).flush t = true :=
  (by decide +kernel : ∀ t : Fin grid0.N, t.val < 15 ∨ t.val = 31 → win0_12.flush t = true)

/-- A point's block of the weight matrix is what it stores. -/
theorem out_8 (c : Dev nD) (t : Fin cfg0.N) (r : Fin 32) (k : Fin 2048) :
    out0_8 (iblk m c 0 t) (iblk m c 1 t) (iblk m c 2 t) (iblk m c 3 t) (iblk m c 4 t) (iblk m c 5 t) (iblk m c 6 t) (ix2 r k) =
      side2 m c (ix2 ⟨(32 * min t.val 31 + r.val) % 1024, Nat.mod_lt _ (by norm_num)⟩ k) := by
  have hr := r.isLt
  unfold out0_8
  rw [View.canon_unit_zero (S := S32x2048) hz, View.ld_unit_zero (S := S32x2048) hz]
  refine Eq.trans (b := iblk m c 2 t (ix2 r k)) (by pointwise [k0_pay1]) ?_
  unfold iblk
  rw [View.read_apply, ← V_2]
  show V m c main_v3 _ = V m c main_v3 _
  congr 1
  funext a
  apply Fin.ext
  match a with
  | ⟨0, _⟩ => show win0_2.index t 0 * 32 + 1 * r.val = (32 * min t.val 31 + r.val) % 1024
              rw [(index0_2 t).1]; omega
  | ⟨1, _⟩ => show win0_2.index t 1 * 2048 + 1 * k.val = k.val
              rw [(index0_2 t).2]; omega

/-- It is written back as it is. -/
theorem flushed_8 (c : Dev nD) (t : Fin cfg0.N) (hf : (cfg0.win 8).flush t = true) :
    (dats m 0 c).flushed 8 t = ((cfg0.win 8).blk t).view.read (Elt Ideal) (side2 m c) := by
  show (cfg0.win 8).cut (grid0.coords t) ((dats m 0 c).after 8 t) = _
  rw [after0_8]
  funext (y : S32x2048.Idx)
  rw [View.read_apply, eq_ix2 y]
  refine (out_8 m c t (y 0) (y 1)).trans ?_
  show side2 m c _ = side2 m c _
  congr 1
  have h0 : (y 0 : Nat) < 32 := (y 0).isLt
  funext a
  apply Fin.ext
  match a with
  | ⟨0, _⟩ => show (32 * min t.val 31 + (y 0).val) % 1024 = win0_8.index t 0 * 32 + 1 * (y 0).val
              rw [(index0_8 t).1]; omega
  | ⟨1, _⟩ => show (y 1).val = win0_8.index t 1 * 2048 + 1 * (y 1).val
              rw [(index0_8 t).2]; omega

/-- So the copy ends holding the whole matrix. -/
theorem final_8 (c : Dev nD) : (dats m 0 c).arrAt 8 cfg0.N = side2 m c :=
  (dats m 0 c).arrAt_eq_of_cover 8 (side2 m c) (flushed_8 m c) fun i => by
    have hN : cfg0.N = 32 := N_0
    have h0 : (i 0 : Nat) < 1024 := (i 0).isLt
    have h1 : (i 1 : Nat) < 2048 := (i 1).isLt
    obtain ⟨t, ht⟩ : ∃ t : Fin cfg0.N, t.val = (i 0 : Nat) / 32 := ⟨⟨(i 0 : Nat) / 32, by omega⟩, rfl⟩
    have hm : min t.val 31 = (i 0 : Nat) / 32 := by omega
    refine ⟨t, flush0_8 t, ?_⟩
    have e := index0_8 t
    show i ∈ ((View.whole main_v8_1).slice (win0_8.rect t)).set
    rw [View.set_slice_whole, Rect.mem_set_unit]
    intro a
    match a with
    | ⟨0, _⟩ => show win0_8.index t 0 * 32 ≤ (i 0 : Nat) ∧ (i 0 : Nat) < win0_8.index t 0 * 32 + 32
                rw [e.1, hm]; omega
    | ⟨1, _⟩ => show win0_8.index t 1 * 2048 ≤ (i 1 : Nat) ∧ (i 1 : Nat) < win0_8.index t 1 * 2048 + 2048
                rw [e.2]; omega

/-- A point's block of the weight matrix is what it stores. -/
theorem out_9 (c : Dev nD) (t : Fin cfg0.N) (r : Fin 32) (k : Fin 2048) :
    out0_9 (iblk m c 0 t) (iblk m c 1 t) (iblk m c 2 t) (iblk m c 3 t) (iblk m c 4 t) (iblk m c 5 t) (iblk m c 6 t) (ix2 r k) =
      side3 m c (ix2 ⟨(32 * min t.val 31 + r.val) % 1024, Nat.mod_lt _ (by norm_num)⟩ k) := by
  have hr := r.isLt
  unfold out0_9
  rw [View.canon_unit_zero (S := S32x2048) hz, View.ld_unit_zero (S := S32x2048) hz]
  refine Eq.trans (b := iblk m c 3 t (ix2 r k)) (by pointwise [k0_pay2]) ?_
  unfold iblk
  rw [View.read_apply, ← V_3]
  show V m c main_v4 _ = V m c main_v4 _
  congr 1
  funext a
  apply Fin.ext
  match a with
  | ⟨0, _⟩ => show win0_3.index t 0 * 32 + 1 * r.val = (32 * min t.val 31 + r.val) % 1024
              rw [(index0_3 t).1]; omega
  | ⟨1, _⟩ => show win0_3.index t 1 * 2048 + 1 * k.val = k.val
              rw [(index0_3 t).2]; omega

/-- It is written back as it is. -/
theorem flushed_9 (c : Dev nD) (t : Fin cfg0.N) (hf : (cfg0.win 9).flush t = true) :
    (dats m 0 c).flushed 9 t = ((cfg0.win 9).blk t).view.read (Elt Ideal) (side3 m c) := by
  show (cfg0.win 9).cut (grid0.coords t) ((dats m 0 c).after 9 t) = _
  rw [after0_9]
  funext (y : S32x2048.Idx)
  rw [View.read_apply, eq_ix2 y]
  refine (out_9 m c t (y 0) (y 1)).trans ?_
  show side3 m c _ = side3 m c _
  congr 1
  have h0 : (y 0 : Nat) < 32 := (y 0).isLt
  funext a
  apply Fin.ext
  match a with
  | ⟨0, _⟩ => show (32 * min t.val 31 + (y 0).val) % 1024 = win0_9.index t 0 * 32 + 1 * (y 0).val
              rw [(index0_9 t).1]; omega
  | ⟨1, _⟩ => show (y 1).val = win0_9.index t 1 * 2048 + 1 * (y 1).val
              rw [(index0_9 t).2]; omega

/-- So the copy ends holding the whole matrix. -/
theorem final_9 (c : Dev nD) : (dats m 0 c).arrAt 9 cfg0.N = side3 m c :=
  (dats m 0 c).arrAt_eq_of_cover 9 (side3 m c) (flushed_9 m c) fun i => by
    have hN : cfg0.N = 32 := N_0
    have h0 : (i 0 : Nat) < 1024 := (i 0).isLt
    have h1 : (i 1 : Nat) < 2048 := (i 1).isLt
    obtain ⟨t, ht⟩ : ∃ t : Fin cfg0.N, t.val = (i 0 : Nat) / 32 := ⟨⟨(i 0 : Nat) / 32, by omega⟩, rfl⟩
    have hm : min t.val 31 = (i 0 : Nat) / 32 := by omega
    refine ⟨t, flush0_9 t, ?_⟩
    have e := index0_9 t
    show i ∈ ((View.whole main_v8_2).slice (win0_9.rect t)).set
    rw [View.set_slice_whole, Rect.mem_set_unit]
    intro a
    match a with
    | ⟨0, _⟩ => show win0_9.index t 0 * 32 ≤ (i 0 : Nat) ∧ (i 0 : Nat) < win0_9.index t 0 * 32 + 32
                rw [e.1, hm]; omega
    | ⟨1, _⟩ => show win0_9.index t 1 * 2048 ≤ (i 1 : Nat) ∧ (i 1 : Nat) < win0_9.index t 1 * 2048 + 2048
                rw [e.2]; omega

/-- A point's block of the weight matrix is what it stores. -/
theorem out_10 (c : Dev nD) (t : Fin cfg0.N) (r : Fin 64) (k : Fin 2048) :
    out0_10 (iblk m c 0 t) (iblk m c 1 t) (iblk m c 2 t) (iblk m c 3 t) (iblk m c 4 t) (iblk m c 5 t) (iblk m c 6 t) (ix2 r k) =
      side4 m c (ix2 ⟨(64 * min t.val 31 + r.val) % 2048, Nat.mod_lt _ (by norm_num)⟩ k) := by
  have hr := r.isLt
  unfold out0_10
  rw [View.canon_unit_zero (S := S64x2048) hz, View.ld_unit_zero (S := S64x2048) hz]
  refine Eq.trans (b := iblk m c 4 t (ix2 r k)) (by pointwise [k0_pay3]) ?_
  unfold iblk
  rw [View.read_apply, ← V_4]
  show V m c main_v5 _ = V m c main_v5 _
  congr 1
  funext a
  apply Fin.ext
  match a with
  | ⟨0, _⟩ => show win0_4.index t 0 * 64 + 1 * r.val = (64 * min t.val 31 + r.val) % 2048
              rw [(index0_4 t).1]; omega
  | ⟨1, _⟩ => show win0_4.index t 1 * 2048 + 1 * k.val = k.val
              rw [(index0_4 t).2]; omega

/-- It is written back as it is. -/
theorem flushed_10 (c : Dev nD) (t : Fin cfg0.N) (hf : (cfg0.win 10).flush t = true) :
    (dats m 0 c).flushed 10 t = ((cfg0.win 10).blk t).view.read (Elt Ideal) (side4 m c) := by
  show (cfg0.win 10).cut (grid0.coords t) ((dats m 0 c).after 10 t) = _
  rw [after0_10]
  funext (y : S64x2048.Idx)
  rw [View.read_apply, eq_ix2 y]
  refine (out_10 m c t (y 0) (y 1)).trans ?_
  show side4 m c _ = side4 m c _
  congr 1
  have h0 : (y 0 : Nat) < 64 := (y 0).isLt
  funext a
  apply Fin.ext
  match a with
  | ⟨0, _⟩ => show (64 * min t.val 31 + (y 0).val) % 2048 = win0_10.index t 0 * 64 + 1 * (y 0).val
              rw [(index0_10 t).1]; omega
  | ⟨1, _⟩ => show (y 1).val = win0_10.index t 1 * 2048 + 1 * (y 1).val
              rw [(index0_10 t).2]; omega

/-- So the copy ends holding the whole matrix. -/
theorem final_10 (c : Dev nD) : (dats m 0 c).arrAt 10 cfg0.N = side4 m c :=
  (dats m 0 c).arrAt_eq_of_cover 10 (side4 m c) (flushed_10 m c) fun i => by
    have hN : cfg0.N = 32 := N_0
    have h0 : (i 0 : Nat) < 2048 := (i 0).isLt
    have h1 : (i 1 : Nat) < 2048 := (i 1).isLt
    obtain ⟨t, ht⟩ : ∃ t : Fin cfg0.N, t.val = (i 0 : Nat) / 64 := ⟨⟨(i 0 : Nat) / 64, by omega⟩, rfl⟩
    have hm : min t.val 31 = (i 0 : Nat) / 64 := by omega
    refine ⟨t, flush0_10 t, ?_⟩
    have e := index0_10 t
    show i ∈ ((View.whole main_v8_3).slice (win0_10.rect t)).set
    rw [View.set_slice_whole, Rect.mem_set_unit]
    intro a
    match a with
    | ⟨0, _⟩ => show win0_10.index t 0 * 64 ≤ (i 0 : Nat) ∧ (i 0 : Nat) < win0_10.index t 0 * 64 + 64
                rw [e.1, hm]; omega
    | ⟨1, _⟩ => show win0_10.index t 1 * 2048 ≤ (i 1 : Nat) ∧ (i 1 : Nat) < win0_10.index t 1 * 2048 + 2048
                rw [e.2]; omega

/-- A point's block of the weight matrix is what it stores. -/
theorem out_11 (c : Dev nD) (t : Fin cfg0.N) (r : Fin 64) (k : Fin 2048) :
    out0_11 (iblk m c 0 t) (iblk m c 1 t) (iblk m c 2 t) (iblk m c 3 t) (iblk m c 4 t) (iblk m c 5 t) (iblk m c 6 t) (ix2 r k) =
      side5 m c (ix2 ⟨(64 * min t.val 31 + r.val) % 2048, Nat.mod_lt _ (by norm_num)⟩ k) := by
  have hr := r.isLt
  unfold out0_11
  rw [View.canon_unit_zero (S := S64x2048) hz, View.ld_unit_zero (S := S64x2048) hz]
  refine Eq.trans (b := iblk m c 5 t (ix2 r k)) (by pointwise [k0_pay4]) ?_
  unfold iblk
  rw [View.read_apply, ← V_5]
  show V m c main_v6 _ = V m c main_v6 _
  congr 1
  funext a
  apply Fin.ext
  match a with
  | ⟨0, _⟩ => show win0_5.index t 0 * 64 + 1 * r.val = (64 * min t.val 31 + r.val) % 2048
              rw [(index0_5 t).1]; omega
  | ⟨1, _⟩ => show win0_5.index t 1 * 2048 + 1 * k.val = k.val
              rw [(index0_5 t).2]; omega

/-- It is written back as it is. -/
theorem flushed_11 (c : Dev nD) (t : Fin cfg0.N) (hf : (cfg0.win 11).flush t = true) :
    (dats m 0 c).flushed 11 t = ((cfg0.win 11).blk t).view.read (Elt Ideal) (side5 m c) := by
  show (cfg0.win 11).cut (grid0.coords t) ((dats m 0 c).after 11 t) = _
  rw [after0_11]
  funext (y : S64x2048.Idx)
  rw [View.read_apply, eq_ix2 y]
  refine (out_11 m c t (y 0) (y 1)).trans ?_
  show side5 m c _ = side5 m c _
  congr 1
  have h0 : (y 0 : Nat) < 64 := (y 0).isLt
  funext a
  apply Fin.ext
  match a with
  | ⟨0, _⟩ => show (64 * min t.val 31 + (y 0).val) % 2048 = win0_11.index t 0 * 64 + 1 * (y 0).val
              rw [(index0_11 t).1]; omega
  | ⟨1, _⟩ => show (y 1).val = win0_11.index t 1 * 2048 + 1 * (y 1).val
              rw [(index0_11 t).2]; omega

/-- So the copy ends holding the whole matrix. -/
theorem final_11 (c : Dev nD) : (dats m 0 c).arrAt 11 cfg0.N = side5 m c :=
  (dats m 0 c).arrAt_eq_of_cover 11 (side5 m c) (flushed_11 m c) fun i => by
    have hN : cfg0.N = 32 := N_0
    have h0 : (i 0 : Nat) < 2048 := (i 0).isLt
    have h1 : (i 1 : Nat) < 2048 := (i 1).isLt
    obtain ⟨t, ht⟩ : ∃ t : Fin cfg0.N, t.val = (i 0 : Nat) / 64 := ⟨⟨(i 0 : Nat) / 64, by omega⟩, rfl⟩
    have hm : min t.val 31 = (i 0 : Nat) / 64 := by omega
    refine ⟨t, flush0_11 t, ?_⟩
    have e := index0_11 t
    show i ∈ ((View.whole main_v8_4).slice (win0_11.rect t)).set
    rw [View.set_slice_whole, Rect.mem_set_unit]
    intro a
    match a with
    | ⟨0, _⟩ => show win0_11.index t 0 * 64 ≤ (i 0 : Nat) ∧ (i 0 : Nat) < win0_11.index t 0 * 64 + 64
                rw [e.1, hm]; omega
    | ⟨1, _⟩ => show win0_11.index t 1 * 2048 ≤ (i 1 : Nat) ∧ (i 1 : Nat) < win0_11.index t 1 * 2048 + 2048
                rw [e.2]; omega

/-- A point's block of the weight matrix is what it stores. -/
theorem out_12 (c : Dev nD) (t : Fin cfg0.N) (r : Fin 16) (k : Fin 2048) :
    out0_12 (iblk m c 0 t) (iblk m c 1 t) (iblk m c 2 t) (iblk m c 3 t) (iblk m c 4 t) (iblk m c 5 t) (iblk m c 6 t) (ix2 r k) =
      side6 m c (ix2 ⟨(16 * min t.val 15 + r.val) % 256, Nat.mod_lt _ (by norm_num)⟩ k) := by
  have hr := r.isLt
  unfold out0_12
  rw [View.canon_unit_zero (S := S16x2048) hz, View.ld_unit_zero (S := S16x2048) hz]
  refine Eq.trans (b := iblk m c 6 t (ix2 r k)) (by pointwise [k0_pay5]) ?_
  unfold iblk
  rw [View.read_apply, ← V_6]
  show V m c main_v7 _ = V m c main_v7 _
  congr 1
  funext a
  apply Fin.ext
  match a with
  | ⟨0, _⟩ => show win0_6.index t 0 * 16 + 1 * r.val = (16 * min t.val 15 + r.val) % 256
              rw [(index0_6 t).1]; omega
  | ⟨1, _⟩ => show win0_6.index t 1 * 2048 + 1 * k.val = k.val
              rw [(index0_6 t).2]; omega

/-- It is written back as it is. -/
theorem flushed_12 (c : Dev nD) (t : Fin cfg0.N) (hf : (cfg0.win 12).flush t = true) :
    (dats m 0 c).flushed 12 t = ((cfg0.win 12).blk t).view.read (Elt Ideal) (side6 m c) := by
  show (cfg0.win 12).cut (grid0.coords t) ((dats m 0 c).after 12 t) = _
  rw [after0_12]
  funext (y : S16x2048.Idx)
  rw [View.read_apply, eq_ix2 y]
  refine (out_12 m c t (y 0) (y 1)).trans ?_
  show side6 m c _ = side6 m c _
  congr 1
  have h0 : (y 0 : Nat) < 16 := (y 0).isLt
  funext a
  apply Fin.ext
  match a with
  | ⟨0, _⟩ => show (16 * min t.val 15 + (y 0).val) % 256 = win0_12.index t 0 * 16 + 1 * (y 0).val
              rw [(index0_12 t).1]; omega
  | ⟨1, _⟩ => show (y 1).val = win0_12.index t 1 * 2048 + 1 * (y 1).val
              rw [(index0_12 t).2]; omega

/-- So the copy ends holding the whole matrix. -/
theorem final_12 (c : Dev nD) : (dats m 0 c).arrAt 12 cfg0.N = side6 m c :=
  (dats m 0 c).arrAt_eq_of_cover 12 (side6 m c) (flushed_12 m c) fun i => by
    have hN : cfg0.N = 32 := N_0
    have h0 : (i 0 : Nat) < 256 := (i 0).isLt
    have h1 : (i 1 : Nat) < 2048 := (i 1).isLt
    obtain ⟨t, ht⟩ : ∃ t : Fin cfg0.N, t.val = if (i 0 : Nat) / 16 < 15 then (i 0 : Nat) / 16 else 31 :=
      ⟨⟨if (i 0 : Nat) / 16 < 15 then (i 0 : Nat) / 16 else 31, by split <;> omega⟩, rfl⟩
    have hf : t.val < 15 ∨ t.val = 31 := by split at ht <;> omega
    have hm : min t.val 15 = (i 0 : Nat) / 16 := by split at ht <;> omega
    refine ⟨t, flush0_12 t hf, ?_⟩
    have e := index0_12 t
    show i ∈ ((View.whole main_v8_5).slice (win0_12.rect t)).set
    rw [View.set_slice_whole, Rect.mem_set_unit]
    intro a
    match a with
    | ⟨0, _⟩ => show win0_12.index t 0 * 16 ≤ (i 0 : Nat) ∧ (i 0 : Nat) < win0_12.index t 0 * 16 + 16
                rw [e.1, hm]; omega
    | ⟨1, _⟩ => show win0_12.index t 1 * 2048 ≤ (i 1 : Nat) ∧ (i 1 : Nat) < win0_12.index t 1 * 2048 + 2048
                rw [e.2]; omega

/-- The program's run: the gates, the five copies, and the arguments as they were. -/
theorem run : θ_run defs (onTc (τ := τ) (main (F := Ideal))) (s₀ m ρ) (fun r => ∀ c : Dev nD,
    r.2.mem ((c : Thread nD τ).loc main_v8_0) = resG m c ∧
    r.2.mem ((c : Thread nD τ).loc main_v8_1) = side2 m c ∧
    r.2.mem ((c : Thread nD τ).loc main_v8_2) = side3 m c ∧
    r.2.mem ((c : Thread nD τ).loc main_v8_3) = side4 m c ∧
    r.2.mem ((c : Thread nD τ).loc main_v8_4) = side5 m c ∧
    r.2.mem ((c : Thread nD τ).loc main_v8_5) = side6 m c ∧
    r.2.mem ((c : Thread nD τ).loc main_arg0) = m ((c : Thread nD τ).loc main_arg0) ∧
    r.2.mem ((c : Thread nD τ).loc main_arg1) = m ((c : Thread nD τ).loc main_arg1) ∧
    r.2.mem ((c : Thread nD τ).loc main_arg2) = m ((c : Thread nD τ).loc main_arg2) ∧
    r.2.mem ((c : Thread nD τ).loc main_arg3) = m ((c : Thread nD τ).loc main_arg3) ∧
    r.2.mem ((c : Thread nD τ).loc main_arg4) = m ((c : Thread nD τ).loc main_arg4) ∧
    r.2.mem ((c : Thread nD τ).loc main_arg5) = m ((c : Thread nD τ).loc main_arg5) ∧
    r.2.mem ((c : Thread nD τ).loc main_arg6) = m ((c : Thread nD τ).loc main_arg6)) :=
  (θ_run defs _ _).mono (fun r h c => ⟨((h c).1 7).trans (final_7 m c),
    ((h c).1 8).trans (final_8 m c),
    ((h c).1 9).trans (final_9 m c),
    ((h c).1 10).trans (final_10 m c),
    ((h c).1 11).trans (final_11 m c),
    ((h c).1 12).trans (final_12 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩)
    (run_main m ρ)

end Cert.Kernel5Ideal.GatesValue

end
-- ==== Proof.GatesRef.lean ====
/-
  The mathematics' gates, entry by entry: the logistic of the projection's last 4096 columns.
-/
module

public import proofs.«01_k».proof.Proof.UqkvLayer
public import proofs.«01_k».proof.Proof.Gen.Reference5Ideal.Read

@[expose] public section

set_option maxRecDepth 16384

noncomputable section

namespace Cert.Reference5Ideal.GatesRef

open Cert.Reference5Ideal Cert.Reference5Ideal.Read Idealize.ShloMosaic Cert.Layer

/-- An entry of the projection. -/
theorem proj_apply (x0 : (⟨S8704x2048, .f32⟩ : BufTy).Contents (Elt Ideal)) (x1 : (⟨S1x2048x7680, .f32⟩ : BufTy).Contents (Elt Ideal)) (R : Fin 8704) (c : Fin 7680) :
    val_main_v1 (F := Ideal) x0 x1 (ix2 R c) = proj x0 x1 R.val c.val := by
  have hR := R.isLt
  have hc := c.isLt
  rw [val_main_v1_apply]
  unfold proj dot
  refine Finset.sum_congr rfl fun j _ => ?_
  have e1 : lidx_main_v1 (ix2 R c) j = ix2 R j := by
    funext a; match a with | ⟨0, _⟩ => rfl | ⟨1, _⟩ => rfl
  have e2 : ridx_main_v1 (ix2 R c) j = ix2 j c := by
    funext a; match a with | ⟨0, _⟩ => rfl | ⟨1, _⟩ => rfl
  have e3 : (⟨c.val % 7680, Nat.mod_lt _ (by norm_num)⟩ : Fin 7680) = c := Fin.ext (Nat.mod_eq_of_lt hc)
  have e4 : (⟨R.val % 8704, Nat.mod_lt _ (by norm_num)⟩ : Fin 8704) = R := Fin.ext (Nat.mod_eq_of_lt hR)
  rw [e1, e2, e3, e4]
  unfold val_main_v0
  rw [shapeCast_lead]

/-- An entry of the first gate. -/
theorem gate_first (x0 : (⟨S8704x2048, .f32⟩ : BufTy).Contents (Elt Ideal)) (x1 : (⟨S1x2048x7680, .f32⟩ : BufTy).Contents (Elt Ideal)) (R : Fin 8704) (c : Fin 2048) :
    val_main_v14 (F := Ideal) x0 x1 (ix2 R c) = Ideal.logistic (proj x0 x1 R.val (3584 + c.val)) := by
  simp only [val_main_v14_apply, val_main_v13_apply, val_main_cst_0_apply, val_main_v12_apply, val_main_v11_apply, val_main_cst_apply, val_main_v10_apply, val_main_v9_apply, val_main_v7_apply]
  have e1 : idx_main_v7 (ix2 R c) = ix2 R ⟨3584 + c.val, by omega⟩ := by
    funext a; match a with | ⟨0, _⟩ => rfl | ⟨1, _⟩ => rfl
  rw [e1, proj_apply]
  show Ideal.div one (one + Ideal.exp (-_)) = Ideal.div 1 (1 + Ideal.exp (-_))
  rw [one_eq]

/-- An entry of the second gate. -/
theorem gate_second (x0 : (⟨S8704x2048, .f32⟩ : BufTy).Contents (Elt Ideal)) (x1 : (⟨S1x2048x7680, .f32⟩ : BufTy).Contents (Elt Ideal)) (R : Fin 8704) (c : Fin 2048) :
    val_main_v20 (F := Ideal) x0 x1 (ix2 R c) = Ideal.logistic (proj x0 x1 R.val (5632 + c.val)) := by
  simp only [val_main_v20_apply, val_main_v19_apply, val_main_cst_2_apply, val_main_v18_apply, val_main_v17_apply, val_main_cst_1_apply, val_main_v16_apply, val_main_v15_apply, val_main_v8_apply]
  have e1 : idx_main_v8 (ix2 R c) = ix2 R ⟨5632 + c.val, by omega⟩ := by
    funext a; match a with | ⟨0, _⟩ => rfl | ⟨1, _⟩ => rfl
  rw [e1, proj_apply]
  show Ideal.div one (one + Ideal.exp (-_)) = Ideal.div 1 (1 + Ideal.exp (-_))
  rw [one_eq]

/-- An entry of the two gates side by side. -/
theorem gates (x0 : (⟨S8704x2048, .f32⟩ : BufTy).Contents (Elt Ideal)) (x1 : (⟨S1x2048x7680, .f32⟩ : BufTy).Contents (Elt Ideal)) (R : Fin 8704) (c : Fin 4096) :
    val_main_v22 (F := Ideal) x0 x1 (ix2 R c) = Ideal.logistic (proj x0 x1 R.val (3584 + c.val)) := by
  have hc := c.isLt
  show val_main_v21 (F := Ideal) x0 x1 (ix2 R c) = _
  unfold val_main_v21
  rw [concatenate_pair_apply]
  by_cases h : c.val < 2048
  · refine (dif_pos (show c.val < 2048 from h)).trans ?_
    refine (congrArg (val_main_v14 (F := Ideal) x0 x1) (show _ = ix2 R ⟨c.val, h⟩ by
      funext a; match a with | ⟨0, _⟩ => rfl | ⟨1, _⟩ => rfl)).trans ?_
    exact gate_first x0 x1 R ⟨c.val, h⟩
  · refine (dif_neg (show ¬c.val < 2048 from h)).trans ?_
    refine (congrArg (val_main_v20 (F := Ideal) x0 x1) (show _ = ix2 R ⟨c.val - 2048, by omega⟩ by
      funext a; match a with | ⟨0, _⟩ => rfl | ⟨1, _⟩ => rfl)).trans ?_
    refine (gate_second x0 x1 R ⟨c.val - 2048, by omega⟩).trans ?_
    rw [show 5632 + (c.val - 2048) = 3584 + c.val by omega]

end Cert.Reference5Ideal.GatesRef

end
-- ==== Proof.GatesEnd.lean ====
/-
  The gates' claims: the mathematics terminates and leaves its arguments, and the kernel's gates and five copies are the
  mathematics'.
-/
module

public import proofs.«01_k».proof.Defs
public import proofs.«01_k».proof.Proof.GatesValue
public import proofs.«01_k».proof.Proof.GatesRef
public import proofs.«01_k».proof.Proof.Gen.Reference5Ideal.Run
public import Idealize.ShloMosaic.Adequacy
public import Idealize.ShloMosaic.Init
public import Idealize.ShloMosaic.Lib.Quiescent

@[expose] public section

noncomputable section

namespace Cert.Proof.Gates

open Idealize.ShloMosaic Idealize.SL.Sem Cert.Layer

/-- The mathematics terminates, leaves its arguments as they were and no semaphore raised. -/
theorem quiescent_Reference5Ideal : quiescent_Reference5Ideal := fun m ρ _ =>
  (θ_run Cert.Reference5Ideal.defs _ _).mono (fun r h => ⟨fun c => (h c).2.2.2.2.2.2, sem_eq_zero_of_no_sems (by decide) r.2⟩)
    (Cert.Reference5Ideal.Value.run (F := Ideal) m ρ)

variable (m : (ℓ : Loc Cert.Kernel5Ideal.nD Cert.Kernel5Ideal.τ Cert.Kernel5Ideal.sig) → Buf (Elt Ideal) ℓ) (c : Dev Cert.Kernel5Ideal.nD)

/-- The gates. -/
theorem eq_22 : Cert.Reference5Ideal.Read.val_main_v22 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) = Cert.Kernel5Ideal.GatesValue.resG m c := by
  funext (i : Cert.Kernel5Ideal.S8704x4096.Idx)
  rw [eq_ix2 i]
  exact Cert.Reference5Ideal.GatesRef.gates _ _ (i 0) (i 1)

/-- The kernel computes the mathematics over the extended reals. -/
theorem algebraic_Kernel5Ideal_Reference5Ideal : algebraic_Kernel5Ideal_Reference5Ideal := by
  intro m ρ m' ρ' _ hagree
  refine ⟨_, _, _, _, _, _, Cert.Kernel5Ideal.GatesValue.run m ρ, ?_⟩
  refine (θ_run Cert.Reference5Ideal.defs _ _).mono (fun _ h c => ?_) (Cert.Reference5Ideal.Value.run (F := Ideal) m' ρ')
  obtain ⟨h0, h1, h2, h3, h4, h5, h6⟩ := hagree c
  obtain ⟨r0, r1, r2, r3, r4, r5, hr⟩ := h c
  refine ⟨?_, ?_, ?_, ?_, ?_, ?_, hr⟩
  · refine (r0.trans (Cert.Reference5Ideal.Read.val_main_v22_eq _ _)).trans ?_
    show Cert.Reference5Ideal.Read.val_main_v22 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) = _
    rw [h0, h1]
    exact eq_22 m c
  · refine (r1.trans (Cert.Reference5Ideal.Read.val_main_v24_eq _)).trans ?_
    show Cert.Reference5Ideal.Read.val_main_v24 (F := Ideal) (m' ((c.tc : Thread Cert.Reference5Ideal.nD Cert.Reference5Ideal.τ).loc Cert.Reference5Ideal.main_arg2)) = _
    rw [h2]
    rfl
  · refine (r2.trans (Cert.Reference5Ideal.Read.val_main_v26_eq _)).trans ?_
    show Cert.Reference5Ideal.Read.val_main_v26 (F := Ideal) (m' ((c.tc : Thread Cert.Reference5Ideal.nD Cert.Reference5Ideal.τ).loc Cert.Reference5Ideal.main_arg3)) = _
    rw [h3]
    rfl
  · refine (r3.trans (Cert.Reference5Ideal.Read.val_main_v28_eq _)).trans ?_
    show Cert.Reference5Ideal.Read.val_main_v28 (F := Ideal) (m' ((c.tc : Thread Cert.Reference5Ideal.nD Cert.Reference5Ideal.τ).loc Cert.Reference5Ideal.main_arg4)) = _
    rw [h4]
    rfl
  · refine (r4.trans (Cert.Reference5Ideal.Read.val_main_v30_eq _)).trans ?_
    show Cert.Reference5Ideal.Read.val_main_v30 (F := Ideal) (m' ((c.tc : Thread Cert.Reference5Ideal.nD Cert.Reference5Ideal.τ).loc Cert.Reference5Ideal.main_arg5)) = _
    rw [h5]
    rfl
  · refine (r5.trans (Cert.Reference5Ideal.Read.val_main_v32_eq _)).trans ?_
    show Cert.Reference5Ideal.Read.val_main_v32 (F := Ideal) (m' ((c.tc : Thread Cert.Reference5Ideal.nD Cert.Reference5Ideal.τ).loc Cert.Reference5Ideal.main_arg6)) = _
    rw [h6]
    rfl

end Cert.Proof.Gates

end
-- ==== Proof.FirstBlocks.lean ====
/-
  The sample's first feed-forward, at an entry: the values its points store, and the blocks they read as entries of the
  argument arrays. The first 21 points read 256 columns of the weights each; the last reads the last 256, of which the first
  half was met at the point before.
-/
module

public import proofs.«01_k».proof.Proof.Layer
public import proofs.«01_k».proof.Proof.Gen.Kernel6Ideal.Frame
public import proofs.«01_k».proof.Proof.Gen.Kernel6Ideal.Skeleton
public import Idealize.ShloMosaic.Lib.MatmulPlain
public import Idealize.ShloMosaic.Lib.Tactic
public import Idealize.ShloMosaic.Lib.Pipeline.Value

@[expose] public section

set_option maxRecDepth 16384

noncomputable section

namespace Cert.Kernel6Ideal.FirstValue

open Cert.Kernel6Ideal Cert.Kernel6Ideal.Gen Idealize.ShloMosaic Idealize.ShloMosaic.TcCoe Cert.Layer

variable (m : (ℓ : Loc nD τ sig) → Buf (Elt Ideal) ℓ) (ρ : Dev nD → PrngReg)

/-- The normalised row at an entry. -/
theorem pay4_apply (x : Vec Ideal S512x2048 .f32) (g : Vec Ideal S1x2048 .f32) (r : Fin 512) (k : Fin 2048) :
    k0_pay4 (F := Ideal) x g (ix2 r k) = rms (fun j => x (ix2 r j)) (fun j => g (ix2 0 j)) k := by
  unfold rms
  pointwise [k0_pay4]
/-- The row normalised again, with the mixer's gain. -/
theorem pay13_apply (x : Vec Ideal S512x2048 .f32) (g : Vec Ideal S1x2048 .f32) (r : Fin 512) (k : Fin 2048) :
    k0_pay13 (F := Ideal) x g (ix2 r k) = rms (fun j => x (ix2 r j)) (fun j => g (ix2 0 j)) k := by
  unfold rms
  pointwise [k0_pay13]
/-- The copied weights. -/
theorem pay1_apply (x : Vec Ideal S2048x256 .f32) (j : Fin 2048) (k : Fin 256) : k0_pay1 (F := Ideal) x (ix2 j k) = x (ix2 j k) := by
  pointwise [k0_pay1]
theorem pay2_apply (x : Vec Ideal S2048x256 .f32) (j : Fin 2048) (k : Fin 256) : k0_pay2 (F := Ideal) x (ix2 j k) = x (ix2 j k) := by
  pointwise [k0_pay2]
theorem pay3_apply (x : Vec Ideal S256x2048 .f32) (k : Fin 256) (n : Fin 2048) : k0_pay3 (F := Ideal) x (ix2 k n) = x (ix2 k n) := by
  pointwise [k0_pay3]
/-- The last 128 columns of a run. -/
theorem pay6_apply (x : Vec Ideal S2048x256 .f32) (j : Fin 2048) (k : Fin 128) :
    k0_pay6 (F := Ideal) x (ix2 j k) = x (ix2 j ⟨128 + k.val, by omega⟩) := by
  unfold k0_pay6
  refine Eq.trans ?_ (pay1_apply x j ⟨128 + k.val, by omega⟩)
  show k0_pay1 (F := Ideal) x _ = k0_pay1 (F := Ideal) x _
  congr 1
  funext a; apply Fin.ext
  match a with | ⟨0, _⟩ => show 0 + j.val = j.val; omega | ⟨1, _⟩ => rfl
theorem pay7_apply (x : Vec Ideal S2048x256 .f32) (j : Fin 2048) (k : Fin 128) :
    k0_pay7 (F := Ideal) x (ix2 j k) = x (ix2 j ⟨128 + k.val, by omega⟩) := by
  unfold k0_pay7
  refine Eq.trans ?_ (pay2_apply x j ⟨128 + k.val, by omega⟩)
  show k0_pay2 (F := Ideal) x _ = k0_pay2 (F := Ideal) x _
  congr 1
  funext a; apply Fin.ext
  match a with | ⟨0, _⟩ => show 0 + j.val = j.val; omega | ⟨1, _⟩ => rfl
theorem pay8_apply (x : Vec Ideal S256x2048 .f32) (k : Fin 128) (n : Fin 2048) :
    k0_pay8 (F := Ideal) x (ix2 k n) = x (ix2 ⟨128 + k.val, by omega⟩ n) := by
  unfold k0_pay8
  refine Eq.trans ?_ (pay3_apply x ⟨128 + k.val, by omega⟩ n)
  show k0_pay3 (F := Ideal) x _ = k0_pay3 (F := Ideal) x _
  congr 1
  funext a; apply Fin.ext
  match a with | ⟨0, _⟩ => rfl | ⟨1, _⟩ => show 0 + n.val = n.val; omega
/-- The word of zero in the short format is zero. -/
theorem zero_bf16 : Ideal.ofBits .bf16 0x0000#16 = 0 := by
  simp [Ideal.ofBits, Ideal.ieee]
/-- A last copy: the run's last 128 columns, then zeros. -/
theorem pay9_apply (x : Vec Ideal S2048x256 .f32) (j : Fin 2048) (k : Fin 256) :
    k0_pay9 (F := Ideal) x (ix2 j k) = if h : k.val < 128 then x (ix2 j ⟨128 + k.val, by omega⟩) else 0 := by
  unfold k0_pay9
  rw [concatenate_pair_apply]
  by_cases h : k.val < 128
  · rw [dif_pos h, ← pay6_apply x j ⟨k.val, h⟩]
    refine (dif_pos h).trans ?_
    congr 1
    funext a; match a with | ⟨0, _⟩ => rfl | ⟨1, _⟩ => rfl
  · rw [dif_neg h]
    exact (dif_neg h).trans zero_bf16
theorem pay10_apply (x : Vec Ideal S2048x256 .f32) (j : Fin 2048) (k : Fin 256) :
    k0_pay10 (F := Ideal) x (ix2 j k) = if h : k.val < 128 then x (ix2 j ⟨128 + k.val, by omega⟩) else 0 := by
  unfold k0_pay10
  rw [concatenate_pair_apply]
  by_cases h : k.val < 128
  · rw [dif_pos h, ← pay7_apply x j ⟨k.val, h⟩]
    refine (dif_pos h).trans ?_
    congr 1
    funext a; match a with | ⟨0, _⟩ => rfl | ⟨1, _⟩ => rfl
  · rw [dif_neg h]
    exact (dif_neg h).trans zero_bf16
theorem pay11_apply (x : Vec Ideal S256x2048 .f32) (k : Fin 256) (n : Fin 2048) :
    k0_pay11 (F := Ideal) x (ix2 k n) = if h : k.val < 128 then x (ix2 ⟨128 + k.val, by omega⟩ n) else 0 := by
  unfold k0_pay11
  rw [concatenate_pair_apply]
  by_cases h : k.val < 128
  · rw [dif_pos h, ← pay8_apply x ⟨k.val, h⟩ n]
    refine (dif_pos h).trans ?_
    congr 1
    funext a; match a with | ⟨0, _⟩ => rfl | ⟨1, _⟩ => rfl
  · rw [dif_neg h]
    exact (dif_neg h).trans zero_bf16
/-- A point's rows at an entry: what they held plus 256 hidden columns' part. -/
theorem pay5_apply (wg wu : Vec Ideal S2048x256 .f32) (wd : Vec Ideal S256x2048 .f32) (xn : Vec Ideal S512x2048 .bf16)
    (acc : Vec Ideal S512x2048 .f32) (r : Fin 512) (c : Fin 2048) :
    k0_pay5 (F := Ideal) wg wu wd xn acc (ix2 r c) = acc (ix2 r c) + ∑ k : Fin 256,
      part (fun j => xn (ix2 r j)) (fun j => wg (ix2 j k)) (fun j => wu (ix2 j k)) (wd (ix2 k c)) := by
  simp only [← pay1_apply wg, ← pay2_apply wu, ← pay3_apply wd]
  unfold part dot
  pointwise [k0_pay5]
/-- At the last point only the last 128 columns' part is added. -/
theorem pay12_apply (wg wu : Vec Ideal S2048x256 .f32) (wd : Vec Ideal S256x2048 .f32) (xn : Vec Ideal S512x2048 .bf16)
    (acc : Vec Ideal S512x2048 .f32) (r : Fin 512) (c : Fin 2048) :
    k0_pay12 (F := Ideal) wg wu wd xn acc (ix2 r c) = acc (ix2 r c) + ∑ k : Fin 128,
      part (fun j => xn (ix2 r j)) (fun j => wg (ix2 j ⟨128 + k.val, by omega⟩)) (fun j => wu (ix2 j ⟨128 + k.val, by omega⟩))
        (wd (ix2 ⟨128 + k.val, by omega⟩ c)) := by
  simp only [← pay6_apply wg, ← pay7_apply wu, ← pay8_apply wd]
  unfold part dot
  pointwise [k0_pay12]

/-- The sample's row `R`. -/
def row (c : Dev nD) (R : ℕ) (k : Fin 2048) : EReal := m ((c : Thread nD τ).loc main_arg0) (ix2 ⟨R % 512, Nat.mod_lt _ (by norm_num)⟩ k)
/-- The feed-forward's gain. -/
def gain (c : Dev nD) (k : Fin 2048) : EReal := m ((c : Thread nD τ).loc main_arg1) (ix2 0 k)
/-- The mixer's gain. -/
def gainM (c : Dev nD) (k : Fin 2048) : EReal := m ((c : Thread nD τ).loc main_arg4) (ix2 0 k)
/-- The joined gate and up weights. -/
def wgu (c : Dev nD) (j : Fin 2048) (k : Fin 11008) : EReal := m ((c : Thread nD τ).loc main_arg2) (ix3 0 j k)
/-- The down weights. -/
def wd (c : Dev nD) (k : Fin 5504) (n : Fin 2048) : EReal := m ((c : Thread nD τ).loc main_arg3) (ix3 0 k n)

/-- The joined weights the launch reads, without their leading axis. -/
theorem V_v0 (c : Dev nD) (j : Fin 2048) (k : Fin 11008) : V m c main_v0 (ix2 j k) = wgu m c j k := by
  have h : V m c main_v0 = shapeCast S2048x11008 (m ((c : Thread nD τ).loc main_arg2)) shapeCasts_S1x2048x11008_S2048x11008 := by
    show StableHlo.after hostOps0 _ (Proc.devRef .tc main_v0) = _
    after_results
    rfl
  rw [h]
  exact shapeCast_lead (m ((c : Thread nD τ).loc main_arg2)) shapeCasts_S1x2048x11008_S2048x11008 j k
/-- The down weights it reads. -/
theorem V_v1 (c : Dev nD) (k : Fin 5504) (n : Fin 2048) : V m c main_v1 (ix2 k n) = wd m c k n := by
  have h : V m c main_v1 = shapeCast S5504x2048 (m ((c : Thread nD τ).loc main_arg3)) shapeCasts_S1x5504x2048_S5504x2048 := by
    show StableHlo.after hostOps0 _ (Proc.devRef .tc main_v1) = _
    after_results
    rfl
  rw [h]
  exact shapeCast_lead (m ((c : Thread nD τ).loc main_arg3)) shapeCasts_S1x5504x2048_S5504x2048 k n

/-- Where a point's gate columns start, -/
theorem index0_2 : ∀ t : Fin grid0.N, win0_2.index t 0 = 0 ∧ win0_2.index t 1 = min (t.val * 256) 5248 := by decide +kernel
/-- its up columns, -/
theorem index0_3 : ∀ t : Fin grid0.N, win0_3.index t 0 = 0 ∧ win0_3.index t 1 = 5504 + min (t.val * 256) 5248 := by decide +kernel
/-- and its down rows. -/
theorem index0_4 : ∀ t : Fin grid0.N, win0_4.index t 0 = min (t.val * 256) 5248 ∧ win0_4.index t 1 = 0 := by decide +kernel
/-- The copies' blocks, one after the other. -/
theorem index0_8 : ∀ t : Fin grid0.N, win0_8.index t 0 = 0 ∧ win0_8.index t 1 = t.val := by decide +kernel
theorem index0_9 : ∀ t : Fin grid0.N, win0_9.index t 0 = 0 ∧ win0_9.index t 1 = t.val := by decide +kernel
theorem index0_10 : ∀ t : Fin grid0.N, win0_10.index t 0 = t.val ∧ win0_10.index t 1 = 0 := by decide +kernel

/-- The sample's rows. -/
theorem iblk_0 (c : Dev nD) (t : Fin cfg0.N) (r : Fin 512) (k : Fin 2048) : iblk m c 0 t (ix2 r k) = row m c r.val k := by
  have hr := r.isLt
  unfold iblk row
  rw [View.read_apply]
  show V m c main_arg0 _ = m ((c : Thread nD τ).loc main_arg0) _
  rw [V_main_arg0]
  congr 1
  funext a
  apply Fin.ext
  match a with
  | ⟨0, _⟩ => show 0 * 512 + 1 * r.val = r.val % 512; omega
  | ⟨1, _⟩ => show 0 * 2048 + 1 * k.val = k.val; omega
/-- The feed-forward's gain. -/
theorem iblk_1 (c : Dev nD) (t : Fin cfg0.N) (k : Fin 2048) : iblk m c 1 t (ix2 0 k) = gain m c k := by
  unfold iblk gain
  rw [View.read_apply]
  show V m c main_arg1 _ = m ((c : Thread nD τ).loc main_arg1) _
  rw [V_main_arg1]
  congr 1
  funext a
  apply Fin.ext
  match a with
  | ⟨0, _⟩ => show 0 * 1 + 1 * 0 = 0; rfl
  | ⟨1, _⟩ => show 0 * 2048 + 1 * k.val = k.val; omega
/-- The mixer's gain. -/
theorem iblk_5 (c : Dev nD) (t : Fin cfg0.N) (k : Fin 2048) : iblk m c 5 t (ix2 0 k) = gainM m c k := by
  unfold iblk gainM
  rw [View.read_apply]
  show V m c main_arg4 _ = m ((c : Thread nD τ).loc main_arg4) _
  rw [V_main_arg4]
  congr 1
  funext a
  apply Fin.ext
  match a with
  | ⟨0, _⟩ => show 0 * 1 + 1 * 0 = 0; rfl
  | ⟨1, _⟩ => show 0 * 2048 + 1 * k.val = k.val; omega
/-- A point's gate columns. -/
theorem iblk_2 (c : Dev nD) (t : Fin cfg0.N) (a : Fin 2048) (b : Fin 256) :
    iblk m c 2 t (ix2 a b) = wgu m c a ⟨min (t.val * 256) 5248 + b.val, by have := b.isLt; omega⟩ := by
  have ha := a.isLt
  have hb := b.isLt
  unfold iblk
  rw [View.read_apply]
  refine Eq.trans ?_ (V_v0 m c a ⟨min (t.val * 256) 5248 + b.val, by omega⟩)
  show V m c main_v0 _ = V m c main_v0 _
  congr 1
  funext x
  apply Fin.ext
  match x with
  | ⟨0, _⟩ => show win0_2.index t 0 + 1 * a.val = a.val
              rw [(index0_2 t).1]; omega
  | ⟨1, _⟩ => show win0_2.index t 1 + 1 * b.val = min (t.val * 256) 5248 + b.val
              rw [(index0_2 t).2]; omega
/-- A point's up columns. -/
theorem iblk_3 (c : Dev nD) (t : Fin cfg0.N) (a : Fin 2048) (b : Fin 256) :
    iblk m c 3 t (ix2 a b) = wgu m c a ⟨5504 + (min (t.val * 256) 5248 + b.val), by have := b.isLt; omega⟩ := by
  have ha := a.isLt
  have hb := b.isLt
  unfold iblk
  rw [View.read_apply]
  refine Eq.trans ?_ (V_v0 m c a ⟨5504 + (min (t.val * 256) 5248 + b.val), by omega⟩)
  show V m c main_v0 _ = V m c main_v0 _
  congr 1
  funext x
  apply Fin.ext
  match x with
  | ⟨0, _⟩ => show win0_3.index t 0 + 1 * a.val = a.val
              rw [(index0_3 t).1]; omega
  | ⟨1, _⟩ => show win0_3.index t 1 + 1 * b.val = 5504 + (min (t.val * 256) 5248 + b.val)
              rw [(index0_3 t).2]; omega
/-- A point's down rows. -/
theorem iblk_4 (c : Dev nD) (t : Fin cfg0.N) (a : Fin 256) (b : Fin 2048) :
    iblk m c 4 t (ix2 a b) = wd m c ⟨min (t.val * 256) 5248 + a.val, by have := a.isLt; omega⟩ b := by
  have ha := a.isLt
  have hb := b.isLt
  unfold iblk
  rw [View.read_apply]
  refine Eq.trans ?_ (V_v1 m c ⟨min (t.val * 256) 5248 + a.val, by omega⟩ b)
  show V m c main_v1 _ = V m c main_v1 _
  congr 1
  funext x
  apply Fin.ext
  match x with
  | ⟨0, _⟩ => show win0_4.index t 0 + 1 * a.val = min (t.val * 256) 5248 + a.val
              rw [(index0_4 t).1]; omega
  | ⟨1, _⟩ => show win0_4.index t 1 + 1 * b.val = b.val
              rw [(index0_4 t).2]; omega

end Cert.Kernel6Ideal.FirstValue

end
-- ==== Proof.FirstCases.lean ====
/-
  What one point of the sample's first feed-forward leaves behind, as functions of the blocks it reads. Each point but the last
  copies its 256 columns of the weights and adds their part to the rows, the first having normalised the rows and kept both;
  the last copies and adds the 128 columns that remain, fills the copies up with zeros and normalises the rows again.
-/
module

public import proofs.«01_k».proof.Proof.Layer
public import proofs.«01_k».proof.Proof.Gen.Kernel6Ideal.Frame
public import Idealize.ShloMosaic.Lib.Tactic

@[expose] public section

set_option maxRecDepth 16384

noncomputable section

namespace Cert.Kernel6Ideal.FirstValue

open Cert.Kernel6Ideal Cert.Kernel6Ideal.Gen Idealize.ShloMosaic Idealize.ShloMosaic.TcCoe

/-- The offsets of a load or store that starts at the block's corner. -/
theorem hz : (![0, 0] : Fin 2 → Nat) = fun _ => 0 := funext fun a => by fin_cases a <;> rfl

variable (c : Dev nD) (i : grid0.Coords)
  {a1 : Memref sig .tc .vmem S512x2048 .f32} (h1 : a1.IsWhole)
  {a2 : Memref sig .tc .vmem S1x2048 .f32} (h2 : a2.IsWhole)
  {a3 : Memref sig .tc .vmem S2048x256 .f32} (h3 : a3.IsWhole)
  {a4 : Memref sig .tc .vmem S2048x256 .f32} (h4 : a4.IsWhole)
  {a5 : Memref sig .tc .vmem S256x2048 .f32} (h5 : a5.IsWhole)
  {a6 : Memref sig .tc .vmem S1x2048 .f32} (h6 : a6.IsWhole)
  {a7 : Memref sig .tc .vmem S512x2048 .f32} (h7 : a7.IsWhole)
  {a8 : Memref sig .tc .vmem S512x2048 .bf16} (h8 : a8.IsWhole)
  {a9 : Memref sig .tc .vmem S2048x256 .bf16} (h9 : a9.IsWhole)
  {a10 : Memref sig .tc .vmem S2048x256 .bf16} (h10 : a10.IsWhole)
  {a11 : Memref sig .tc .vmem S256x2048 .bf16} (h11 : a11.IsWhole)
  {a12 : Memref sig .tc .vmem S512x2048 .bf16} (h12 : a12.IsWhole)
  (x0 : Vec Ideal S512x2048 .f32)
  (x1 : Vec Ideal S1x2048 .f32)
  (x2 : Vec Ideal S2048x256 .f32)
  (x3 : Vec Ideal S2048x256 .f32)
  (x4 : Vec Ideal S256x2048 .f32)
  (x5 : Vec Ideal S1x2048 .f32)
  (xo : Vec Ideal S512x2048 .f32) (xs : Vec Ideal S512x2048 .bf16)

/-- The scratch after the first point: the normalised rows. -/
theorem first_s (hc0 : cond0_0 i) (hc1 : cond0_1 i) (hc2 : ¬cond0_2 i) (hc3 : ¬cond0_3 i) :
    sout0_A_0 c i a1 h1 a2 h2 a3 h3 a4 h4 a5 h5 a6 h6 a7 h7 a8 h8 a9 h9 a10 h10 a11 h11 a12 h12 hc0 hc1 hc2 hc3 x0 x1 x2 x3 x4 x5 = k0_pay4 x0 x1 := by
  unfold sout0_A_0
  rw [View.read_writes_eq_canon _ _ _ (scover0_A_0 c i a1 h1 a2 h2 a3 h3 a4 h4 a5 h5 a6 h6 a7 h7 a8 h8 a9 h9 a10 h10 a11 h11 a12 h12 hc0 hc1 hc2 hc3 x0 x1 x2 x3 x4 x5)]
  unfold kernelRun0_A
  dsimp only
  sl_unfold_words
  rw [View.canon_unit_zero (S := S512x2048) hz]
  simp only [View.readAt_eq_ld, h1.read_unread, h2.read_unread, h3.read_unread, h4.read_unread, h5.read_unread, h6.read_unread, h7.read_unread, h8.read_unread, h9.read_unread, h10.read_unread, h11.read_unread, h12.read_unread,
    View.ld_unit_zero (S := S512x2048) hz, View.ld_unit_zero (S := S1x2048) hz, View.ld_unit_zero (S := S2048x256) hz, View.ld_unit_zero (S := S256x2048) hz]
/-- The rows after the first point. -/
theorem first_6 (hc0 : cond0_0 i) (hc1 : cond0_1 i) (hc2 : ¬cond0_2 i) (hc3 : ¬cond0_3 i) :
    out0_A_6 c i a1 h1 a2 h2 a3 h3 a4 h4 a5 h5 a6 h6 a7 h7 a8 h8 a9 h9 a10 h10 a11 h11 a12 h12 hc0 hc1 hc2 hc3 x0 x1 x2 x3 x4 x5 = k0_pay5 x2 x3 x4 (k0_pay4 x0 x1) x0 := by
  unfold out0_A_6
  rw [View.read_writes_eq_canon _ _ _ (cover0_A_6 c i a1 h1 a2 h2 a3 h3 a4 h4 a5 h5 a6 h6 a7 h7 a8 h8 a9 h9 a10 h10 a11 h11 a12 h12 hc0 hc1 hc2 hc3 x0 x1 x2 x3 x4 x5)]
  unfold kernelRun0_A
  dsimp only
  sl_unfold_words
  rw [View.canon_cons_unit_zero (S := S512x2048) hz]
  simp only [View.readCov_unit_zero (S := S512x2048) _ hz]
  simp only [View.readAt_eq_ld, h1.read_unread, h2.read_unread, h3.read_unread, h4.read_unread, h5.read_unread, h6.read_unread, h7.read_unread, h8.read_unread, h9.read_unread, h10.read_unread, h11.read_unread, h12.read_unread,
    View.ld_unit_zero (S := S512x2048) hz, View.ld_unit_zero (S := S1x2048) hz, View.ld_unit_zero (S := S2048x256) hz, View.ld_unit_zero (S := S256x2048) hz]
/-- The copies after the first point. -/
theorem first_8 (hc0 : cond0_0 i) (hc1 : cond0_1 i) (hc2 : ¬cond0_2 i) (hc3 : ¬cond0_3 i) :
    out0_A_8 c i a1 h1 a2 h2 a3 h3 a4 h4 a5 h5 a6 h6 a7 h7 a8 h8 a9 h9 a10 h10 a11 h11 a12 h12 hc0 hc1 hc2 hc3 x0 x1 x2 x3 x4 x5 = k0_pay1 x2 := by
  unfold out0_A_8
  rw [View.read_writes_eq_canon _ _ _ (cover0_A_8 c i a1 h1 a2 h2 a3 h3 a4 h4 a5 h5 a6 h6 a7 h7 a8 h8 a9 h9 a10 h10 a11 h11 a12 h12 hc0 hc1 hc2 hc3 x0 x1 x2 x3 x4 x5)]
  unfold kernelRun0_A
  dsimp only
  sl_unfold_words
  rw [View.canon_unit_zero (S := S2048x256) hz]
  simp only [View.readAt_eq_ld, h1.read_unread, h2.read_unread, h3.read_unread, h4.read_unread, h5.read_unread, h6.read_unread, h7.read_unread, h8.read_unread, h9.read_unread, h10.read_unread, h11.read_unread, h12.read_unread,
    View.ld_unit_zero (S := S512x2048) hz, View.ld_unit_zero (S := S1x2048) hz, View.ld_unit_zero (S := S2048x256) hz, View.ld_unit_zero (S := S256x2048) hz]
theorem first_9 (hc0 : cond0_0 i) (hc1 : cond0_1 i) (hc2 : ¬cond0_2 i) (hc3 : ¬cond0_3 i) :
    out0_A_9 c i a1 h1 a2 h2 a3 h3 a4 h4 a5 h5 a6 h6 a7 h7 a8 h8 a9 h9 a10 h10 a11 h11 a12 h12 hc0 hc1 hc2 hc3 x0 x1 x2 x3 x4 x5 = k0_pay2 x3 := by
  unfold out0_A_9
  rw [View.read_writes_eq_canon _ _ _ (cover0_A_9 c i a1 h1 a2 h2 a3 h3 a4 h4 a5 h5 a6 h6 a7 h7 a8 h8 a9 h9 a10 h10 a11 h11 a12 h12 hc0 hc1 hc2 hc3 x0 x1 x2 x3 x4 x5)]
  unfold kernelRun0_A
  dsimp only
  sl_unfold_words
  rw [View.canon_unit_zero (S := S2048x256) hz]
  simp only [View.readAt_eq_ld, h1.read_unread, h2.read_unread, h3.read_unread, h4.read_unread, h5.read_unread, h6.read_unread, h7.read_unread, h8.read_unread, h9.read_unread, h10.read_unread, h11.read_unread, h12.read_unread,
    View.ld_unit_zero (S := S512x2048) hz, View.ld_unit_zero (S := S1x2048) hz, View.ld_unit_zero (S := S2048x256) hz, View.ld_unit_zero (S := S256x2048) hz]
theorem first_10 (hc0 : cond0_0 i) (hc1 : cond0_1 i) (hc2 : ¬cond0_2 i) (hc3 : ¬cond0_3 i) :
    out0_A_10 c i a1 h1 a2 h2 a3 h3 a4 h4 a5 h5 a6 h6 a7 h7 a8 h8 a9 h9 a10 h10 a11 h11 a12 h12 hc0 hc1 hc2 hc3 x0 x1 x2 x3 x4 x5 = k0_pay3 x4 := by
  unfold out0_A_10
  rw [View.read_writes_eq_canon _ _ _ (cover0_A_10 c i a1 h1 a2 h2 a3 h3 a4 h4 a5 h5 a6 h6 a7 h7 a8 h8 a9 h9 a10 h10 a11 h11 a12 h12 hc0 hc1 hc2 hc3 x0 x1 x2 x3 x4 x5)]
  unfold kernelRun0_A
  dsimp only
  sl_unfold_words
  rw [View.canon_unit_zero (S := S256x2048) hz]
  simp only [View.readAt_eq_ld, h1.read_unread, h2.read_unread, h3.read_unread, h4.read_unread, h5.read_unread, h6.read_unread, h7.read_unread, h8.read_unread, h9.read_unread, h10.read_unread, h11.read_unread, h12.read_unread,
    View.ld_unit_zero (S := S512x2048) hz, View.ld_unit_zero (S := S1x2048) hz, View.ld_unit_zero (S := S2048x256) hz, View.ld_unit_zero (S := S256x2048) hz]
/-- The rows after a middle point. -/
theorem mid_6 (hc0 : ¬cond0_0 i) (hc1 : cond0_1 i) (hc2 : ¬cond0_2 i) (hc3 : ¬cond0_3 i) :
    out0_B_6 c i a1 h1 a2 h2 a3 h3 a4 h4 a5 h5 a6 h6 a7 h7 a8 h8 a9 h9 a10 h10 a11 h11 a12 h12 hc0 hc1 hc2 hc3 x0 x1 x2 x3 x4 x5 xo xs = k0_pay5 x2 x3 x4 xs xo := by
  unfold out0_B_6
  rw [View.read_writes_eq_canon _ _ _ (cover0_B_6 c i a1 h1 a2 h2 a3 h3 a4 h4 a5 h5 a6 h6 a7 h7 a8 h8 a9 h9 a10 h10 a11 h11 a12 h12 hc0 hc1 hc2 hc3 x0 x1 x2 x3 x4 x5 xo xs)]
  unfold kernelRun0_B
  dsimp only
  sl_unfold_words
  rw [View.canon_unit_zero (S := S512x2048) hz]
  simp only [View.readAt_eq_ld, h1.read_unread, h2.read_unread, h3.read_unread, h4.read_unread, h5.read_unread, h6.read_unread, h7.read_unread, h8.read_unread, h9.read_unread, h10.read_unread, h11.read_unread, h12.read_unread,
    View.ld_unit_zero (S := S512x2048) hz, View.ld_unit_zero (S := S1x2048) hz, View.ld_unit_zero (S := S2048x256) hz, View.ld_unit_zero (S := S256x2048) hz]
/-- The copies after a middle point. -/
theorem mid_8 (hc0 : ¬cond0_0 i) (hc1 : cond0_1 i) (hc2 : ¬cond0_2 i) (hc3 : ¬cond0_3 i) :
    out0_B_8 c i a1 h1 a2 h2 a3 h3 a4 h4 a5 h5 a6 h6 a7 h7 a8 h8 a9 h9 a10 h10 a11 h11 a12 h12 hc0 hc1 hc2 hc3 x0 x1 x2 x3 x4 x5 xo xs = k0_pay1 x2 := by
  unfold out0_B_8
  rw [View.read_writes_eq_canon _ _ _ (cover0_B_8 c i a1 h1 a2 h2 a3 h3 a4 h4 a5 h5 a6 h6 a7 h7 a8 h8 a9 h9 a10 h10 a11 h11 a12 h12 hc0 hc1 hc2 hc3 x0 x1 x2 x3 x4 x5 xo xs)]
  unfold kernelRun0_B
  dsimp only
  sl_unfold_words
  rw [View.canon_unit_zero (S := S2048x256) hz]
  simp only [View.readAt_eq_ld, h1.read_unread, h2.read_unread, h3.read_unread, h4.read_unread, h5.read_unread, h6.read_unread, h7.read_unread, h8.read_unread, h9.read_unread, h10.read_unread, h11.read_unread, h12.read_unread,
    View.ld_unit_zero (S := S512x2048) hz, View.ld_unit_zero (S := S1x2048) hz, View.ld_unit_zero (S := S2048x256) hz, View.ld_unit_zero (S := S256x2048) hz]
theorem mid_9 (hc0 : ¬cond0_0 i) (hc1 : cond0_1 i) (hc2 : ¬cond0_2 i) (hc3 : ¬cond0_3 i) :
    out0_B_9 c i a1 h1 a2 h2 a3 h3 a4 h4 a5 h5 a6 h6 a7 h7 a8 h8 a9 h9 a10 h10 a11 h11 a12 h12 hc0 hc1 hc2 hc3 x0 x1 x2 x3 x4 x5 xo xs = k0_pay2 x3 := by
  unfold out0_B_9
  rw [View.read_writes_eq_canon _ _ _ (cover0_B_9 c i a1 h1 a2 h2 a3 h3 a4 h4 a5 h5 a6 h6 a7 h7 a8 h8 a9 h9 a10 h10 a11 h11 a12 h12 hc0 hc1 hc2 hc3 x0 x1 x2 x3 x4 x5 xo xs)]
  unfold kernelRun0_B
  dsimp only
  sl_unfold_words
  rw [View.canon_unit_zero (S := S2048x256) hz]
  simp only [View.readAt_eq_ld, h1.read_unread, h2.read_unread, h3.read_unread, h4.read_unread, h5.read_unread, h6.read_unread, h7.read_unread, h8.read_unread, h9.read_unread, h10.read_unread, h11.read_unread, h12.read_unread,
    View.ld_unit_zero (S := S512x2048) hz, View.ld_unit_zero (S := S1x2048) hz, View.ld_unit_zero (S := S2048x256) hz, View.ld_unit_zero (S := S256x2048) hz]
theorem mid_10 (hc0 : ¬cond0_0 i) (hc1 : cond0_1 i) (hc2 : ¬cond0_2 i) (hc3 : ¬cond0_3 i) :
    out0_B_10 c i a1 h1 a2 h2 a3 h3 a4 h4 a5 h5 a6 h6 a7 h7 a8 h8 a9 h9 a10 h10 a11 h11 a12 h12 hc0 hc1 hc2 hc3 x0 x1 x2 x3 x4 x5 xo xs = k0_pay3 x4 := by
  unfold out0_B_10
  rw [View.read_writes_eq_canon _ _ _ (cover0_B_10 c i a1 h1 a2 h2 a3 h3 a4 h4 a5 h5 a6 h6 a7 h7 a8 h8 a9 h9 a10 h10 a11 h11 a12 h12 hc0 hc1 hc2 hc3 x0 x1 x2 x3 x4 x5 xo xs)]
  unfold kernelRun0_B
  dsimp only
  sl_unfold_words
  rw [View.canon_unit_zero (S := S256x2048) hz]
  simp only [View.readAt_eq_ld, h1.read_unread, h2.read_unread, h3.read_unread, h4.read_unread, h5.read_unread, h6.read_unread, h7.read_unread, h8.read_unread, h9.read_unread, h10.read_unread, h11.read_unread, h12.read_unread,
    View.ld_unit_zero (S := S512x2048) hz, View.ld_unit_zero (S := S1x2048) hz, View.ld_unit_zero (S := S2048x256) hz, View.ld_unit_zero (S := S256x2048) hz]
/-- The rows after the last point. -/
theorem last_6 (hc0 : ¬cond0_0 i) (hc1 : ¬cond0_1 i) (hc2 : cond0_2 i) (hc3 : cond0_3 i) :
    out0_C_6 c i a1 h1 a2 h2 a3 h3 a4 h4 a5 h5 a6 h6 a7 h7 a8 h8 a9 h9 a10 h10 a11 h11 a12 h12 hc0 hc1 hc2 hc3 x0 x1 x2 x3 x4 x5 xo xs = k0_pay12 x2 x3 x4 xs xo := by
  unfold out0_C_6
  rw [View.read_writes_eq_canon _ _ _ (cover0_C_6 c i a1 h1 a2 h2 a3 h3 a4 h4 a5 h5 a6 h6 a7 h7 a8 h8 a9 h9 a10 h10 a11 h11 a12 h12 hc0 hc1 hc2 hc3 x0 x1 x2 x3 x4 x5 xo xs)]
  unfold kernelRun0_C
  dsimp only
  sl_unfold_words
  rw [View.canon_unit_zero (S := S512x2048) hz]
  simp only [View.readAt_eq_ld, h1.read_unread, h2.read_unread, h3.read_unread, h4.read_unread, h5.read_unread, h6.read_unread, h7.read_unread, h8.read_unread, h9.read_unread, h10.read_unread, h11.read_unread, h12.read_unread,
    View.ld_unit_zero (S := S512x2048) hz, View.ld_unit_zero (S := S1x2048) hz, View.ld_unit_zero (S := S2048x256) hz, View.ld_unit_zero (S := S256x2048) hz]
/-- The rows normalised again. -/
theorem last_7 (hc0 : ¬cond0_0 i) (hc1 : ¬cond0_1 i) (hc2 : cond0_2 i) (hc3 : cond0_3 i) :
    out0_C_7 c i a1 h1 a2 h2 a3 h3 a4 h4 a5 h5 a6 h6 a7 h7 a8 h8 a9 h9 a10 h10 a11 h11 a12 h12 hc0 hc1 hc2 hc3 x0 x1 x2 x3 x4 x5 xo xs = k0_pay13 (k0_pay12 x2 x3 x4 xs xo) x5 := by
  unfold out0_C_7
  rw [View.read_writes_eq_canon _ _ _ (cover0_C_7 c i a1 h1 a2 h2 a3 h3 a4 h4 a5 h5 a6 h6 a7 h7 a8 h8 a9 h9 a10 h10 a11 h11 a12 h12 hc0 hc1 hc2 hc3 x0 x1 x2 x3 x4 x5 xo xs)]
  unfold kernelRun0_C
  dsimp only
  sl_unfold_words
  rw [View.canon_unit_zero (S := S512x2048) hz]
  simp only [View.readCov_unit_zero (S := S512x2048) _ hz]
  simp only [View.readAt_eq_ld, h1.read_unread, h2.read_unread, h3.read_unread, h4.read_unread, h5.read_unread, h6.read_unread, h7.read_unread, h8.read_unread, h9.read_unread, h10.read_unread, h11.read_unread, h12.read_unread,
    View.ld_unit_zero (S := S512x2048) hz, View.ld_unit_zero (S := S1x2048) hz, View.ld_unit_zero (S := S2048x256) hz, View.ld_unit_zero (S := S256x2048) hz]
/-- The copies after the last point. -/
theorem last_8 (hc0 : ¬cond0_0 i) (hc1 : ¬cond0_1 i) (hc2 : cond0_2 i) (hc3 : cond0_3 i) :
    out0_C_8 c i a1 h1 a2 h2 a3 h3 a4 h4 a5 h5 a6 h6 a7 h7 a8 h8 a9 h9 a10 h10 a11 h11 a12 h12 hc0 hc1 hc2 hc3 x0 x1 x2 x3 x4 x5 xo xs = k0_pay9 x2 := by
  unfold out0_C_8
  rw [View.read_writes_eq_canon _ _ _ (cover0_C_8 c i a1 h1 a2 h2 a3 h3 a4 h4 a5 h5 a6 h6 a7 h7 a8 h8 a9 h9 a10 h10 a11 h11 a12 h12 hc0 hc1 hc2 hc3 x0 x1 x2 x3 x4 x5 xo xs)]
  unfold kernelRun0_C
  dsimp only
  sl_unfold_words
  rw [View.canon_unit_zero (S := S2048x256) hz]
  simp only [View.readAt_eq_ld, h1.read_unread, h2.read_unread, h3.read_unread, h4.read_unread, h5.read_unread, h6.read_unread, h7.read_unread, h8.read_unread, h9.read_unread, h10.read_unread, h11.read_unread, h12.read_unread,
    View.ld_unit_zero (S := S512x2048) hz, View.ld_unit_zero (S := S1x2048) hz, View.ld_unit_zero (S := S2048x256) hz, View.ld_unit_zero (S := S256x2048) hz]
theorem last_9 (hc0 : ¬cond0_0 i) (hc1 : ¬cond0_1 i) (hc2 : cond0_2 i) (hc3 : cond0_3 i) :
    out0_C_9 c i a1 h1 a2 h2 a3 h3 a4 h4 a5 h5 a6 h6 a7 h7 a8 h8 a9 h9 a10 h10 a11 h11 a12 h12 hc0 hc1 hc2 hc3 x0 x1 x2 x3 x4 x5 xo xs = k0_pay10 x3 := by
  unfold out0_C_9
  rw [View.read_writes_eq_canon _ _ _ (cover0_C_9 c i a1 h1 a2 h2 a3 h3 a4 h4 a5 h5 a6 h6 a7 h7 a8 h8 a9 h9 a10 h10 a11 h11 a12 h12 hc0 hc1 hc2 hc3 x0 x1 x2 x3 x4 x5 xo xs)]
  unfold kernelRun0_C
  dsimp only
  sl_unfold_words
  rw [View.canon_unit_zero (S := S2048x256) hz]
  simp only [View.readAt_eq_ld, h1.read_unread, h2.read_unread, h3.read_unread, h4.read_unread, h5.read_unread, h6.read_unread, h7.read_unread, h8.read_unread, h9.read_unread, h10.read_unread, h11.read_unread, h12.read_unread,
    View.ld_unit_zero (S := S512x2048) hz, View.ld_unit_zero (S := S1x2048) hz, View.ld_unit_zero (S := S2048x256) hz, View.ld_unit_zero (S := S256x2048) hz]
theorem last_10 (hc0 : ¬cond0_0 i) (hc1 : ¬cond0_1 i) (hc2 : cond0_2 i) (hc3 : cond0_3 i) :
    out0_C_10 c i a1 h1 a2 h2 a3 h3 a4 h4 a5 h5 a6 h6 a7 h7 a8 h8 a9 h9 a10 h10 a11 h11 a12 h12 hc0 hc1 hc2 hc3 x0 x1 x2 x3 x4 x5 xo xs = k0_pay11 x4 := by
  unfold out0_C_10
  rw [View.read_writes_eq_canon _ _ _ (cover0_C_10 c i a1 h1 a2 h2 a3 h3 a4 h4 a5 h5 a6 h6 a7 h7 a8 h8 a9 h9 a10 h10 a11 h11 a12 h12 hc0 hc1 hc2 hc3 x0 x1 x2 x3 x4 x5 xo xs)]
  unfold kernelRun0_C
  dsimp only
  sl_unfold_words
  rw [View.canon_unit_zero (S := S256x2048) hz]
  simp only [View.readAt_eq_ld, h1.read_unread, h2.read_unread, h3.read_unread, h4.read_unread, h5.read_unread, h6.read_unread, h7.read_unread, h8.read_unread, h9.read_unread, h10.read_unread, h11.read_unread, h12.read_unread,
    View.ld_unit_zero (S := S512x2048) hz, View.ld_unit_zero (S := S1x2048) hz, View.ld_unit_zero (S := S2048x256) hz, View.ld_unit_zero (S := S256x2048) hz]

end Cert.Kernel6Ideal.FirstValue

end
-- ==== Proof.FirstValue.lean ====
/-
  The sample's first feed-forward: its five result arrays, entry by entry, and the program's run. By induction on the grid's
  point the first result holds the rows plus the part of the hidden columns met so far, so at the end half a feed-forward
  step; the copies of the weights are filled up with zeros.
-/
module

public import proofs.«01_k».proof.Proof.FirstBlocks
public import proofs.«01_k».proof.Proof.FirstCases

@[expose] public section

set_option maxRecDepth 16384

noncomputable section

namespace Cert.Kernel6Ideal.FirstValue

open Cert.Kernel6Ideal Cert.Kernel6Ideal.Gen Idealize.ShloMosaic Idealize.ShloMosaic.TcCoe Idealize.SL.Sem Cert.Layer

variable (m : (ℓ : Loc nD τ sig) → Buf (Elt Ideal) ℓ) (ρ : Dev nD → PrngReg)

/-- The normalised row `R`. -/
abbrev xn (c : Dev nD) (R : ℕ) : Fin 2048 → EReal := rms (row m c R) (gain m c)
/-- How many hidden columns are met after point `n`. -/
def met (n : ℕ) : ℕ := if n = 21 then 5504 else (n + 1) * 256
/-- What the first result holds at an entry of row `R`, column `q`, once `K` hidden columns are met. -/
def partial_ (c : Dev nD) (R : ℕ) (q : Fin 2048) (K : ℕ) : EReal :=
  row m c R q + ∑ k ∈ Finset.range K, term (xn m c R) (wgu m c) (fun k => wd m c k q) k
/-- Row `R` after half a feed-forward step. -/
def stepped (c : Dev nD) (R : ℕ) (q : Fin 2048) : EReal :=
  halfStep (row m c R) (gain m c) (wgu m c) (fun k => wd m c k q) (row m c R q)

/-- The scratch the first point leaves. -/
theorem scratch_eq (c : Dev nD) (t : Fin cfg0.N) (r : Fin 512) (k : Fin 2048) :
    k0_pay4 (F := Ideal) (iblk m c 0 t) (iblk m c 1 t) (ix2 r k) = xn m c r.val k := by
  rw [pay4_apply]
  unfold xn
  congr 1
  · funext j; exact iblk_0 m c t r j
  · funext j; exact iblk_1 m c t j

/-- A point's 256 hidden columns, added to the columns before them. -/
theorem run_eq (c : Dev nD) (t : Fin cfg0.N) (h : t.val < 21) (xs : Vec Ideal S512x2048 .bf16) (acc : Vec Ideal S512x2048 .f32) (r : Fin 512) (q : Fin 2048)
    (R : ℕ) (hs : ∀ k, xs (ix2 r k) = xn m c R k) (ha : acc (ix2 r q) = partial_ m c R q (t.val * 256)) :
    k0_pay5 (F := Ideal) (iblk m c 2 t) (iblk m c 3 t) (iblk m c 4 t) xs acc (ix2 r q) = partial_ m c R q ((t.val + 1) * 256) := by
  rw [pay5_apply, ha]
  unfold partial_
  rw [add_assoc, add_mul, one_mul]
  congr 1
  have hm : min (t.val * 256) 5248 = t.val * 256 := by omega
  refine range_add_fin _ _ _ _ fun k => ?_
  have hk := k.isLt
  rw [term_of_lt _ _ _ (by omega)]
  simp only [hs, iblk_2, iblk_3, iblk_4, hm]

/-- The 128 remaining columns, added to the 5376 before them. -/
theorem rest_eq (c : Dev nD) (t : Fin cfg0.N) (h : t.val = 21) (xs : Vec Ideal S512x2048 .bf16) (acc : Vec Ideal S512x2048 .f32) (r : Fin 512) (q : Fin 2048)
    (R : ℕ) (hs : ∀ k, xs (ix2 r k) = xn m c R k) (ha : acc (ix2 r q) = partial_ m c R q 5376) :
    k0_pay12 (F := Ideal) (iblk m c 2 t) (iblk m c 3 t) (iblk m c 4 t) xs acc (ix2 r q) = partial_ m c R q 5504 := by
  rw [pay12_apply, ha]
  unfold partial_
  rw [add_assoc]
  congr 1
  refine range_add_fin _ 5376 128 _ fun k => ?_
  have hk := k.isLt
  have hm : min (t.val * 256) 5248 + (128 + k.val) = 5376 + k.val := by omega
  rw [term_of_lt _ _ _ (by omega)]
  simp only [hs, iblk_2, iblk_3, iblk_4, hm]

/-- After point `n` the scratch holds the normalised rows, and the first result the rows plus the part of the hidden columns
    met. -/
theorem state_eq (c : Dev nD) : ∀ (n : ℕ) (h : n < cfg0.N) (r : Fin 512),
    (n < 21 → ∀ k, (outsAt0 m c n h).2.2.2.2.2 (ix2 r k) = xn m c r.val k) ∧
    ∀ q, (outsAt0 m c n h).1 (ix2 r q) = partial_ m c r.val q (met n) := by
  intro n
  induction n with
  | zero =>
    intro h r
    rw [outsAt0_A m c ⟨0, h⟩ (Nat.zero_mod 22) (by show 0 < 21; decide) (by show ¬0 % 22 = 21; decide) (by show ¬0 % 22 = 21; decide)]
    dsimp only
    rw [first_s, first_6]
    refine ⟨fun _ k => scratch_eq m c ⟨0, h⟩ r k, fun q => ?_⟩
    refine run_eq m c ⟨0, h⟩ (by show 0 < 21; decide) _ _ r q _ (fun k => scratch_eq m c ⟨0, h⟩ r k) ?_
    rw [iblk_0 m c ⟨0, h⟩]
    simp [partial_]
  | succ n ih =>
    intro h r
    have hN : cfg0.N = 22 := N_0
    have ih := ih (Nat.lt_of_succ_lt h) r
    have hm : met n = (n + 1) * 256 := if_neg (by omega)
    rw [hm] at ih
    have hs := ih.1 (by omega)
    by_cases hl : n + 1 < 21
    · rw [outsAt0_B m c ⟨n + 1, h⟩ (by show ¬(n + 1) % 22 = 0; omega) hl (by show ¬(n + 1) % 22 = 21; omega) (by show ¬(n + 1) % 22 = 21; omega)]
      dsimp only
      rw [mid_6]
      refine ⟨fun _ => hs, fun q => ?_⟩
      rw [show met (n + 1) = (n + 1 + 1) * 256 from if_neg (by omega)]
      exact run_eq m c ⟨n + 1, h⟩ hl _ _ r q _ hs (ih.2 q)
    · have h21 : n + 1 = 21 := by omega
      rw [outsAt0_C m c ⟨n + 1, h⟩ (by show ¬(n + 1) % 22 = 0; omega) hl (by show (n + 1) % 22 = 21; omega) (by show (n + 1) % 22 = 21; omega)]
      dsimp only
      rw [last_6]
      refine ⟨fun hx => absurd hx hl, fun q => ?_⟩
      rw [show met (n + 1) = 5504 from if_pos h21]
      refine rest_eq m c ⟨n + 1, h⟩ h21 _ _ r q _ hs ?_
      refine (ih.2 q).trans ?_
      rw [h21]

/-- The first result: the rows' steps. -/
def stream (c : Dev nD) : Buf (Elt Ideal) ((c : Thread nD τ).loc main_v2_0) := fun i => stepped m c (i 0).val (i 1)
/-- The second: them normalised for the mixer. -/
def normed (c : Dev nD) : Buf (Elt Ideal) ((c : Thread nD τ).loc main_v2_1) := fun i => rms (stepped m c (i 0).val) (gainM m c) (i 1)
/-- The gate columns, filled up with zeros. -/
def gates (c : Dev nD) : Buf (Elt Ideal) ((c : Thread nD τ).loc main_v2_2) := fun i =>
  if h : (i 1).val < 5504 then wgu m c (i 0) ⟨(i 1).val, by omega⟩ else (0 : EReal)
/-- The up columns, -/
def ups (c : Dev nD) : Buf (Elt Ideal) ((c : Thread nD τ).loc main_v2_3) := fun i =>
  if h : (i 1).val < 5504 then wgu m c (i 0) ⟨5504 + (i 1).val, by omega⟩ else (0 : EReal)
/-- and the down rows. -/
def downs (c : Dev nD) : Buf (Elt Ideal) ((c : Thread nD τ).loc main_v2_4) := fun i =>
  if h : (i 0).val < 5504 then wd m c ⟨(i 0).val, h⟩ (i 1) else (0 : EReal)

/-- After the last point the first result holds the steps. -/
theorem stepped_eq (c : Dev nD) (t : Fin cfg0.N) (h : t.val = 21) (r : Fin 512) (q : Fin 2048) :
    (outsAt0 m c t.val t.isLt).1 (ix2 r q) = stepped m c r.val q := by
  refine ((state_eq m c t.val t.isLt r).2 q).trans ?_
  rw [show met t.val = 5504 from if_pos h]
  rfl

/-- The second result is the first's rows normalised. -/
theorem normed_eq (c : Dev nD) (t : Fin cfg0.N) (h : t.val = 21) (r : Fin 512) (q : Fin 2048) :
    (outsAt0 m c t.val t.isLt).2.1 (ix2 r q) = rms (stepped m c r.val) (gainM m c) q := by
  have e := stepped_eq m c t h r
  revert e
  rw [outsAt0_C m c t (by omega) (by omega) (by omega) (by omega)]
  dsimp only
  rw [last_6, last_7]
  intro e
  rw [pay13_apply]
  congr 1
  · funext j; exact e j
  · funext j; exact iblk_5 m c t j

/-- Result 0 is written back at the last point. -/
theorem flushed_6 (c : Dev nD) (t : Fin cfg0.N) (hf : (cfg0.win 6).flush t = true) :
    (dats m 0 c).flushed 6 t = ((cfg0.win 6).blk t).view.read (Elt Ideal) (stream m c) := by
  have hN : cfg0.N = 22 := N_0
  have ht := t.isLt
  have h21 : t.val % 22 = 21 := (flush0_6 t).mp hf
  show (cfg0.win 6).cut (grid0.coords t) ((dats m 0 c).after 6 t) = _
  rw [after0_6]
  funext (y : S512x2048.Idx)
  rw [View.read_apply, eq_ix2 y]
  refine (stepped_eq m c t (by omega) (y 0) (y 1)).trans ?_
  have e : ((cfg0.win 6).blk t).view.emb (ix2 (y 0) (y 1)) = (ix2 (y 0) (y 1) : S512x2048.Idx) := by
    funext a
    apply Fin.ext
    match a with
    | ⟨0, _⟩ => show 0 * 512 + 1 * (y 0).val = (y 0).val; omega
    | ⟨1, _⟩ => show 0 * 2048 + 1 * (y 1).val = (y 1).val; omega
  rw [e]
  rfl
/-- So it ends holding every row. -/
theorem final_6 (c : Dev nD) : (dats m 0 c).arrAt 6 cfg0.N = stream m c :=
  (dats m 0 c).arrAt_eq_of_cover 6 (stream m c) (flushed_6 m c) fun i => by
    have hN : cfg0.N = 22 := N_0
    have h0 : (i 0 : Nat) < 512 := (i 0).isLt
    have h1 : (i 1 : Nat) < 2048 := (i 1).isLt
    obtain ⟨t, ht⟩ : ∃ t : Fin cfg0.N, t.val = 21 := ⟨⟨21, by omega⟩, rfl⟩
    refine ⟨t, (flush0_6 t).mpr (by omega), ?_⟩
    show i ∈ ((View.whole main_v2_0).slice (win0_6.rect t)).set
    rw [View.set_slice_whole, Rect.mem_set_unit]
    intro a
    match a with
    | ⟨0, _⟩ => show 0 * 512 ≤ (i 0 : Nat) ∧ (i 0 : Nat) < 0 * 512 + 512; omega
    | ⟨1, _⟩ => show 0 * 2048 ≤ (i 1 : Nat) ∧ (i 1 : Nat) < 0 * 2048 + 2048; omega

/-- Result 1 is written back at the last point. -/
theorem flushed_7 (c : Dev nD) (t : Fin cfg0.N) (hf : (cfg0.win 7).flush t = true) :
    (dats m 0 c).flushed 7 t = ((cfg0.win 7).blk t).view.read (Elt Ideal) (normed m c) := by
  have hN : cfg0.N = 22 := N_0
  have ht := t.isLt
  have h21 : t.val % 22 = 21 := (flush0_7 t).mp hf
  show (cfg0.win 7).cut (grid0.coords t) ((dats m 0 c).after 7 t) = _
  rw [after0_7]
  funext (y : S512x2048.Idx)
  rw [View.read_apply, eq_ix2 y]
  refine (normed_eq m c t (by omega) (y 0) (y 1)).trans ?_
  have e : ((cfg0.win 7).blk t).view.emb (ix2 (y 0) (y 1)) = (ix2 (y 0) (y 1) : S512x2048.Idx) := by
    funext a
    apply Fin.ext
    match a with
    | ⟨0, _⟩ => show 0 * 512 + 1 * (y 0).val = (y 0).val; omega
    | ⟨1, _⟩ => show 0 * 2048 + 1 * (y 1).val = (y 1).val; omega
  rw [e]
  rfl
/-- So it ends holding every row. -/
theorem final_7 (c : Dev nD) : (dats m 0 c).arrAt 7 cfg0.N = normed m c :=
  (dats m 0 c).arrAt_eq_of_cover 7 (normed m c) (flushed_7 m c) fun i => by
    have hN : cfg0.N = 22 := N_0
    have h0 : (i 0 : Nat) < 512 := (i 0).isLt
    have h1 : (i 1 : Nat) < 2048 := (i 1).isLt
    obtain ⟨t, ht⟩ : ∃ t : Fin cfg0.N, t.val = 21 := ⟨⟨21, by omega⟩, rfl⟩
    refine ⟨t, (flush0_7 t).mpr (by omega), ?_⟩
    show i ∈ ((View.whole main_v2_1).slice (win0_7.rect t)).set
    rw [View.set_slice_whole, Rect.mem_set_unit]
    intro a
    match a with
    | ⟨0, _⟩ => show 0 * 512 ≤ (i 0 : Nat) ∧ (i 0 : Nat) < 0 * 512 + 512; omega
    | ⟨1, _⟩ => show 0 * 2048 ≤ (i 1 : Nat) ∧ (i 1 : Nat) < 0 * 2048 + 2048; omega

/-- What a point copies of result 2. -/
theorem copied_8 (c : Dev nD) (t : Fin cfg0.N) (a : Fin 2048) (b : Fin 256) :
    (outsAt0 m c t.val t.isLt).2.2.1 (ix2 a b) = if h : t.val * 256 + b.val < 5504 then wgu m c a ⟨t.val * 256 + b.val, by omega⟩ else 0 := by
  have hN : cfg0.N = 22 := N_0
  have ht := t.isLt
  have ha := a.isLt
  have hb := b.isLt
  by_cases hl : t.val < 21
  · have hm : min (t.val * 256) 5248 = t.val * 256 := by omega
    have e : (outsAt0 m c t.val t.isLt).2.2.1 (ix2 a b) = (iblk m c 2 t) (ix2 a b) := by
      by_cases h0 : t.val = 0
      · rw [outsAt0_A m c t (by omega) hl (by omega) (by omega)]
        dsimp only
        rw [first_8]
        exact pay1_apply _ a b
      · rw [outsAt0_B m c t (by omega) hl (by omega) (by omega)]
        dsimp only
        rw [mid_8]
        exact pay1_apply _ a b
    rw [e, dif_pos (by omega), iblk_2]
    simp only [hm]
  · have h21 : t.val = 21 := by omega
    rw [outsAt0_C m c t (by omega) hl (by omega) (by omega)]
    dsimp only
    rw [last_8, pay9_apply]
    by_cases hs : b.val < 128
    · have hm : min (t.val * 256) 5248 + (128 + b.val) = t.val * 256 + b.val := by omega
      rw [dif_pos hs, dif_pos (by omega), iblk_2]
      simp only [hm]
    · rw [dif_neg hs, dif_neg (by omega)]
/-- Its blocks are written back one after the other. -/
theorem flushed_8 (c : Dev nD) (t : Fin cfg0.N) (hf : (cfg0.win 8).flush t = true) :
    (dats m 0 c).flushed 8 t = ((cfg0.win 8).blk t).view.read (Elt Ideal) (gates m c) := by
  show (cfg0.win 8).cut (grid0.coords t) ((dats m 0 c).after 8 t) = _
  rw [after0_8]
  funext (y : S2048x256.Idx)
  rw [View.read_apply, eq_ix2 y]
  refine (copied_8 m c t (y 0) (y 1)).trans ?_
  have e0 : ((cfg0.win 8).blk t).view.emb (ix2 (y 0) (y 1)) 0 = y 0 := by
    apply Fin.ext
    show win0_8.index t 0 * 2048 + 1 * (y 0).val = _
    rw [(index0_8 t).1]; omega
  have e1 : (((cfg0.win 8).blk t).view.emb (ix2 (y 0) (y 1)) 1).val = t.val * 256 + (y 1).val := by
    show win0_8.index t 1 * 256 + 1 * (y 1).val = _
    rw [(index0_8 t).2]; omega
  unfold gates
  simp only [e0, e1]
  rfl
/-- So it ends holding all of them. -/
theorem final_8 (c : Dev nD) : (dats m 0 c).arrAt 8 cfg0.N = gates m c :=
  (dats m 0 c).arrAt_eq_of_cover 8 (gates m c) (flushed_8 m c) fun i => by
    have hN : cfg0.N = 22 := N_0
    have h0 : (i 0 : Nat) < 2048 := (i 0).isLt
    have h1 : (i 1 : Nat) < 5632 := (i 1).isLt
    obtain ⟨t, ht⟩ : ∃ t : Fin cfg0.N, t.val = (i 1 : Nat) / 256 := ⟨⟨(i 1 : Nat) / 256, by omega⟩, rfl⟩
    refine ⟨t, flush0_8 t, ?_⟩
    have e := index0_8 t
    show i ∈ ((View.whole main_v2_2).slice (win0_8.rect t)).set
    rw [View.set_slice_whole, Rect.mem_set_unit]
    intro a
    match a with
    | ⟨0, _⟩ => show win0_8.index t 0 * 2048 ≤ (i 0 : Nat) ∧ (i 0 : Nat) < win0_8.index t 0 * 2048 + 2048
                rw [e.1]; omega
    | ⟨1, _⟩ => show win0_8.index t 1 * 256 ≤ (i 1 : Nat) ∧ (i 1 : Nat) < win0_8.index t 1 * 256 + 256
                rw [e.2]; omega

/-- What a point copies of result 3. -/
theorem copied_9 (c : Dev nD) (t : Fin cfg0.N) (a : Fin 2048) (b : Fin 256) :
    (outsAt0 m c t.val t.isLt).2.2.2.1 (ix2 a b) = if h : t.val * 256 + b.val < 5504 then wgu m c a ⟨5504 + (t.val * 256 + b.val), by omega⟩ else 0 := by
  have hN : cfg0.N = 22 := N_0
  have ht := t.isLt
  have ha := a.isLt
  have hb := b.isLt
  by_cases hl : t.val < 21
  · have hm : min (t.val * 256) 5248 = t.val * 256 := by omega
    have e : (outsAt0 m c t.val t.isLt).2.2.2.1 (ix2 a b) = (iblk m c 3 t) (ix2 a b) := by
      by_cases h0 : t.val = 0
      · rw [outsAt0_A m c t (by omega) hl (by omega) (by omega)]
        dsimp only
        rw [first_9]
        exact pay2_apply _ a b
      · rw [outsAt0_B m c t (by omega) hl (by omega) (by omega)]
        dsimp only
        rw [mid_9]
        exact pay2_apply _ a b
    rw [e, dif_pos (by omega), iblk_3]
    simp only [hm]
  · have h21 : t.val = 21 := by omega
    rw [outsAt0_C m c t (by omega) hl (by omega) (by omega)]
    dsimp only
    rw [last_9, pay10_apply]
    by_cases hs : b.val < 128
    · have hm : min (t.val * 256) 5248 + (128 + b.val) = t.val * 256 + b.val := by omega
      rw [dif_pos hs, dif_pos (by omega), iblk_3]
      simp only [hm]
    · rw [dif_neg hs, dif_neg (by omega)]
/-- Its blocks are written back one after the other. -/
theorem flushed_9 (c : Dev nD) (t : Fin cfg0.N) (hf : (cfg0.win 9).flush t = true) :
    (dats m 0 c).flushed 9 t = ((cfg0.win 9).blk t).view.read (Elt Ideal) (ups m c) := by
  show (cfg0.win 9).cut (grid0.coords t) ((dats m 0 c).after 9 t) = _
  rw [after0_9]
  funext (y : S2048x256.Idx)
  rw [View.read_apply, eq_ix2 y]
  refine (copied_9 m c t (y 0) (y 1)).trans ?_
  have e0 : ((cfg0.win 9).blk t).view.emb (ix2 (y 0) (y 1)) 0 = y 0 := by
    apply Fin.ext
    show win0_9.index t 0 * 2048 + 1 * (y 0).val = _
    rw [(index0_9 t).1]; omega
  have e1 : (((cfg0.win 9).blk t).view.emb (ix2 (y 0) (y 1)) 1).val = t.val * 256 + (y 1).val := by
    show win0_9.index t 1 * 256 + 1 * (y 1).val = _
    rw [(index0_9 t).2]; omega
  unfold ups
  simp only [e0, e1]
  rfl
/-- So it ends holding all of them. -/
theorem final_9 (c : Dev nD) : (dats m 0 c).arrAt 9 cfg0.N = ups m c :=
  (dats m 0 c).arrAt_eq_of_cover 9 (ups m c) (flushed_9 m c) fun i => by
    have hN : cfg0.N = 22 := N_0
    have h0 : (i 0 : Nat) < 2048 := (i 0).isLt
    have h1 : (i 1 : Nat) < 5632 := (i 1).isLt
    obtain ⟨t, ht⟩ : ∃ t : Fin cfg0.N, t.val = (i 1 : Nat) / 256 := ⟨⟨(i 1 : Nat) / 256, by omega⟩, rfl⟩
    refine ⟨t, flush0_9 t, ?_⟩
    have e := index0_9 t
    show i ∈ ((View.whole main_v2_3).slice (win0_9.rect t)).set
    rw [View.set_slice_whole, Rect.mem_set_unit]
    intro a
    match a with
    | ⟨0, _⟩ => show win0_9.index t 0 * 2048 ≤ (i 0 : Nat) ∧ (i 0 : Nat) < win0_9.index t 0 * 2048 + 2048
                rw [e.1]; omega
    | ⟨1, _⟩ => show win0_9.index t 1 * 256 ≤ (i 1 : Nat) ∧ (i 1 : Nat) < win0_9.index t 1 * 256 + 256
                rw [e.2]; omega

/-- What a point copies of result 4. -/
theorem copied_10 (c : Dev nD) (t : Fin cfg0.N) (a : Fin 256) (b : Fin 2048) :
    (outsAt0 m c t.val t.isLt).2.2.2.2.1 (ix2 a b) = if h : t.val * 256 + a.val < 5504 then wd m c ⟨t.val * 256 + a.val, by omega⟩ b else 0 := by
  have hN : cfg0.N = 22 := N_0
  have ht := t.isLt
  have ha := a.isLt
  have hb := b.isLt
  by_cases hl : t.val < 21
  · have hm : min (t.val * 256) 5248 = t.val * 256 := by omega
    have e : (outsAt0 m c t.val t.isLt).2.2.2.2.1 (ix2 a b) = (iblk m c 4 t) (ix2 a b) := by
      by_cases h0 : t.val = 0
      · rw [outsAt0_A m c t (by omega) hl (by omega) (by omega)]
        dsimp only
        rw [first_10]
        exact pay3_apply _ a b
      · rw [outsAt0_B m c t (by omega) hl (by omega) (by omega)]
        dsimp only
        rw [mid_10]
        exact pay3_apply _ a b
    rw [e, dif_pos (by omega), iblk_4]
    simp only [hm]
  · have h21 : t.val = 21 := by omega
    rw [outsAt0_C m c t (by omega) hl (by omega) (by omega)]
    dsimp only
    rw [last_10, pay11_apply]
    by_cases hs : a.val < 128
    · have hm : min (t.val * 256) 5248 + (128 + a.val) = t.val * 256 + a.val := by omega
      rw [dif_pos hs, dif_pos (by omega), iblk_4]
      simp only [hm]
    · rw [dif_neg hs, dif_neg (by omega)]
/-- Its blocks are written back one after the other. -/
theorem flushed_10 (c : Dev nD) (t : Fin cfg0.N) (hf : (cfg0.win 10).flush t = true) :
    (dats m 0 c).flushed 10 t = ((cfg0.win 10).blk t).view.read (Elt Ideal) (downs m c) := by
  show (cfg0.win 10).cut (grid0.coords t) ((dats m 0 c).after 10 t) = _
  rw [after0_10]
  funext (y : S256x2048.Idx)
  rw [View.read_apply, eq_ix2 y]
  refine (copied_10 m c t (y 0) (y 1)).trans ?_
  have e0 : (((cfg0.win 10).blk t).view.emb (ix2 (y 0) (y 1)) 0).val = t.val * 256 + (y 0).val := by
    show win0_10.index t 0 * 256 + 1 * (y 0).val = _
    rw [(index0_10 t).1]; omega
  have e1 : ((cfg0.win 10).blk t).view.emb (ix2 (y 0) (y 1)) 1 = y 1 := by
    apply Fin.ext
    show win0_10.index t 1 * 2048 + 1 * (y 1).val = _
    rw [(index0_10 t).2]; omega
  unfold downs
  simp only [e0, e1]
  rfl
/-- So it ends holding all of them. -/
theorem final_10 (c : Dev nD) : (dats m 0 c).arrAt 10 cfg0.N = downs m c :=
  (dats m 0 c).arrAt_eq_of_cover 10 (downs m c) (flushed_10 m c) fun i => by
    have hN : cfg0.N = 22 := N_0
    have h0 : (i 0 : Nat) < 5632 := (i 0).isLt
    have h1 : (i 1 : Nat) < 2048 := (i 1).isLt
    obtain ⟨t, ht⟩ : ∃ t : Fin cfg0.N, t.val = (i 0 : Nat) / 256 := ⟨⟨(i 0 : Nat) / 256, by omega⟩, rfl⟩
    refine ⟨t, flush0_10 t, ?_⟩
    have e := index0_10 t
    show i ∈ ((View.whole main_v2_4).slice (win0_10.rect t)).set
    rw [View.set_slice_whole, Rect.mem_set_unit]
    intro a
    match a with
    | ⟨0, _⟩ => show win0_10.index t 0 * 256 ≤ (i 0 : Nat) ∧ (i 0 : Nat) < win0_10.index t 0 * 256 + 256
                rw [e.1]; omega
    | ⟨1, _⟩ => show win0_10.index t 1 * 2048 ≤ (i 1 : Nat) ∧ (i 1 : Nat) < win0_10.index t 1 * 2048 + 2048
                rw [e.2]; omega

/-- The program's run: the five result arrays end at these, the arguments as they were. -/
theorem run : θ_run defs (onTc (τ := τ) (main (F := Ideal))) (s₀ m ρ) (fun r => ∀ c : Dev nD,
    r.2.mem ((c : Thread nD τ).loc main_v2_0) = stream m c ∧
    r.2.mem ((c : Thread nD τ).loc main_v2_1) = normed m c ∧
    r.2.mem ((c : Thread nD τ).loc main_v2_2) = gates m c ∧
    r.2.mem ((c : Thread nD τ).loc main_v2_3) = ups m c ∧
    r.2.mem ((c : Thread nD τ).loc main_v2_4) = downs m c ∧
    r.2.mem ((c : Thread nD τ).loc main_arg0) = m ((c : Thread nD τ).loc main_arg0) ∧
    r.2.mem ((c : Thread nD τ).loc main_arg1) = m ((c : Thread nD τ).loc main_arg1) ∧
    r.2.mem ((c : Thread nD τ).loc main_arg2) = m ((c : Thread nD τ).loc main_arg2) ∧
    r.2.mem ((c : Thread nD τ).loc main_arg3) = m ((c : Thread nD τ).loc main_arg3) ∧
    r.2.mem ((c : Thread nD τ).loc main_arg4) = m ((c : Thread nD τ).loc main_arg4)) :=
  (θ_run defs _ _).mono (fun r h c => ⟨((h c).1 6).trans (final_6 m c),
    ((h c).1 7).trans (final_7 m c),
    ((h c).1 8).trans (final_8 m c),
    ((h c).1 9).trans (final_9 m c),
    ((h c).1 10).trans (final_10 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).1 5).trans (((dats m 0 c).arrAt_in 5 rfl _).trans ((A_eq m c 5).trans (V_main_arg4 m c)))⟩)
    (run_main m ρ)

end Cert.Kernel6Ideal.FirstValue

end
-- ==== Proof.FirstRef.lean ====
/-
  The mathematics of the sample's first feed-forward, entry by entry: a row's half feed-forward step, its normalisation for the
  mixer, and the weights filled up with zeros.
-/
module

public import proofs.«01_k».proof.Proof.Layer
public import proofs.«01_k».proof.Proof.Gen.Reference6Ideal.Read

@[expose] public section

set_option maxRecDepth 16384

noncomputable section

namespace Cert.Reference6Ideal.FirstRef

open Cert.Reference6Ideal Cert.Reference6Ideal.Gen Cert.Reference6Ideal.Read Idealize.ShloMosaic Cert.Layer

/-- A normalised row. -/
theorem xn_p (x0 : (⟨S512x2048, .f32⟩ : BufTy).Contents (Elt Ideal)) (x1 : (⟨S1x2048, .f32⟩ : BufTy).Contents (Elt Ideal)) (R : Fin 512) (k : Fin 2048) :
    val_main_v13 (F := Ideal) x0 x1 (ix2 R k) = rms (fun j => x0 (ix2 R j)) (fun j => x1 (ix2 0 j)) k := by
  simp only [val_main_v13_apply, val_main_v10_apply, val_main_v9_apply, val_main_v8_apply, val_main_v7_apply, val_main_v5_apply, val_main_v3_apply, val_main_v4_apply, val_main_v6_apply, val_main_v2_apply, val_main_v1_apply, val_main_v12_apply, val_main_v11_apply, val_main_v0_apply, val_main_cst_apply, val_main_cst_0_apply, val_main_cst_1_apply]
  have e1 : ∀ j, idx_main_v2 (idx_main_v3 (idx_main_v9 (ix2 R k))) j = ix2 R j := fun j => by
    funext a; match a with | ⟨0, _⟩ => rfl | ⟨1, _⟩ => rfl
  have e2 : idx_main_v0 (idx_main_v11 (idx_main_v12 (ix2 R k))) = ix2 0 k := by
    funext a; match a with | ⟨0, _⟩ => rfl | ⟨1, _⟩ => exact Fin.ext (Nat.mod_eq_of_lt k.isLt)
  simp only [e1, e2]
  unfold rms
  show x0 (ix2 R k) * Ideal.rsqrt (Ideal.div (Ideal.ofBits .f32 0x00000000#32 + ∑ j, x0 (ix2 R j) * x0 (ix2 R j)) width + eps) * x1 (ix2 0 k) = _
  rw [Ideal.ofBits_zero_f32, zero_add]

/-- A column of the joined gate and up product. -/
theorem gu_p (x0 : (⟨S512x2048, .f32⟩ : BufTy).Contents (Elt Ideal)) (x1 : (⟨S1x2048, .f32⟩ : BufTy).Contents (Elt Ideal)) (x2 : (⟨S1x2048x11008, .f32⟩ : BufTy).Contents (Elt Ideal)) (R : Fin 512) (k : Fin 11008) :
    val_main_v16 (F := Ideal) x0 x1 x2 (ix2 R k) = dot (rms (fun j => x0 (ix2 R j)) (fun j => x1 (ix2 0 j))) (fun j => x2 (ix3 0 j k)) := by
  rw [val_main_v16_apply]
  unfold dot
  refine Finset.sum_congr rfl fun j _ => ?_
  have e1 : lidx_main_v16 (ix2 R k) j = ix2 R j := by
    funext a; match a with | ⟨0, _⟩ => rfl | ⟨1, _⟩ => rfl
  have e2 : ridx_main_v16 (ix2 R k) j = ix2 j k := by
    funext a; match a with | ⟨0, _⟩ => rfl | ⟨1, _⟩ => rfl
  rw [e1, e2, xn_p]
  unfold val_main_v14
  rw [shapeCast_lead]

/-- A row's gated hidden column. -/
theorem hid_p (x0 : (⟨S512x2048, .f32⟩ : BufTy).Contents (Elt Ideal)) (x1 : (⟨S1x2048, .f32⟩ : BufTy).Contents (Elt Ideal)) (x2 : (⟨S1x2048x11008, .f32⟩ : BufTy).Contents (Elt Ideal)) (R : Fin 512) (k : Fin 5504) :
    val_main_v20 (F := Ideal) x0 x1 x2 (ix2 R k) = dot (rms (fun j => x0 (ix2 R j)) (fun j => x1 (ix2 0 j))) (fun j => x2 (ix3 0 j ⟨k.val, by omega⟩))
      * Ideal.logistic (dot (rms (fun j => x0 (ix2 R j)) (fun j => x1 (ix2 0 j))) (fun j => x2 (ix3 0 j ⟨k.val, by omega⟩)))
      * dot (rms (fun j => x0 (ix2 R j)) (fun j => x1 (ix2 0 j))) (fun j => x2 (ix3 0 j ⟨5504 + k.val, by omega⟩)) := by
  simp only [val_main_v20_apply, val_main_v19_apply, val_main_v18_apply, val_main_v17_apply, val_main_call0_v5_apply, val_main_call0_v4_apply, val_main_call0_v3_apply, val_main_call0_v2_apply, val_main_call0_v1_apply, val_main_call0_v0_apply, val_main_call0_cst_apply, val_main_call0_cst_0_apply]
  have e1 : idx_main_v17 (ix2 R k) = ix2 R ⟨k.val, by omega⟩ := by
    funext a; match a with | ⟨0, _⟩ => rfl | ⟨1, _⟩ => rfl
  have e2 : idx_main_v18 (ix2 R k) = ix2 R ⟨5504 + k.val, by omega⟩ := by
    funext a; match a with | ⟨0, _⟩ => rfl | ⟨1, _⟩ => rfl
  rw [e1, e2, gu_p, gu_p]
  show _ * Ideal.div one (one + Ideal.exp (-_)) * _ = _ * Ideal.div 1 (1 + Ideal.exp (-_)) * _
  rw [one_eq]

/-- A row's half feed-forward step. -/
theorem out_p (x0 : (⟨S512x2048, .f32⟩ : BufTy).Contents (Elt Ideal)) (x1 : (⟨S1x2048, .f32⟩ : BufTy).Contents (Elt Ideal)) (x2 : (⟨S1x2048x11008, .f32⟩ : BufTy).Contents (Elt Ideal)) (x3 : (⟨S1x5504x2048, .f32⟩ : BufTy).Contents (Elt Ideal)) (R : Fin 512) (q : Fin 2048) :
    val_main_v24 (F := Ideal) x0 x1 x2 x3 (ix2 R q) = halfStep (fun j => x0 (ix2 R j)) (fun j => x1 (ix2 0 j)) (fun j k => x2 (ix3 0 j k))
      (fun k => x3 (ix3 0 k q)) (x0 (ix2 R q)) := by
  simp only [val_main_v24_apply, val_main_v23_apply, val_main_v22_apply, val_main_cst_2_apply]
  rw [val_main_v21_apply]
  unfold halfStep
  rw [← half_mul_sum _ _ _ (fun k => val_main_v20 (F := Ideal) x0 x1 x2 (lidx_main_v21 (ix2 R q) k) * val_main_v15 (F := Ideal) x3 (ridx_main_v21 (ix2 R q) k))]
  · rfl
  · intro k
    have e1 : lidx_main_v21 (ix2 R q) k = ix2 R k := by
      funext a; match a with | ⟨0, _⟩ => rfl | ⟨1, _⟩ => rfl
    have e2 : ridx_main_v21 (ix2 R q) k = ix2 k q := by
      funext a; match a with | ⟨0, _⟩ => rfl | ⟨1, _⟩ => rfl
    rw [e1, e2, hid_p]
    unfold val_main_v15
    rw [shapeCast_lead]

/-- A row's step normalised for the mixer. -/
theorem normed_p (x0 : (⟨S512x2048, .f32⟩ : BufTy).Contents (Elt Ideal)) (x1 : (⟨S1x2048, .f32⟩ : BufTy).Contents (Elt Ideal)) (x2 : (⟨S1x2048x11008, .f32⟩ : BufTy).Contents (Elt Ideal)) (x3 : (⟨S1x5504x2048, .f32⟩ : BufTy).Contents (Elt Ideal)) (x4 : (⟨S1x2048, .f32⟩ : BufTy).Contents (Elt Ideal)) (R : Fin 512) (k : Fin 2048) :
    val_main_v41 (F := Ideal) x0 x1 x2 x3 x4 (ix2 R k) = rms (fun q => halfStep (fun j => x0 (ix2 R j)) (fun j => x1 (ix2 0 j)) (fun j k => x2 (ix3 0 j k)) (fun k => x3 (ix3 0 k q)) (x0 (ix2 R q))) (fun j => x4 (ix2 0 j)) k := by
  simp only [val_main_v41_apply, val_main_v38_apply, val_main_v37_apply, val_main_v36_apply, val_main_v35_apply, val_main_v33_apply, val_main_v31_apply, val_main_v32_apply, val_main_v34_apply, val_main_v30_apply, val_main_v29_apply, val_main_v40_apply, val_main_v39_apply, val_main_v28_apply, val_main_cst_3_apply, val_main_cst_4_apply, val_main_cst_5_apply]
  have e1 : ∀ j, idx_main_v30 (idx_main_v31 (idx_main_v37 (ix2 R k))) j = ix2 R j := fun j => by
    funext a; match a with | ⟨0, _⟩ => rfl | ⟨1, _⟩ => rfl
  have e2 : idx_main_v28 (idx_main_v39 (idx_main_v40 (ix2 R k))) = ix2 0 k := by
    funext a; match a with | ⟨0, _⟩ => rfl | ⟨1, _⟩ => exact Fin.ext (Nat.mod_eq_of_lt k.isLt)
  simp only [e1, e2, out_p]
  unfold rms
  dsimp only
  rw [← out_p x0 x1 x2 x3 R k]
  simp only [← out_p x0 x1 x2 x3 R]
  show val_main_v24 (F := Ideal) x0 x1 x2 x3 (ix2 R k) * Ideal.rsqrt (Ideal.div (Ideal.ofBits .f32 0x00000000#32 + ∑ j, val_main_v24 (F := Ideal) x0 x1 x2 x3 (ix2 R j) * val_main_v24 (F := Ideal) x0 x1 x2 x3 (ix2 R j)) width + eps) * x4 (ix2 0 k) = _
  rw [Ideal.ofBits_zero_f32, zero_add]

/-- The zero the weights are filled up with. -/
theorem fill : (FloatOps.sitofp .f32 (0#32 : BitVec 32) : Ideal .f32) = 0 := by
  show ((((0#32 : BitVec 32).toInt : ℝ)) : EReal) = 0
  simp
/-- The gate columns, filled up with zeros. -/
theorem gates (x2 : (⟨S1x2048x11008, .f32⟩ : BufTy).Contents (Elt Ideal)) (j : Fin 2048) (k : Fin 5632) :
    val_main_v44 (F := Ideal) x2 (ix2 j k) = if h : k.val < 5504 then x2 (ix3 0 j ⟨k.val, by omega⟩) else 0 := by
  show val_main_v43 (F := Ideal) x2 (ix2 j k) = _
  unfold val_main_v43
  unfold pad
  have hj := j.isLt
  by_cases hk : k.val < 5504
  · rw [dif_pos hk, dif_pos (fun a => match a with
      | ⟨0, _⟩ => show 0 ≤ j.val ∧ (j.val - 0) % (0 + 1) = 0 ∧ (j.val - 0) / (0 + 1) < 2048 by omega
      | ⟨1, _⟩ => show 0 ≤ k.val ∧ (k.val - 0) % (0 + 1) = 0 ∧ (k.val - 0) / (0 + 1) < 5504 by omega)]
    rw [val_main_v26_apply]
    unfold val_main_v25
    refine Eq.trans ?_ (shapeCast_lead x2 shapeCasts_S1x2048x11008_S2048x11008 j ⟨k.val, by omega⟩)
    congr 1
    funext a
    apply Fin.ext
    match a with
    | ⟨0, _⟩ => show (j.val - 0) / (0 + 1) = j.val; omega
    | ⟨1, _⟩ => show (k.val - 0) / (0 + 1) = k.val; omega
  · rw [dif_neg hk, dif_neg (fun h => hk (by
      have h1 : 0 ≤ k.val ∧ (k.val - 0) % (0 + 1) = 0 ∧ (k.val - 0) / (0 + 1) < 5504 := h (1 : Fin 2)
      omega))]
    exact fill
/-- The up columns. -/
theorem ups (x2 : (⟨S1x2048x11008, .f32⟩ : BufTy).Contents (Elt Ideal)) (j : Fin 2048) (k : Fin 5632) :
    val_main_v46 (F := Ideal) x2 (ix2 j k) = if h : k.val < 5504 then x2 (ix3 0 j ⟨5504 + k.val, by omega⟩) else 0 := by
  show val_main_v45 (F := Ideal) x2 (ix2 j k) = _
  unfold val_main_v45
  unfold pad
  have hj := j.isLt
  by_cases hk : k.val < 5504
  · rw [dif_pos hk, dif_pos (fun a => match a with
      | ⟨0, _⟩ => show 0 ≤ j.val ∧ (j.val - 0) % (0 + 1) = 0 ∧ (j.val - 0) / (0 + 1) < 2048 by omega
      | ⟨1, _⟩ => show 0 ≤ k.val ∧ (k.val - 0) % (0 + 1) = 0 ∧ (k.val - 0) / (0 + 1) < 5504 by omega)]
    rw [val_main_v27_apply]
    unfold val_main_v25
    refine Eq.trans ?_ (shapeCast_lead x2 shapeCasts_S1x2048x11008_S2048x11008 j ⟨5504 + k.val, by omega⟩)
    congr 1
    funext a
    apply Fin.ext
    match a with
    | ⟨0, _⟩ => show (j.val - 0) / (0 + 1) = j.val; omega
    | ⟨1, _⟩ => show 5504 + (k.val - 0) / (0 + 1) = 5504 + k.val; omega
  · rw [dif_neg hk, dif_neg (fun h => hk (by
      have h1 : 0 ≤ k.val ∧ (k.val - 0) % (0 + 1) = 0 ∧ (k.val - 0) / (0 + 1) < 5504 := h (1 : Fin 2)
      omega))]
    exact fill
/-- The down rows. -/
theorem downs (x3 : (⟨S1x5504x2048, .f32⟩ : BufTy).Contents (Elt Ideal)) (j : Fin 5632) (k : Fin 2048) :
    val_main_v49 (F := Ideal) x3 (ix2 j k) = if h : j.val < 5504 then x3 (ix3 0 ⟨j.val, h⟩ k) else 0 := by
  show val_main_v48 (F := Ideal) x3 (ix2 j k) = _
  unfold val_main_v48
  unfold pad
  have hk := k.isLt
  by_cases hj : j.val < 5504
  · rw [dif_pos hj, dif_pos (fun a => match a with
      | ⟨0, _⟩ => show 0 ≤ j.val ∧ (j.val - 0) % (0 + 1) = 0 ∧ (j.val - 0) / (0 + 1) < 5504 by omega
      | ⟨1, _⟩ => show 0 ≤ k.val ∧ (k.val - 0) % (0 + 1) = 0 ∧ (k.val - 0) / (0 + 1) < 2048 by omega)]
    unfold val_main_v47
    refine Eq.trans ?_ (shapeCast_lead x3 shapeCasts_S1x5504x2048_S5504x2048 ⟨j.val, hj⟩ k)
    congr 1
    funext a
    apply Fin.ext
    match a with
    | ⟨0, _⟩ => show (j.val - 0) / (0 + 1) = j.val; omega
    | ⟨1, _⟩ => show (k.val - 0) / (0 + 1) = k.val; omega
  · rw [dif_neg hj, dif_neg (fun h => hj (by
      have h0 : 0 ≤ j.val ∧ (j.val - 0) % (0 + 1) = 0 ∧ (j.val - 0) / (0 + 1) < 5504 := h (0 : Fin 2)
      omega))]
    exact fill

end Cert.Reference6Ideal.FirstRef

end
-- ==== Proof.FirstEnd.lean ====
/-
  The claims for the sample's first feed-forward: the mathematics terminates and leaves its arguments, and the kernel's five
  results are the mathematics'.
-/
module

public import proofs.«01_k».proof.Defs
public import proofs.«01_k».proof.Proof.FirstValue
public import proofs.«01_k».proof.Proof.FirstRef
public import proofs.«01_k».proof.Proof.Gen.Kernel6.Frame
public import proofs.«01_k».proof.Proof.Gen.Reference6Ideal.Run
public import Idealize.ShloMosaic.Adequacy
public import Idealize.ShloMosaic.Init
public import Idealize.ShloMosaic.Lib.Quiescent

@[expose] public section

noncomputable section

namespace Cert.Proof.First

open Idealize.ShloMosaic Idealize.SL.Sem Cert.Layer

/-- The mathematics terminates, leaves its arguments as they were and no semaphore raised. -/
theorem quiescent_Reference6Ideal : quiescent_Reference6Ideal := fun m ρ _ =>
  (θ_run Cert.Reference6Ideal.defs _ _).mono (fun r h => ⟨fun c => (h c).2.2.2.2.2, sem_eq_zero_of_no_sems (by decide) r.2⟩)
    (Cert.Reference6Ideal.Value.run (F := Ideal) m ρ)

variable (m : (ℓ : Loc Cert.Kernel6Ideal.nD Cert.Kernel6Ideal.τ Cert.Kernel6Ideal.sig) → Buf (Elt Ideal) ℓ) (c : Dev Cert.Kernel6Ideal.nD)

/-- The rows' steps. -/
theorem eq_24 : Cert.Reference6Ideal.Read.val_main_v24 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) = Cert.Kernel6Ideal.FirstValue.stream m c := by
  funext (i : Cert.Kernel6Ideal.S512x2048.Idx)
  rw [eq_ix2 i]
  refine (Cert.Reference6Ideal.FirstRef.out_p _ _ _ _ (i 0) (i 1)).trans ?_
  have h : (i 0 : Nat) < 512 := (i 0).isLt
  have ep : (⟨(i 0 : Nat) % 512, Nat.mod_lt _ (by norm_num)⟩ : Fin 512) = i 0 := Fin.ext (Nat.mod_eq_of_lt h)
  show _ = Cert.Kernel6Ideal.FirstValue.stepped m c (i 0).val (i 1)
  unfold Cert.Kernel6Ideal.FirstValue.stepped Cert.Kernel6Ideal.FirstValue.row
  rw [ep]
  rfl
/-- Them normalised for the mixer. -/
theorem eq_42 : Cert.Reference6Ideal.Read.val_main_v42 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) = Cert.Kernel6Ideal.FirstValue.normed m c := by
  funext (i : Cert.Kernel6Ideal.S512x2048.Idx)
  rw [eq_ix2 i]
  refine (Cert.Reference6Ideal.FirstRef.normed_p _ _ _ _ _ (i 0) (i 1)).trans ?_
  have h : (i 0 : Nat) < 512 := (i 0).isLt
  have ep : (⟨(i 0 : Nat) % 512, Nat.mod_lt _ (by norm_num)⟩ : Fin 512) = i 0 := Fin.ext (Nat.mod_eq_of_lt h)
  show _ = rms (Cert.Kernel6Ideal.FirstValue.stepped m c (i 0).val) (Cert.Kernel6Ideal.FirstValue.gainM m c) (i 1)
  unfold Cert.Kernel6Ideal.FirstValue.stepped Cert.Kernel6Ideal.FirstValue.row
  rw [ep]
  rfl
/-- The gate columns. -/
theorem eq_44 : Cert.Reference6Ideal.Read.val_main_v44 (F := Ideal) (m ((c.tc : Thread Cert.Kernel6Ideal.nD Cert.Kernel6Ideal.τ).loc Cert.Kernel6Ideal.main_arg2)) = Cert.Kernel6Ideal.FirstValue.gates m c := by
  funext (i : Cert.Kernel6Ideal.S2048x5632.Idx)
  rw [eq_ix2 i]
  refine (Cert.Reference6Ideal.FirstRef.gates _ (i 0) (i 1)).trans ?_
  rfl
/-- The up columns. -/
theorem eq_46 : Cert.Reference6Ideal.Read.val_main_v46 (F := Ideal) (m ((c.tc : Thread Cert.Kernel6Ideal.nD Cert.Kernel6Ideal.τ).loc Cert.Kernel6Ideal.main_arg2)) = Cert.Kernel6Ideal.FirstValue.ups m c := by
  funext (i : Cert.Kernel6Ideal.S2048x5632.Idx)
  rw [eq_ix2 i]
  refine (Cert.Reference6Ideal.FirstRef.ups _ (i 0) (i 1)).trans ?_
  rfl
/-- The down rows. -/
theorem eq_49 : Cert.Reference6Ideal.Read.val_main_v49 (F := Ideal) (m ((c.tc : Thread Cert.Kernel6Ideal.nD Cert.Kernel6Ideal.τ).loc Cert.Kernel6Ideal.main_arg3)) = Cert.Kernel6Ideal.FirstValue.downs m c := by
  funext (i : Cert.Kernel6Ideal.S5632x2048.Idx)
  rw [eq_ix2 i]
  refine (Cert.Reference6Ideal.FirstRef.downs _ (i 0) (i 1)).trans ?_
  rfl

/-- The kernel computes the mathematics over the extended reals. -/
theorem algebraic_Kernel6Ideal_Reference6Ideal : algebraic_Kernel6Ideal_Reference6Ideal := by
  intro m ρ m' ρ' _ hagree
  refine ⟨_, _, _, _, _, Cert.Kernel6Ideal.FirstValue.run m ρ, ?_⟩
  refine (θ_run Cert.Reference6Ideal.defs _ _).mono (fun _ h c => ?_) (Cert.Reference6Ideal.Value.run (F := Ideal) m' ρ')
  obtain ⟨h0, h1, h2, h3, h4⟩ := hagree c
  obtain ⟨r0, r1, r2, r3, r4, hr⟩ := h c
  refine ⟨?_, ?_, ?_, ?_, ?_, hr⟩
  · refine (r0.trans (Cert.Reference6Ideal.Read.val_main_v24_eq _ _ _ _)).trans ?_
    show Cert.Reference6Ideal.Read.val_main_v24 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) = _
    rw [h0, h1, h2, h3]
    exact eq_24 m c
  · refine (r1.trans (Cert.Reference6Ideal.Read.val_main_v42_eq m' c)).trans ?_
    show Cert.Reference6Ideal.Read.val_main_v42 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) = _
    rw [h0, h1, h2, h3, h4]
    exact eq_42 m c
  · refine (r2.trans (Cert.Reference6Ideal.Read.val_main_v44_eq _)).trans ?_
    show Cert.Reference6Ideal.Read.val_main_v44 (F := Ideal) (m' ((c.tc : Thread Cert.Reference6Ideal.nD Cert.Reference6Ideal.τ).loc Cert.Reference6Ideal.main_arg2)) = _
    rw [h2]
    exact eq_44 m c
  · refine (r3.trans (Cert.Reference6Ideal.Read.val_main_v46_eq _)).trans ?_
    show Cert.Reference6Ideal.Read.val_main_v46 (F := Ideal) (m' ((c.tc : Thread Cert.Reference6Ideal.nD Cert.Reference6Ideal.τ).loc Cert.Reference6Ideal.main_arg2)) = _
    rw [h2]
    exact eq_46 m c
  · refine (r4.trans (Cert.Reference6Ideal.Read.val_main_v49_eq _)).trans ?_
    show Cert.Reference6Ideal.Read.val_main_v49 (F := Ideal) (m' ((c.tc : Thread Cert.Reference6Ideal.nD Cert.Reference6Ideal.τ).loc Cert.Reference6Ideal.main_arg3)) = _
    rw [h3]
    exact eq_49 m c

end Cert.Proof.First

end
-- ==== Proof.lean ====
/-
  The assembly of `Cert.Claim`: each frame claim from its program's run, each value claim from the kernel's result arrays
  and the mathematics' read entry by entry.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.FfnValue
public import proofs.«01_k».proof.Proof.FfnRef
public import proofs.«01_k».proof.Proof.PleEnd
public import proofs.«01_k».proof.Proof.UqkvEnd
public import proofs.«01_k».proof.Proof.Gen.Kernel3.Frame
public import proofs.«01_k».proof.Proof.FfnOneEnd
public import proofs.«01_k».proof.Proof.GatesEnd
public import proofs.«01_k».proof.Proof.Gen.Kernel5.Frame
public import proofs.«01_k».proof.Proof.FirstEnd
public import proofs.«01_k».proof.Proof.Gen.Kernel6.Frame
public import Idealize.ShloMosaic.Adequacy
public import Idealize.ShloMosaic.Init
public import Idealize.ShloMosaic.Lib.Quiescent

@[expose] public section

noncomputable section

namespace Cert.Proof

open Idealize.ShloMosaic Idealize.SL.Sem

/-- The reference terminates, leaves its arguments as they were and no semaphore raised. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result array is the mathematics'. -/
theorem result_eq (m : (ℓ : Loc Cert.KernelIdeal.nD Cert.KernelIdeal.τ Cert.KernelIdeal.sig) → Buf (Elt Ideal) ℓ) (c : Dev Cert.KernelIdeal.nD) :
    Cert.ReferenceIdeal.Read.val_main_v50 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      = Cert.KernelIdeal.FfnValue.result m c := by
  funext (i : Cert.KernelIdeal.S8704x2048.Idx)
  rw [eq_ix2 i]
  refine (Cert.ReferenceIdeal.FfnRef.joined _ _ _ _ _ (i 0) (i 1)).trans ?_
  unfold Cert.KernelIdeal.FfnValue.result
  have hi : (i 0 : Nat) < 8704 := (i 0).isLt
  by_cases h : (i 0 : Nat) < 8192
  · have e : Cert.KernelIdeal.FfnValue.row m c (i 0).val = fun j => m ((c.tc : Thread Cert.KernelIdeal.nD Cert.KernelIdeal.τ).loc Cert.KernelIdeal.main_arg0) (ix2 ⟨(i 0).val, h⟩ j) := by
      funext j; exact dif_pos h
    refine (dif_pos h).trans ?_
    show _ = Cert.Layer.halfStep (Cert.KernelIdeal.FfnValue.row m c (i 0).val) _ _ _ (Cert.KernelIdeal.FfnValue.row m c (i 0).val (i 1))
    rw [e]; rfl
  · have e : Cert.KernelIdeal.FfnValue.row m c (i 0).val = fun j => m ((c.tc : Thread Cert.KernelIdeal.nD Cert.KernelIdeal.τ).loc Cert.KernelIdeal.main_arg1) (ix2 ⟨(i 0).val - 8192, by omega⟩ j) := by
      funext j
      refine (dif_neg h).trans ?_
      exact congrArg (fun r : Fin 512 => m ((c.tc : Thread Cert.KernelIdeal.nD Cert.KernelIdeal.τ).loc Cert.KernelIdeal.main_arg1) (ix2 r j))
        (Fin.ext (Nat.mod_eq_of_lt (by omega)))
    refine (dif_neg h).trans ?_
    show _ = Cert.Layer.halfStep (Cert.KernelIdeal.FfnValue.row m c (i 0).val) _ _ _ (Cert.KernelIdeal.FfnValue.row m c (i 0).val (i 1))
    rw [e]; rfl

/-- The kernel computes the mathematics over the extended reals. -/
theorem algebraic_KernelIdeal_ReferenceIdeal : algebraic_KernelIdeal_ReferenceIdeal := by
  intro m ρ m' ρ' _ hagree
  refine ⟨_, Cert.KernelIdeal.FfnValue.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v50_eq]
  obtain ⟨h0, h1, h2, h3, h4⟩ := hagree c
  rw [h0, h1, h2, h3, h4]
  exact result_eq m c

/-- Everything claimed. -/
theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  fun m ρ _ => Cert.Kernel.Gen.frame m ρ,
  fun m ρ _ => Cert.KernelIdeal.Gen.frame m ρ,
  quiescent_ReferenceIdeal,
  Ple.quiescent_Kernel2,
  Ple.quiescent_Kernel2Ideal,
  Ple.quiescent_Reference2Ideal,
  fun m ρ _ => Cert.Kernel3.Gen.frame m ρ,
  fun m ρ _ => Cert.Kernel3Ideal.Gen.frame m ρ,
  Uqkv.quiescent_Reference3Ideal,
  FfnOne.quiescent_Kernel4,
  FfnOne.quiescent_Kernel4Ideal,
  FfnOne.quiescent_Reference4Ideal,
  fun m ρ _ => Cert.Kernel5.Gen.frame m ρ,
  fun m ρ _ => Cert.Kernel5Ideal.Gen.frame m ρ,
  Gates.quiescent_Reference5Ideal,
  fun m ρ _ => Cert.Kernel6.Gen.frame m ρ,
  fun m ρ _ => Cert.Kernel6Ideal.Gen.frame m ρ,
  First.quiescent_Reference6Ideal,
  (trivial : preserves_Kernel_KernelIdeal),
  algebraic_KernelIdeal_ReferenceIdeal,
  (trivial : preserves_Kernel2_Kernel2Ideal),
  Ple.algebraic_Kernel2Ideal_Reference2Ideal,
  (trivial : preserves_Kernel3_Kernel3Ideal),
  Uqkv.algebraic_Kernel3Ideal_Reference3Ideal,
  (trivial : preserves_Kernel4_Kernel4Ideal),
  FfnOne.algebraic_Kernel4Ideal_Reference4Ideal,
  (trivial : preserves_Kernel5_Kernel5Ideal),
  Gates.algebraic_Kernel5Ideal_Reference5Ideal,
  (trivial : preserves_Kernel6_Kernel6Ideal),
  First.algebraic_Kernel6Ideal_Reference6Ideal⟩

end Cert.Proof

end
